-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_forget_below [hPre_forget_below : Cert.Pre_forget_below.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_forget_below.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_forget_below [hPre_forget_below : Cert.Pre_forget_below.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_forget_below.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_forget_finite [hPre_forget_finite : Cert.Pre_forget_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_forget_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_forget_finite [hPre_forget_finite : Cert.Pre_forget_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_forget_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_gates_below [hPre_gates_below : Cert.Pre_gates_below.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_gates_below.fn (F := Ideal) (m ((c.tc : Thread Cert.Kernel11Ideal.nD Cert.Kernel11Ideal.τ).loc Cert.Kernel11Ideal.main_arg0))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_gates_below [hPre_gates_below : Cert.Pre_gates_below.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_gates_below.fn (F := Ideal) (m ((c.tc : Thread Cert.Reference11Ideal.nD Cert.Reference11Ideal.τ).loc Cert.Reference11Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_forget_below [hKernel9Ideal : Cert.Kernel9Ideal.Facts] [hPre_forget_below : Cert.Pre_forget_below.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_forget_below m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_forget_below [hReference9Ideal : Cert.Reference9Ideal.Facts] [hPre_forget_below : Cert.Pre_forget_below.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_forget_below m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_forget_finite [hKernel10Ideal : Cert.Kernel10Ideal.Facts] [hPre_forget_finite : Cert.Pre_forget_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_forget_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_forget_finite [hReference10Ideal : Cert.Reference10Ideal.Facts] [hPre_forget_finite : Cert.Pre_forget_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_forget_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Kernel11Ideal_pre_gates_below [hKernel11Ideal : Cert.Kernel11Ideal.Facts] [hPre_gates_below : Cert.Pre_gates_below.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_gates_below m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Reference11Ideal_pre_gates_below [hReference11Ideal : Cert.Reference11Ideal.Facts] [hPre_gates_below : Cert.Pre_gates_below.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_gates_below m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_hidden_columns [hKernel2Ideal : Cert.Kernel2Ideal.Facts] [hReference2Ideal : Cert.Reference2Ideal.Facts] [hOn_hidden_columns : Cert.On_hidden_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![8320, 5632]⟩ : Shape).Idx, (Cert.On_hidden_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Kernel2Ideal.nD Cert.Kernel2Ideal.τ).loc Cert.Kernel2Ideal.main_v1) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![8320, 5632]⟩ : Shape).Idx, (Cert.On_hidden_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Reference2Ideal.nD Cert.Reference2Ideal.τ).loc Cert.Reference2Ideal.main_v8) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_forget_below [hKernel9Ideal : Cert.Kernel9Ideal.Facts] [hReference9Ideal : Cert.Reference9Ideal.Facts] [hPre_forget_below : Cert.Pre_forget_below.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_forget_below m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v116) = v0 c
          ∧ r.2.mem ((c.tc : Thread Cert.Reference9Ideal.nD Cert.Reference9Ideal.τ).loc Cert.Reference9Ideal.main_v86) = v1 c
          ∧ r.2.mem ((c.tc : Thread Cert.Reference9Ideal.nD Cert.Reference9Ideal.τ).loc Cert.Reference9Ideal.main_v91) = v2 c
          ∧ r.2.mem ((c.tc : Thread Cert.Reference9Ideal.nD Cert.Reference9Ideal.τ).loc Cert.Reference9Ideal.main_v118) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_forget_finite [hKernel10Ideal : Cert.Kernel10Ideal.Facts] [hReference10Ideal : Cert.Reference10Ideal.Facts] [hPre_forget_finite : Cert.Pre_forget_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_forget_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4_1)) (v1 : (c : Dev Cert.Kernel10Ideal.nD) → Buf (Elt Ideal) ((c.tc : Thread Cert.Kernel10Ideal.nD Cert.Kernel10Ideal.τ).loc Cert.Kernel10Ideal.main_v4_2)) (v2 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_1) = v0 c
          ∧ r.2.mem ((c.tc : Thread Cert.Kernel10Ideal.nD Cert.Kernel10Ideal.τ).loc Cert.Kernel10Ideal.main_v4_2) = v1 c
          ∧ r.2.mem ((c.tc : Thread Cert.Kernel10Ideal.nD Cert.Kernel10Ideal.τ).loc Cert.Kernel10Ideal.main_v4_3) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v45) = v1 c
          ∧ r.2.mem ((c.tc : Thread Cert.Reference10Ideal.nD Cert.Reference10Ideal.τ).loc Cert.Reference10Ideal.main_v47) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_gates_below [hKernel11Ideal : Cert.Kernel11Ideal.Facts] [hReference11Ideal : Cert.Reference11Ideal.Facts] [hPre_gates_below : Cert.Pre_gates_below.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_gates_below m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_logits_finite : Cert.Pre_logits_finite.Facts) (hPre_forget_below : Cert.Pre_forget_below.Facts) (hPre_forget_finite : Cert.Pre_forget_finite.Facts) (hPre_gates_below : Cert.Pre_gates_below.Facts) (hOn_hidden_columns : Cert.On_hidden_columns.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_forget_below (hKernel9Ideal := hKernel9Ideal) (hPre_forget_below := hPre_forget_below)
    ∧ quiescent_Reference9Ideal (hReference9Ideal := hReference9Ideal)
    ∧ quiescent_Reference9Ideal_pre_forget_below (hReference9Ideal := hReference9Ideal) (hPre_forget_below := hPre_forget_below)
    ∧ quiescent_Kernel10 (hKernel10 := hKernel10)
    ∧ quiescent_Kernel10Ideal (hKernel10Ideal := hKernel10Ideal)
    ∧ quiescent_Kernel10Ideal_pre_forget_finite (hKernel10Ideal := hKernel10Ideal) (hPre_forget_finite := hPre_forget_finite)
    ∧ quiescent_Reference10Ideal (hReference10Ideal := hReference10Ideal)
    ∧ quiescent_Reference10Ideal_pre_forget_finite (hReference10Ideal := hReference10Ideal) (hPre_forget_finite := hPre_forget_finite)
    ∧ quiescent_Kernel11 (hKernel11 := hKernel11)
    ∧ quiescent_Kernel11Ideal (hKernel11Ideal := hKernel11Ideal)
    ∧ quiescent_Kernel11Ideal_pre_gates_below (hKernel11Ideal := hKernel11Ideal) (hPre_gates_below := hPre_gates_below)
    ∧ quiescent_Reference11Ideal (hReference11Ideal := hReference11Ideal)
    ∧ quiescent_Reference11Ideal_pre_gates_below (hReference11Ideal := hReference11Ideal) (hPre_gates_below := hPre_gates_below)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal_on_hidden_columns (hKernel2Ideal := hKernel2Ideal) (hReference2Ideal := hReference2Ideal) (hOn_hidden_columns := hOn_hidden_columns)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_forget_below (hKernel9Ideal := hKernel9Ideal) (hReference9Ideal := hReference9Ideal) (hPre_forget_below := hPre_forget_below)
    ∧ preserves_Kernel10_Kernel10Ideal
    ∧ algebraic_Kernel10Ideal_Reference10Ideal_pre_forget_finite (hKernel10Ideal := hKernel10Ideal) (hReference10Ideal := hReference10Ideal) (hPre_forget_finite := hPre_forget_finite)
    ∧ preserves_Kernel11_Kernel11Ideal
    ∧ algebraic_Kernel11Ideal_Reference11Ideal_pre_gates_below (hKernel11Ideal := hKernel11Ideal) (hReference11Ideal := hReference11Ideal) (hPre_gates_below := hPre_gates_below)
-- ==== On_hidden_columns.lean ====
abbrev S8320x2048 : Shape := ⟨2, ![8320, 2048]⟩
abbrev S2x2x2048x11008 : Shape := ⟨4, ![2, 2, 2048, 11008]⟩
abbrev S8320x5632 : Shape := ⟨2, ![8320, 5632]⟩
abbrev S_ : Shape := ⟨0, ![]⟩

class Facts : Prop where
  bcast_S_S8320x5632 : S_.BroadcastsInDim S8320x5632 (![] : Fin 0 → Fin S8320x5632.rank)

variable [Facts]

def fn {F : FTy → Type} [FloatOps F] (main_arg0 : FVec F S8320x2048 .f32) (main_arg1 : FVec F S2x2x2048x11008 .f32) : IVec S8320x5632 1 :=
  let main_v0 : IVec S8320x5632 32 := iotaInDim S8320x5632 32 1
  let main_c : IVec S_ 32 := constantI S_ 32 5504#32
  let main_v1 : IVec S8320x5632 32 := broadcastInDim S8320x5632 ![] bcast_S_S8320x5632 main_c
  let main_v2 : IVec S8320x5632 1 := cmpi .slt main_v0 main_v1
  main_v2
-- ==== Pre_forget_below.lean ====
abbrev S8320x6144 : Shape := ⟨2, ![8320, 6144]⟩
abbrev S16x8320 : Shape := ⟨2, ![16, 8320]⟩
abbrev S32x8x256x128 : Shape := ⟨4, ![32, 8, 256, 128]⟩
abbrev S32x8x128 : Shape := ⟨3, ![32, 8, 128]⟩
abbrev S32x8 : Shape := ⟨2, ![32, 8]⟩
abbrev S2048 : Shape := ⟨1, ![2048]⟩
abbrev S8x128 : Shape := ⟨2, ![8, 128]⟩
abbrev S_ : Shape := ⟨0, ![]⟩

class Facts : Prop where
  slices_S16x8320_S8x128_8_8192 : S16x8320.Slices ![8, 8192] S8x128
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S8320x6144 .f32) (main_arg1 : FVec F S16x8320 .f32) (main_arg2 : FVec F S32x8x256x128 .f32) (main_arg3 : FVec F S32x8x128 .f32) (main_arg4 : FVec F S32x8 .f32) (main_arg5 : FVec F S2048 .f32) : IVec S_ 1 :=
  let main_v0 : FVec F S8x128 .f32 := (extractStridedSlice S8x128 ![8, 8192] · slices_S16x8320_S8x128_8_8192) main_arg1
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  main_v3
-- ==== Pre_forget_finite.lean ====
abbrev S8320x6144 : Shape := ⟨2, ![8320, 6144]⟩
abbrev S16x8320 : Shape := ⟨2, ![16, 8320]⟩
abbrev S2048 : Shape := ⟨1, ![2048]⟩
abbrev S8x8192 : Shape := ⟨2, ![8, 8192]⟩
abbrev S_ : Shape := ⟨0, ![]⟩

class Facts : Prop where
  slices_S16x8320_S8x8192_8_0 : S16x8320.Slices ![8, 0] S8x8192
  bcast_S_S8x8192 : S_.BroadcastsInDim S8x8192 (![] : Fin 0 → Fin S8x8192.rank)
  reducesTo_S8x8192_S_d0_1 : S8x8192.ReducesTo [0, 1] S_
  h_S_ : 0 < S_.numel

variable [Facts]

def fn {F : FTy → Type} [FloatOps F] (main_arg0 : FVec F S8320x6144 .f32) (main_arg1 : FVec F S16x8320 .f32) (main_arg2 : FVec F S2048 .f32) : IVec S_ 1 :=
  let main_v0 : FVec F S8x8192 .f32 := (extractStridedSlice S8x8192 ![8, 0] · slices_S16x8320_S8x8192_8_0) main_arg1
  let main_v1 : FVec F S8x8192 .f32 := Host.absf main_v0
  let main_cst : FVec F S_ .f32 := constant S_ .f32 0x7F800000#32
  let main_v2 : FVec F S8x8192 .f32 := broadcastInDim S8x8192 ![] bcast_S_S8x8192 main_cst
  let main_v3 : IVec S8x8192 1 := cmpf .olt main_v1 main_v2
  let main_c : IVec S_ 1 := constantI S_ 1 1#1
  let main_v4 : IVec S_ 1 := (fun x v => Host.reduce IntOp.andi x v reducesTo_S8x8192_S_d0_1 h_S_) main_v3 main_c
  main_v4
-- ==== Pre_gates_below.lean ====
abbrev S16x8320 : Shape := ⟨2, ![16, 8320]⟩
abbrev S16x8192 : Shape := ⟨2, ![16, 8192]⟩
abbrev S_ : Shape := ⟨0, ![]⟩

class Facts : Prop where
  slices_S16x8320_S16x8192_0_0 : S16x8320.Slices ![0, 0] S16x8192
  bcast_S_S16x8192 : S_.BroadcastsInDim S16x8192 (![] : Fin 0 → Fin S16x8192.rank)
  reducesTo_S16x8192_S_d0_1 : S16x8192.ReducesTo [0, 1] S_
  h_S_ : 0 < S_.numel

variable [Facts]

def fn {F : FTy → Type} [FloatOps F] (main_arg0 : FVec F S16x8320 .f32) : IVec S_ 1 :=
  let main_v0 : FVec F S16x8192 .f32 := (extractStridedSlice S16x8192 ![0, 0] · slices_S16x8320_S16x8192_0_0) main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  main_v3
-- ==== Pre_logits_finite.lean ====
abbrev S8320x8192 : Shape := ⟨2, ![8320, 8192]⟩
abbrev S4x16x2048 : Shape := ⟨3, ![4, 16, 2048]⟩
abbrev S8192x4096 : Shape := ⟨2, ![8192, 4096]⟩
abbrev S_ : Shape := ⟨0, ![]⟩

class Facts : Prop where
  slices_S8320x8192_S8192x4096_0_0 : S8320x8192.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4x16x2048 : S_.BroadcastsInDim S4x16x2048 (![] : Fin 0 → Fin S4x16x2048.rank)
  reducesTo_S4x16x2048_S_d0_1_2 : S4x16x2048.ReducesTo [0, 1, 2] S_

variable [Facts]

def fn {F : FTy → Type} [FloatOps F] (main_arg0 : FVec F S8320x8192 .f32) (main_arg1 : FVec F S4x16x2048 .f32) : IVec S_ 1 :=
  let main_v0 : FVec F S8192x4096 .f32 := (extractStridedSlice S8192x4096 ![0, 0] · slices_S8320x8192_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S4x16x2048 .f32 := Host.absf main_arg1
  let main_cst_0 : FVec F S_ .f32 := constant S_ .f32 0x7F800000#32
  let main_v6 : FVec F S4x16x2048 .f32 := broadcastInDim S4x16x2048 ![] bcast_S_S4x16x2048 main_cst_0
  let main_v7 : IVec S4x16x2048 1 := cmpf .olt main_v5 main_v6
  let main_c_1 : IVec S_ 1 := constantI S_ 1 1#1
  let main_v8 : IVec S_ 1 := (fun x v => Host.reduce IntOp.andi x v reducesTo_S4x16x2048_S_d0_1_2 h_S_) main_v7 main_c_1
  let main_v9 : IVec S_ 1 := andi main_v4 main_v8
  main_v9
-- ==== Kernel.lean ====
abbrev S8320x8192 : Shape := ⟨2, ![8320, 8192]⟩
abbrev S4x16x2048 : Shape := ⟨3, ![4, 16, 2048]⟩
abbrev S64x1x2048 : Shape := ⟨3, ![64, 1, 2048]⟩
abbrev S8192x2048 : Shape := ⟨2, ![8192, 2048]⟩
abbrev S512x128 : Shape := ⟨2, ![512, 128]⟩
abbrev S2048x128 : Shape := ⟨2, ![2048, 128]⟩
abbrev S1x1x512 : Shape := ⟨3, ![1, 1, 512]⟩
abbrev S1x1x2048 : Shape := ⟨3, ![1, 1, 2048]⟩
abbrev S1x1x128 : Shape := ⟨3, ![1, 1, 128]⟩
abbrev S1x128 : Shape := ⟨2, ![1, 128]⟩
abbrev S128x128 : Shape := ⟨2, ![128, 128]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S1536x128 : Shape := ⟨2, ![1536, 128]⟩
abbrev S512x1536 : Shape := ⟨2, ![512, 1536]⟩
abbrev S1x1x1536 : Shape := ⟨3, ![1, 1, 1536]⟩
abbrev S1x1536 : Shape := ⟨2, ![1, 1536]⟩
abbrev S512x2048 : Shape := ⟨2, ![512, 2048]⟩
abbrev S1x2048 : Shape := ⟨2, ![1, 2048]⟩

abbrev nBuf : Space → Nat
  | .hbm => 4
  | .vmem => 15
  | .smem => 0
  | _ => 0

abbrev bufTy : (tb : Table) → Fin (tcTables nBuf tb) → BufTy
  | .hbm, ⟨0, _⟩ => ⟨S8320x8192, .f32⟩
  | .hbm, ⟨1, _⟩ => ⟨S4x16x2048, .f32⟩
  | .hbm, ⟨2, _⟩ => ⟨S64x1x2048, .f32⟩
  | .hbm, ⟨3, _⟩ => ⟨S8192x2048, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S1x1x512, .f32⟩
  | .local _ .vmem, ⟨9, _⟩ => ⟨S1x1x512, .f32⟩
  | .local _ .vmem, ⟨10, _⟩ => ⟨S1x1x2048, .f32⟩
  | .local _ .vmem, ⟨11, _⟩ => ⟨S1x1x2048, .f32⟩
  | .local _ .vmem, ⟨12, _⟩ => ⟨S512x128, .bf16⟩
  | .local _ .vmem, ⟨13, _⟩ => ⟨S512x128, .bf16⟩
  | .local _ .vmem, ⟨14, _⟩ => ⟨S512x128, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 4], ![false, false, false]⟩

def k0_cond1 (i : grid0.Coords) : BitVec 1 :=
  let arg2 : BitVec 32 := BitVec.ofNat 32 (i 2).val
  let c0_i32 : BitVec 32 := 0#32
  let v42 : BitVec 1 := Scalar.cmpi .eq arg2 c0_i32
  let v43 : BitVec 32 := Scalar.extui v42
  let c0_i32_21 : BitVec 32 := 0#32
  let v44 : BitVec 1 := Scalar.cmpi .ne v43 c0_i32_21
  v44

def k0_cond2 (i : grid0.Coords) : BitVec 1 :=
  let arg2 : BitVec 32 := BitVec.ofNat 32 (i 2).val
  let c1_i32 : BitVec 32 := 1#32
  let v45 : BitVec 1 := Scalar.cmpi .eq arg2 c1_i32
  let v46 : BitVec 32 := Scalar.extui v45
  let c0_i32_22 : BitVec 32 := 0#32
  let v47 : BitVec 1 := Scalar.cmpi .ne v46 c0_i32_22
  v47

def k0_cond3 (i : grid0.Coords) : BitVec 1 :=
  let arg2 : BitVec 32 := BitVec.ofNat 32 (i 2).val
  let c2_i32 : BitVec 32 := 2#32
  let v48 : BitVec 1 := Scalar.cmpi .eq arg2 c2_i32
  let v49 : BitVec 32 := Scalar.extui v48
  let c0_i32_23 : BitVec 32 := 0#32
  let v50 : BitVec 1 := Scalar.cmpi .ne v49 c0_i32_23
  v50

def k0_cond4 (i : grid0.Coords) : BitVec 1 :=
  let arg2 : BitVec 32 := BitVec.ofNat 32 (i 2).val
  let c3_i32 : BitVec 32 := 3#32
  let v51 : BitVec 1 := Scalar.cmpi .eq arg2 c3_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S8320x8192 : Shape := ⟨2, ![8320, 8192]⟩
abbrev S4x16x2048 : Shape := ⟨3, ![4, 16, 2048]⟩
abbrev S8192x8192 : Shape := ⟨2, ![8192, 8192]⟩
abbrev S4x2048x8192 : Shape := ⟨3, ![4, 2048, 8192]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8320x8192, .f32⟩
  | .hbm, ⟨1, _⟩ => ⟨S4x16x2048, .f32⟩
  | .hbm, ⟨2, _⟩ => ⟨S8192x8192, .f32⟩
  | .hbm, ⟨3, _⟩ => ⟨S4x2048x8192, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x16x128, .f32⟩
  | .hbm, ⟨9, _⟩ => ⟨S4x16x2048x128, .f32⟩
  | .hbm, ⟨10, _⟩ => ⟨S4x2048x16x128, .f32⟩
  | .hbm, ⟨11, _⟩ => ⟨S4x16x2048x128, .f32⟩
  | .hbm, ⟨12, _⟩ => ⟨S4x2048x16x128, .f32⟩
  | .hbm, ⟨13, _⟩ => ⟨S4x16x2048x128, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x1x2048, .f32⟩
  | .hbm, ⟨23, _⟩ => ⟨S4x16x2048x2048, .f32⟩
  | .hbm, ⟨24, _⟩ => ⟨S4x16x2048x2048, .f32⟩
  | .hbm, ⟨25, _⟩ => ⟨S2048, .i32⟩
  | .hbm, ⟨26, _⟩ => ⟨S2048x1, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S4x16x2048x2048, .i1⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S4x16x2048, .f32⟩
  | .hbm, ⟨38, _⟩ => ⟨S_, .f32⟩
  | .hbm, ⟨39, _⟩ => ⟨S4x16x2048, .f32⟩
  | .hbm, ⟨40, _⟩ => ⟨S4x16x2048, .f32⟩
  | .hbm, ⟨41, _⟩ => ⟨S4x16x2048x1, .f32⟩
  | .hbm, ⟨42, _⟩ => ⟨S4x16x2048x2048, .f32⟩
  | .hbm, ⟨43, _⟩ => ⟨S4x16x2048x2048, .f32⟩
  | .hbm, ⟨44, _⟩ => ⟨S4x16x2048x2048, .f32⟩
  | .hbm, ⟨45, _⟩ => ⟨S_, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x128, .f32⟩
  | .hbm, ⟨51, _⟩ => ⟨S4x2048x16x128, .f32⟩
  | .hbm, ⟨52, _⟩ => ⟨S4x2048x2048, .f32⟩
  | .hbm, ⟨53, _⟩ => ⟨S4x2048x2048, .f32⟩
  | .hbm, ⟨54, _⟩ => ⟨S4x2048x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S_, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S8192x2048, .f32⟩
  | .hbm, ⟨63, _⟩ => ⟨S8192x2048, .bf16⟩
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Kernel2.lean ====
abbrev S8320x2048 : Shape := ⟨2, ![8320, 2048]⟩
abbrev S2x2x2048x11008 : Shape := ⟨4, ![2, 2, 2048, 11008]⟩
abbrev S8320x5632 : Shape := ⟨2, ![8320, 5632]⟩
abbrev S1664x2048 : Shape := ⟨2, ![1664, 2048]⟩
abbrev S1x1x2048x512 : Shape := ⟨4, ![1, 1, 2048, 512]⟩
abbrev S1664x512 : Shape := ⟨2, ![1664, 512]⟩
abbrev S2048x512 : Shape := ⟨2, ![2048, 512]⟩
abbrev S2048x384 : Shape := ⟨2, ![2048, 384]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2x2x2048x11008, .f32⟩
  | .hbm, ⟨2, _⟩ => ⟨S8320x2048, .bf16⟩
  | .hbm, ⟨3, _⟩ => ⟨S8320x5632, .bf16⟩
  | .local _ .vmem, ⟨0, _⟩ => ⟨S1664x2048, .bf16⟩
  | .local _ .vmem, ⟨1, _⟩ => ⟨S1664x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1664x512, .bf16⟩
  | .local _ .vmem, ⟨7, _⟩ => ⟨S1664x512, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 11], ![false, false]⟩

def k0_cond1 (i : grid0.Coords) : BitVec 1 :=
  let arg1 : BitVec 32 := BitVec.ofNat 32 (i 1).val
  let c10_i32 : BitVec 32 := 10#32
  let v6 : BitVec 1 := Scalar.cmpi .slt arg1 c10_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c10_i32_5 : BitVec 32 := 10#32
  let v9 : BitVec 1 := Scalar.cmpi .eq arg1 c10_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c43_i32 : BitVec 32 := 43#32
  let v1 : BitVec 32 := Scalar.addi c43_i32 v0
  let c82_i32 : BitVec 32 := 82#32
  let v2 : BitVec 32 := Scalar.minsi v1 c82_i32
  let c128_i32 : BitVec 32 := 128#32
  let v3 : BitVec 32 := Scalar.muli c128_i32 v2
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8320x2048 : Shape := ⟨2, ![8320, 2048]⟩
abbrev S2x2x2048x11008 : Shape := ⟨4, ![2, 2, 2048, 11008]⟩
abbrev S1x1x2048x11008 : Shape := ⟨4, ![1, 1, 2048, 11008]⟩
abbrev S2048x11008 : Shape := ⟨2, ![2048, 11008]⟩
abbrev S8320x11008 : Shape := ⟨2, ![8320, 11008]⟩
abbrev S8320x5504 : Shape := ⟨2, ![8320, 5504]⟩
abbrev S_ : Shape := ⟨0, ![]⟩
abbrev S8320x5632 : Shape := ⟨2, ![8320, 5632]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2x2x2048x11008, .f32⟩
  | .hbm, ⟨2, _⟩ => ⟨S1x1x2048x11008, .f32⟩
  | .hbm, ⟨3, _⟩ => ⟨S2048x11008, .f32⟩
  | .hbm, ⟨4, _⟩ => ⟨S8320x11008, .f32⟩
  | .hbm, ⟨5, _⟩ => ⟨S8320x5504, .f32⟩
  | .hbm, ⟨6, _⟩ => ⟨S8320x5504, .f32⟩
  | .hbm, ⟨7, _⟩ => ⟨S8320x5504, .f32⟩
  | .hbm, ⟨8, _⟩ => ⟨S8320x5504, .f32⟩
  | .hbm, ⟨9, _⟩ => ⟨S_, .f32⟩
  | .hbm, ⟨10, _⟩ => ⟨S8320x5504, .f32⟩
  | .hbm, ⟨11, _⟩ => ⟨S8320x5504, .f32⟩
  | .hbm, ⟨12, _⟩ => ⟨S_, .f32⟩
  | .hbm, ⟨13, _⟩ => ⟨S8320x5504, .f32⟩
  | .hbm, ⟨14, _⟩ => ⟨S8320x5504, .f32⟩
  | .hbm, ⟨15, _⟩ => ⟨S8320x5504, .f32⟩
  | .hbm, ⟨16, _⟩ => ⟨S8320x5504, .f32⟩
  | .hbm, ⟨17, _⟩ => ⟨S8320x5504, .bf16⟩
  | .hbm, ⟨18, _⟩ => ⟨S_, .i32⟩
  | .hbm, ⟨19, _⟩ => ⟨S_, .bf16⟩
  | .hbm, ⟨20, _⟩ => ⟨S8320x5632, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call1_v0 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S8320x5632 : Shape := ⟨2, ![8320, 5632]⟩
abbrev S2x2x5504x2048 : Shape := ⟨4, ![2, 2, 5504, 2048]⟩
abbrev S8320x2048 : Shape := ⟨2, ![8320, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S320x5504 : Shape := ⟨2, ![320, 5504]⟩
abbrev S1x1x5504x2048 : Shape := ⟨4, ![1, 1, 5504, 2048]⟩
abbrev S320x2048 : Shape := ⟨2, ![320, 2048]⟩
abbrev S5504x2048 : Shape := ⟨2, ![5504, 2048]⟩
abbrev S320 : Shape := ⟨1, ![320]⟩
abbrev S320x1 : Shape := ⟨2, ![320, 1]⟩

abbrev nBuf : Space → Nat
  | .hbm => 14
  | .vmem => 11
  | .smem => 0
  | _ => 0

abbrev bufTy : (tb : Table) → Fin (tcTables nBuf tb) → BufTy
  | .hbm, ⟨0, _⟩ => ⟨S8320x5632, .bf16⟩
  | .hbm, ⟨1, _⟩ => ⟨S2x2x5504x2048, .f32⟩
  | .hbm, ⟨2, _⟩ => ⟨S8320x2048, .f32⟩
  | .hbm, ⟨3, _⟩ => ⟨S2x3x2048, .f32⟩
  | .hbm, ⟨4, _⟩ => ⟨S2x3x2048, .f32⟩
  | .hbm, ⟨5, _⟩ => ⟨S2x2x5504x2048, .bf16⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8320x2048, .f32⟩
  | .hbm, ⟨13, _⟩ => ⟨S8320x2048, .bf16⟩
  | .local _ .vmem, ⟨0, _⟩ => ⟨S320x5504, .bf16⟩
  | .local _ .vmem, ⟨1, _⟩ => ⟨S320x5504, .bf16⟩
  | .local _ .vmem, ⟨2, _⟩ => ⟨S1x1x5504x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .bf16⟩
  | .local _ .vmem, ⟨10, _⟩ => ⟨S320x2048, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x5504x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8320x5632 : Shape := ⟨2, ![8320, 5632]⟩
abbrev S2x2x5504x2048 : Shape := ⟨4, ![2, 2, 5504, 2048]⟩
abbrev S8320x2048 : Shape := ⟨2, ![8320, 2048]⟩
abbrev S2x3x2048 : Shape := ⟨3, ![2, 3, 2048]⟩
abbrev S8320x5504 : Shape := ⟨2, ![8320, 5504]⟩
abbrev S1x1x5504x2048 : Shape := ⟨4, ![1, 1, 5504, 2048]⟩
abbrev S5504x2048 : Shape := ⟨2, ![5504, 2048]⟩
abbrev S_ : Shape := ⟨0, ![]⟩
abbrev S8320 : Shape := ⟨1, ![8320]⟩
abbrev S8320x1 : Shape := ⟨2, ![8320, 1]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2x2x5504x2048, .f32⟩
  | .hbm, ⟨2, _⟩ => ⟨S8320x2048, .f32⟩
  | .hbm, ⟨3, _⟩ => ⟨S2x3x2048, .f32⟩
  | .hbm, ⟨4, _⟩ => ⟨S2x3x2048, .f32⟩
  | .hbm, ⟨5, _⟩ => ⟨S8320x5504, .bf16⟩
  | .hbm, ⟨6, _⟩ => ⟨S8320x5504, .f32⟩
  | .hbm, ⟨7, _⟩ => ⟨S1x1x5504x2048, .f32⟩
  | .hbm, ⟨8, _⟩ => ⟨S5504x2048, .f32⟩
  | .hbm, ⟨9, _⟩ => ⟨S8320x2048, .f32⟩
  | .hbm, ⟨10, _⟩ => ⟨S_, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S8320x2048, .f32⟩
  | .hbm, ⟨24, _⟩ => ⟨S8320x2048, .f32⟩
  | .hbm, ⟨25, _⟩ => ⟨S8320x2048, .f32⟩
  | .hbm, ⟨26, _⟩ => ⟨S_, .f32⟩
  | .hbm, ⟨27, _⟩ => ⟨S8320, .f32⟩
  | .hbm, ⟨28, _⟩ => ⟨S8320x1, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x1, .f32⟩
  | .hbm, ⟨36, _⟩ => ⟨S8320x2048, .f32⟩
  | .hbm, ⟨37, _⟩ => ⟨S8320x2048, .f32⟩
  | .hbm, ⟨38, _⟩ => ⟨S1x1x2048, .f32⟩
  | .hbm, ⟨39, _⟩ => ⟨S2048, .f32⟩
  | .hbm, ⟨40, _⟩ => ⟨S1x2048, .f32⟩
  | .hbm, ⟨41, _⟩ => ⟨S8320x2048, .f32⟩
  | .hbm, ⟨42, _⟩ => ⟨S8320x2048, .f32⟩
  | .hbm, ⟨43, _⟩ => ⟨S1x1x2048, .f32⟩
  | .hbm, ⟨44, _⟩ => ⟨S2048, .f32⟩
  | .hbm, ⟨45, _⟩ => ⟨S1x2048, .f32⟩
  | .hbm, ⟨46, _⟩ => ⟨S8320x2048, .f32⟩
  | .hbm, ⟨47, _⟩ => ⟨S8320x2048, .f32⟩
  | .hbm, ⟨48, _⟩ => ⟨S8320x2048, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel4.lean ====
abbrev S8320x2048 : Shape := ⟨2, ![8320, 2048]⟩
abbrev S2048x8208 : Shape := ⟨2, ![2048, 8208]⟩
abbrev S128 : Shape := ⟨1, ![128]⟩
abbrev S1x128 : Shape := ⟨2, ![1, 128]⟩
abbrev S16x128 : Shape := ⟨2, ![16, 128]⟩
abbrev S2048 : Shape := ⟨1, ![2048]⟩
abbrev S_ : Shape := ⟨0, ![]⟩
abbrev S4096 : Shape := ⟨1, ![4096]⟩
abbrev S8192 : Shape := ⟨1, ![8192]⟩
abbrev S8208x2048 : Shape := ⟨2, ![8208, 2048]⟩
abbrev S1x8192 : Shape := ⟨2, ![1, 8192]⟩
abbrev S8320x8192 : Shape := ⟨2, ![8320, 8192]⟩
abbrev S1664x2048 : Shape := ⟨2, ![1664, 2048]⟩
abbrev S512x2048 : Shape := ⟨2, ![512, 2048]⟩
abbrev S1x512 : Shape := ⟨2, ![1, 512]⟩
abbrev S1664x512 : Shape := ⟨2, ![1664, 512]⟩
abbrev S1664x128 : Shape := ⟨2, ![1664, 128]⟩
abbrev S1664 : Shape := ⟨1, ![1664]⟩
abbrev S1664x1 : Shape := ⟨2, ![1664, 1]⟩

abbrev nBuf : Space → Nat
  | .hbm => 17
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S16x128, .f32⟩
  | .hbm, ⟨6, _⟩ => ⟨S2048, .f32⟩
  | .hbm, ⟨7, _⟩ => ⟨S1x128, .f32⟩
  | .hbm, ⟨8, _⟩ => ⟨S16x128, .f32⟩
  | .hbm, ⟨9, _⟩ => ⟨S2048, .f32⟩
  | .hbm, ⟨10, _⟩ => ⟨S_, .f32⟩
  | .hbm, ⟨11, _⟩ => ⟨S4096, .f32⟩
  | .hbm, ⟨12, _⟩ => ⟨S8192, .f32⟩
  | .hbm, ⟨13, _⟩ => ⟨S8320x2048, .bf16⟩
  | .hbm, ⟨14, _⟩ => ⟨S8208x2048, .f32⟩
  | .hbm, ⟨15, _⟩ => ⟨S1x8192, .f32⟩
  | .hbm, ⟨16, _⟩ => ⟨S8320x8192, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1664x512, .f32⟩
  | .local _ .vmem, ⟨7, _⟩ => ⟨S1664x512, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg1 : BitVec 32 := BitVec.ofNat 32 (i 1).val
  let c8_i32 : BitVec 32 := 8#32
  let v8 : BitVec 1 := Scalar.cmpi .sge arg1 c8_i32
  let v9 : BitVec 32 := Scalar.extui v8
  let c0_i32 : BitVec 32 := 0#32
  let v10 : BitVec 1 := Scalar.cmpi .ne v9 c0_i32
  v10

def k0_cond2 (i : grid0.Coords) : BitVec 1 :=
  let arg1 : BitVec 32 := BitVec.ofNat 32 (i 1).val
  let c8_i32_5 : BitVec 32 := 8#32
  let v11 : BitVec 1 := Scalar.cmpi .slt arg1 c8_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8320x2048 : Shape := ⟨2, ![8320, 2048]⟩
abbrev S2048x8208 : Shape := ⟨2, ![2048, 8208]⟩
abbrev S128 : Shape := ⟨1, ![128]⟩
abbrev S2048x8192 : Shape := ⟨2, ![2048, 8192]⟩
abbrev S8320x8192 : Shape := ⟨2, ![8320, 8192]⟩
abbrev S8320x16x128 : Shape := ⟨3, ![8320, 16, 128]⟩
abbrev S_ : Shape := ⟨0, ![]⟩
abbrev S8320x16 : Shape := ⟨2, ![8320, 16]⟩
abbrev S8320x16x1 : Shape := ⟨3, ![8320, 16, 1]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S128, .f32⟩
  | .hbm, ⟨3, _⟩ => ⟨S128, .f32⟩
  | .hbm, ⟨4, _⟩ => ⟨S2048x8192, .f32⟩
  | .hbm, ⟨5, _⟩ => ⟨S8320x8192, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x16x128, .f32⟩
  | .hbm, ⟨11, _⟩ => ⟨S8320x16x128, .f32⟩
  | .hbm, ⟨12, _⟩ => ⟨S_, .f32⟩
  | .hbm, ⟨13, _⟩ => ⟨S8320x16, .f32⟩
  | .hbm, ⟨14, _⟩ => ⟨S8320x16x1, .f32⟩
  | .hbm, ⟨15, _⟩ => ⟨S_, .f32⟩
  | .hbm, ⟨16, _⟩ => ⟨S8320x16x1, .f32⟩
  | .hbm, ⟨17, _⟩ => ⟨S8320x16x1, .f32⟩
  | .hbm, ⟨18, _⟩ => ⟨S_, .f32⟩
  | .hbm, ⟨19, _⟩ => ⟨S8320x16x1, .f32⟩
  | .hbm, ⟨20, _⟩ => ⟨S8320x16x1, .f32⟩
  | .hbm, ⟨21, _⟩ => ⟨S8320x16x1, .f32⟩
  | .hbm, ⟨22, _⟩ => ⟨S8320x16x128, .f32⟩
  | .hbm, ⟨23, _⟩ => ⟨S8320x16x128, .f32⟩
  | .hbm, ⟨24, _⟩ => ⟨S1x1x128, .f32⟩
  | .hbm, ⟨25, _⟩ => ⟨S8320x16x128, .f32⟩
  | .hbm, ⟨26, _⟩ => ⟨S8320x16x128, .f32⟩
  | .hbm, ⟨27, _⟩ => ⟨S8320x2048, .f32⟩
  | .hbm, ⟨28, _⟩ => ⟨S8320x16x128, .f32⟩
  | .hbm, ⟨29, _⟩ => ⟨S8320x16x128, .f32⟩
  | .hbm, ⟨30, _⟩ => ⟨S_, .f32⟩
  | .hbm, ⟨31, _⟩ => ⟨S8320x16, .f32⟩
  | .hbm, ⟨32, _⟩ => ⟨S8320x16x1, .f32⟩
  | .hbm, ⟨33, _⟩ => ⟨S_, .f32⟩
  | .hbm, ⟨34, _⟩ => ⟨S8320x16x1, .f32⟩
  | .hbm, ⟨35, _⟩ => ⟨S8320x16x1, .f32⟩
  | .hbm, ⟨36, _⟩ => ⟨S_, .f32⟩
  | .hbm, ⟨37, _⟩ => ⟨S8320x16x1, .f32⟩
  | .hbm, ⟨38, _⟩ => ⟨S8320x16x1, .f32⟩
  | .hbm, ⟨39, _⟩ => ⟨S8320x16x1, .f32⟩
  | .hbm, ⟨40, _⟩ => ⟨S8320x16x128, .f32⟩
  | .hbm, ⟨41, _⟩ => ⟨S8320x16x128, .f32⟩
  | .hbm, ⟨42, _⟩ => ⟨S1x1x128, .f32⟩
  | .hbm, ⟨43, _⟩ => ⟨S8320x16x128, .f32⟩
  | .hbm, ⟨44, _⟩ => ⟨S8320x16x128, .f32⟩
  | .hbm, ⟨45, _⟩ => ⟨S8320x2048, .f32⟩
  | .hbm, ⟨46, _⟩ => ⟨S8320x8192, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel5.lean ====
abbrev S8320x2048 : Shape := ⟨2, ![8320, 2048]⟩
abbrev S2048x8208 : Shape := ⟨2, ![2048, 8208]⟩
abbrev S16 : Shape := ⟨1, ![16]⟩
abbrev S2048x16 : Shape := ⟨2, ![2048, 16]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S8320x128 : Shape := ⟨2, ![8320, 128]⟩
abbrev S16x8320 : Shape := ⟨2, ![16, 8320]⟩
abbrev S1664x2048 : Shape := ⟨2, ![1664, 2048]⟩
abbrev S1664x128 : Shape := ⟨2, ![1664, 128]⟩
abbrev S16x1664 : Shape := ⟨2, ![16, 1664]⟩
abbrev S128x128 : Shape := ⟨2, ![128, 128]⟩
abbrev S16x128 : Shape := ⟨2, ![16, 128]⟩

abbrev nBuf : Space → Nat
  | .hbm => 15
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S16, .f32⟩
  | .hbm, ⟨3, _⟩ => ⟨S8320x2048, .bf16⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8320x128, .f32⟩
  | .hbm, ⟨14, _⟩ => ⟨S16x8320, .f32⟩
  | .local _ .vmem, ⟨0, _⟩ => ⟨S1664x2048, .bf16⟩
  | .local _ .vmem, ⟨1, _⟩ => ⟨S1664x2048, .bf16⟩
  | .local _ .vmem, ⟨2, _⟩ => ⟨S2048x128, .bf16⟩
  | .local _ .vmem, ⟨3, _⟩ => ⟨S1x128, .f32⟩
  | .local _ .vmem, ⟨4, _⟩ => ⟨S1664x128, .f32⟩
  | .local _ .vmem, ⟨5, _⟩ => ⟨S1664x128, .f32⟩
  | .local _ .vmem, ⟨6, _⟩ => ⟨S16x1664, .f32⟩
  | .local _ .vmem, ⟨7, _⟩ => ⟨S16x1664, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1664x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8320x2048 : Shape := ⟨2, ![8320, 2048]⟩
abbrev S2048x8208 : Shape := ⟨2, ![2048, 8208]⟩
abbrev S16 : Shape := ⟨1, ![16]⟩
abbrev S2048x16 : Shape := ⟨2, ![2048, 16]⟩
abbrev S8320x16 : Shape := ⟨2, ![8320, 16]⟩
abbrev S1x16 : Shape := ⟨2, ![1, 16]⟩
abbrev S_ : Shape := ⟨0, ![]⟩
abbrev S8320x128 : Shape := ⟨2, ![8320, 128]⟩
abbrev S16x8320 : Shape := ⟨2, ![16, 8320]⟩

abbrev nBuf : Space → Nat
  | .hbm => 28
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x8208, .f32⟩
  | .hbm, ⟨2, _⟩ => ⟨S16, .f32⟩
  | .hbm, ⟨3, _⟩ => ⟨S2048x16, .f32⟩
  | .hbm, ⟨4, _⟩ => ⟨S8320x16, .f32⟩
  | .hbm, ⟨5, _⟩ => ⟨S1x16, .f32⟩
  | .hbm, ⟨6, _⟩ => ⟨S8320x16, .f32⟩
  | .hbm, ⟨7, _⟩ => ⟨S8320x16, .f32⟩
  | .hbm, ⟨8, _⟩ => ⟨S8320x16, .f32⟩
  | .hbm, ⟨9, _⟩ => ⟨S_, .f32⟩
  | .hbm, ⟨10, _⟩ => ⟨S8320x16, .f32⟩
  | .hbm, ⟨11, _⟩ => ⟨S8320x16, .f32⟩
  | .hbm, ⟨12, _⟩ => ⟨S8320x16, .f32⟩
  | .hbm, ⟨13, _⟩ => ⟨S8320x16, .f32⟩
  | .hbm, ⟨14, _⟩ => ⟨S8320x16, .i1⟩
  | .hbm, ⟨15, _⟩ => ⟨S8320x16, .f32⟩
  | .hbm, ⟨16, _⟩ => ⟨S8320x16, .f32⟩
  | .hbm, ⟨17, _⟩ => ⟨S8320x16, .f32⟩
  | .hbm, ⟨18, _⟩ => ⟨S8320x16, .f32⟩
  | .hbm, ⟨19, _⟩ => ⟨S8320x16, .f32⟩
  | .hbm, ⟨20, _⟩ => ⟨S8320x16, .f32⟩
  | .hbm, ⟨21, _⟩ => ⟨S8320x16, .f32⟩
  | .hbm, ⟨22, _⟩ => ⟨S8320x16, .f32⟩
  | .hbm, ⟨23, _⟩ => ⟨S8320x16, .f32⟩
  | .hbm, ⟨24, _⟩ => ⟨S_, .i32⟩
  | .hbm, ⟨25, _⟩ => ⟨S_, .f32⟩
  | .hbm, ⟨26, _⟩ => ⟨S8320x128, .f32⟩
  | .hbm, ⟨27, _⟩ => ⟨S16x8320, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_c : Ref sig .tc := ⟨.hbm, 24, rfl⟩
abbrev main_call1_v0 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== Kernel6.lean ====
abbrev S8320x2048 : Shape := ⟨2, ![8320, 2048]⟩
abbrev S2048x2048 : Shape := ⟨2, ![2048, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S320x2048 : Shape := ⟨2, ![320, 2048]⟩
abbrev S320 : Shape := ⟨1, ![320]⟩
abbrev S320x1 : Shape := ⟨2, ![320, 1]⟩

abbrev nBuf : Space → Nat
  | .hbm => 14
  | .vmem => 11
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S2x3x2048, .f32⟩
  | .hbm, ⟨4, _⟩ => ⟨S2x3x2048, .f32⟩
  | .hbm, ⟨5, _⟩ => ⟨S2048x2048, .bf16⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8320x2048, .f32⟩
  | .hbm, ⟨13, _⟩ => ⟨S8320x2048, .bf16⟩
  | .local _ .vmem, ⟨0, _⟩ => ⟨S320x2048, .bf16⟩
  | .local _ .vmem, ⟨1, _⟩ => ⟨S320x2048, .bf16⟩
  | .local _ .vmem, ⟨2, _⟩ => ⟨S2048x2048, .bf16⟩
  | .local _ .vmem, ⟨3, _⟩ => ⟨S320x2048, .f32⟩
  | .local _ .vmem, ⟨4, _⟩ => ⟨S320x2048, .f32⟩
  | .local _ .vmem, ⟨5, _⟩ => ⟨S1x2048, .f32⟩
  | .local _ .vmem, ⟨6, _⟩ => ⟨S1x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .bf16⟩
  | .local _ .vmem, ⟨10, _⟩ => ⟨S320x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8320x2048 : Shape := ⟨2, ![8320, 2048]⟩
abbrev S2048x2048 : Shape := ⟨2, ![2048, 2048]⟩
abbrev S2x3x2048 : Shape := ⟨3, ![2, 3, 2048]⟩
abbrev S_ : Shape := ⟨0, ![]⟩
abbrev S8320 : Shape := ⟨1, ![8320]⟩
abbrev S8320x1 : Shape := ⟨2, ![8320, 1]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x2048, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S8320x2048, .f32⟩
  | .hbm, ⟨31, _⟩ => ⟨S8320x2048, .f32⟩
  | .hbm, ⟨32, _⟩ => ⟨S1x1x2048, .f32⟩
  | .hbm, ⟨33, _⟩ => ⟨S2048, .f32⟩
  | .hbm, ⟨34, _⟩ => ⟨S1x2048, .f32⟩
  | .hbm, ⟨35, _⟩ => ⟨S8320x2048, .f32⟩
  | .hbm, ⟨36, _⟩ => ⟨S8320x2048, .f32⟩
  | .hbm, ⟨37, _⟩ => ⟨S1x1x2048, .f32⟩
  | .hbm, ⟨38, _⟩ => ⟨S2048, .f32⟩
  | .hbm, ⟨39, _⟩ => ⟨S1x2048, .f32⟩
  | .hbm, ⟨40, _⟩ => ⟨S8320x2048, .f32⟩
  | .hbm, ⟨41, _⟩ => ⟨S8320x2048, .f32⟩
  | .hbm, ⟨42, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S8320x2048 : Shape := ⟨2, ![8320, 2048]⟩
abbrev S2048x6160 : Shape := ⟨2, ![2048, 6160]⟩
abbrev S_ : Shape := ⟨0, ![]⟩
abbrev S1024 : Shape := ⟨1, ![1024]⟩
abbrev S4096 : Shape := ⟨1, ![4096]⟩
abbrev S6144 : Shape := ⟨1, ![6144]⟩
abbrev S6160x2048 : Shape := ⟨2, ![6160, 2048]⟩
abbrev S1x6144 : Shape := ⟨2, ![1, 6144]⟩
abbrev S8320x6144 : Shape := ⟨2, ![8320, 6144]⟩
abbrev S1664x2048 : Shape := ⟨2, ![1664, 2048]⟩
abbrev S512x2048 : Shape := ⟨2, ![512, 2048]⟩
abbrev S1x512 : Shape := ⟨2, ![1, 512]⟩
abbrev S1664x512 : Shape := ⟨2, ![1664, 512]⟩

abbrev nBuf : Space → Nat
  | .hbm => 13
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048x6160, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4096, .f32⟩
  | .hbm, ⟨8, _⟩ => ⟨S6144, .f32⟩
  | .hbm, ⟨9, _⟩ => ⟨S8320x2048, .bf16⟩
  | .hbm, ⟨10, _⟩ => ⟨S6160x2048, .f32⟩
  | .hbm, ⟨11, _⟩ => ⟨S1x6144, .f32⟩
  | .hbm, ⟨12, _⟩ => ⟨S8320x6144, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1664x512, .f32⟩
  | .local _ .vmem, ⟨7, _⟩ => ⟨S1664x512, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8320x2048 : Shape := ⟨2, ![8320, 2048]⟩
abbrev S2048x6160 : Shape := ⟨2, ![2048, 6160]⟩
abbrev S2048x6144 : Shape := ⟨2, ![2048, 6144]⟩
abbrev S8320x6144 : Shape := ⟨2, ![8320, 6144]⟩
abbrev S8320x1024 : Shape := ⟨2, ![8320, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x6160, .f32⟩
  | .hbm, ⟨2, _⟩ => ⟨S2048x6144, .f32⟩
  | .hbm, ⟨3, _⟩ => ⟨S8320x6144, .f32⟩
  | .hbm, ⟨4, _⟩ => ⟨S8320x1024, .f32⟩
  | .hbm, ⟨5, _⟩ => ⟨S8320x1024, .f32⟩
  | .hbm, ⟨6, _⟩ => ⟨S8320x2048, .f32⟩
  | .hbm, ⟨7, _⟩ => ⟨S8320x2048, .f32⟩
  | .hbm, ⟨8, _⟩ => ⟨S_, .f32⟩
  | .hbm, ⟨9, _⟩ => ⟨S8320x1024, .f32⟩
  | .hbm, ⟨10, _⟩ => ⟨S8320x1024, .f32⟩
  | .hbm, ⟨11, _⟩ => ⟨S8320x6144, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8320x2048 : Shape := ⟨2, ![8320, 2048]⟩
abbrev S2048x6160 : Shape := ⟨2, ![2048, 6160]⟩
abbrev S8 : Shape := ⟨1, ![8]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S8320x128 : Shape := ⟨2, ![8320, 128]⟩
abbrev S16x8320 : Shape := ⟨2, ![16, 8320]⟩
abbrev S1664x2048 : Shape := ⟨2, ![1664, 2048]⟩
abbrev S1664x128 : Shape := ⟨2, ![1664, 128]⟩
abbrev S16x1664 : Shape := ⟨2, ![16, 1664]⟩
abbrev S128x128 : Shape := ⟨2, ![128, 128]⟩
abbrev S16x128 : Shape := ⟨2, ![16, 128]⟩

abbrev nBuf : Space → Nat
  | .hbm => 17
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048x6160, .f32⟩
  | .hbm, ⟨2, _⟩ => ⟨S8, .f32⟩
  | .hbm, ⟨3, _⟩ => ⟨S8, .f32⟩
  | .hbm, ⟨4, _⟩ => ⟨S8320x2048, .bf16⟩
  | .hbm, ⟨5, _⟩ => ⟨S2048x16, .f32⟩
  | .hbm, ⟨6, _⟩ => ⟨S16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S8320x128, .f32⟩
  | .hbm, ⟨16, _⟩ => ⟨S16x8320, .f32⟩
  | .local _ .vmem, ⟨0, _⟩ => ⟨S1664x2048, .bf16⟩
  | .local _ .vmem, ⟨1, _⟩ => ⟨S1664x2048, .bf16⟩
  | .local _ .vmem, ⟨2, _⟩ => ⟨S2048x128, .bf16⟩
  | .local _ .vmem, ⟨3, _⟩ => ⟨S1x128, .f32⟩
  | .local _ .vmem, ⟨4, _⟩ => ⟨S1664x128, .f32⟩
  | .local _ .vmem, ⟨5, _⟩ => ⟨S1664x128, .f32⟩
  | .local _ .vmem, ⟨6, _⟩ => ⟨S16x1664, .f32⟩
  | .local _ .vmem, ⟨7, _⟩ => ⟨S16x1664, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1664x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8320x2048 : Shape := ⟨2, ![8320, 2048]⟩
abbrev S2048x6160 : Shape := ⟨2, ![2048, 6160]⟩
abbrev S8 : Shape := ⟨1, ![8]⟩
abbrev S2048x16 : Shape := ⟨2, ![2048, 16]⟩
abbrev S8320x16 : Shape := ⟨2, ![8320, 16]⟩
abbrev S8320x8 : Shape := ⟨2, ![8320, 8]⟩
abbrev S1x8 : Shape := ⟨2, ![1, 8]⟩
abbrev S_ : Shape := ⟨0, ![]⟩
abbrev S8320x128 : Shape := ⟨2, ![8320, 128]⟩
abbrev S16x8320 : Shape := ⟨2, ![16, 8320]⟩

abbrev nBuf : Space → Nat
  | .hbm => 35
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x6160, .f32⟩
  | .hbm, ⟨2, _⟩ => ⟨S8, .f32⟩
  | .hbm, ⟨3, _⟩ => ⟨S8, .f32⟩
  | .hbm, ⟨4, _⟩ => ⟨S2048x16, .f32⟩
  | .hbm, ⟨5, _⟩ => ⟨S8320x16, .f32⟩
  | .hbm, ⟨6, _⟩ => ⟨S8320x8, .f32⟩
  | .hbm, ⟨7, _⟩ => ⟨S8320x8, .f32⟩
  | .hbm, ⟨8, _⟩ => ⟨S1x8, .f32⟩
  | .hbm, ⟨9, _⟩ => ⟨S8320x8, .f32⟩
  | .hbm, ⟨10, _⟩ => ⟨S8320x8, .f32⟩
  | .hbm, ⟨11, _⟩ => ⟨S1x8, .f32⟩
  | .hbm, ⟨12, _⟩ => ⟨S8320x8, .f32⟩
  | .hbm, ⟨13, _⟩ => ⟨S8320x8, .f32⟩
  | .hbm, ⟨14, _⟩ => ⟨S8320x8, .f32⟩
  | .hbm, ⟨15, _⟩ => ⟨S_, .f32⟩
  | .hbm, ⟨16, _⟩ => ⟨S8320x8, .f32⟩
  | .hbm, ⟨17, _⟩ => ⟨S8320x8, .f32⟩
  | .hbm, ⟨18, _⟩ => ⟨S8320x8, .f32⟩
  | .hbm, ⟨19, _⟩ => ⟨S8320x8, .f32⟩
  | .hbm, ⟨20, _⟩ => ⟨S8320x8, .i1⟩
  | .hbm, ⟨21, _⟩ => ⟨S8320x8, .f32⟩
  | .hbm, ⟨22, _⟩ => ⟨S8320x8, .f32⟩
  | .hbm, ⟨23, _⟩ => ⟨S8320x8, .f32⟩
  | .hbm, ⟨24, _⟩ => ⟨S8320x8, .f32⟩
  | .hbm, ⟨25, _⟩ => ⟨S8320x8, .f32⟩
  | .hbm, ⟨26, _⟩ => ⟨S8320x8, .f32⟩
  | .hbm, ⟨27, _⟩ => ⟨S8320x8, .f32⟩
  | .hbm, ⟨28, _⟩ => ⟨S8320x8, .f32⟩
  | .hbm, ⟨29, _⟩ => ⟨S8320x8, .f32⟩
  | .hbm, ⟨30, _⟩ => ⟨S8320x16, .f32⟩
  | .hbm, ⟨31, _⟩ => ⟨S_, .i32⟩
  | .hbm, ⟨32, _⟩ => ⟨S_, .f32⟩
  | .hbm, ⟨33, _⟩ => ⟨S8320x128, .f32⟩
  | .hbm, ⟨34, _⟩ => ⟨S16x8320, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_call1_v0 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel9.lean ====
abbrev S8320x6144 : Shape := ⟨2, ![8320, 6144]⟩
abbrev S16x8320 : Shape := ⟨2, ![16, 8320]⟩
abbrev S32x8x256x128 : Shape := ⟨4, ![32, 8, 256, 128]⟩
abbrev S32x8x128 : Shape := ⟨3, ![32, 8, 128]⟩
abbrev S32x8 : Shape := ⟨2, ![32, 8]⟩
abbrev S2048 : Shape := ⟨1, ![2048]⟩
abbrev S32x8x1 : Shape := ⟨3, ![32, 8, 1]⟩
abbrev S1x2048 : Shape := ⟨2, ![1, 2048]⟩
abbrev S128x2048 : Shape := ⟨2, ![128, 2048]⟩
abbrev S128x1024 : Shape := ⟨2, ![128, 1024]⟩
abbrev S16x128 : Shape := ⟨2, ![16, 128]⟩
abbrev S1x8x256x128 : Shape := ⟨4, ![1, 8, 256, 128]⟩
abbrev S1x8x128 : Shape := ⟨3, ![1, 8, 128]⟩
abbrev S8x256x128 : Shape := ⟨3, ![8, 256, 128]⟩
abbrev S8x128 : Shape := ⟨2, ![8, 128]⟩
abbrev S1x128 : Shape := ⟨2, ![1, 128]⟩
abbrev S128x1 : Shape := ⟨2, ![128, 1]⟩
abbrev S128x128 : Shape := ⟨2, ![128, 128]⟩
abbrev S120x128 : Shape := ⟨2, ![120, 128]⟩
abbrev S1x1x1 : Shape := ⟨3, ![1, 1, 1]⟩
abbrev S1x1 : Shape := ⟨2, ![1, 1]⟩
abbrev S128 : Shape := ⟨1, ![128]⟩
abbrev S128x256 : Shape := ⟨2, ![128, 256]⟩
abbrev S1x1x256x128 : Shape := ⟨4, ![1, 1, 256, 128]⟩
abbrev S256x128 : Shape := ⟨2, ![256, 128]⟩
abbrev S1x1x128 : Shape := ⟨3, ![1, 1, 128]⟩
abbrev S1x256 : Shape := ⟨2, ![1, 256]⟩
abbrev S1 : Shape := ⟨1, ![1]⟩

abbrev nBuf : Space → Nat
  | .hbm => 13
  | .vmem => 19
  | .smem => 0
  | _ => 0

abbrev bufTy : (tb : Table) → Fin (tcTables nBuf tb) → BufTy
  | .hbm, ⟨0, _⟩ => ⟨S8320x6144, .f32⟩
  | .hbm, ⟨1, _⟩ => ⟨S16x8320, .f32⟩
  | .hbm, ⟨2, _⟩ => ⟨S32x8x256x128, .f32⟩
  | .hbm, ⟨3, _⟩ => ⟨S32x8x128, .f32⟩
  | .hbm, ⟨4, _⟩ => ⟨S32x8, .f32⟩
  | .hbm, ⟨5, _⟩ => ⟨S2048, .f32⟩
  | .hbm, ⟨6, _⟩ => ⟨S32x8x1, .f32⟩
  | .hbm, ⟨7, _⟩ => ⟨S32x8x128, .f32⟩
  | .hbm, ⟨8, _⟩ => ⟨S1x2048, .f32⟩
  | .hbm, ⟨9, _⟩ => ⟨S128x2048, .bf16⟩
  | .hbm, ⟨10, _⟩ => ⟨S32x8x256x128, .f32⟩
  | .hbm, ⟨11, _⟩ => ⟨S32x8x128, .f32⟩
  | .hbm, ⟨12, _⟩ => ⟨S32x8x128, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S16x128, .f32⟩
  | .local _ .vmem, ⟨5, _⟩ => ⟨S1x8x256x128, .f32⟩
  | .local _ .vmem, ⟨6, _⟩ => ⟨S1x8x256x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x2048, .f32⟩
  | .local _ .vmem, ⟨12, _⟩ => ⟨S128x2048, .bf16⟩
  | .local _ .vmem, ⟨13, _⟩ => ⟨S1x8x256x128, .f32⟩
  | .local _ .vmem, ⟨14, _⟩ => ⟨S1x8x256x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | _, _ => ⟨S8320x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let c1_i32 : BitVec 32 := 1#32
  let c0_i32 : BitVec 32 := 0#32
  ![c64_i32.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let c1_i32 : BitVec 32 := 1#32
  let c0_i32 : BitVec 32 := 0#32
  ![c64_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let c2_i32 : BitVec 32 := 2#32
  let c0_i32 : BitVec 32 := 0#32
  ![c64_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c64_i32 : BitVec 32 := 64#32
  let c0_i32_0 : BitVec 32 := 0#32
  ![c0_i32.toNat, c64_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference9Ideal.lean ====
abbrev S8320x6144 : Shape := ⟨2, ![8320, 6144]⟩
abbrev S16x8320 : Shape := ⟨2, ![16, 8320]⟩
abbrev S32x8x256x128 : Shape := ⟨4, ![32, 8, 256, 128]⟩
abbrev S32x8x128 : Shape := ⟨3, ![32, 8, 128]⟩
abbrev S32x8 : Shape := ⟨2, ![32, 8]⟩
abbrev S2048 : Shape := ⟨1, ![2048]⟩
abbrev S128x6144 : Shape := ⟨2, ![128, 6144]⟩
abbrev S32x4x6144 : Shape := ⟨3, ![32, 4, 6144]⟩
abbrev S32x4x1024 : Shape := ⟨3, ![32, 4, 1024]⟩
abbrev S32x4x2048 : Shape := ⟨3, ![32, 4, 2048]⟩
abbrev S32x4x8x128 : Shape := ⟨4, ![32, 4, 8, 128]⟩
abbrev S32x8x4x128 : Shape := ⟨4, ![32, 8, 4, 128]⟩
abbrev S32x4x8x256 : Shape := ⟨4, ![32, 4, 8, 256]⟩
abbrev S32x8x4x256 : Shape := ⟨4, ![32, 8, 4, 256]⟩
abbrev S16x128 : Shape := ⟨2, ![16, 128]⟩
abbrev S16x32x4 : Shape := ⟨3, ![16, 32, 4]⟩
abbrev S32x16x4 : Shape := ⟨3, ![32, 16, 4]⟩
abbrev S32x8x4 : Shape := ⟨3, ![32, 8, 4]⟩
abbrev S_ : Shape := ⟨0, ![]⟩
abbrev S32x8x4x1 : Shape := ⟨4, ![32, 8, 4, 1]⟩
abbrev S32x8x1x4 : Shape := ⟨4, ![32, 8, 1, 4]⟩
abbrev S32x8x4x4 : Shape := ⟨4, ![32, 8, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S32x8x1 : Shape := ⟨3, ![32, 8, 1]⟩
abbrev S32x8x1x1 : Shape := ⟨4, ![32, 8, 1, 1]⟩
abbrev S32x4x8 : Shape := ⟨3, ![32, 4, 8]⟩
abbrev S32x4x8x1 : Shape := ⟨4, ![32, 4, 8, 1]⟩
abbrev S8x256 : Shape := ⟨2, ![8, 256]⟩
abbrev S1x1x8x256 : Shape := ⟨4, ![1, 1, 8, 256]⟩
abbrev S128x2048 : Shape := ⟨2, ![128, 2048]⟩

abbrev nBuf : Space → Nat
  | .hbm => 139
  | .vmem => 0
  | .smem => 0
  | _ => 0

abbrev hbmTy0_0 (i : Nat) : BufTy := match i % 128 with
  | 0 => ⟨S8320x6144, .f32⟩
  | 1 => ⟨S16x8320, .f32⟩
  | 2 => ⟨S32x8x256x128, .f32⟩
  | 3 => ⟨S32x8x128, .f32⟩
  | 4 => ⟨S32x8, .f32⟩
  | 5 => ⟨S2048, .f32⟩
  | 6 => ⟨S128x6144, .f32⟩
  | 7 => ⟨S32x4x6144, .f32⟩
  | 8 => ⟨S32x4x1024, .f32⟩
  | 9 => ⟨S32x4x1024, .f32⟩
  | 10 => ⟨S32x4x2048, .f32⟩
  | 11 => ⟨S32x4x2048, .f32⟩
  | 12 => ⟨S32x4x8x128, .f32⟩
  | 13 => ⟨S32x8x4x128, .f32⟩
  | 14 => ⟨S32x4x8x128, .f32⟩
  | 15 => ⟨S32x8x4x128, .f32⟩
  | 16 => ⟨S32x4x8x256, .f32⟩
  | 17 => ⟨S32x8x4x256, .f32⟩
  | 18 => ⟨S16x128, .f32⟩
  | 19 => ⟨S16x32x4, .f32⟩
  | 20 => ⟨S32x16x4, .f32⟩
  | 21 => ⟨S32x8x4, .f32⟩
  | 22 => ⟨S32x8x4, .f32⟩
  | 23 => ⟨S_, .f32⟩
  | 24 => ⟨S_, .f32⟩
  | 25 => ⟨S32x8x4, .f32⟩
  | 26 => ⟨S32x8x4x1, .f32⟩
  | 27 => ⟨S32x8x1x4, .f32⟩
  | 28 => ⟨S32x8x4x4, .f32⟩
  | 29 => ⟨S32x8x4x4, .f32⟩
  | 30 => ⟨S32x8x4x4, .f32⟩
  | 31 => ⟨S32x8x1x4, .f32⟩
  | 32 => ⟨S32x8x4x4, .f32⟩
  | 33 => ⟨S32x8x4x4, .f32⟩
  | 34 => ⟨S4, .i32⟩
  | 35 => ⟨S4x1, .i32⟩
  | 36 => ⟨S1x4, .i32⟩
  | 37 => ⟨S4x4, .i32⟩
  | 38 => ⟨S4x4, .i32⟩
  | 39 => ⟨S4x4, .i1⟩
  | 40 => ⟨S_, .f32⟩
  | 41 => ⟨S_, .f32⟩
  | 42 => ⟨S32x8x4x4, .i1⟩
  | 43 => ⟨S32x8x4x4, .f32⟩
  | 44 => ⟨S32x8x4x4, .f32⟩
  | 45 => ⟨S32x8x1, .f32⟩
  | 46 => ⟨S32x8x4, .f32⟩
  | 47 => ⟨S32x8x4, .f32⟩
  | 48 => ⟨S_, .f32⟩
  | 49 => ⟨S32x8x4, .f32⟩
  | 50 => ⟨S32x8x4, .f32⟩
  | 51 => ⟨S32x8x4x1, .f32⟩
  | 52 => ⟨S32x8x4x4, .f32⟩
  | 53 => ⟨S32x8x4x4, .f32⟩
  | 54 => ⟨S32x8x4x4, .f32⟩
  | 55 => ⟨S32x8x4, .f32⟩
  | 56 => ⟨S32x8x4, .f32⟩
  | 57 => ⟨S32x8x4x4, .f32⟩
  | 58 => ⟨S32x8x4x4, .f32⟩
  | 59 => ⟨S32x8x4x1, .f32⟩
  | 60 => ⟨S32x8x4x256, .f32⟩
  | 61 => ⟨S32x8x4x256, .f32⟩
  | 62 => ⟨S32x8x4x256, .f32⟩
  | 63 => ⟨S32x8x4x256, .f32⟩
  | 64 => ⟨S32x8x4x256, .f32⟩
  | 65 => ⟨S32x8x4, .f32⟩
  | 66 => ⟨S32x8x4, .f32⟩
  | 67 => ⟨S_, .f32⟩
  | 68 => ⟨S32x8x4, .f32⟩
  | 69 => ⟨S32x8x4, .f32⟩
  | 70 => ⟨S32x8x4, .f32⟩
  | 71 => ⟨S32x8x4, .f32⟩
  | 72 => ⟨S32x8x4, .f32⟩
  | 73 => ⟨S32x8x4, .f32⟩
  | 74 => ⟨S32x8x4x1, .f32⟩
  | 75 => ⟨S32x8x4x256, .f32⟩
  | 76 => ⟨S32x8x4x256, .f32⟩
  | 77 => ⟨S32x8x1, .f32⟩
  | 78 => ⟨S32x8, .f32⟩
  | 79 => ⟨S32x8x1, .f32⟩
  | 80 => ⟨S32x8x4, .f32⟩
  | 81 => ⟨S32x8x4, .f32⟩
  | 82 => ⟨S32x8x4, .f32⟩
  | 83 => ⟨S32x8, .f32⟩
  | 84 => ⟨S_, .f32⟩
  | 85 => ⟨S32x8, .f32⟩
  | 86 => ⟨S32x8, .f32⟩
  | 87 => ⟨S32x8x1, .f32⟩
  | 88 => ⟨S32x8x4, .f32⟩
  | 89 => ⟨S32x8x4, .f32⟩
  | 90 => ⟨S32x8x4, .f32⟩
  | 91 => ⟨S32x8, .f32⟩
  | 92 => ⟨S32x8, .f32⟩
  | 93 => ⟨S32x8, .f32⟩
  | 94 => ⟨S32x8x1x1, .f32⟩
  | 95 => ⟨S32x8x256x128, .f32⟩
  | 96 => ⟨S32x8x256x128, .f32⟩
  | 97 => ⟨S32x8x4x1, .f32⟩
  | 98 => ⟨S32x8x4x256, .f32⟩
  | 99 => ⟨S32x8x4x256, .f32⟩
  | 100 => ⟨S32x8x256x128, .f32⟩
  | 101 => ⟨S32x8x256x128, .f32⟩
  | 102 => ⟨S32x8x1, .f32⟩
  | 103 => ⟨S32x8x128, .f32⟩
  | 104 => ⟨S32x8x128, .f32⟩
  | 105 => ⟨S32x8x128, .f32⟩
  | 106 => ⟨S32x8x128, .f32⟩
  | 107 => ⟨S32x4x8x256, .f32⟩
  | 108 => ⟨S32x4x8x256, .f32⟩
  | 109 => ⟨S_, .f32⟩
  | 110 => ⟨S32x4x8, .f32⟩
  | 111 => ⟨S32x4x8x1, .f32⟩
  | 112 => ⟨S_, .f32⟩
  | 113 => ⟨S32x4x8x1, .f32⟩
  | 114 => ⟨S32x4x8x1, .f32⟩
  | 115 => ⟨S_, .f32⟩
  | 116 => ⟨S32x4x8x1, .f32⟩
  | 117 => ⟨S32x4x8x1, .f32⟩
  | 118 => ⟨S32x4x8x1, .f32⟩
  | 119 => ⟨S32x4x8x256, .f32⟩
  | 120 => ⟨S32x4x8x256, .f32⟩
  | 121 => ⟨S8x256, .f32⟩
  | 122 => ⟨S1x1x8x256, .f32⟩
  | 123 => ⟨S32x4x8x256, .f32⟩
  | 124 => ⟨S32x4x8x256, .f32⟩
  | 125 => ⟨S128x2048, .f32⟩
  | 126 => ⟨S128x2048, .f32⟩
  | 127 => ⟨S128x2048, .f32⟩
  | _ => ⟨S8320x6144, .f32⟩

abbrev hbmTy0_1 (i : Nat) : BufTy := match i % 128 with
  | 0 => ⟨S128x2048, .f32⟩
  | 1 => ⟨S_, .f32⟩
  | 2 => ⟨S128x2048, .f32⟩
  | 3 => ⟨S128x2048, .f32⟩
  | 4 => ⟨S_, .f32⟩
  | 5 => ⟨S128x2048, .f32⟩
  | 6 => ⟨S128x2048, .f32⟩
  | 7 => ⟨S128x2048, .f32⟩
  | 8 => ⟨S128x2048, .bf16⟩
  | 9 => ⟨S32x8x1, .f32⟩
  | 10 => ⟨S32x8x128, .f32⟩
  | _ => ⟨S8320x6144, .f32⟩

abbrev hbmTy (i : Nat) : BufTy := match i / 128 with
  | 0 => hbmTy0_0 i
  | 1 => hbmTy0_1 i
  | _ => ⟨S8320x6144, .f32⟩

abbrev bufTy : (tb : Table) → Fin (tcTables nBuf tb) → BufTy
  | .hbm, ⟨i, _⟩ => hbmTy i
  | _, _ => ⟨S8320x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_cst : Ref sig .tc := ⟨.hbm, 23, rfl⟩
abbrev main_call0_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_1 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_2 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_3 : Ref sig .tc := ⟨.hbm, 109, rfl⟩
abbrev main_v94 : Ref sig .tc := ⟨.hbm, 110, rfl⟩
abbrev main_v95 : Ref sig .tc := ⟨.hbm, 111, rfl⟩
abbrev main_cst_4 : Ref sig .tc := ⟨.hbm, 112, rfl⟩
abbrev main_v96 : Ref sig .tc := ⟨.hbm, 113, rfl⟩
abbrev main_v97 : Ref sig .tc := ⟨.hbm, 114, rfl⟩
abbrev main_cst_5 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_6 : Ref sig .tc := ⟨.hbm, 129, rfl⟩
abbrev main_v111 : Ref sig .tc := ⟨.hbm, 130, rfl⟩
abbrev main_v112 : Ref sig .tc := ⟨.hbm, 131, rfl⟩
abbrev main_cst_7 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩

abbrev nD : Nat := 1
abbrev τ : Topo := Topo.v7x

variable {F : FTy → Type} [FloatOps F]
-- ==== Kernel10.lean ====
abbrev S8320x6144 : Shape := ⟨2, ![8320, 6144]⟩
abbrev S16x8320 : Shape := ⟨2, ![16, 8320]⟩
abbrev S2048 : Shape := ⟨1, ![2048]⟩
abbrev S_ : Shape := ⟨0, ![]⟩
abbrev S4x8x256x128 : Shape := ⟨4, ![4, 8, 256, 128]⟩
abbrev S4x8x128 : Shape := ⟨3, ![4, 8, 128]⟩
abbrev S1x2048 : Shape := ⟨2, ![1, 2048]⟩
abbrev S8192x2048 : Shape := ⟨2, ![8192, 2048]⟩
abbrev S128x1024 : Shape := ⟨2, ![128, 1024]⟩
abbrev S128x2048 : Shape := ⟨2, ![128, 2048]⟩
abbrev S16x128 : Shape := ⟨2, ![16, 128]⟩
abbrev S1x8x256x128 : Shape := ⟨4, ![1, 8, 256, 128]⟩
abbrev S1x8x128 : Shape := ⟨3, ![1, 8, 128]⟩
abbrev S8x256x128 : Shape := ⟨3, ![8, 256, 128]⟩
abbrev S8x128 : Shape := ⟨2, ![8, 128]⟩
abbrev S1x128 : Shape := ⟨2, ![1, 128]⟩
abbrev S128x1 : Shape := ⟨2, ![128, 1]⟩
abbrev S128x128 : Shape := ⟨2, ![128, 128]⟩
abbrev S120x128 : Shape := ⟨2, ![120, 128]⟩
abbrev S1x1x1 : Shape := ⟨3, ![1, 1, 1]⟩
abbrev S1x1 : Shape := ⟨2, ![1, 1]⟩
abbrev S128 : Shape := ⟨1, ![128]⟩
abbrev S128x256 : Shape := ⟨2, ![128, 256]⟩
abbrev S1x1x256x128 : Shape := ⟨4, ![1, 1, 256, 128]⟩
abbrev S256x128 : Shape := ⟨2, ![256, 128]⟩
abbrev S1x1x128 : Shape := ⟨3, ![1, 1, 128]⟩
abbrev S1x256 : Shape := ⟨2, ![1, 256]⟩
abbrev S1 : Shape := ⟨1, ![1]⟩

abbrev nBuf : Space → Nat
  | .hbm => 14
  | .vmem => 25
  | .smem => 0
  | _ => 0

abbrev bufTy : (tb : Table) → Fin (tcTables nBuf tb) → BufTy
  | .hbm, ⟨0, _⟩ => ⟨S8320x6144, .f32⟩
  | .hbm, ⟨1, _⟩ => ⟨S16x8320, .f32⟩
  | .hbm, ⟨2, _⟩ => ⟨S2048, .f32⟩
  | .hbm, ⟨3, _⟩ => ⟨S_, .f32⟩
  | .hbm, ⟨4, _⟩ => ⟨S4x8x256x128, .f32⟩
  | .hbm, ⟨5, _⟩ => ⟨S_, .f32⟩
  | .hbm, ⟨6, _⟩ => ⟨S4x8x128, .f32⟩
  | .hbm, ⟨7, _⟩ => ⟨S_, .f32⟩
  | .hbm, ⟨8, _⟩ => ⟨S4x8x128, .f32⟩
  | .hbm, ⟨9, _⟩ => ⟨S1x2048, .f32⟩
  | .hbm, ⟨10, _⟩ => ⟨S8192x2048, .bf16⟩
  | .hbm, ⟨11, _⟩ => ⟨S4x8x256x128, .f32⟩
  | .hbm, ⟨12, _⟩ => ⟨S4x8x128, .f32⟩
  | .hbm, ⟨13, _⟩ => ⟨S4x8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S16x128, .f32⟩
  | .local _ .vmem, ⟨9, _⟩ => ⟨S16x128, .f32⟩
  | .local _ .vmem, ⟨10, _⟩ => ⟨S1x8x256x128, .f32⟩
  | .local _ .vmem, ⟨11, _⟩ => ⟨S1x8x256x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x2048, .f32⟩
  | .local _ .vmem, ⟨17, _⟩ => ⟨S128x2048, .bf16⟩
  | .local _ .vmem, ⟨18, _⟩ => ⟨S128x2048, .bf16⟩
  | .local _ .vmem, ⟨19, _⟩ => ⟨S1x8x256x128, .f32⟩
  | .local _ .vmem, ⟨20, _⟩ => ⟨S1x8x256x128, .f32⟩
  | .local _ .vmem, ⟨21, _⟩ => ⟨S1x8x128, .f32⟩
  | .local _ .vmem, ⟨22, _⟩ => ⟨S1x8x128, .f32⟩
  | .local _ .vmem, ⟨23, _⟩ => ⟨S1x8x128, .f32⟩
  | .local _ .vmem, ⟨24, _⟩ => ⟨S1x8x128, .f32⟩
  | _, _ => ⟨S8320x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference10Ideal.lean ====
abbrev S8320x6144 : Shape := ⟨2, ![8320, 6144]⟩
abbrev S16x8320 : Shape := ⟨2, ![16, 8320]⟩
abbrev S2048 : Shape := ⟨1, ![2048]⟩
abbrev S_ : Shape := ⟨0, ![]⟩
abbrev S4x8x256x128 : Shape := ⟨4, ![4, 8, 256, 128]⟩
abbrev S4x8x128 : Shape := ⟨3, ![4, 8, 128]⟩
abbrev S4x8 : Shape := ⟨2, ![4, 8]⟩
abbrev S8192x3072 : Shape := ⟨2, ![8192, 3072]⟩
abbrev S4x2048x3072 : Shape := ⟨3, ![4, 2048, 3072]⟩
abbrev S4x2048x1024 : Shape := ⟨3, ![4, 2048, 1024]⟩
abbrev S4x2048x2048 : Shape := ⟨3, ![4, 2048, 2048]⟩
abbrev S4x2048x8x128 : Shape := ⟨4, ![4, 2048, 8, 128]⟩
abbrev S4x8x2048x128 : Shape := ⟨4, ![4, 8, 2048, 128]⟩
abbrev S4x2048x8x256 : Shape := ⟨4, ![4, 2048, 8, 256]⟩
abbrev S4x8x2048x256 : Shape := ⟨4, ![4, 8, 2048, 256]⟩
abbrev S16x8192 : Shape := ⟨2, ![16, 8192]⟩
abbrev S16x4x2048 : Shape := ⟨3, ![16, 4, 2048]⟩
abbrev S4x16x2048 : Shape := ⟨3, ![4, 16, 2048]⟩
abbrev S4x8x2048 : Shape := ⟨3, ![4, 8, 2048]⟩
abbrev S4x8x1 : Shape := ⟨3, ![4, 8, 1]⟩
abbrev S4x8x1x1 : Shape := ⟨4, ![4, 8, 1, 1]⟩
abbrev S4x8x2048x1 : Shape := ⟨4, ![4, 8, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S8320x6144, .f32⟩
  | .hbm, ⟨1, _⟩ => ⟨S16x8320, .f32⟩
  | .hbm, ⟨2, _⟩ => ⟨S2048, .f32⟩
  | .hbm, ⟨3, _⟩ => ⟨S_, .f32⟩
  | .hbm, ⟨4, _⟩ => ⟨S4x8x256x128, .f32⟩
  | .hbm, ⟨5, _⟩ => ⟨S_, .f32⟩
  | .hbm, ⟨6, _⟩ => ⟨S4x8x128, .f32⟩
  | .hbm, ⟨7, _⟩ => ⟨S_, .f32⟩
  | .hbm, ⟨8, _⟩ => ⟨S4x8, .f32⟩
  | .hbm, ⟨9, _⟩ => ⟨S8192x3072, .f32⟩
  | .hbm, ⟨10, _⟩ => ⟨S4x2048x3072, .f32⟩
  | .hbm, ⟨11, _⟩ => ⟨S4x2048x1024, .f32⟩
  | .hbm, ⟨12, _⟩ => ⟨S4x2048x2048, .f32⟩
  | .hbm, ⟨13, _⟩ => ⟨S4x2048x8x128, .f32⟩
  | .hbm, ⟨14, _⟩ => ⟨S4x8x2048x128, .f32⟩
  | .hbm, ⟨15, _⟩ => ⟨S4x2048x8x256, .f32⟩
  | .hbm, ⟨16, _⟩ => ⟨S4x8x2048x256, .f32⟩
  | .hbm, ⟨17, _⟩ => ⟨S16x8192, .f32⟩
  | .hbm, ⟨18, _⟩ => ⟨S16x4x2048, .f32⟩
  | .hbm, ⟨19, _⟩ => ⟨S4x16x2048, .f32⟩
  | .hbm, ⟨20, _⟩ => ⟨S4x8x2048, .f32⟩
  | .hbm, ⟨21, _⟩ => ⟨S4x8x2048, .f32⟩
  | .hbm, ⟨22, _⟩ => ⟨S_, .f32⟩
  | .hbm, ⟨23, _⟩ => ⟨S_, .f32⟩
  | .hbm, ⟨24, _⟩ => ⟨S4x8x2048, .f32⟩
  | .hbm, ⟨25, _⟩ => ⟨S4x8x1, .f32⟩
  | .hbm, ⟨26, _⟩ => ⟨S4x8, .f32⟩
  | .hbm, ⟨27, _⟩ => ⟨S4x8x1, .f32⟩
  | .hbm, ⟨28, _⟩ => ⟨S4x8x2048, .f32⟩
  | .hbm, ⟨29, _⟩ => ⟨S4x8x2048, .f32⟩
  | .hbm, ⟨30, _⟩ => ⟨S4x8x2048, .f32⟩
  | .hbm, ⟨31, _⟩ => ⟨S4x8, .f32⟩
  | .hbm, ⟨32, _⟩ => ⟨S_, .f32⟩
  | .hbm, ⟨33, _⟩ => ⟨S4x8, .f32⟩
  | .hbm, ⟨34, _⟩ => ⟨S4x8, .f32⟩
  | .hbm, ⟨35, _⟩ => ⟨S4x8x1, .f32⟩
  | .hbm, ⟨36, _⟩ => ⟨S4x8x2048, .f32⟩
  | .hbm, ⟨37, _⟩ => ⟨S4x8x2048, .f32⟩
  | .hbm, ⟨38, _⟩ => ⟨S4x8x2048, .f32⟩
  | .hbm, ⟨39, _⟩ => ⟨S4x8, .f32⟩
  | .hbm, ⟨40, _⟩ => ⟨S4x8, .f32⟩
  | .hbm, ⟨41, _⟩ => ⟨S4x8, .f32⟩
  | .hbm, ⟨42, _⟩ => ⟨S4x8x1x1, .f32⟩
  | .hbm, ⟨43, _⟩ => ⟨S4x8x256x128, .f32⟩
  | .hbm, ⟨44, _⟩ => ⟨S4x8x256x128, .f32⟩
  | .hbm, ⟨45, _⟩ => ⟨S4x8x2048x1, .f32⟩
  | .hbm, ⟨46, _⟩ => ⟨S4x8x2048x256, .f32⟩
  | .hbm, ⟨47, _⟩ => ⟨S4x8x2048x256, .f32⟩
  | .hbm, ⟨48, _⟩ => ⟨S4x8x256x128, .f32⟩
  | .hbm, ⟨49, _⟩ => ⟨S4x8x256x128, .f32⟩
  | .hbm, ⟨50, _⟩ => ⟨S4x8x1, .f32⟩
  | .hbm, ⟨51, _⟩ => ⟨S4x8x128, .f32⟩
  | .hbm, ⟨52, _⟩ => ⟨S4x8x128, .f32⟩
  | .hbm, ⟨53, _⟩ => ⟨S4x8x128, .f32⟩
  | .hbm, ⟨54, _⟩ => ⟨S4x8x128, .f32⟩
  | .hbm, ⟨55, _⟩ => ⟨S4x8x1, .f32⟩
  | .hbm, ⟨56, _⟩ => ⟨S4x8x128, .f32⟩
  | _, _ => ⟨S8320x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_call0_cst : Ref sig .tc := ⟨.hbm, 22, rfl⟩
abbrev main_call0_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel11.lean ====
abbrev S16x8320 : Shape := ⟨2, ![16, 8320]⟩
abbrev S4x16x2048 : Shape := ⟨3, ![4, 16, 2048]⟩
abbrev S16x2048 : Shape := ⟨2, ![16, 2048]⟩
abbrev S1x16x2048 : Shape := ⟨3, ![1, 16, 2048]⟩
abbrev S128x128 : Shape := ⟨2, ![128, 128]⟩
abbrev S16x1 : Shape := ⟨2, ![16, 1]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x8320, .f32⟩
  | .hbm, ⟨1, _⟩ => ⟨S4x16x2048, .f32⟩
  | .local _ .vmem, ⟨0, _⟩ => ⟨S16x2048, .f32⟩
  | .local _ .vmem, ⟨1, _⟩ => ⟨S16x2048, .f32⟩
  | .local _ .vmem, ⟨2, _⟩ => ⟨S1x16x2048, .f32⟩
  | .local _ .vmem, ⟨3, _⟩ => ⟨S1x16x2048, .f32⟩
  | _, _ => ⟨S16x8320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S16x8320 : Shape := ⟨2, ![16, 8320]⟩
abbrev S16x8192 : Shape := ⟨2, ![16, 8192]⟩
abbrev S16x4x2048 : Shape := ⟨3, ![16, 4, 2048]⟩
abbrev S4x16x2048 : Shape := ⟨3, ![4, 16, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16x8320, .f32⟩
  | .hbm, ⟨1, _⟩ => ⟨S16x8192, .f32⟩
  | .hbm, ⟨2, _⟩ => ⟨S16x4x2048, .f32⟩
  | .hbm, ⟨3, _⟩ => ⟨S4x16x2048, .f32⟩
  | .hbm, ⟨4, _⟩ => ⟨S_, .f32⟩
  | .hbm, ⟨5, _⟩ => ⟨S_, .f32⟩
  | .hbm, ⟨6, _⟩ => ⟨S4x16x2048, .f32⟩
  | _, _ => ⟨S16x8320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ln.lean ====
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Proof.Ln

open Idealize.ShloMosaic Idealize.ShloMosaic.TcCoe Idealize.SL.Sem
open Idealize.ShloMosaic.Pipeline (Dat)

/-- One row's layer norm at column `j`, the row `h`, the gain and the shift at `j` given. -/
def norm (h : Fin 2048 → EReal) (g b : EReal) (j : Fin 2048) : EReal :=
  (h j - Ideal.div (∑ x, h x) (Ideal.ofBits FTy.f32 1157627904#32)) *
          Ideal.rsqrt
            (Ideal.div (∑ x, (h x - Ideal.div (∑ x, h x) (Ideal.ofBits FTy.f32 1157627904#32)) *
                (h x - Ideal.div (∑ x, h x) (Ideal.ofBits FTy.f32 1157627904#32))) (Ideal.ofBits FTy.f32 1157627904#32) +
              Ideal.ofBits FTy.f32 925353388#32) * g + b

/-- The residual sum at row `i` and column `j`: the scaled input and half of the product. -/
def upd (hid : FVec Ideal ⟨2, ![8320, 5632]⟩ .bf16) (w : FVec Ideal ⟨4, ![2, 2, 5504, 2048]⟩ .f32) (x : FVec Ideal ⟨2, ![8320, 2048]⟩ .f32)
    (i : Fin 8320) (j : Fin 2048) : EReal :=
  Ideal.ofBits FTy.f32 1068827891#32 * x (ix2 i j) +
    Ideal.ofBits FTy.f32 1056964608#32 * ∑ k : Fin 5504, hid (ix2 i ⟨k.val, by omega⟩) * w (ix4 1 1 k j)

/-- The layer norm of every row of the residual sum. -/
def out (hid : FVec Ideal ⟨2, ![8320, 5632]⟩ .bf16) (w : FVec Ideal ⟨4, ![2, 2, 5504, 2048]⟩ .f32) (x : FVec Ideal ⟨2, ![8320, 2048]⟩ .f32)
    (g b : FVec Ideal ⟨3, ![2, 3, 2048]⟩ .f32) : FVec Ideal ⟨2, ![8320, 2048]⟩ .f32 := fun i =>
  norm (upd hid w x (i 0)) (g (ix3 1 2 (i 1))) (b (ix3 1 2 (i 1))) (i 1)

theorem out_ix2 (hid : FVec Ideal ⟨2, ![8320, 5632]⟩ .bf16) (w : FVec Ideal ⟨4, ![2, 2, 5504, 2048]⟩ .f32) (x : FVec Ideal ⟨2, ![8320, 2048]⟩ .f32)
    (g b : FVec Ideal ⟨3, ![2, 3, 2048]⟩ .f32) (i : Fin 8320) (j : Fin 2048) :
    out hid w x g b (ix2 i j) = norm (upd hid w x i) (g (ix3 1 2 j)) (b (ix3 1 2 j)) j := rfl

section Kernel
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![1, 1, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The array's row of row `r` of the block at point `t`. -/
def row (t : Fin cfg0.N) (r : Fin 320) : Fin 8320 := ⟨320 * t.val + r.val, by have : t.val < 26 := t.isLt; omega⟩

theorem pay (v0 : Vec Ideal S320x5504 .bf16) (v1 : Vec Ideal S1x1x5504x2048 .bf16) (v4 : Vec Ideal S320x2048 .f32)
    (v26 : Vec Ideal S1x2048 .f32) (v30 : Vec Ideal S1x2048 .f32) (y : S320x2048.Idx) :
    k0_pay1 v0 v1 v4 v26 v30 y = norm (fun j => Ideal.ofBits FTy.f32 1068827891#32 * v4 (ix2 (y 0) j) +
              Ideal.ofBits FTy.f32 1056964608#32 * ∑ x, v0 (ix2 (y 0) x) * v1 (ix4 0 0 x j)) (v26 (ix2 0 (y 1))) (v30 (ix2 0 (y 1))) (y 1) := by
  pointwise [k0_pay1, norm]

theorem pay_of (v0 : Vec Ideal S320x5504 .bf16) (v1 : Vec Ideal S1x1x5504x2048 .bf16) (v4 : Vec Ideal S320x2048 .f32)
    (v26 : Vec Ideal S1x2048 .f32) (v30 : Vec Ideal S1x2048 .f32)
    (hid : FVec Ideal ⟨2, ![8320, 5632]⟩ .bf16) (w : FVec Ideal ⟨4, ![2, 2, 5504, 2048]⟩ .f32) (x : FVec Ideal ⟨2, ![8320, 2048]⟩ .f32)
    (g b : FVec Ideal ⟨3, ![2, 3, 2048]⟩ .f32) (i : Fin 8320) (y : S320x2048.Idx)
    (h0 : ∀ k : Fin 5504, v0 (ix2 (y 0) k) = hid (ix2 i ⟨k.val, by omega⟩)) (h1 : ∀ (k : Fin 5504) (j : Fin 2048), v1 (ix4 0 0 k j) = w (ix4 1 1 k j))
    (h2 : ∀ j : Fin 2048, v4 (ix2 (y 0) j) = x (ix2 i j)) (h3 : v26 (ix2 0 (y 1)) = g (ix3 1 2 (y 1))) (h4 : v30 (ix2 0 (y 1)) = b (ix3 1 2 (y 1))) :
    k0_pay1 v0 v1 v4 v26 v30 y = out hid w x g b (ix2 i (y 1)) := by
  refine (pay _ _ _ _ _ y).trans (Eq.trans ?_ (out_ix2 _ _ _ _ _ _ _).symm)
  have h : (fun j => Ideal.ofBits FTy.f32 1068827891#32 * v4 (ix2 (y 0) j) +
          Ideal.ofBits FTy.f32 1056964608#32 * ∑ x : Fin 5504, v0 (ix2 (y 0) x) * v1 (ix4 0 0 x j)) = upd hid w x i := by
    funext j
    unfold upd
    rw [h2 j]
    simp only [h0, h1]
  rw [h, h3, h4]

theorem X0 (c : Dev nD) (t : Fin cfg0.N) (r : Fin 320) (k : Fin 5504) :
    X0_0 m c t (ix2 r k) = m ((c : Thread nD τ).loc main_arg0) (ix2 (row t r) ⟨k.val, by omega⟩) := by
  unfold X0_0 Pipeline.Window.fill
  rw [dif_pos (moved0_0 t _)]
  blk_point [iblk, V, idx t, row]

theorem B1 (c : Dev nD) (t : Fin cfg0.N) (k : Fin 5504) (j : Fin 2048) :
    iblk m c 1 t (ix4 0 0 k j) = m ((c : Thread nD τ).loc main_arg1) (ix4 1 1 k j) := by
  blk_point [iblk, V, idx t, row]

theorem B2 (c : Dev nD) (t : Fin cfg0.N) (r : Fin 320) (j : Fin 2048) :
    iblk m c 2 t (ix2 r j) = m ((c : Thread nD τ).loc main_arg2) (ix2 (row t r) j) := by
  blk_point [iblk, V, idx t, row]

theorem B3 (c : Dev nD) (t : Fin cfg0.N) (j : Fin 2048) :
    iblk m c 3 t (ix2 0 j) = m ((c : Thread nD τ).loc main_arg3) (ix3 1 2 j) := by
  blk_point [iblk, V, idx t, row]

theorem B4 (c : Dev nD) (t : Fin cfg0.N) (j : Fin 2048) :
    iblk m c 4 t (ix2 0 j) = m ((c : Thread nD τ).loc main_arg4) (ix3 1 2 j) := by
  blk_point [iblk, V, idx t, row]

theorem E (t : Fin cfg0.N) (y : S320x2048.Idx) : ((cfg0.win 5).blk t).view.emb y = ix2 (row t (y 0)) (y 1) := by
  blk_ext [idx t, row]

theorem E6 (t : Fin cfg0.N) (y : S320x2048.Idx) : ((cfg0.win 6).blk t).view.emb y = ix2 (row t (y 0)) (y 1) := by
  blk_ext [idx t, row]

theorem point (c : Dev nD) (t : Fin cfg0.N) (y : S320x2048.Idx) : k0_pay1 (X0_0 m c t) (iblk m c 1 t) (iblk m c 2 t) (iblk m c 3 t) (iblk m c 4 t) y
    = out (m ((c : Thread nD τ).loc main_arg0)) (m ((c : Thread nD τ).loc main_arg1)) (m ((c : Thread nD τ).loc main_arg2))
        (m ((c : Thread nD τ).loc main_arg3)) (m ((c : Thread nD τ).loc main_arg4)) (ix2 (row t (y 0)) (y 1)) := by
  exact pay_of _ _ _ _ _ _ _ _ _ _ _ y (X0 m c t _) (B1 m c t) (B2 m c t _) (B3 m c t _) (B4 m c t _)

theorem final5 (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp; rw [after0_5]; unfold outsAt0; frame_out
  rw [E]
  exact point m c t y

theorem final6 (c : Dev nD) : (dats m 0 c).arrAt 6 (cfgs 0).N
    = (out (m ((c : Thread nD τ).loc main_arg0)) (m ((c : Thread nD τ).loc main_arg1)) (m ((c : Thread nD τ).loc main_arg2))
        (m ((c : Thread nD τ).loc main_arg3)) (m ((c : Thread nD τ).loc main_arg4)) : S8320x2048.Idx → EReal) := by
  refine (dats m 0 c).arrAt_eq_of_covers 6 _ (by decide +kernel) fun t _ y => ?_
  blk_simp; rw [after0_6]; unfold outsAt0; frame_out
  rw [E6]
  exact point m c t y

end Kernel

section Reference
open Cert.Reference3Ideal Cert.Reference3Ideal.Gen Cert.Reference3Ideal.Value
variable (m : (ℓ : Loc nD τ sig) → Buf (Elt Ideal) ℓ)

theorem ref_z (a0 : FVec Ideal S8320x5632 .bf16) (a1 : FVec Ideal S2x2x5504x2048 .f32) (a2 : FVec Ideal S8320x2048 .f32) (i : S8320x2048.Idx) :
    (addf (mulf (broadcastInDim S8320x2048 ![] bcast_S_S8320x2048 (constant S_ .f32 0x3FB504F3#32)) a2) (mulf (broadcastInDim S8320x2048 ![] bcast_S_S8320x2048 (constant S_ .f32 0x3F000000#32)) (Host.dotGeneral dot_S8320x5504_S5504x2048_S8320x2048_1_0_0_1_n_n none (extf .f32 (extractStridedSlice S8320x5504 ![0, 0] a0 slices_S8320x5632_S8320x5504_0_0) bitsLt_bf16_f32) (shapeCast S5504x2048 (extractStridedSlice S1x1x5504x2048 ![1, 1, 0, 0] a1 slices_S2x2x5504x2048_S1x1x5504x2048_1_1_0_0) shapeCasts_S1x1x5504x2048_S5504x2048))) : FVec Ideal S8320x2048 .f32) i = upd a0 a1 a2 (i 0) (i 1) := by
  pointwise [upd]

theorem ref_u (h : Fin 8320 → Fin 2048 → EReal) (z : FVec Ideal S8320x2048 .f32) (hz : ∀ i, z i = h (i 0) (i 1)) (i : S8320x2048.Idx) :
    (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32)))) : FVec Ideal S8320x2048 .f32) i = h (i 0) (i 1) - Ideal.div (∑ x, h (i 0) x) (Ideal.ofBits FTy.f32 1157627904#32) := by
  pointwise [hz]

theorem ref_n (h : Fin 8320 → Fin 2048 → EReal) (u : FVec Ideal S8320x2048 .f32) (a3 a4 : FVec Ideal S2x3x2048 .f32)
    (hu : ∀ i, u i = h (i 0) (i 1) - Ideal.div (∑ x, h (i 0) x) (Ideal.ofBits FTy.f32 1157627904#32)) (i : S8320x2048.Idx) :
    (addf (mulf (mulf u (broadcastInDim S8320x2048 ![0, 1] bcast_S8320x1_S8320x2048_0_1 (Host.rsqrt (addf (Host.divf (broadcastInDim S8320x1 ![0] bcast_S8320_S8320x1_0 (Host.reduceAdd (mulf u u) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 (broadcastInDim S1x2048 ![1] bcast_S2048_S1x2048_1 (shapeCast S2048 (extractStridedSlice S1x1x2048 ![1, 2, 0] a3 slices_S2x3x2048_S1x1x2048_1_2_0) shapeCasts_S1x1x2048_S2048)))) (broadcastInDim S8320x2048 ![0, 1] bcast_S1x2048_S8320x2048_0_1 (broadcastInDim S1x2048 ![1] bcast_S2048_S1x2048_1 (shapeCast S2048 (extractStridedSlice S1x1x2048 ![1, 2, 0] a4 slices_S2x3x2048_S1x1x2048_1_2_0) shapeCasts_S1x1x2048_S2048))) : FVec Ideal S8320x2048 .f32) i = norm (h (i 0)) (a3 (ix3 1 2 (i 1))) (a4 (ix3 1 2 (i 1))) (i 1) := by
  pointwise [norm, hu]

theorem ref0 (c : Dev nD) : res_main_v35 m c
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  funext i
  exact ref_n (upd _ _ _) _ _ _ (ref_u _ _ (ref_z _ _ _)) i

theorem ref1 (c : Dev nD) : res_main_v36 m c
    = (out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) : S8320x2048.Idx → EReal) :=
  ref0 m c

end Reference

end Cert.Proof.Ln

end
-- ==== Proof.Ffn.lean ====
module

public import proofs.«01_k».proof.Proof.Gen.Kernel2Ideal.Value
public import proofs.«01_k».proof.Proof.Gen.Reference2Ideal.Run
public import proofs.«01_k».proof.Proof.Ln

@[expose] public section

set_option maxRecDepth 16384

noncomputable section

namespace Cert.Proof.Ffn

open Idealize.ShloMosaic Idealize.ShloMosaic.TcCoe Idealize.SL.Sem
open Idealize.ShloMosaic.Pipeline (Dat)

/-- The product of row `i` of the input with column `j` of the first layer's first weights. -/
def prod (x : FVec Ideal ⟨2, ![8320, 2048]⟩ .f32) (w : FVec Ideal ⟨4, ![2, 2, 2048, 11008]⟩ .f32) (i : Fin 8320) (j : Fin 11008) : EReal :=
  ∑ k : Fin 2048, x (ix2 i k) * w (ix4 0 0 k j)

/-- The column of the second product that the kernel pairs with column `j`: `5504 + j`, and for the 128 columns behind
    the hidden ones, the ones that the turned last block has there. -/
def ucol (j : Fin 5632) : Fin 11008 := if h : j.val < 5504 then ⟨5504 + j.val, by omega⟩ else ⟨4992 + j.val, by omega⟩

theorem ucol_lt (j : Fin 5632) (h : j.val < 5504) : (ucol j).val = 5504 + j.val := by unfold ucol; rw [dif_pos h]

/-- The gated product. -/
def out (x : FVec Ideal ⟨2, ![8320, 2048]⟩ .f32) (w : FVec Ideal ⟨4, ![2, 2, 2048, 11008]⟩ .f32) : FVec Ideal ⟨2, ![8320, 5632]⟩ .bf16 := fun i =>
  let g : EReal := prod x w (i 0) ⟨(i 1).val, (i 1).isLt.trans (by decide)⟩
  g * Ideal.logistic g * prod x w (i 0) (ucol (i 1))

section Kernel
open Cert.Kernel2Ideal Cert.Kernel2Ideal.Gen

variable (m : (ℓ : Loc nD τ sig) → Buf (Elt Ideal) ℓ)

theorem idx : ∀ t : Fin cfg0.N, win0_0.index t = ![t.val / 11, 0] ∧ win0_1.index t = ![0, 0, 0, t.val % 11]
    ∧ win0_2.index t = ![0, 0, 0, 128 * min (43 + 4 * (t.val % 11)) 82] ∧ win0_3.index t = ![t.val / 11, t.val % 11] :=
  (by decide +kernel : ∀ t : Fin grid0.N, _)

/-- The array's row of row `r` of the block at point `t`. -/
def row (t : Fin cfg0.N) (r : Fin 1664) : Fin 8320 := ⟨1664 * (t.val / 11) + r.val, by have : t.val < 55 := t.isLt; omega⟩

/-- The array's column of column `j` of the block at point `t`. -/
def col (t : Fin cfg0.N) (j : Fin 512) : Fin 5632 := ⟨512 * (t.val % 11) + j.val, by omega⟩

theorem out_ix2 (x : FVec Ideal ⟨2, ![8320, 2048]⟩ .f32) (w : FVec Ideal ⟨4, ![2, 2, 2048, 11008]⟩ .f32) (i : Fin 8320) (j : Fin 5632) :
    out x w (ix2 i j) = prod x w i ⟨j.val, by omega⟩ * Ideal.logistic (prod x w i ⟨j.val, by omega⟩) * prod x w i (ucol j) := rfl

theorem pay3_of (v0 : Vec Ideal S1664x2048 .bf16) (v2 v12 : Vec Ideal S1x1x2048x512 .f32) (y : S1664x512.Idx)
    (x : FVec Ideal ⟨2, ![8320, 2048]⟩ .f32) (w : FVec Ideal ⟨4, ![2, 2, 2048, 11008]⟩ .f32) (i : Fin 8320) (j : Fin 5632)
    (h0 : ∀ k : Fin 2048, v0 (ix2 (y 0) k) = x (ix2 i k)) (h1 : ∀ k : Fin 2048, v2 (ix4 0 0 k (y 1)) = w (ix4 0 0 k ⟨j.val, by omega⟩))
    (h2 : ∀ k : Fin 2048, v12 (ix4 0 0 k (y 1)) = w (ix4 0 0 k (ucol j))) :
    k0_pay3 v0 v2 v12 y = out x w (ix2 i j) := by
  rw [out_ix2]
  pointwise [k0_pay1, k0_pay2, k0_pay3, prod]
  simp only [h0, h1, h2]

theorem pay4_of (v0 : Vec Ideal S1664x2048 .bf16) (v2 v12 : Vec Ideal S1x1x2048x512 .f32) (y : S1664x512.Idx)
    (x : FVec Ideal ⟨2, ![8320, 2048]⟩ .f32) (w : FVec Ideal ⟨4, ![2, 2, 2048, 11008]⟩ .f32) (i : Fin 8320) (j : Fin 5632)
    (h0 : ∀ k : Fin 2048, v0 (ix2 (y 0) k) = x (ix2 i k)) (h1 : ∀ k : Fin 2048, v2 (ix4 0 0 k (y 1)) = w (ix4 0 0 k ⟨j.val, by omega⟩))
    (hj : j.val = 5120 + (y 1).val)
    (h2 : ∀ (k : Fin 2048) (l : Fin 512), v12 (ix4 0 0 k l) = w (ix4 0 0 k ⟨10496 + l.val, by omega⟩)) :
    k0_pay4 v0 v2 v12 y = out x w (ix2 i j) := by
  rw [out_ix2]
  pointwise [k0_pay1, k0_pay2, k0_pay4, prod]
  have hy : (y 1).val < 512 := (y 1).isLt
  by_cases h : (y 1).val < 384
  · have e : ucol j = ⟨10496 + (128 + (y 1).val), by omega⟩ := by unfold ucol; rw [dif_pos (by omega)]; exact Fin.ext (by simp only; omega)
    simp only [h0, h1, h2, dif_pos h, e]
  · have e : ucol j = ⟨10496 + ((y 1).val - 384), by omega⟩ := by unfold ucol; rw [dif_neg (by omega)]; exact Fin.ext (by simp only; omega)
    simp only [h0, h1, h2, dif_neg h, e]

theorem B0 (c : Dev nD) (t : Fin cfg0.N) (r : Fin 1664) (k : Fin 2048) :
    iblk m c 0 t (ix2 r k) = m ((c : Thread nD τ).loc main_arg0) (ix2 (row t r) k) := by
  blk_point [iblk, V, idx t, row]

theorem X1 (c : Dev nD) (t : Fin cfg0.N) (k : Fin 2048) (j : Fin 512) :
    X0_1 m c t (ix4 0 0 k j) = m ((c : Thread nD τ).loc main_arg1) (ix4 0 0 k ⟨512 * (t.val % 11) + j.val, by omega⟩) := by
  unfold X0_1 Pipeline.Window.fill
  rw [dif_pos (moved0_1 t _)]
  blk_point [iblk, V, idx t]

theorem emb2 (t : Fin cfg0.N) (k : Fin 2048) (j : Fin 512) :
    (((View.whole main_arg1).slice (win0_2.rect t)).emb (ix4 0 0 k j))
      = (ix4 0 0 k ⟨128 * min (43 + 4 * (t.val % 11)) 82 + j.val, by omega⟩ : S2x2x2048x11008.Idx) := by
  have h := (idx t).2.2.1
  funext a
  refine Fin.ext ((ValueKit.rect_emb_unit_val _ _ _ _ a).trans ?_)
  refine (congrArg (· + _) (congrFun h a)).trans ?_
  fin_cases a
  · rfl
  · rfl
  · exact Nat.zero_add _
  · rfl

theorem B2 (c : Dev nD) (t : Fin cfg0.N) (k : Fin 2048) (j : Fin 512) :
    iblk m c 2 t (ix4 0 0 k j) = m ((c : Thread nD τ).loc main_arg1) (ix4 0 0 k ⟨128 * min (43 + 4 * (t.val % 11)) 82 + j.val, by omega⟩) := by
  exact congrArg (m ((c : Thread nD τ).loc main_arg1)) (emb2 t k j)

theorem E (t : Fin cfg0.N) (y : S1664x512.Idx) : ((cfg0.win 3).blk t).view.emb y = ix2 (row t (y 0)) (col t (y 1)) := by
  blk_ext [idx t, row, col]

theorem final3 (c : Dev nD) : (dats m 0 c).arrAt 3 (cfgs 0).N
    = out (m ((c : Thread nD τ).loc main_arg0)) (m ((c : Thread nD τ).loc main_arg1)) := by
  refine (dats m 0 c).arrAt_eq_of_covers 3 _ (by decide +kernel) fun t _ y => ?_
  by_cases h : t.val % 11 = 10
  · blk_simp; rw [after0_3, outsAt0_B m c t (by omega) h]; frame_out
    rw [E]
    refine pay4_of _ _ _ y _ _ _ _ (B0 m c t _) (fun k => X1 m c t k _) (by show 512 * (t.val % 11) + _ = _; omega) fun k l => (B2 m c t k l).trans ?_
    refine congrArg (m ((c : Thread nD τ).loc main_arg1)) (congrArg (ix4 0 0 k) (Fin.ext ?_))
    show 128 * min (43 + 4 * (t.val % 11)) 82 + l.val = 10496 + l.val
    omega
  · blk_simp; rw [after0_3, outsAt0_A m c t (by omega) h]; frame_out
    rw [E]
    refine pay3_of _ _ _ y _ _ _ _ (B0 m c t _) (fun k => X1 m c t k _) fun k => (B2 m c t k _).trans ?_
    refine congrArg (m ((c : Thread nD τ).loc main_arg1)) (congrArg (ix4 0 0 k) (Fin.ext ?_))
    have hy : (y 1).val < 512 := (y 1).isLt
    refine Eq.trans ?_ (ucol_lt _ (show 512 * (t.val % 11) + (y 1).val < 5504 by omega)).symm
    show 128 * min (43 + 4 * (t.val % 11)) 82 + (y 1).val = 5504 + (512 * (t.val % 11) + (y 1).val)
    omega

end Kernel

section Reference
open Cert.Reference2Ideal Cert.Reference2Ideal.Gen

theorem ref (a0 : FVec Ideal S8320x2048 .f32) (a1 : FVec Ideal S2x2x2048x11008 .f32) (i : S8320x5632.Idx) (h : (i 1).val < 5504) :
    (pad S8320x5632 ![0, 0] ![0, 128] ![0, 0] (truncf .bf16 (mulf (mulf (extractStridedSlice S8320x5504 ![0, 0] (Host.dotGeneral dot_S8320x2048_S2048x11008_S8320x11008_1_0_0_1_n_n none a0 (shapeCast S2048x11008 (extractStridedSlice S1x1x2048x11008 ![0, 0, 0, 0] a1 slices_S2x2x2048x11008_S1x1x2048x11008_0_0_0_0) shapeCasts_S1x1x2048x11008_S2048x11008)) slices_S8320x11008_S8320x5504_0_0) (Host.divf (broadcastInDim S8320x5504 ![] bcast_S_S8320x5504 (constant S_ .f32 0x3F800000#32)) (addf (broadcastInDim S8320x5504 ![] bcast_S_S8320x5504 (constant S_ .f32 0x3F800000#32)) (Host.exp (Host.negf (extractStridedSlice S8320x5504 ![0, 0] (Host.dotGeneral dot_S8320x2048_S2048x11008_S8320x11008_1_0_0_1_n_n none a0 (shapeCast S2048x11008 (extractStridedSlice S1x1x2048x11008 ![0, 0, 0, 0] a1 slices_S2x2x2048x11008_S1x1x2048x11008_0_0_0_0) shapeCasts_S1x1x2048x11008_S2048x11008)) slices_S8320x11008_S8320x5504_0_0)))))) (extractStridedSlice S8320x5504 ![0, 5504] (Host.dotGeneral dot_S8320x2048_S2048x11008_S8320x11008_1_0_0_1_n_n none a0 (shapeCast S2048x11008 (extractStridedSlice S1x1x2048x11008 ![0, 0, 0, 0] a1 slices_S2x2x2048x11008_S1x1x2048x11008_0_0_0_0) shapeCasts_S1x1x2048x11008_S2048x11008)) slices_S8320x11008_S8320x5504_0_5504)) bitsLt_bf16_f32) (sitofp .bf16 (constantI S_ 32 0#32)) pads_S8320x5504_S8320x5632_000_01280 h_S_ : FVec Ideal S8320x5632 .bf16) i = out a0 a1 i := by
  pointwise [out, prod]
  have e : ucol (i 1) = ⟨5504 + (i 1).val, by omega⟩ := Fin.ext (ucol_lt _ h)
  rw [dif_pos h, e]
  rfl

end Reference

end Cert.Proof.Ffn

end
-- ==== Proof.Proj.lean ====
module

public import proofs.«01_k».proof.Proof.Gen.Kernel4Ideal.Value
public import proofs.«01_k».proof.Proof.Gen.Reference4Ideal.Run
public import proofs.«01_k».proof.Proof.Ffn
public import Idealize.ShloMosaic.Lib.StableHlo.ReadAt

@[expose] public section

set_option maxRecDepth 16384

noncomputable section

namespace Cert.Proof.Proj

open Idealize.ShloMosaic Idealize.ShloMosaic.TcCoe Idealize.SL.Sem
open Idealize.ShloMosaic.Pipeline (Dat)

/-- The product of row `i` of the input with column `j` of the weights. -/
def prod (x : FVec Ideal ⟨2, ![8320, 2048]⟩ .f32) (w : FVec Ideal ⟨2, ![2048, 8208]⟩ .f32) (i : Fin 8320) (j : Fin 8208) : EReal :=
  ∑ k : Fin 2048, x (ix2 i k) * w (ix2 k j)

/-- One head's RMS norm at `l`, the gain at `l` given. -/
def rms (h : Fin 128 → EReal) (g : EReal) (l : Fin 128) : EReal :=
  h l * Ideal.rsqrt (Ideal.div (∑ x, h x * h x) (Ideal.ofBits FTy.f32 0x43000000#32) + Ideal.ofBits FTy.f32 0x358637BD#32) * g

/-- The projection: q and k normed by head, v and the gate as they are. -/
def out (x : FVec Ideal ⟨2, ![8320, 2048]⟩ .f32) (w : FVec Ideal ⟨2, ![2048, 8208]⟩ .f32) (q k : FVec Ideal ⟨1, ![128]⟩ .f32)
    (i : Fin 8320) (j : Fin 8192) : EReal :=
  if j.val < 4096 then
    rms (fun l => prod x w i ⟨128 * (j.val / 128) + l.val, by omega⟩) ((if j.val < 2048 then q else k) (ix1 ⟨j.val % 128, by omega⟩)) ⟨j.val % 128, by omega⟩
  else prod x w i ⟨j.val, by omega⟩

section Kernel
open Cert.Kernel4Ideal Cert.Kernel4Ideal.Gen

variable (m : (ℓ : Loc nD τ sig) → Buf (Elt Ideal) ℓ)

theorem idx : ∀ t : Fin cfg0.N, win0_0.index t = ![t.val / 16, 0] ∧ win0_1.index t = ![t.val % 16, 0]
    ∧ win0_2.index t = ![0, t.val % 16] ∧ win0_3.index t = ![t.val / 16, t.val % 16] :=
  (by decide +kernel : ∀ t : Fin grid0.N, _)

/-- The array's row of row `r` of the block at point `t`. -/
def row (t : Fin cfg0.N) (r : Fin 1664) : Fin 8320 := ⟨1664 * (t.val / 16) + r.val, by have : t.val < 80 := t.isLt; omega⟩

/-- The array's column of column `j` of the block at point `t`. -/
def col (t : Fin cfg0.N) (j : Fin 512) : Fin 8192 := ⟨512 * (t.val % 16) + j.val, by omega⟩

theorem B0 (c : Dev nD) (t : Fin cfg0.N) (r : Fin 1664) (k : Fin 2048) :
    iblk m c 0 t (ix2 r k) = m ((c : Thread nD τ).loc main_arg0) (ix2 (row t r) k) := by
  blk_point [iblk, V, idx t, row]

theorem X1 (c : Dev nD) (t : Fin cfg0.N) (j : Fin 512) (k : Fin 2048) :
    X0_1 m c t (ix2 j k) = m ((c : Thread nD τ).loc main_arg1) (ix2 k ⟨512 * (t.val % 16) + j.val, by omega⟩) := by
  unfold X0_1 Pipeline.Window.fill
  rw [dif_pos (moved0_1 t _)]
  blk_point [iblk, V, idx t]

/-- The column scales: the gain of q, the gain of k, ones. -/
def gain (q k : FVec Ideal ⟨1, ![128]⟩ .f32) (j : Fin 8192) : EReal :=
  if j.val < 2048 then q (ix1 ⟨j.val % 128, by omega⟩) else if j.val - 2048 < 2048 then k (ix1 ⟨(j.val - 2048) % 128, by omega⟩) else 1

theorem scale (q k : FVec Ideal S128 .f32) (j : Fin 8192) :
    (shapeCast S1x8192 (concatenate S8192 0 [⟨S2048, shapeCast S2048 (broadcastInDim S16x128 ![0, 1] bcast_S1x128_S16x128_0_1 (shapeCast S1x128 q shapeCasts_S128_S1x128)) shapeCasts_S16x128_S2048⟩, ⟨S2048, shapeCast S2048 (broadcastInDim S16x128 ![0, 1] bcast_S1x128_S16x128_0_1 (shapeCast S1x128 k shapeCasts_S128_S1x128)) shapeCasts_S16x128_S2048⟩, ⟨S4096, broadcastInDim S4096 ![] bcast_S_S4096 (constant S_ .f32 0x3F800000#32)⟩] concatenates_S2048_S2048_S4096_S8192_d0) shapeCasts_S8192_S1x8192 : FVec Ideal S1x8192 .f32) (ix2 0 j) = gain q k j := by
  pointwise [gain]
  rfl

theorem V2 (c : Dev nD) (j : Fin 8192) :
    (V m c main_v10 : FVec Ideal S1x8192 .f32) (ix2 0 j) = gain (m ((c : Thread nD τ).loc main_arg2)) (m ((c : Thread nD τ).loc main_arg3)) j := by
  have h2 : StableHlo.upto hostOps0 (fun b => m (c, b)) 8 (Proc.tc.devRef main_v2) = shapeCast S2048 (broadcastInDim S16x128 ![0, 1] bcast_S1x128_S16x128_0_1 (shapeCast S1x128 (m ((c : Thread nD τ).loc main_arg2)) shapeCasts_S128_S1x128)) shapeCasts_S16x128_S2048 := by
    after_reads_simp
    rfl
  have h5 : StableHlo.upto hostOps0 (fun b => m (c, b)) 8 (Proc.tc.devRef main_v5) = shapeCast S2048 (broadcastInDim S16x128 ![0, 1] bcast_S1x128_S16x128_0_1 (shapeCast S1x128 (m ((c : Thread nD τ).loc main_arg3)) shapeCasts_S128_S1x128)) shapeCasts_S16x128_S2048 := by
    after_reads_simp
    rfl
  have h6 : StableHlo.upto hostOps0 (fun b => m (c, b)) 8 (Proc.tc.devRef main_v6) = (broadcastInDim S4096 ![] bcast_S_S4096 (constant S_ .f32 0x3F800000#32) : FVec Ideal S4096 .f32) := by
    after_reads_simp
  unfold V
  after_reads_simp
  refine Eq.trans ?_ (scale (m ((c : Thread nD τ).loc main_arg2)) (m ((c : Thread nD τ).loc main_arg3)) j)
  rw [← h2, ← h5, ← h6]
  rfl

theorem B2 (c : Dev nD) (t : Fin cfg0.N) (j : Fin 512) :
    iblk m c 2 t (ix2 0 j) = gain (m ((c : Thread nD τ).loc main_arg2)) (m ((c : Thread nD τ).loc main_arg3)) (col t j) := by
  have h : iblk m c 2 t (ix2 0 j) = (V m c main_v10 : S1x8192.Idx → EReal) (ix2 0 (col t j)) := by
    blk_point [iblk, idx t, col]
  exact h.trans (V2 m c _)

theorem E (t : Fin cfg0.N) (y : S1664x512.Idx) : ((cfg0.win 3).blk t).view.emb y = ix2 (row t (y 0)) (col t (y 1)) := by
  blk_ext [idx t, row, col]

theorem pay3_of (v0 : Vec Ideal S1664x2048 .bf16) (v2 : Vec Ideal S512x2048 .f32) (v6 : Vec Ideal S1x512 .f32) (y : S1664x512.Idx)
    (x : FVec Ideal ⟨2, ![8320, 2048]⟩ .f32) (w : FVec Ideal ⟨2, ![2048, 8208]⟩ .f32) (q k : FVec Ideal ⟨1, ![128]⟩ .f32)
    (i : Fin 8320) (j : Fin 8192) (hj : 4096 ≤ j.val)
    (h0 : ∀ k : Fin 2048, v0 (ix2 (y 0) k) = x (ix2 i k)) (h1 : ∀ k : Fin 2048, v2 (ix2 (y 1) k) = w (ix2 k ⟨j.val, by omega⟩))
    (h2 : v6 (ix2 0 (y 1)) = gain q k j) : k0_pay3 v0 v2 v6 y = out x w q k i j := by
  have e : k0_pay3 v0 v2 v6 y = (∑ k : Fin 2048, v0 (ix2 (y 0) k) * v2 (ix2 (y 1) k)) * v6 (ix2 0 (y 1)) := by
    pointwise [k0_pay3, k0_pay2, k0_pay1]
  rw [e, h2]
  unfold gain out prod
  rw [if_neg (by omega), if_neg (by omega), if_neg (by omega), mul_one]
  simp only [h0, h1]

/-- A head's RMS norm is the projection there, when its values and its gain are. -/
theorem head (x : FVec Ideal ⟨2, ![8320, 2048]⟩ .f32) (w : FVec Ideal ⟨2, ![2048, 8208]⟩ .f32) (q k : FVec Ideal ⟨1, ![128]⟩ .f32)
    (i : Fin 8320) (j : Fin 8192) (hj : j.val < 4096) (h : Fin 128 → EReal) (g : EReal) (l : Fin 128) (hl : l.val = j.val % 128)
    (hh : ∀ l' : Fin 128, h l' = prod x w i ⟨128 * (j.val / 128) + l'.val, by omega⟩) (hg : g = gain q k j) :
    rms h g l = out x w q k i j := by
  have e : l = ⟨j.val % 128, by omega⟩ := Fin.ext hl
  have e' : h = fun l' => prod x w i ⟨128 * (j.val / 128) + l'.val, by omega⟩ := funext hh
  have e'' : gain q k j = (if j.val < 2048 then q else k) (ix1 ⟨j.val % 128, by omega⟩) := by
    unfold gain
    by_cases c : j.val < 2048
    · rw [if_pos c, if_pos c]
    · rw [if_neg c, if_neg c, if_pos (by omega)]
      exact congrArg k (congrArg ix1 (Fin.ext (by simp only; omega)))
  unfold out
  rw [if_pos hj, e, e', hg, e'']

theorem pay4_of (v0 : Vec Ideal S1664x2048 .bf16) (v2 : Vec Ideal S512x2048 .f32) (v6 : Vec Ideal S1x512 .f32) (y : S1664x512.Idx) (z : S1664x128.Idx)
    (hz0 : (y 0).val = (z 0).val) (hz1 : (y 1).val = 384 + (z 1).val)
    (x : FVec Ideal ⟨2, ![8320, 2048]⟩ .f32) (w : FVec Ideal ⟨2, ![2048, 8208]⟩ .f32) (q k : FVec Ideal ⟨1, ![128]⟩ .f32)
    (i : Fin 8320) (b : Nat) (hb : b ≤ 7) (j : Fin 8192) (hj : j.val = 512 * b + (y 1).val)
    (h0 : ∀ k : Fin 2048, v0 (ix2 (y 0) k) = x (ix2 i k)) (h1 : ∀ (l : Fin 512) (k : Fin 2048), v2 (ix2 l k) = w (ix2 k ⟨512 * b + l.val, by omega⟩))
    (h2 : v6 (ix2 0 (y 1)) = gain q k j) : k0_pay4 v0 v2 v6 z = out x w q k i j := by
  have hz : (z 1).val < 128 := (z 1).isLt
  have e : k0_pay4 v0 v2 v6 z = rms (fun l => ∑ k : Fin 2048, v0 (ix2 (z 0) k) * v2 (ix2 ⟨384 + l.val, by omega⟩ k)) (v6 (ix2 0 ⟨384 + (z 1).val, by omega⟩)) (z 1) := by
    pointwise [k0_pay4, k0_pay1, k0_pay2, rms]
  have e0 : (z 0 : Fin 1664) = y 0 := Fin.ext hz0.symm
  have e1 : (⟨384 + (z 1).val, by omega⟩ : Fin 512) = y 1 := Fin.ext hz1.symm
  rw [e, e0, e1, h2]
  refine head x w q k i j (by omega) _ _ _ (by omega) (fun l => ?_) rfl
  unfold prod
  refine Finset.sum_congr rfl fun k _ => ?_
  rw [h0, h1]
  exact congrArg (x (ix2 i k) * ·) (congrArg (fun n => w (ix2 k n)) (Fin.ext (by simp only; omega)))

theorem pay5_of (v0 : Vec Ideal S1664x2048 .bf16) (v2 : Vec Ideal S512x2048 .f32) (v6 : Vec Ideal S1x512 .f32) (y : S1664x512.Idx) (z : S1664x128.Idx)
    (hz0 : (y 0).val = (z 0).val) (hz1 : (y 1).val = 0 + (z 1).val)
    (x : FVec Ideal ⟨2, ![8320, 2048]⟩ .f32) (w : FVec Ideal ⟨2, ![2048, 8208]⟩ .f32) (q k : FVec Ideal ⟨1, ![128]⟩ .f32)
    (i : Fin 8320) (b : Nat) (hb : b ≤ 7) (j : Fin 8192) (hj : j.val = 512 * b + (y 1).val)
    (h0 : ∀ k : Fin 2048, v0 (ix2 (y 0) k) = x (ix2 i k)) (h1 : ∀ (l : Fin 512) (k : Fin 2048), v2 (ix2 l k) = w (ix2 k ⟨512 * b + l.val, by omega⟩))
    (h2 : v6 (ix2 0 (y 1)) = gain q k j) : k0_pay5 (k0_pay1 v0 v2) (k0_pay2 v6) z = out x w q k i j := by
  have hz : (z 1).val < 128 := (z 1).isLt
  have e : k0_pay5 (k0_pay1 v0 v2) (k0_pay2 v6) z = rms (fun l => ∑ k : Fin 2048, v0 (ix2 (z 0) k) * v2 (ix2 ⟨0 + l.val, by omega⟩ k)) (v6 (ix2 0 ⟨0 + (z 1).val, by omega⟩)) (z 1) := by
    pointwise [k0_pay5, k0_pay1, k0_pay2, rms]
  have e0 : (z 0 : Fin 1664) = y 0 := Fin.ext hz0.symm
  have e1 : (⟨0 + (z 1).val, by omega⟩ : Fin 512) = y 1 := Fin.ext hz1.symm
  rw [e, e0, e1, h2]
  refine head x w q k i j (by omega) _ _ _ (by omega) (fun l => ?_) rfl
  unfold prod
  refine Finset.sum_congr rfl fun k _ => ?_
  rw [h0, h1]
  exact congrArg (x (ix2 i k) * ·) (congrArg (fun n => w (ix2 k n)) (Fin.ext (by simp only; omega)))

theorem pay6_of (v0 : Vec Ideal S1664x2048 .bf16) (v2 : Vec Ideal S512x2048 .f32) (v6 : Vec Ideal S1x512 .f32) (y : S1664x512.Idx) (z : S1664x128.Idx)
    (hz0 : (y 0).val = (z 0).val) (hz1 : (y 1).val = 128 + (z 1).val)
    (x : FVec Ideal ⟨2, ![8320, 2048]⟩ .f32) (w : FVec Ideal ⟨2, ![2048, 8208]⟩ .f32) (q k : FVec Ideal ⟨1, ![128]⟩ .f32)
    (i : Fin 8320) (b : Nat) (hb : b ≤ 7) (j : Fin 8192) (hj : j.val = 512 * b + (y 1).val)
    (h0 : ∀ k : Fin 2048, v0 (ix2 (y 0) k) = x (ix2 i k)) (h1 : ∀ (l : Fin 512) (k : Fin 2048), v2 (ix2 l k) = w (ix2 k ⟨512 * b + l.val, by omega⟩))
    (h2 : v6 (ix2 0 (y 1)) = gain q k j) : k0_pay6 (k0_pay1 v0 v2) (k0_pay2 v6) z = out x w q k i j := by
  have hz : (z 1).val < 128 := (z 1).isLt
  have e : k0_pay6 (k0_pay1 v0 v2) (k0_pay2 v6) z = rms (fun l => ∑ k : Fin 2048, v0 (ix2 (z 0) k) * v2 (ix2 ⟨128 + l.val, by omega⟩ k)) (v6 (ix2 0 ⟨128 + (z 1).val, by omega⟩)) (z 1) := by
    pointwise [k0_pay6, k0_pay1, k0_pay2, rms]
  have e0 : (z 0 : Fin 1664) = y 0 := Fin.ext hz0.symm
  have e1 : (⟨128 + (z 1).val, by omega⟩ : Fin 512) = y 1 := Fin.ext hz1.symm
  rw [e, e0, e1, h2]
  refine head x w q k i j (by omega) _ _ _ (by omega) (fun l => ?_) rfl
  unfold prod
  refine Finset.sum_congr rfl fun k _ => ?_
  rw [h0, h1]
  exact congrArg (x (ix2 i k) * ·) (congrArg (fun n => w (ix2 k n)) (Fin.ext (by simp only; omega)))

theorem pay7_of (v0 : Vec Ideal S1664x2048 .bf16) (v2 : Vec Ideal S512x2048 .f32) (v6 : Vec Ideal S1x512 .f32) (y : S1664x512.Idx) (z : S1664x128.Idx)
    (hz0 : (y 0).val = (z 0).val) (hz1 : (y 1).val = 256 + (z 1).val)
    (x : FVec Ideal ⟨2, ![8320, 2048]⟩ .f32) (w : FVec Ideal ⟨2, ![2048, 8208]⟩ .f32) (q k : FVec Ideal ⟨1, ![128]⟩ .f32)
    (i : Fin 8320) (b : Nat) (hb : b ≤ 7) (j : Fin 8192) (hj : j.val = 512 * b + (y 1).val)
    (h0 : ∀ k : Fin 2048, v0 (ix2 (y 0) k) = x (ix2 i k)) (h1 : ∀ (l : Fin 512) (k : Fin 2048), v2 (ix2 l k) = w (ix2 k ⟨512 * b + l.val, by omega⟩))
    (h2 : v6 (ix2 0 (y 1)) = gain q k j) : k0_pay7 (k0_pay1 v0 v2) (k0_pay2 v6) z = out x w q k i j := by
  have hz : (z 1).val < 128 := (z 1).isLt
  have e : k0_pay7 (k0_pay1 v0 v2) (k0_pay2 v6) z = rms (fun l => ∑ k : Fin 2048, v0 (ix2 (z 0) k) * v2 (ix2 ⟨256 + l.val, by omega⟩ k)) (v6 (ix2 0 ⟨256 + (z 1).val, by omega⟩)) (z 1) := by
    pointwise [k0_pay7, k0_pay1, k0_pay2, rms]
  have e0 : (z 0 : Fin 1664) = y 0 := Fin.ext hz0.symm
  have e1 : (⟨256 + (z 1).val, by omega⟩ : Fin 512) = y 1 := Fin.ext hz1.symm
  rw [e, e0, e1, h2]
  refine head x w q k i j (by omega) _ _ _ (by omega) (fun l => ?_) rfl
  unfold prod
  refine Finset.sum_congr rfl fun k _ => ?_
  rw [h0, h1]
  exact congrArg (x (ix2 i k) * ·) (congrArg (fun n => w (ix2 k n)) (Fin.ext (by simp only; omega)))

theorem final3 (c : Dev nD) : (dats m 0 c).arrAt 3 (cfgs 0).N
    = fun i : S8320x8192.Idx => out (m ((c : Thread nD τ).loc main_arg0)) (m ((c : Thread nD τ).loc main_arg1))
        (m ((c : Thread nD τ).loc main_arg2)) (m ((c : Thread nD τ).loc main_arg3)) (i 0) (i 1) := by
  refine (dats m 0 c).arrAt_eq_of_covers 3 _ (by decide +kernel) fun t _ y => ?_
  by_cases h : t.val % 16 ≤ 7
  · blk_simp; rw [after0_3, outsAt0_A m c t (by omega) h]; frame_out
    rw [E]
    canon_tiles x h
    · exact pay4_of _ _ _ y x h0 h1 _ _ _ _ _ (t.val % 16) h _ rfl (B0 m c t _) (X1 m c t) (B2 m c t _)
    · exact pay7_of _ _ _ y x h0 h1 _ _ _ _ _ (t.val % 16) h _ rfl (B0 m c t _) (X1 m c t) (B2 m c t _)
    · exact pay6_of _ _ _ y x h0 h1 _ _ _ _ _ (t.val % 16) h _ rfl (B0 m c t _) (X1 m c t) (B2 m c t _)
    · exact pay5_of _ _ _ y x h0 (h1.trans (Nat.zero_add _).symm) _ _ _ _ _ (t.val % 16) h _ rfl (B0 m c t _) (X1 m c t) (B2 m c t _)
  · blk_simp; rw [after0_3, outsAt0_B m c t (by omega) h]; frame_out
    rw [E]
    exact pay3_of _ _ _ y _ _ _ _ _ _ (by show 4096 ≤ 512 * (t.val % 16) + _; omega) (B0 m c t _) (fun k => X1 m c t _ k) (B2 m c t _)

end Kernel

section Reference
open Cert.Reference4Ideal Cert.Reference4Ideal.Gen Cert.Reference4Ideal.Value
variable (m : (ℓ : Loc nD τ sig) → Buf (Elt Ideal) ℓ)

theorem ref_p (a0 : FVec Ideal S8320x2048 .f32) (a1 : FVec Ideal S2048x8208 .f32) (i : S8320x8192.Idx) :
    (Host.dotGeneral dot_S8320x2048_S2048x8192_S8320x8192_1_0_0_1_n_n none a0 (extractStridedSlice S2048x8192 ![0, 0] a1 slices_S2048x8208_S2048x8192_0_0) : FVec Ideal S8320x8192 .f32) i
      = prod a0 a1 (i 0) ⟨(i 1).val, (i 1).isLt.trans (by decide)⟩ := by
  pointwise [prod]

theorem ref_q (u : FVec Ideal S8320x8192 .f32) (P : Fin 8320 → Fin 8208 → EReal) (hu : ∀ i, u i = P (i 0) ⟨(i 1).val, (i 1).isLt.trans (by decide)⟩)
    (i : S8320x16x128.Idx) :
    (shapeCast S8320x16x128 (extractStridedSlice S8320x2048 ![0, 0] u slices_S8320x8192_S8320x2048_0_0) shapeCasts_S8320x2048_S8320x16x128 : FVec Ideal S8320x16x128 .f32) i
      = P (i 0) ⟨(i 1).val * 128 + (i 2).val, by have h1 : (i 1).val < 16 := (i 1).isLt; have h2 : (i 2).val < 128 := (i 2).isLt; omega⟩ := by
  pointwise [hu]

theorem ref_k (u : FVec Ideal S8320x8192 .f32) (P : Fin 8320 → Fin 8208 → EReal) (hu : ∀ i, u i = P (i 0) ⟨(i 1).val, (i 1).isLt.trans (by decide)⟩)
    (i : S8320x16x128.Idx) :
    (shapeCast S8320x16x128 (extractStridedSlice S8320x2048 ![0, 2048] u slices_S8320x8192_S8320x2048_0_2048) shapeCasts_S8320x2048_S8320x16x128 : FVec Ideal S8320x16x128 .f32) i
      = P (i 0) ⟨2048 + ((i 1).val * 128 + (i 2).val), by have h1 : (i 1).val < 16 := (i 1).isLt; have h2 : (i 2).val < 128 := (i 2).isLt; omega⟩ := by
  pointwise [hu]

theorem ref_r (u : FVec Ideal S8320x16x128 .f32) (P : Fin 8320 → Fin 16 → Fin 128 → EReal) (hu : ∀ i, u i = P (i 0) (i 1) (i 2))
    (g : FVec Ideal S128 .f32) (i : S8320x2048.Idx) :
    (shapeCast S8320x2048 (mulf (mulf u (broadcastInDim S8320x16x128 ![0, 1, 2] bcast_S8320x16x1_S8320x16x128_0_1_2 (Host.rsqrt (addf (Host.divf (broadcastInDim S8320x16x1 ![0, 1] bcast_S8320x16_S8320x16x1_0_1 (Host.reduceAdd (mulf u u) (constant S_ .f32 0x00000000#32) reducesTo_S8320x16x128_S8320x16_d2 h_S_)) (broadcastInDim S8320x16x1 ![] bcast_S_S8320x16x1 (constant S_ .f32 0x43000000#32))) (broadcastInDim S8320x16x1 ![] bcast_S_S8320x16x1 (constant S_ .f32 0x358637BD#32)))))) (broadcastInDim S8320x16x128 ![0, 1, 2] bcast_S1x1x128_S8320x16x128_0_1_2 (broadcastInDim S1x1x128 ![2] bcast_S128_S1x1x128_2 g))) shapeCasts_S8320x16x128_S8320x2048 : FVec Ideal S8320x2048 .f32) i
      = rms (P (i 0) ⟨(i 1).val / 128, by have h1 : (i 1).val < 2048 := (i 1).isLt; omega⟩) (g (ix1 ⟨(i 1).val % 128, by omega⟩)) ⟨(i 1).val % 128, by omega⟩ := by
  pointwise [hu, rms]

theorem seg_q (x : FVec Ideal ⟨2, ![8320, 2048]⟩ .f32) (w : FVec Ideal ⟨2, ![2048, 8208]⟩ .f32) (q k : FVec Ideal ⟨1, ![128]⟩ .f32)
    (r : Fin 8320) (j : Fin 2048) (J : Fin 8192) (h : J.val = j.val) :
    rms (fun l => prod x w r ⟨j.val / 128 * 128 + l.val, by omega⟩) (q (ix1 ⟨j.val % 128, by omega⟩)) ⟨j.val % 128, by omega⟩ = out x w q k r J := by
  have e : (⟨J.val % 128, by omega⟩ : Fin 128) = ⟨j.val % 128, by omega⟩ := Fin.ext (by simp only; omega)
  unfold out
  rw [if_pos (by omega), if_pos (by omega), e]
  exact congrArg (fun f => rms f _ _) (funext fun l => congrArg (prod x w r) (Fin.ext (by simp only; omega)))

theorem seg_k (x : FVec Ideal ⟨2, ![8320, 2048]⟩ .f32) (w : FVec Ideal ⟨2, ![2048, 8208]⟩ .f32) (q k : FVec Ideal ⟨1, ![128]⟩ .f32)
    (r : Fin 8320) (j : Fin 2048) (J : Fin 8192) (h : J.val = 2048 + j.val) :
    rms (fun l => prod x w r ⟨2048 + (j.val / 128 * 128 + l.val), by omega⟩) (k (ix1 ⟨j.val % 128, by omega⟩)) ⟨j.val % 128, by omega⟩ = out x w q k r J := by
  have e : (⟨J.val % 128, by omega⟩ : Fin 128) = ⟨j.val % 128, by omega⟩ := Fin.ext (by simp only; omega)
  unfold out
  rw [if_pos (by omega), if_neg (by omega), e]
  exact congrArg (fun f => rms f _ _) (funext fun l => congrArg (prod x w r) (Fin.ext (by simp only; omega)))

theorem seg_v (x : FVec Ideal ⟨2, ![8320, 2048]⟩ .f32) (w : FVec Ideal ⟨2, ![2048, 8208]⟩ .f32) (q k : FVec Ideal ⟨1, ![128]⟩ .f32)
    (r : Fin 8320) (j : Fin 8208) (J : Fin 8192) (h : J.val = j.val) (h' : 4096 ≤ J.val) : prod x w r j = out x w q k r J := by
  unfold out
  rw [if_neg (by omega)]
  exact congrArg (prod x w r) (Fin.ext h.symm)

theorem ref_c (q k : FVec Ideal S8320x2048 .f32) (u : FVec Ideal S8320x8192 .f32) (a0 : FVec Ideal S8320x2048 .f32) (a1 : FVec Ideal S2048x8208 .f32)
    (a2 a3 : FVec Ideal S128 .f32) (hu : ∀ i, u i = prod a0 a1 (i 0) ⟨(i 1).val, (i 1).isLt.trans (by decide)⟩)
    (hq : ∀ (r : Fin 8320) (j : Fin 2048), q (ix2 r j) = rms (fun l => prod a0 a1 r ⟨j.val / 128 * 128 + l.val, by omega⟩) (a2 (ix1 ⟨j.val % 128, by omega⟩)) ⟨j.val % 128, by omega⟩)
    (hk : ∀ (r : Fin 8320) (j : Fin 2048), k (ix2 r j) = rms (fun l => prod a0 a1 r ⟨2048 + (j.val / 128 * 128 + l.val), by omega⟩) (a3 (ix1 ⟨j.val % 128, by omega⟩)) ⟨j.val % 128, by omega⟩)
    (i : S8320x8192.Idx) :
    (concatenate S8320x8192 1 [⟨S8320x2048, q⟩, ⟨S8320x2048, k⟩, ⟨S8320x2048, extractStridedSlice S8320x2048 ![0, 4096] u slices_S8320x8192_S8320x2048_0_4096⟩, ⟨S8320x2048, extractStridedSlice S8320x2048 ![0, 6144] u slices_S8320x8192_S8320x2048_0_6144⟩] concatenates_S8320x2048_S8320x2048_S8320x2048_S8320x2048_S8320x8192_d1 : FVec Ideal S8320x8192 .f32) i
      = out a0 a1 a2 a3 (i 0) (i 1) := by
  have h1 : (i 1).val < 8192 := (i 1).isLt
  pointwise
  split
  · exact (hq (i 0) _).trans (seg_q _ _ _ _ _ _ (i 1) rfl)
  · next c =>
    split
    · exact (hk (i 0) _).trans (seg_k _ _ _ _ _ _ (i 1) (by show (i 1).val = 2048 + ((i 1).val - 2048); omega))
    · next d =>
      split
      · exact (hu _).trans (seg_v _ _ _ _ _ _ (i 1) (by show (i 1).val = 4096 + ((i 1).val - 2048 - 2048); omega) (by omega))
      · exact (hu _).trans (seg_v _ _ _ _ _ _ (i 1) (by show (i 1).val = 6144 + ((i 1).val - 2048 - 2048 - 2048); omega) (by omega))

theorem ref (c : Dev nD) : res_main_v36 m c
    = fun i : S8320x8192.Idx => out (m ((c.tc : Thread nD τ).loc main_arg0)) (m ((c.tc : Thread nD τ).loc main_arg1))
        (m ((c.tc : Thread nD τ).loc main_arg2)) (m ((c.tc : Thread nD τ).loc main_arg3)) (i 0) (i 1) := by
  funext i
  refine ref_c _ _ _ _ _ _ _ (ref_p _ _) (fun r j => ?_) (fun r j => ?_) i
  · exact ref_r _ (fun i h l => prod _ _ i ⟨h.val * 128 + l.val, by omega⟩) (ref_q _ _ (ref_p _ _)) _ (ix2 r j)
  · exact ref_r _ (fun i h l => prod _ _ i ⟨2048 + (h.val * 128 + l.val), by omega⟩) (ref_k _ _ (ref_p _ _)) _ (ix2 r j)

end Reference

end Cert.Proof.Proj

end
-- ==== Proof.Gates.lean ====
module

public import proofs.«01_k».proof.Proof.Gen.Kernel5Ideal.Value
public import proofs.«01_k».proof.Proof.Gen.Reference5Ideal.Run
public import proofs.«01_k».proof.Proof.Proj
public import Idealize.ShloMosaic.Lib.StableHlo.ReadAt

@[expose] public section

set_option maxRecDepth 16384

noncomputable section

namespace Cert.Proof.Gates

open Idealize.ShloMosaic Idealize.ShloMosaic.TcCoe Idealize.SL.Sem
open Idealize.ShloMosaic.Pipeline (Dat)

/-- The logarithm of the sigmoid, in the form that keeps the exponent negative. -/
def ls (z : EReal) : EReal := min z 0 - Ideal.log1p (Ideal.exp (0 - max z (-z)))

/-- The gate of row `i` and head `j` before the sigmoid. -/
def lin (x : FVec Ideal ⟨2, ![8320, 2048]⟩ .f32) (w : FVec Ideal ⟨2, ![2048, 8208]⟩ .f32) (b : FVec Ideal ⟨1, ![16]⟩ .f32) (i : Fin 8320) (j : Fin 16) : EReal :=
  ∑ k : Fin 2048, x (ix2 i k) * w (ix2 k ⟨8192 + j.val, by omega⟩) + b (ix1 j)

/-- The log forget gates, with zeros in the 112 columns behind the heads. -/
def outc (x : FVec Ideal ⟨2, ![8320, 2048]⟩ .f32) (w : FVec Ideal ⟨2, ![2048, 8208]⟩ .f32) (b : FVec Ideal ⟨1, ![16]⟩ .f32) (i : Fin 8320) (j : Fin 128) : EReal :=
  if h : j.val < 16 then ls (lin x w b i ⟨j.val, h⟩) else 0

theorem sitofp0 : FloatOps.sitofp (F := Ideal) FTy.f32 0#32 = (0 : EReal) := by
  show ((((0#32 : BitVec 32).toInt : ℤ) : ℝ) : EReal) = 0
  norm_num

theorem log_one : Ideal.log (1 : EReal) = 0 := by
  rw [← EReal.coe_one, Ideal.log_coe, if_neg (by norm_num), Real.log_one, EReal.coe_zero]

/-- The log of `1 + e^(-|z|)` is neither infinity. -/
theorem log1p_exp (z : EReal) : ∃ r : ℝ, Ideal.log1p (Ideal.exp (-max z (-z))) = (r : EReal) := by
  induction z with
  | bot => exact ⟨0, by simp [Ideal.log1p, log_one]⟩
  | top => exact ⟨0, by simp [Ideal.log1p, log_one]⟩
  | coe z =>
    refine ⟨Real.log (1 + Real.exp (-max z (-z))), ?_⟩
    have e : -max (z : EReal) (-(z : EReal)) = ((-max z (-z) : ℝ) : EReal) := by
      rw [← EReal.coe_neg, ← EReal.coe_strictMono.monotone.map_max, ← EReal.coe_neg]
    have h : ¬ (1 + Real.exp (-max z (-z)) ≤ 0) := not_le.mpr (by positivity)
    rw [e, Ideal.exp_coe, Ideal.log1p, ← EReal.coe_one, ← EReal.coe_add, Ideal.log_coe, if_neg h]

/-- The reference's form, a negated `logaddexp`. -/
theorem ls_eq (z : EReal) : -(max (-z) 0 + Ideal.log1p (Ideal.exp (-max (-z) (-(-z))))) = ls z := by
  obtain ⟨r, hr⟩ := log1p_exp (-z)
  have hr' : Ideal.log1p (Ideal.exp (0 - max z (-z))) = (r : EReal) := by
    rw [← hr, neg_neg, max_comm, zero_sub]
  unfold ls
  rw [hr, hr', EReal.neg_add (.inr (EReal.coe_ne_top r)) (.inr (EReal.coe_ne_bot r))]
  congr 1
  rcases le_total z 0 with h | h
  · rw [max_eq_left (neg_zero (G := EReal) ▸ EReal.neg_le_neg_iff.mpr h), neg_neg, min_eq_left h]
  · rw [max_eq_right (neg_zero (G := EReal) ▸ EReal.neg_le_neg_iff.mpr h), neg_zero, min_eq_right h]

section Kernel
open Cert.Kernel5Ideal Cert.Kernel5Ideal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] ∧ win0_4.index t = ![0, t.val] :=
  (by decide +kernel : ∀ t : Fin grid0.N, _)

/-- The array's row of row `r` of the block at point `t`. -/
def row (t : Fin cfg0.N) (r : Fin 1664) : Fin 8320 := ⟨1664 * t.val + r.val, by have : t.val < 5 := t.isLt; omega⟩

theorem pay2_of (v0 : Vec Ideal S1664x2048 .bf16) (v2 : Vec Ideal S2048x128 .bf16) (v5 : Vec Ideal S1x128 .f32) (y : S1664x128.Idx)
    (x : FVec Ideal ⟨2, ![8320, 2048]⟩ .f32) (w : FVec Ideal ⟨2, ![2048, 8208]⟩ .f32) (b : FVec Ideal ⟨1, ![16]⟩ .f32) (i : Fin 8320)
    (h0 : ∀ k : Fin 2048, v0 (ix2 (y 0) k) = x (ix2 i k))
    (h1 : ∀ (k : Fin 2048) (j : Fin 128), v2 (ix2 k j) = if h : j.val < 16 then w (ix2 k ⟨8192 + j.val, by omega⟩) else (0 : EReal))
    (h2 : ∀ j : Fin 128, v5 (ix2 0 j) = if h : j.val < 16 then b (ix1 ⟨j.val, h⟩) else (0 : EReal)) :
    k0_pay2 v0 v2 v5 y = outc x w b i (y 1) := by
  have hy : (y 1).val < 128 := (y 1).isLt
  have e : k0_pay2 v0 v2 v5 y = if (y 1).val < 16 then ls (∑ k : Fin 2048, v0 (ix2 (y 0) k) * v2 (ix2 k (y 1)) + v5 (ix2 0 (y 1)))
      else ∑ k : Fin 2048, v0 (ix2 (y 0) k) * v2 (ix2 k (y 1)) + v5 (ix2 0 (y 1)) := by
    have hw : IntOp.andi (IntOp.cmpi CmpIPredicate.sge (BitVec.ofNat 32 (y 1).val) 0#32) (IntOp.cmpi CmpIPredicate.slt (BitVec.ofNat 32 (y 1).val) 16#32)
        = BitVec.ofBool (decide ((y 1).val < 16)) := by
      generalize (y 1).val = n at *
      interval_cases n <;> rfl
    pointwise [k0_pay2, ls]
    rw [hw]
    by_cases c : (y 1).val < 16
    · rw [if_pos c, decide_eq_true c]; rfl
    · rw [if_neg c, decide_eq_false c]; rfl
  have s1 := fun k => h1 k (y 1)
  have s2 := h2 (y 1)
  rw [e]
  unfold outc
  by_cases c : (y 1).val < 16
  · rw [if_pos c, dif_pos c]
    simp only [dif_pos c] at s1 s2
    unfold lin
    simp only [h0, s1, s2]
  · rw [if_neg c, dif_neg c]
    simp only [dif_neg c] at s1 s2
    simp only [s1, s2, mul_zero, Finset.sum_const_zero, add_zero]

/-- A square of the first result, turned, at one of its entries. -/
theorem turn (o : Nat) (hs : S1664x128.Slices ![o, 0] S128x128) (v : FVec Ideal S1664x128 .f32) (y : S16x1664.Idx) (z : S16x128.Idx)
    (h0 : (y 0).val = (z 0).val) (h1 : (y 1).val = o + (z 1).val) :
    (extractStridedSlice S16x128 ![0, 0] (transpose S128x128 [1, 0] (extractStridedSlice S128x128 ![o, 0] v hs) transposes_S128x128_p1_0_S128x128) slices_S128x128_o0_0_S16x128 : FVec Ideal S16x128 .f32) z
      = v (ix2 (y 1) ⟨(y 0).val, (y 0).isLt.trans (by decide)⟩) := by
  pointwise
  exact congrArg v (congrArg₂ _ (Fin.ext h1.symm) (Fin.ext h0.symm))

theorem B0 (c : Dev nD) (t : Fin cfg0.N) (r : Fin 1664) (k : Fin 2048) :
    iblk m c 0 t (ix2 r k) = m ((c : Thread nD τ).loc main_arg0) (ix2 (row t r) k) := by
  blk_point [iblk, V, idx t, row]

theorem V1 (c : Dev nD) (k : Fin 2048) (j : Fin 128) : (V m c main_v3 : FVec Ideal S2048x128 .bf16) (ix2 k j)
    = if h : j.val < 16 then (m ((c : Thread nD τ).loc main_arg1) : FVec Ideal S2048x8208 .f32) (ix2 k ⟨8192 + j.val, by omega⟩) else (0 : EReal) := by
  unfold V
  after_reads_at
  rw [sitofp0]

theorem V2 (c : Dev nD) (j : Fin 128) : (V m c main_v5 : FVec Ideal S1x128 .f32) (ix2 0 j)
    = if h : j.val < 16 then (m ((c : Thread nD τ).loc main_arg2) : FVec Ideal S16 .f32) (ix1 ⟨j.val, h⟩) else (0 : EReal) := by
  unfold V
  after_reads_at
  rw [sitofp0]

theorem B1 (c : Dev nD) (t : Fin cfg0.N) (k : Fin 2048) (j : Fin 128) : iblk m c 1 t (ix2 k j)
    = if h : j.val < 16 then (m ((c : Thread nD τ).loc main_arg1) : FVec Ideal S2048x8208 .f32) (ix2 k ⟨8192 + j.val, by omega⟩) else (0 : EReal) := by
  have h : iblk m c 1 t (ix2 k j) = (V m c main_v3 : S2048x128.Idx → EReal) (ix2 k j) := by
    blk_point [iblk, idx t]
  exact h.trans (V1 m c k j)

theorem B2 (c : Dev nD) (t : Fin cfg0.N) (j : Fin 128) : iblk m c 2 t (ix2 0 j)
    = if h : j.val < 16 then (m ((c : Thread nD τ).loc main_arg2) : FVec Ideal S16 .f32) (ix1 ⟨j.val, h⟩) else (0 : EReal) := by
  have h : iblk m c 2 t (ix2 0 j) = (V m c main_v5 : S1x128.Idx → EReal) (ix2 0 j) := by
    blk_point [iblk, idx t]
  exact h.trans (V2 m c j)

theorem E3 (t : Fin cfg0.N) (y : S1664x128.Idx) : ((cfg0.win 3).blk t).view.emb y = ix2 (row t (y 0)) (y 1) := by
  blk_ext [idx t, row]

theorem E4 (t : Fin cfg0.N) (y : S16x1664.Idx) : ((cfg0.win 4).blk t).view.emb y = ix2 (y 0) (row t (y 1)) := by
  blk_ext [idx t, row]

theorem final3 (c : Dev nD) : (dats m 0 c).arrAt 3 (cfgs 0).N
    = fun i : S8320x128.Idx => outc (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp; rw [after0_3]; unfold out0_3; frame_out
  rw [E3]
  exact pay2_of _ _ _ y _ _ _ _ (B0 m c t _) (B1 m c t) (B2 m c t)

theorem piece (o : Nat) (hs : S1664x128.Slices ![o, 0] S128x128) (c : Dev nD) (t : Fin cfg0.N) (y : S16x1664.Idx) (z : S16x128.Idx)
    (h0 : (y 0).val = (z 0).val) (h1 : (y 1).val = o + (z 1).val) :
    (extractStridedSlice S16x128 ![0, 0] (transpose S128x128 [1, 0] (extractStridedSlice S128x128 ![o, 0] (k0_pay2 (iblk m c 0 t) (iblk m c 1 t) (iblk m c 2 t)) hs) transposes_S128x128_p1_0_S128x128) slices_S128x128_o0_0_S16x128 : FVec Ideal S16x128 .f32) z
      = ls (lin (m ((c : Thread nD τ).loc main_arg0)) (m ((c : Thread nD τ).loc main_arg1)) (m ((c : Thread nD τ).loc main_arg2)) (row t (y 1)) (y 0)) := by
  refine (turn o hs _ y z h0 h1).trans ?_
  refine (pay2_of _ _ _ (ix2 (y 1) _) _ _ _ _ (B0 m c t _) (B1 m c t) (B2 m c t)).trans ?_
  exact dif_pos (y 0).isLt

theorem final4 (c : Dev nD) : (dats m 0 c).arrAt 4 (cfgs 0).N
    = fun i : S16x8320.Idx => ls (lin (m ((c : Thread nD τ).loc main_arg0)) (m ((c : Thread nD τ).loc main_arg1)) (m ((c : Thread nD τ).loc main_arg2)) (i 1) (i 0)) := by
  refine (dats m 0 c).arrAt_eq_of_covers 4 _ (by decide +kernel) fun t _ y => ?_
  blk_simp; rw [after0_4]; unfold_out out0_4; frame_out
  rw [E4]
  canon_tiles z h
  · exact piece m 1536 _ c t y z h0 h1
  · exact piece m 1408 _ c t y z h0 h1
  · exact piece m 1280 _ c t y z h0 h1
  · exact piece m 1152 _ c t y z h0 h1
  · exact piece m 1024 _ c t y z h0 h1
  · exact piece m 896 _ c t y z h0 h1
  · exact piece m 768 _ c t y z h0 h1
  · exact piece m 640 _ c t y z h0 h1
  · exact piece m 512 _ c t y z h0 h1
  · exact piece m 384 _ c t y z h0 h1
  · exact piece m 256 _ c t y z h0 h1
  · exact piece m 128 _ c t y z h0 h1
  · exact piece m 0 _ c t y z h0 (h1.trans (Nat.zero_add _).symm)

end Kernel

section Reference
open Cert.Reference5Ideal Cert.Reference5Ideal.Gen Cert.Reference5Ideal.Value

theorem ref_ls (n : FVec Ideal S8320x16 .f32) (i : S8320x16.Idx) :
    (Host.negf (select (cmpf .une (subf (Host.negf n) (broadcastInDim S8320x16 ![] bcast_S_S8320x16 (constant S_ .f32 0x00000000#32))) (subf (Host.negf n) (broadcastInDim S8320x16 ![] bcast_S_S8320x16 (constant S_ .f32 0x00000000#32)))) (addf (Host.negf n) (broadcastInDim S8320x16 ![] bcast_S_S8320x16 (constant S_ .f32 0x00000000#32))) (addf (maximumf (Host.negf n) (broadcastInDim S8320x16 ![] bcast_S_S8320x16 (constant S_ .f32 0x00000000#32))) (Host.log1p (Host.exp (Host.negf (Host.absf (subf (Host.negf n) (broadcastInDim S8320x16 ![] bcast_S_S8320x16 (constant S_ .f32 0x00000000#32)))))))) : FVec Ideal S8320x16 .f32)) i = ls (n i) := by
  refine Eq.trans ?_ (ls_eq (n i))
  pointwise
  rw [if_neg (by simp)]
  rfl

theorem ref_lin (a0 : FVec Ideal S8320x2048 .f32) (a1 : FVec Ideal S2048x8208 .f32) (a2 : FVec Ideal S16 .f32) (i : S8320x16.Idx) :
    (addf (Host.dotGeneral dot_S8320x2048_S2048x16_S8320x16_1_0_0_1_n_n none a0 (extractStridedSlice S2048x16 ![0, 8192] a1 slices_S2048x8208_S2048x16_0_8192)) (broadcastInDim S8320x16 ![0, 1] bcast_S1x16_S8320x16_0_1 (broadcastInDim S1x16 ![1] bcast_S16_S1x16_1 a2)) : FVec Ideal S8320x16 .f32) i = lin a0 a1 a2 (i 0) (i 1) := by
  pointwise [lin]

theorem ref_pad (n : FVec Ideal S8320x16 .f32) (i : S8320x128.Idx) :
    (pad S8320x128 ![0, 0] ![0, 112] ![0, 0] n (sitofp .f32 (constantI S_ 32 0#32)) pads_S8320x16_S8320x128_000_01120 h_S_ : FVec Ideal S8320x128 .f32) i
      = if h : (i 1).val < 16 then n (ix2 (i 0) ⟨(i 1).val, h⟩) else 0 := by
  pointwise
  rw [sitofp0]

/-- The reference's first result. -/
theorem ref0 (a0 : FVec Ideal S8320x2048 .f32) (a1 : FVec Ideal S2048x8208 .f32) (a2 : FVec Ideal S16 .f32) (n : FVec Ideal S8320x16 .f32) (hn : n = (addf (Host.dotGeneral dot_S8320x2048_S2048x16_S8320x16_1_0_0_1_n_n none a0 (extractStridedSlice S2048x16 ![0, 8192] a1 slices_S2048x8208_S2048x16_0_8192)) (broadcastInDim S8320x16 ![0, 1] bcast_S1x16_S8320x16_0_1 (broadcastInDim S1x16 ![1] bcast_S16_S1x16_1 a2)) : FVec Ideal S8320x16 .f32)) (i : S8320x128.Idx) :
    (pad S8320x128 ![0, 0] ![0, 112] ![0, 0] (Host.negf (select (cmpf .une (subf (Host.negf n) (broadcastInDim S8320x16 ![] bcast_S_S8320x16 (constant S_ .f32 0x00000000#32))) (subf (Host.negf n) (broadcastInDim S8320x16 ![] bcast_S_S8320x16 (constant S_ .f32 0x00000000#32)))) (addf (Host.negf n) (broadcastInDim S8320x16 ![] bcast_S_S8320x16 (constant S_ .f32 0x00000000#32))) (addf (maximumf (Host.negf n) (broadcastInDim S8320x16 ![] bcast_S_S8320x16 (constant S_ .f32 0x00000000#32))) (Host.log1p (Host.exp (Host.negf (Host.absf (subf (Host.negf n) (broadcastInDim S8320x16 ![] bcast_S_S8320x16 (constant S_ .f32 0x00000000#32)))))))) : FVec Ideal S8320x16 .f32)) (sitofp .f32 (constantI S_ 32 0#32)) pads_S8320x16_S8320x128_000_01120 h_S_ : FVec Ideal S8320x128 .f32) i
      = outc a0 a1 a2 (i 0) (i 1) := by
  refine (ref_pad _ i).trans ?_
  unfold outc
  subst hn
  split
  · exact (ref_ls _ _).trans (congrArg ls (ref_lin a0 a1 a2 _))
  · rfl

/-- The reference's second result. -/
theorem ref1 (a0 : FVec Ideal S8320x2048 .f32) (a1 : FVec Ideal S2048x8208 .f32) (a2 : FVec Ideal S16 .f32) (n : FVec Ideal S8320x16 .f32) (hn : n = (addf (Host.dotGeneral dot_S8320x2048_S2048x16_S8320x16_1_0_0_1_n_n none a0 (extractStridedSlice S2048x16 ![0, 8192] a1 slices_S2048x8208_S2048x16_0_8192)) (broadcastInDim S8320x16 ![0, 1] bcast_S1x16_S8320x16_0_1 (broadcastInDim S1x16 ![1] bcast_S16_S1x16_1 a2)) : FVec Ideal S8320x16 .f32)) (i : S16x8320.Idx) :
    (transpose S16x8320 [1, 0] (Host.negf (select (cmpf .une (subf (Host.negf n) (broadcastInDim S8320x16 ![] bcast_S_S8320x16 (constant S_ .f32 0x00000000#32))) (subf (Host.negf n) (broadcastInDim S8320x16 ![] bcast_S_S8320x16 (constant S_ .f32 0x00000000#32)))) (addf (Host.negf n) (broadcastInDim S8320x16 ![] bcast_S_S8320x16 (constant S_ .f32 0x00000000#32))) (addf (maximumf (Host.negf n) (broadcastInDim S8320x16 ![] bcast_S_S8320x16 (constant S_ .f32 0x00000000#32))) (Host.log1p (Host.exp (Host.negf (Host.absf (subf (Host.negf n) (broadcastInDim S8320x16 ![] bcast_S_S8320x16 (constant S_ .f32 0x00000000#32)))))))) : FVec Ideal S8320x16 .f32)) transposes_S8320x16_S16x8320_1_0 : FVec Ideal S16x8320 .f32) i
      = ls (lin a0 a1 a2 (i 1) (i 0)) := by
  have h : ∀ u : FVec Ideal S8320x16 .f32, (transpose S16x8320 [1, 0] u transposes_S8320x16_S16x8320_1_0 : FVec Ideal S16x8320 .f32) i = u (ix2 (i 1) (i 0)) := by
    intro u
    pointwise
  subst hn
  exact (h _).trans ((ref_ls _ _).trans (congrArg ls (ref_lin a0 a1 a2 _)))

end Reference

end Cert.Proof.Gates

end
-- ==== Proof.Soft.lean ====
module

public import Idealize.ShloMosaic.PureOps.Ideal
public import Idealize.ShloMosaic.Lib.WordCmp
public import proofs.«01_k».proof.Proof.Gates

@[expose] public section

noncomputable section

/-! The softmax of a row of real logits below the diagonal, with base two over the first keys or with base e over all. -/

namespace Cert.Proof.Soft

open Idealize.ShloMosaic Idealize.ShloMosaic.WordCmp

theorem coe_sum {n : ℕ} (f : Fin n → ℝ) : ∑ x, (f x : EReal) = ((∑ x, f x : ℝ) : EReal) := by
  induction (Finset.univ : Finset (Fin n)) using Finset.induction with
  | empty => simp
  | insert a s ha ih => rw [Finset.sum_insert ha, Finset.sum_insert ha, ih, EReal.coe_add]

theorem sum_mul_coe {n : ℕ} (f : Fin n → EReal) (r : ℝ) (hr : 0 ≤ r) : (∑ x, f x) * (r : EReal) = ∑ x, f x * (r : EReal) := by
  induction (Finset.univ : Finset (Fin n)) using Finset.induction with
  | empty => simp
  | insert a s ha ih => rw [Finset.sum_insert ha, Finset.sum_insert ha, ← ih, EReal.right_distrib_of_nonneg_of_ne_top (by exact_mod_cast hr) (EReal.coe_ne_top r)]

/-- A fold of `max` that meets its bound. -/
theorem fold_eq {n : ℕ} (f : Fin n → EReal) (a : EReal) (h : ∀ x, f x ≤ a) (x : Fin n) (hx : f x = a) : Finset.fold max ⊥ f Finset.univ = a :=
  le_antisymm (Finset.fold_max_le a |>.mpr ⟨bot_le, fun x _ => h x⟩) ((Finset.le_fold_max a).mpr (.inr ⟨x, Finset.mem_univ x, hx.ge⟩))

/-- Base two, the sum divided once. -/
def soft2 {n : ℕ} (S v : Fin n → EReal) : EReal :=
  Ideal.div (∑ x, Ideal.exp2 (S x - Finset.fold max ⊥ S Finset.univ) * v x) (∑ x, Ideal.exp2 (S x - Finset.fold max ⊥ S Finset.univ))

/-- Base e, each weight divided. -/
def soft {n : ℕ} (L v : Fin n → EReal) : EReal :=
  ∑ k, Ideal.div (Ideal.exp (L k - Finset.fold max ⊥ L Finset.univ)) (∑ x, Ideal.exp (L x - Finset.fold max ⊥ L Finset.univ)) * v k

theorem exp2_log2e (r : ℝ) : Ideal.exp2 ((r * (Real.log 2)⁻¹ : ℝ) : EReal) = (Real.exp r : EReal) := by
  rw [Ideal.exp2_coe]
  congr 1
  show (2 : ℝ) ^ (r * (Real.log 2)⁻¹) = Real.exp r
  have h : Real.log 2 ≠ 0 := (Real.log_pos (by norm_num)).ne'
  rw [Real.rpow_def_of_pos (by norm_num), mul_comm, mul_assoc, inv_mul_cancel₀ h, mul_one]

theorem soft2_eq {N : ℕ} (hN : N ≤ 2048) (i : ℕ) (hi : i < N) (l : Fin 2048 → ℝ) (v : Fin 2048 → EReal) (S : Fin N → EReal) (L : Fin 2048 → EReal)
    (hS : ∀ x : Fin N, S x = if x.val ≤ i then ((l (Fin.castLE hN x) * (Real.log 2)⁻¹ : ℝ) : EReal) else ⊥)
    (hL : ∀ x : Fin 2048, L x = if x.val ≤ i then (l x : EReal) else ⊥) :
    soft2 S (fun x => v (Fin.castLE hN x)) = soft L v := by
  obtain ⟨x0, hx0, hmax⟩ := Finset.exists_max_image (Finset.univ.filter fun x : Fin 2048 => x.val ≤ i) l ⟨⟨i, by omega⟩, by simp⟩
  simp only [Finset.mem_filter, Finset.mem_univ, true_and] at hx0 hmax
  have hc : (0 : ℝ) ≤ (Real.log 2)⁻¹ := inv_nonneg.mpr (Real.log_pos (by norm_num)).le
  have mL : Finset.fold max ⊥ L Finset.univ = (l x0 : EReal) := by
    refine fold_eq L _ (fun x => ?_) x0 (by rw [hL, if_pos hx0])
    rw [hL]
    split
    · exact EReal.coe_le_coe_iff.mpr (hmax x ‹_›)
    · exact bot_le
  have mS : Finset.fold max ⊥ S Finset.univ = ((l x0 * (Real.log 2)⁻¹ : ℝ) : EReal) := by
    refine fold_eq S _ (fun x => ?_) ⟨x0.val, by omega⟩ ((hS _).trans (if_pos hx0))
    rw [hS]
    split
    · exact EReal.coe_le_coe_iff.mpr (mul_le_mul_of_nonneg_right (hmax (Fin.castLE hN x) ‹_›) hc)
    · exact bot_le
  let w : Fin 2048 → ℝ := fun x => if x.val ≤ i then Real.exp (l x - l x0) else 0
  have wL : ∀ x, Ideal.exp (L x - (l x0 : EReal)) = (w x : EReal) := by
    intro x
    rw [hL]
    by_cases h : x.val ≤ i
    · simp only [w, if_pos h]
      rw [← EReal.coe_sub, Ideal.exp_coe]
    · simp only [w, if_neg h]
      rw [EReal.bot_sub, Ideal.exp_bot, EReal.coe_zero]
  have wS : ∀ x : Fin N, Ideal.exp2 (S x - ((l x0 * (Real.log 2)⁻¹ : ℝ) : EReal)) = (w (Fin.castLE hN x) : EReal) := by
    intro x
    rw [hS]
    by_cases h : x.val ≤ i
    · have h' : (Fin.castLE hN x).val ≤ i := h
      simp only [w, if_pos h, if_pos h']
      rw [← EReal.coe_sub, ← sub_mul, exp2_log2e]
    · have h' : ¬ (Fin.castLE hN x).val ≤ i := h
      simp only [w, if_neg h, if_neg h']
      rw [EReal.bot_sub, Ideal.exp2_bot, EReal.coe_zero]
  have cut : ∀ f : Fin 2048 → EReal, (∀ x : Fin 2048, N ≤ x.val → f x = 0) → ∑ x : Fin N, f (Fin.castLE hN x) = ∑ x, f x := by
    intro f hf
    refine Fintype.sum_of_injective (Fin.castLE hN) (Fin.castLE_injective hN) _ _ (fun x hx => hf x ?_) (fun _ => rfl)
    by_contra hlt
    exact hx ⟨⟨x.val, by omega⟩, rfl⟩
  have w0 : ∀ x : Fin 2048, N ≤ x.val → w x = 0 := fun x hx => if_neg (by omega)
  have hD : 0 < ∑ x, w x := by
    refine Finset.sum_pos' (fun x _ => ?_) ⟨x0, Finset.mem_univ _, ?_⟩
    · simp only [w]; split <;> positivity
    · simp only [w, if_pos hx0]; positivity
  unfold soft2 soft
  simp only [mL, mS, wL, wS]
  rw [cut (fun x => (w x : EReal) * v x) (fun x hx => by rw [w0 x hx, EReal.coe_zero, zero_mul]),
    cut (fun x => (w x : EReal)) (fun x hx => by rw [w0 x hx, EReal.coe_zero]), coe_sum]
  rw [Ideal.div_coe hD.ne', sum_mul_coe _ _ (by positivity)]
  refine Finset.sum_congr rfl fun k _ => ?_
  rw [Ideal.div_coe hD.ne', mul_right_comm]

/-- The two factors that the kernel keeps as constants. -/
def log2e : EReal := ((Real.log 2)⁻¹ : ℝ)
def scale : EReal := ((Real.sqrt 128)⁻¹ * (Real.log 2)⁻¹ : ℝ)

/-- The kernel's logit of one query and one key, in base two. -/
theorem score2 (q k : Fin 128 → ℝ) (a b : ℝ) : (∑ d, (q d : EReal) * (k d : EReal)) * scale + (a : EReal) * log2e - (b : EReal) * log2e
    = ((((∑ d, q d * k d) * (Real.sqrt 128)⁻¹ + a - b) * (Real.log 2)⁻¹ : ℝ) : EReal) := by
  simp only [scale, log2e, ← EReal.coe_mul, coe_sum, ← EReal.coe_add, ← EReal.coe_sub]
  congr 1
  ring

theorem c128 : Ideal.ofBits FTy.f32 0x43000000#32 = ((128 : ℝ) : EReal) := by
  simp [Ideal.ofBits, Ideal.ieee, -EReal.coe_mul]; norm_num

theorem neg_inf : Ideal.ofBits FTy.f32 0xFF800000#32 = ⊥ := by
  simp [Ideal.ofBits, Ideal.ieee]

/-- The reference's logit. -/
theorem score (q k : Fin 128 → ℝ) (a b : ℝ) : Ideal.div (∑ d, (q d : EReal) * (k d : EReal)) (Ideal.sqrt (Ideal.ofBits FTy.f32 0x43000000#32)) + (a : EReal) - (b : EReal)
    = (((∑ d, q d * k d) * (Real.sqrt 128)⁻¹ + a - b : ℝ) : EReal) := by
  rw [c128, Ideal.sqrt_coe, if_neg (by norm_num), Ideal.div_coe (by positivity), one_div]
  simp only [← EReal.coe_mul, coe_sum, ← EReal.coe_add, ← EReal.coe_sub]

theorem select_le {a b : ℕ} (ha : a < 2048) (hb : b < 2048) (p q : EReal) :
    Scalar.select (IntOp.cmpi CmpIPredicate.sle (BitVec.ofNat 32 a) (BitVec.ofNat 32 b)) p q = if a ≤ b then p else q := by
  rw [cmpi_sle_eq, toInt_ofNat_of_lt (by omega), toInt_ofNat_of_lt (by omega)]
  by_cases h : a ≤ b
  · rw [if_pos h, decide_eq_true (by exact_mod_cast h)]; rfl
  · rw [if_neg h, decide_eq_false (by exact_mod_cast h)]; rfl

theorem select_ge {a b : ℕ} (ha : a < 2048) (hb : b < 2048) (p q : EReal) :
    Scalar.select (IntOp.cmpi CmpIPredicate.sge (BitVec.ofNat 32 a) (BitVec.ofNat 32 b)) p q = if b ≤ a then p else q := by
  rw [cmpi_sge_eq, toInt_ofNat_of_lt (by omega), toInt_ofNat_of_lt (by omega)]
  by_cases h : b ≤ a
  · rw [if_pos h, decide_eq_true (by exact_mod_cast h)]; rfl
  · rw [if_neg h, decide_eq_false (by exact_mod_cast h)]; rfl

/-- The last 512 keys of a tile, masked. -/
theorem tail_eq {o r x : ℕ} (hx : ¬ x < o) (hxo : x < 2048) (hr : r < 2048) (p q : EReal) (h : p = q) :
    Scalar.select (IntOp.cmpi CmpIPredicate.sle (BitVec.ofNat 32 (x - o)) (BitVec.ofNat 32 r)) p (Ideal.ofBits FTy.f32 0xFF800000#32) = if x ≤ o + r then q else ⊥ := by
  rw [neg_inf, select_le (by omega) hr, h]
  exact if_congr (by omega) rfl rfl

end Cert.Proof.Soft

end
-- ==== Proof.Attn.lean ====
module

public import proofs.«01_k».proof.Proof.Gen.KernelIdeal.Value
public import proofs.«01_k».proof.Proof.Gen.ReferenceIdeal.Run
public import proofs.«01_k».proof.Proof.Soft
public import proofs.«01_k».proof.Proof.Gen.Pre_logits_finite
public import Idealize.ShloMosaic.Lib.ReduceAll
public import Idealize.ShloMosaic.Lib.StableHlo.ReadAt
public import Idealize.ShloMosaic.Lib.WordCmp
public import Idealize.ShloMosaic.Lib.Pipeline.ReadBack
public import Idealize.ShloMosaic.Lib.Pipeline.Covers

@[expose] public section

set_option maxRecDepth 16384

noncomputable section

namespace Cert.Proof.Attn

open Idealize.ShloMosaic Idealize.ShloMosaic.TcCoe Idealize.SL.Sem
open Idealize.ShloMosaic.Pipeline (Dat)

/-- The masked logit of query `i` and key `k` in batch `b`, head `h`. -/
def logit (z : FVec Ideal ⟨2, ![8320, 8192]⟩ .f32) (c : FVec Ideal ⟨3, ![4, 16, 2048]⟩ .f32) (b : Fin 4) (h : Fin 16) (i k : Fin 2048) : EReal :=
  if k.val ≤ i.val then
    Ideal.div (∑ d : Fin 128, z (ix2 ⟨2048 * b.val + i.val, by omega⟩ ⟨128 * h.val + d.val, by omega⟩) * z (ix2 ⟨2048 * b.val + k.val, by omega⟩ ⟨2048 + (128 * h.val + d.val), by omega⟩))
      (Ideal.sqrt (Ideal.ofBits FTy.f32 0x43000000#32)) + c (ix3 b h i) - c (ix3 b h k)
  else ⊥

/-- The layer's attention at row `i`, column `j`: the softmax of the row's logits against the values, gated. -/
def out (z : FVec Ideal ⟨2, ![8320, 8192]⟩ .f32) (c : FVec Ideal ⟨3, ![4, 16, 2048]⟩ .f32) (i : Fin 8192) (j : Fin 2048) : EReal :=
  Soft.soft (logit z c ⟨i.val / 2048, by omega⟩ ⟨j.val / 128, by omega⟩ ⟨i.val % 2048, by omega⟩) (fun k => z (ix2 ⟨2048 * (i.val / 2048) + k.val, by omega⟩ ⟨4096 + j.val, by omega⟩))
    * Ideal.logistic (z (ix2 ⟨i.val, by omega⟩ ⟨6144 + j.val, by omega⟩))

theorem out_eq (z : FVec Ideal ⟨2, ![8320, 8192]⟩ .f32) (c : FVec Ideal ⟨3, ![4, 16, 2048]⟩ .f32) (i : Fin 8192) (j : Fin 2048) (b : Fin 4) (h : Fin 16) (r : Fin 2048)
    (hb : b.val = i.val / 2048) (hh : h.val = j.val / 128) (hr : r.val = i.val % 2048) :
    out z c i j = Soft.soft (logit z c b h r) (fun k => z (ix2 ⟨2048 * b.val + k.val, by omega⟩ ⟨4096 + j.val, by omega⟩)) * Ideal.logistic (z (ix2 ⟨i.val, by omega⟩ ⟨6144 + j.val, by omega⟩)) := by
  obtain ⟨b, _⟩ := b
  obtain ⟨h, _⟩ := h
  obtain ⟨r, _⟩ := r
  simp only at hb hh hr
  subst hb hh hr
  rfl

/-- The queries, the keys and the decays are real numbers. -/
def Reals (z : FVec Ideal ⟨2, ![8320, 8192]⟩ .f32) (c : FVec Ideal ⟨3, ![4, 16, 2048]⟩ .f32) : Prop :=
  (∀ (i : Fin 8320) (j : Fin 8192), i.val < 8192 → j.val < 4096 → (((z (ix2 i j)).toReal : ℝ) : EReal) = z (ix2 i j))
    ∧ ∀ (b : Fin 4) (h : Fin 16) (i : Fin 2048), (((c (ix3 b h i)).toReal : ℝ) : EReal) = c (ix3 b h i)

/-- A row of the kernel's softmax over the first `N` keys is the layer's over all of them. -/
theorem core {N : ℕ} (hN : N ≤ 2048) (z : FVec Ideal ⟨2, ![8320, 8192]⟩ .f32) (c : FVec Ideal ⟨3, ![4, 16, 2048]⟩ .f32) (F : Reals z c) (b : Fin 4) (h : Fin 16) (r : Fin 2048) (i : ℕ)
    (hi : i = r.val) (hr : r.val < N) (q : Fin 128 → EReal) (k : Fin N → Fin 128 → EReal) (v ck : Fin N → EReal) (cq : EReal) (V : Fin 2048 → EReal)
    (hq : ∀ d, q d = z (ix2 ⟨2048 * b.val + r.val, by omega⟩ ⟨128 * h.val + d.val, by omega⟩))
    (hk : ∀ x d, k x d = z (ix2 ⟨2048 * b.val + x.val, by omega⟩ ⟨2048 + (128 * h.val + d.val), by omega⟩))
    (hcq : cq = c (ix3 b h r) * Soft.log2e) (hck : ∀ x : Fin N, ck x = c (ix3 b h (Fin.castLE hN x))) (hv : ∀ x : Fin N, v x = V (Fin.castLE hN x)) :
    Soft.soft2 (fun x : Fin N => if x.val ≤ i then (∑ d, q d * k x d) * Soft.scale + cq - ck x * Soft.log2e else ⊥) v = Soft.soft (logit z c b h r) V := by
  subst hi
  rw [show v = fun x => V (Fin.castLE hN x) from funext hv]
  let Q : Fin 128 → ℝ := fun d => (z (ix2 ⟨2048 * b.val + r.val, by omega⟩ ⟨128 * h.val + d.val, by omega⟩)).toReal
  let K : Fin 2048 → Fin 128 → ℝ := fun x d => (z (ix2 ⟨2048 * b.val + x.val, by omega⟩ ⟨2048 + (128 * h.val + d.val), by omega⟩)).toReal
  let A : Fin 2048 → ℝ := fun x => (c (ix3 b h x)).toReal
  have hQ : ∀ d, (Q d : EReal) = z (ix2 ⟨2048 * b.val + r.val, by omega⟩ ⟨128 * h.val + d.val, by omega⟩) := fun d => F.1 _ _ (by simp only; omega) (by simp only; omega)
  have hK : ∀ x d, (K x d : EReal) = z (ix2 ⟨2048 * b.val + x.val, by omega⟩ ⟨2048 + (128 * h.val + d.val), by omega⟩) := fun x d => F.1 _ _ (by simp only; omega) (by simp only; omega)
  have hA : ∀ x, (A x : EReal) = c (ix3 b h x) := fun x => F.2 _ _ _
  refine Soft.soft2_eq hN r.val hr (fun x => (∑ d, Q d * K x d) * (Real.sqrt 128)⁻¹ + A r - A x) V _ _ (fun x => ?_) (fun x => ?_)
  · split
    · rw [← Soft.score2, hcq, hck, hA, hA]
      simp only [hQ, hK, hq, hk]
      rfl
    · rfl
  · unfold logit
    split
    · rw [← Soft.score, hA, hA]
      simp only [hQ, hK]
    · rfl

section Kernel
open Cert.KernelIdeal Cert.KernelIdeal.Gen

theorem named_log2e : Named.named (F := Ideal) κ "log2e" (φ := .f32) 0x3FB8AA3B#32 = Soft.log2e := IdealRules.named_const.ideal_named_scalar _ _ _ _ rfl
theorem named_scale : Named.named (F := Ideal) κ "scale_log2e" (φ := .f32) 0x3E0293EE#32 = Soft.scale := IdealRules.named_const.ideal_named_scalar _ _ _ _ rfl

theorem pay3_of (v41 : Vec Ideal S512x128 .f32) (v54 : Vec Ideal S512x128 .f32) (v56 : Vec Ideal S512x128 .f32) (v61 : Vec Ideal S512x128 .f32) (v64 : Vec Ideal S1x1x512 .f32) (v89 : Vec Ideal S512x128 .f32) (y : S512x128.Idx)
    (cq : EReal) (h : ∀ j : Fin 128, v61 (ix2 (y 0) j) = cq) :
    k0_pay3 v41 v54 v56 v61 v64 v89 y = Soft.soft2 (fun x : Fin 512 => if x.val ≤ (y 0).val then
      (∑ d : Fin 128, v41 (ix2 (y 0) d) * v54 (ix2 x d)) * Soft.scale + cq - v64 (ix3 0 0 x) * Soft.log2e else ⊥) (fun x => v56 (ix2 x (y 1))) * Ideal.logistic (v89 y) := by
  have hy : (y 0).val < 512 := (y 0).isLt
  unfold k0_pay3 k0_pay2
  dsimp only
  generalize e1 : (subf (addf _ _) _ : FVec Ideal S512x512 .f32) = s
  generalize e2 : (select _ _ _ : FVec Ideal S512x512 .f32) = w
  have hs : ∀ x : Fin 512, s (ix2 (y 0) x) = (∑ d : Fin 128, v41 (ix2 (y 0) d) * v54 (ix2 x d)) * Soft.scale + cq - v64 (ix3 0 0 x) * Soft.log2e := by
    intro x
    subst e1
    clear e2
    generalize e0 : (concatenate S512x512 1 _ _ : FVec Ideal S512x512 .f32) = u
    have hu : u (ix2 (y 0) x) = cq := by
      subst e0
      refine (concatenate_replicate_apply (1 : Fin S512x512.rank) 4 v61 _ rfl (ix2 (y 0) x) (ix2 (y 0) ⟨x.val % 128, Nat.mod_lt _ (by decide)⟩) rfl (fun b hb => ?_)).trans (h _)
      match b, hb with
      | 0, _ => rfl
      | 1, hb => exact absurd rfl hb
    pointwise
    simp only [hu]
    rw [named_log2e, named_scale]
  have hw : ∀ x : Fin 512, w (ix2 (y 0) x) = if x.val ≤ (y 0).val then s (ix2 (y 0) x) else ⊥ := by
    intro x
    subst e2
    clear e1
    pointwise
    exact (congrArg _ Soft.neg_inf).trans (Soft.select_le (x.isLt.trans (by decide)) (hy.trans (by decide)) _ _)
  pointwise
  simp only [Soft.neg_inf, hw, hs]
  rfl

theorem pay4_of (v41 : FVec Ideal S512x128 .bf16) (v54 : Vec Ideal S1024x128 .f32) (v56 : Vec Ideal S1024x128 .f32) (v61 : Vec Ideal S512x128 .f32) (v64 : Vec Ideal S1x1x1024 .f32) (v89 : Vec Ideal S512x128 .f32) (y : S512x128.Idx)
    (cq : EReal) (h : ∀ j : Fin 128, v61 (ix2 (y 0) j) = cq) :
    k0_pay4 v41 v54 v56 v61 v64 v89 y = Soft.soft2 (fun x : Fin 1024 => if x.val ≤ 512 + (y 0).val then
      (∑ d : Fin 128, v41 (ix2 (y 0) d) * v54 (ix2 x d)) * Soft.scale + cq - v64 (ix3 0 0 x) * Soft.log2e else ⊥) (fun x => v56 (ix2 x (y 1))) * Ideal.logistic (v89 y) := by
  have hy : (y 0).val < 512 := (y 0).isLt
  unfold k0_pay4
  dsimp only
  generalize e1 : (subf (addf _ _) _ : FVec Ideal S512x1024 .f32) = s
  generalize e2 : (concatenate S512x1024 1 _ _ : FVec Ideal S512x1024 .f32) = w
  have hs : ∀ x : Fin 1024, s (ix2 (y 0) x) = (∑ d : Fin 128, v41 (ix2 (y 0) d) * v54 (ix2 x d)) * Soft.scale + cq - v64 (ix3 0 0 x) * Soft.log2e := by
    intro x
    subst e1
    clear e2
    generalize e0 : (concatenate S512x1024 1 _ _ : FVec Ideal S512x1024 .f32) = u
    have hu : u (ix2 (y 0) x) = cq := by
      subst e0
      refine (concatenate_replicate_apply (1 : Fin S512x1024.rank) 8 v61 _ rfl (ix2 (y 0) x) (ix2 (y 0) ⟨x.val % 128, Nat.mod_lt _ (by decide)⟩) rfl (fun b hb => ?_)).trans (h _)
      match b, hb with
      | 0, _ => rfl
      | 1, hb => exact absurd rfl hb
    pointwise
    simp only [hu]
    rw [named_log2e, named_scale]
  have hw : ∀ x : Fin 1024, w (ix2 (y 0) x) = if x.val ≤ 512 + (y 0).val then s (ix2 (y 0) x) else ⊥ := by
    intro x
    subst e2
    clear e1
    pointwise
    split
    · exact (if_pos (by omega)).symm
    · exact Soft.tail_eq ‹_› (by omega) (hy.trans (by decide)) _ _ (congrArg (fun k : Fin 1024 => s (ix2 (y 0) k)) (Fin.ext (by show 512 + (x.val - 512) = x.val; omega)))
  pointwise
  simp only [Soft.neg_inf, hw, hs]
  rfl

theorem pay5_of (v41 : FVec Ideal S512x128 .bf16) (v54 : Vec Ideal S1536x128 .f32) (v56 : Vec Ideal S1536x128 .f32) (v61 : Vec Ideal S512x128 .f32) (v64 : Vec Ideal S1x1x1536 .f32) (v89 : Vec Ideal S512x128 .f32) (y : S512x128.Idx)
    (cq : EReal) (h : ∀ j : Fin 128, v61 (ix2 (y 0) j) = cq) :
    k0_pay5 v41 v54 v56 v61 v64 v89 y = Soft.soft2 (fun x : Fin 1536 => if x.val ≤ 1024 + (y 0).val then
      (∑ d : Fin 128, v41 (ix2 (y 0) d) * v54 (ix2 x d)) * Soft.scale + cq - v64 (ix3 0 0 x) * Soft.log2e else ⊥) (fun x => v56 (ix2 x (y 1))) * Ideal.logistic (v89 y) := by
  have hy : (y 0).val < 512 := (y 0).isLt
  unfold k0_pay5
  dsimp only
  generalize e1 : (subf (addf _ _) _ : FVec Ideal S512x1536 .f32) = s
  generalize e2 : (concatenate S512x1536 1 _ _ : FVec Ideal S512x1536 .f32) = w
  have hs : ∀ x : Fin 1536, s (ix2 (y 0) x) = (∑ d : Fin 128, v41 (ix2 (y 0) d) * v54 (ix2 x d)) * Soft.scale + cq - v64 (ix3 0 0 x) * Soft.log2e := by
    intro x
    subst e1
    clear e2
    generalize e0 : (concatenate S512x1536 1 _ _ : FVec Ideal S512x1536 .f32) = u
    have hu : u (ix2 (y 0) x) = cq := by
      subst e0
      refine (concatenate_replicate_apply (1 : Fin S512x1536.rank) 12 v61 _ rfl (ix2 (y 0) x) (ix2 (y 0) ⟨x.val % 128, Nat.mod_lt _ (by decide)⟩) rfl (fun b hb => ?_)).trans (h _)
      match b, hb with
      | 0, _ => rfl
      | 1, hb => exact absurd rfl hb
    pointwise
    simp only [hu]
    rw [named_log2e, named_scale]
  have hw : ∀ x : Fin 1536, w (ix2 (y 0) x) = if x.val ≤ 1024 + (y 0).val then s (ix2 (y 0) x) else ⊥ := by
    intro x
    subst e2
    clear e1
    pointwise
    split
    · exact (if_pos (by omega)).symm
    · exact Soft.tail_eq ‹_› (by omega) (hy.trans (by decide)) _ _ (congrArg (fun k : Fin 1536 => s (ix2 (y 0) k)) (Fin.ext (by show 1024 + (x.val - 1024) = x.val; omega)))
  pointwise
  simp only [Soft.neg_inf, hw, hs]
  rfl

theorem pay6_of (v41 : FVec Ideal S512x128 .bf16) (v54 : Vec Ideal S2048x128 .f32) (v56 : Vec Ideal S2048x128 .f32) (v61 : Vec Ideal S512x128 .f32) (v64 : Vec Ideal S1x1x2048 .f32) (v89 : Vec Ideal S512x128 .f32) (y : S512x128.Idx)
    (cq : EReal) (h : ∀ j : Fin 128, v61 (ix2 (y 0) j) = cq) :
    k0_pay6 v41 v54 v56 v61 v64 v89 y = Soft.soft2 (fun x : Fin 2048 => if x.val ≤ 1536 + (y 0).val then
      (∑ d : Fin 128, v41 (ix2 (y 0) d) * v54 (ix2 x d)) * Soft.scale + cq - v64 (ix3 0 0 x) * Soft.log2e else ⊥) (fun x => v56 (ix2 x (y 1))) * Ideal.logistic (v89 y) := by
  have hy : (y 0).val < 512 := (y 0).isLt
  unfold k0_pay6
  dsimp only
  generalize e1 : (subf (addf _ _) _ : FVec Ideal S512x2048 .f32) = s
  generalize e2 : (concatenate S512x2048 1 _ _ : FVec Ideal S512x2048 .f32) = w
  have hs : ∀ x : Fin 2048, s (ix2 (y 0) x) = (∑ d : Fin 128, v41 (ix2 (y 0) d) * v54 (ix2 x d)) * Soft.scale + cq - v64 (ix3 0 0 x) * Soft.log2e := by
    intro x
    subst e1
    clear e2
    generalize e0 : (concatenate S512x2048 1 _ _ : FVec Ideal S512x2048 .f32) = u
    have hu : u (ix2 (y 0) x) = cq := by
      subst e0
      refine (concatenate_replicate_apply (1 : Fin S512x2048.rank) 16 v61 _ rfl (ix2 (y 0) x) (ix2 (y 0) ⟨x.val % 128, Nat.mod_lt _ (by decide)⟩) rfl (fun b hb => ?_)).trans (h _)
      match b, hb with
      | 0, _ => rfl
      | 1, hb => exact absurd rfl hb
    pointwise
    simp only [hu]
    rw [named_log2e, named_scale]
  have hw : ∀ x : Fin 2048, w (ix2 (y 0) x) = if x.val ≤ 1536 + (y 0).val then s (ix2 (y 0) x) else ⊥ := by
    intro x
    subst e2
    clear e1
    pointwise
    split
    · exact (if_pos (by omega)).symm
    · exact Soft.tail_eq ‹_› (by omega) (hy.trans (by decide)) _ _ (congrArg (fun k : Fin 2048 => s (ix2 (y 0) k)) (Fin.ext (by show 1536 + (x.val - 1536) = x.val; omega)))
  pointwise
  simp only [Soft.neg_inf, hw, hs]
  rfl

variable (m : (ℓ : Loc nD τ sig) → Buf (Elt Ideal) ℓ)

theorem idx : ∀ t : Fin cfg0.N, win0_0.index t = ![t.val / 64 * 4 + t.val % 4, t.val / 4 % 16] ∧ win0_1.index t = ![t.val / 64, 16 + t.val / 4 % 16]
    ∧ win0_2.index t = ![t.val / 64, 32 + t.val / 4 % 16] ∧ win0_3.index t = ![t.val / 64 * 4 + t.val % 4, 48 + t.val / 4 % 16]
    ∧ win0_4.index t = ![t.val / 4, 0, t.val % 4] ∧ win0_5.index t = ![t.val / 4, 0, 0] ∧ win0_6.index t = ![t.val / 64 * 4 + t.val % 4, t.val / 4 % 16] :=
  (by decide +kernel : ∀ t : Fin grid0.N, _)

theorem lt (t : Fin cfg0.N) : t.val < 256 := t.isLt

/-- The prompt's row of row `r` of the queries' block at point `t`, and its column of column `l` of head's block. -/
def row (t : Fin cfg0.N) (r : Fin 512) : Fin 8192 := ⟨512 * (t.val / 64 * 4 + t.val % 4) + r.val, by have := lt t; omega⟩
def col (t : Fin cfg0.N) (l : Fin 128) : Fin 2048 := ⟨128 * (t.val / 4 % 16) + l.val, by omega⟩

theorem X0 (c : Dev nD) (t : Fin cfg0.N) (r : Fin 512) (l : Fin 128) :
    X0_0 m c t (ix2 r l) = m ((c : Thread nD τ).loc main_arg0) (ix2 ⟨(row t r).val, by omega⟩ ⟨(col t l).val, by omega⟩) := by
  unfold X0_0 Pipeline.Window.fill
  rw [dif_pos (moved0_0 t _)]
  blk_point [iblk, V, idx t, row, col]

theorem X1 (c : Dev nD) (t : Fin cfg0.N) (r : Fin 2048) (l : Fin 128) :
    X0_1 m c t (ix2 r l) = m ((c : Thread nD τ).loc main_arg0) (ix2 ⟨2048 * (t.val / 64) + r.val, by have := lt t; omega⟩ ⟨2048 + (col t l).val, by omega⟩) := by
  unfold X0_1 Pipeline.Window.fill
  rw [dif_pos (moved0_1 t _)]
  blk_point [iblk, V, idx t, col]

theorem X2 (c : Dev nD) (t : Fin cfg0.N) (r : Fin 2048) (l : Fin 128) :
    X0_2 m c t (ix2 r l) = m ((c : Thread nD τ).loc main_arg0) (ix2 ⟨2048 * (t.val / 64) + r.val, by have := lt t; omega⟩ ⟨4096 + (col t l).val, by omega⟩) := by
  unfold X0_2 Pipeline.Window.fill
  rw [dif_pos (moved0_2 t _)]
  blk_point [iblk, V, idx t, col]

theorem X3 (c : Dev nD) (t : Fin cfg0.N) (r : Fin 512) (l : Fin 128) :
    X0_3 m c t (ix2 r l) = m ((c : Thread nD τ).loc main_arg0) (ix2 ⟨(row t r).val, by omega⟩ ⟨6144 + (col t l).val, by omega⟩) := by
  unfold X0_3 Pipeline.Window.fill
  rw [dif_pos (moved0_3 t _)]
  blk_point [iblk, V, idx t, row, col]

theorem V0 (c : Dev nD) (p : Fin 64) (i : Fin 2048) : (V m c main_v0 : FVec Ideal S64x1x2048 .f32) (ix3 p 0 i)
    = (m ((c : Thread nD τ).loc main_arg1) : FVec Ideal S4x16x2048 .f32) (ix3 ⟨p.val / 16, by omega⟩ ⟨p.val % 16, by omega⟩ i) := by
  unfold V
  after_reads_at

theorem B4 (c : Dev nD) (t : Fin cfg0.N) (i : Fin 512) : iblk m c 4 t (ix3 0 0 i)
    = m ((c : Thread nD τ).loc main_arg1) (ix3 ⟨t.val / 64, by have := lt t; omega⟩ ⟨t.val / 4 % 16, by omega⟩ ⟨512 * (t.val % 4) + i.val, by omega⟩) := by
  have h : iblk m c 4 t (ix3 0 0 i) = (V m c main_v0 : S64x1x2048.Idx → EReal) (ix3 ⟨t.val / 4, by have := lt t; omega⟩ 0 ⟨512 * (t.val % 4) + i.val, by omega⟩) := by
    blk_point [iblk, idx t]
  refine h.trans ((V0 m c _ _).trans ?_)
  exact congrArg (m ((c : Thread nD τ).loc main_arg1)) (congrArg (fun b => ix3 b _ _) (Fin.ext (Nat.div_div_eq_div_mul _ 4 16)))

theorem B5 (c : Dev nD) (t : Fin cfg0.N) (i : Fin 2048) : iblk m c 5 t (ix3 0 0 i)
    = m ((c : Thread nD τ).loc main_arg1) (ix3 ⟨t.val / 64, by have := lt t; omega⟩ ⟨t.val / 4 % 16, by omega⟩ i) := by
  have h : iblk m c 5 t (ix3 0 0 i) = (V m c main_v0 : S64x1x2048.Idx → EReal) (ix3 ⟨t.val / 4, by have := lt t; omega⟩ 0 i) := by
    blk_point [iblk, idx t]
  refine h.trans ((V0 m c _ _).trans ?_)
  exact congrArg (m ((c : Thread nD τ).loc main_arg1)) (congrArg (fun b => ix3 b _ _) (Fin.ext (Nat.div_div_eq_div_mul _ 4 16)))

theorem E (t : Fin cfg0.N) (y : S512x128.Idx) : ((cfg0.win 6).blk t).view.emb y = ix2 (row t (y 0)) (col t (y 1)) := by
  blk_ext [idx t, row, col]

theorem pay1_7 (w : Vec Ideal S1x1x128 .f32) (z : S128x128.Idx) : k0_pay7 w z = w (ix3 0 0 (z 0)) * Soft.log2e := by
  pointwise [k0_pay7]
  rw [named_log2e]
theorem pay1_8 (w : Vec Ideal S1x1x128 .f32) (z : S128x128.Idx) : k0_pay8 w z = w (ix3 0 0 (z 0)) * Soft.log2e := by
  pointwise [k0_pay8]
  rw [named_log2e]
theorem pay1_9 (w : Vec Ideal S1x1x128 .f32) (z : S128x128.Idx) : k0_pay9 w z = w (ix3 0 0 (z 0)) * Soft.log2e := by
  pointwise [k0_pay9]
  rw [named_log2e]
theorem pay1_10 (w : Vec Ideal S1x1x128 .f32) (z : S128x128.Idx) : k0_pay1 (k0_pay10 w) (Named.named κ "log2e" 0x3FB8AA3B#32) z = w (ix3 0 0 (z 0)) * Soft.log2e := by
  pointwise [k0_pay1, k0_pay10]
  rw [named_log2e]

theorem ld3 {N n : Nat} (o : Nat) (w : (⟨3, ![1, 1, N]⟩ : Shape).Idx → EReal) (inb : ∀ a, (![0, 0, o] : Fin 3 → Nat) a + (![1, 1, n] : Fin 3 → Nat) a ≤ (![1, 1, N] : Fin 3 → Nat) a) (z : Fin n) (r : Fin N) (h : r.val = o + z.val) :
    View.ld (Val := Elt Ideal) (e' := .f32) w (Rect.unit (s := ⟨3, ![1, 1, N]⟩) ![0, 0, o] ![1, 1, n] inb) (ix3 0 0 z) = w (ix3 0 0 r) := by
  refine congrArg w (funext fun a => Fin.ext ?_)
  refine (ValueKit.rect_emb_unit_val _ _ _ _ _).trans ?_
  match a with
  | 0 => rfl
  | 1 => rfl
  | 2 => exact h.symm

theorem ld2 {N n : Nat} (w : (⟨2, ![N, 128]⟩ : Shape).Idx → EReal) (inb : ∀ a, (![0, 0] : Fin 2 → Nat) a + (![n, 128] : Fin 2 → Nat) a ≤ (![N, 128] : Fin 2 → Nat) a) (z : Fin n) (l : Fin 128) (r : Fin N) (h : r.val = z.val) :
    View.ld (Val := Elt Ideal) (e' := .f32) w (Rect.unit (s := ⟨2, ![N, 128]⟩) ![0, 0] ![n, 128] inb) (ix2 z l) = w (ix2 r l) := by
  refine congrArg w (funext fun a => Fin.ext ?_)
  refine (ValueKit.rect_emb_unit_val _ _ _ _ _).trans ?_
  match a with
  | 0 => exact (Nat.zero_add _).trans h.symm
  | 1 => exact Nat.zero_add _

/-- The scratch read back: every column holds the queries' decay in base two. -/
theorem cov (w : Vec Ideal S1x1x512 .f32) (r : Fin 512) (j : Fin 128) :
    ((View.whole cc0_scratch0).readCov (Val := Elt Ideal)
        [⟨Rect.unit ![384, 0] ![128, 128] inb_S512x128_S128x128_384_0, k0_pay1 (k0_pay10 (View.ld w (Rect.unit ![0, 0, 384] ![1, 1, 128] inb_S1x1x512_S1x1x128_0_0_384))) (Named.named κ "log2e" 0x3FB8AA3B#32)⟩,
         ⟨Rect.unit ![256, 0] ![128, 128] inb_S512x128_S128x128_256_0, k0_pay9 (View.ld w (Rect.unit ![0, 0, 256] ![1, 1, 128] inb_S1x1x512_S1x1x128_0_0_256))⟩,
         ⟨Rect.unit ![128, 0] ![128, 128] inb_S512x128_S128x128_128_0, k0_pay8 (View.ld w (Rect.unit ![0, 0, 128] ![1, 1, 128] inb_S1x1x512_S1x1x128_0_0_128))⟩,
         ⟨Rect.unit ![0, 0] ![128, 128] inb_S512x128_S128x128_0_0, k0_pay7 (View.ld w (Rect.unit ![0, 0, 0] ![1, 1, 128] inb_S1x1x512_S1x1x128_0_0_0))⟩]
        (Rect.unit (s := S512x128) ![0, 0] ![512, 128] inb_S512x128_S512x128_0_0).toLoadRect (ix2 r j) : EReal) = w (ix3 0 0 r) * Soft.log2e := by
  rw [View.readCov_eq_canon']
  show View.ld (View.canon _) (Rect.unit (s := S512x128) ![0, 0] ![512, 128] inb_S512x128_S512x128_0_0) (ix2 r j) = _
  rw [View.ld_unit_zero (by decide)]
  canon_tiles y h
  · exact (pay1_10 _ y).trans (congrArg (· * Soft.log2e) (ld3 384 w _ _ r h0))
  · exact (pay1_9 _ y).trans (congrArg (· * Soft.log2e) (ld3 256 w _ _ r h0))
  · exact (pay1_8 _ y).trans (congrArg (· * Soft.log2e) (ld3 128 w _ _ r h0))
  · exact (pay1_7 _ y).trans (congrArg (· * Soft.log2e) (ld3 0 w _ _ r (h0.trans (Nat.zero_add _).symm)))
theorem out_at (z : FVec Ideal ⟨2, ![8320, 8192]⟩ .f32) (a : FVec Ideal ⟨3, ![4, 16, 2048]⟩ .f32) (t : Fin cfg0.N) (r : Fin 512) (l : Fin 128) :
    out z a (row t r) (col t l) = Soft.soft (logit z a ⟨t.val / 64, by have := lt t; omega⟩ ⟨t.val / 4 % 16, by omega⟩ ⟨512 * (t.val % 4) + r.val, by omega⟩)
      (fun k => z (ix2 ⟨2048 * (t.val / 64) + k.val, by have := lt t; omega⟩ ⟨4096 + (col t l).val, by omega⟩)) * Ideal.logistic (z (ix2 ⟨(row t r).val, by omega⟩ ⟨6144 + (col t l).val, by omega⟩)) := by
  have := lt t
  exact out_eq z a (row t r) (col t l) ⟨t.val / 64, by omega⟩ ⟨t.val / 4 % 16, by omega⟩ ⟨512 * (t.val % 4) + r.val, by omega⟩
    (by simp only [row]; omega) (by simp only [col]; omega) (by simp only [row]; omega)

/-- One entry of the block at point `t`: the softmax over the first `N` keys of the blocks' entries, gated. -/
theorem point (c : Dev nD) (t : Fin cfg0.N) (r : Fin 512) (l : Fin 128) {N : ℕ} (hN : N ≤ 2048) (i : ℕ) (hi : i = 512 * (t.val % 4) + r.val) (hr : i < N)
    (F : Reals (m ((c : Thread nD τ).loc main_arg0)) (m ((c : Thread nD τ).loc main_arg1)))
    (q : Fin 128 → EReal) (k : Fin N → Fin 128 → EReal) (v ck : Fin N → EReal) (g c4 : EReal)
    (hq : ∀ d, q d = X0_0 m c t (ix2 r d)) (hg : g = X0_3 m c t (ix2 r l)) (h4 : c4 = iblk m c 4 t (ix3 0 0 r))
    (hk : ∀ x d, k x d = X0_1 m c t (ix2 (Fin.castLE hN x) d)) (hv : ∀ x, v x = X0_2 m c t (ix2 (Fin.castLE hN x) l)) (hck : ∀ x, ck x = iblk m c 5 t (ix3 0 0 (Fin.castLE hN x))) :
    Soft.soft2 (fun x : Fin N => if x.val ≤ i then (∑ d : Fin 128, q d * k x d) * Soft.scale + c4 * Soft.log2e - ck x * Soft.log2e else ⊥) v * Ideal.logistic g
      = out (m ((c : Thread nD τ).loc main_arg0)) (m ((c : Thread nD τ).loc main_arg1)) (row t r) (col t l) := by
  have := lt t
  refine Eq.trans ?_ (out_at _ _ t r l).symm
  refine congrArg₂ (· * ·) (core hN _ _ F ⟨t.val / 64, by omega⟩ ⟨t.val / 4 % 16, by omega⟩ ⟨512 * (t.val % 4) + r.val, by omega⟩ i hi (hi ▸ hr) q k v ck _ _ (fun d => ?_) (fun x d => ?_) (congrArg (· * Soft.log2e) (h4.trans (B4 m c t r))) (fun x => (hck x).trans (B5 m c t _)) (fun x => (hv x).trans (X2 m c t _ _))) (congrArg Ideal.logistic (hg.trans (X3 m c t r l)))
  · refine (hq d).trans ((X0 m c t r d).trans (congrArg (fun a => m ((c : Thread nD τ).loc main_arg0) (ix2 a _)) (Fin.ext ?_)))
    simp only [row]; omega
  · exact (hk x d).trans (X1 m c t _ d)

theorem covers : (cfg0.win 6).Covers := by
  refine (cfg0.win 6).covers_of_index_surj rfl (by decide) fun β => ?_
  have h0 : (β 0).val < 16 := (β 0).isLt
  have h1 : (β 1).val < 16 := (β 1).isLt
  refine ⟨(⟨(β 0).val / 4 * 64 + (β 1).val * 4 + (β 0).val % 4, by show _ < 256; omega⟩ : Fin cfg0.N), fun a => ?_⟩
  refine (congrFun (idx _).2.2.2.2.2.2 a).trans ?_
  match a with
  | 0 => show ((β 0).val / 4 * 64 + (β 1).val * 4 + (β 0).val % 4) / 64 * 4 + ((β 0).val / 4 * 64 + (β 1).val * 4 + (β 0).val % 4) % 4 = (β 0).val; omega
  | 1 => show ((β 0).val / 4 * 64 + (β 1).val * 4 + (β 0).val % 4) / 4 % 16 = (β 1).val; omega

theorem final6 (c : Dev nD) (F : Reals (m ((c : Thread nD τ).loc main_arg0)) (m ((c : Thread nD τ).loc main_arg1))) :
    (dats m 0 c).arrAt 6 (cfgs 0).N = fun i : S8192x2048.Idx => out (m ((c : Thread nD τ).loc main_arg0)) (m ((c : Thread nD τ).loc main_arg1)) (i 0) (i 1) := by
  refine (dats m 0 c).arrAt_eq_of_covers 6 _ covers fun t _ y => ?_
  have ht : t.val % 4 = 0 ∨ t.val % 4 = 1 ∨ t.val % 4 = 2 ∨ t.val % 4 = 3 := by omega
  have e := congrArg (fun i : S8192x2048.Idx => out (m ((c : Thread nD τ).loc main_arg0)) (m ((c : Thread nD τ).loc main_arg1)) (i 0) (i 1)) (E t y)
  have y0 : (y 0).val < 512 := (y 0).isLt
  obtain h | h | h | h := ht
  · blk_simp; rw [after0_6, outsAt0_A m c t (by omega) (by omega) (by omega) (by omega)]; frame_open
    simp (disch := decide) only [↓ View.readCov_skip, ↓ View.readCov_cons_toLoadRect, ↓ View.readCov_fill]
    frame_out
    refine Eq.trans ?_ e.symm
    refine (pay3_of _ _ _ _ _ _ y _ (fun j => cov (iblk m c 4 t) (y 0) j)).trans ?_
    refine point m c t (y 0) (y 1) (by decide : 512 ≤ 2048) (y 0).val (by omega) (by omega) F _ _ _ _ _ _ (fun d => rfl) (congrArg (X0_3 m c t) (eq_ix2 y)) rfl (fun x d => ?_) (fun x => ?_) (fun x => ?_)
    · exact ld2 (X0_1 m c t) _ x d _ rfl
    · exact ld2 (X0_2 m c t) _ x (y 1) _ rfl
    · exact ld3 0 (iblk m c 5 t) _ x _ (Nat.zero_add _).symm
  · blk_simp; rw [after0_6, outsAt0_B m c t (by omega) (by omega) (by omega) (by omega)]; frame_open
    simp (disch := decide) only [↓ View.readCov_skip, ↓ View.readCov_cons_toLoadRect, ↓ View.readCov_fill]
    frame_out
    refine Eq.trans ?_ e.symm
    refine (pay4_of _ _ _ _ _ _ y _ (fun j => cov (iblk m c 4 t) (y 0) j)).trans ?_
    refine point m c t (y 0) (y 1) (by decide : 1024 ≤ 2048) (512 + (y 0).val) (by omega) (by omega) F _ _ _ _ _ _ (fun d => rfl) (congrArg (X0_3 m c t) (eq_ix2 y)) rfl (fun x d => ?_) (fun x => ?_) (fun x => ?_)
    · exact ld2 (X0_1 m c t) _ x d _ rfl
    · exact ld2 (X0_2 m c t) _ x (y 1) _ rfl
    · exact ld3 0 (iblk m c 5 t) _ x _ (Nat.zero_add _).symm
  · blk_simp; rw [after0_6, outsAt0_C m c t (by omega) (by omega) (by omega) (by omega)]; frame_open
    simp (disch := decide) only [↓ View.readCov_skip, ↓ View.readCov_cons_toLoadRect, ↓ View.readCov_fill]
    frame_out
    refine Eq.trans ?_ e.symm
    refine (pay5_of _ _ _ _ _ _ y _ (fun j => cov (iblk m c 4 t) (y 0) j)).trans ?_
    refine point m c t (y 0) (y 1) (by decide : 1536 ≤ 2048) (1024 + (y 0).val) (by omega) (by omega) F _ _ _ _ _ _ (fun d => rfl) (congrArg (X0_3 m c t) (eq_ix2 y)) rfl (fun x d => ?_) (fun x => ?_) (fun x => ?_)
    · exact ld2 (X0_1 m c t) _ x d _ rfl
    · exact ld2 (X0_2 m c t) _ x (y 1) _ rfl
    · exact ld3 0 (iblk m c 5 t) _ x _ (Nat.zero_add _).symm
  · blk_simp; rw [after0_6, outsAt0_D m c t (by omega) (by omega) (by omega) (by omega)]; frame_open
    simp (disch := decide) only [↓ View.readCov_skip, ↓ View.readCov_cons_toLoadRect, ↓ View.readCov_fill]
    frame_out
    refine Eq.trans ?_ e.symm
    refine (pay6_of _ _ _ _ _ _ y _ (fun j => cov (iblk m c 4 t) (y 0) j)).trans ?_
    exact point m c t (y 0) (y 1) (le_refl 2048) (1536 + (y 0).val) (by omega) (by omega) F _ _ _ _ _ _ (fun d => rfl) (congrArg (X0_3 m c t) (eq_ix2 y)) rfl (fun x d => rfl) (fun x => rfl) (fun x => rfl)
end Kernel
section Pre
open Cert.Pre_logits_finite

theorem pos_inf : Ideal.ofBits FTy.f32 0x7F800000#32 = ⊤ := by
  simp [Ideal.ofBits, Ideal.ieee]

theorem real_of_lt (a : EReal) (h : Ideal.cmp .olt (max a (-a)) (Ideal.ofBits FTy.f32 0x7F800000#32) = 1#1) : ((a.toReal : ℝ) : EReal) = a := by
  have h := (Ideal.cmp_olt_eq_one _ _).1 h
  rw [pos_inf] at h
  refine EReal.coe_toReal (fun e => ?_) (fun e => ?_)
  · rw [e] at h; exact absurd h (by simp)
  · rw [e] at h; exact absurd h (by simp)

theorem reals [Facts] (z : FVec Ideal S8320x8192 .f32) (c : FVec Ideal S4x16x2048 .f32) (h : fn (F := Ideal) z c = fun _ => 1#1) : Reals z c := by
  have e := congrFun h (fun a => a.elim0)
  dsimp only [fn] at e
  obtain ⟨e1, e2⟩ := IntOp.andi_eq_one.1 e
  constructor
  · intro i j hi hj
    have e3 := Host.reduce_andi_all _ _ _ _ _ e1 (ix2 (⟨i.val, hi⟩ : Fin 8192) (⟨j.val, hj⟩ : Fin 4096))
    refine real_of_lt _ (Eq.trans ?_ e3)
    refine congrArg (fun x : EReal => Ideal.cmp .olt (max x (-x)) (Ideal.ofBits FTy.f32 0x7F800000#32)) (congrArg z ?_)
    funext a
    match a with
    | 0 => exact Fin.ext (Nat.zero_add _).symm
    | 1 => exact Fin.ext (Nat.zero_add _).symm
  · intro b h i
    exact real_of_lt _ (Host.reduce_andi_all _ _ _ _ _ e2 (ix3 b h i))
end Pre

section Reference
open Cert.ReferenceIdeal Cert.ReferenceIdeal.Gen

theorem inp (z : FVec Ideal S8320x8192 .f32) (b : Fin 4) (i : Fin 2048) (j : Fin 8192) :
    (shapeCast S4x2048x8192 (extractStridedSlice S8192x8192 ![0, 0] z slices_S8320x8192_S8192x8192_0_0) shapeCasts_S8192x8192_S4x2048x8192 : FVec Ideal S4x2048x8192 .f32) (ix3 b i j) = z (ix2 ⟨2048 * b.val + i.val, by omega⟩ j) := by
  pointwise
  exact congrArg (fun r => z (ix2 r j)) (Fin.ext (congrArg (· + i.val) (Nat.mul_comm _ _)))

theorem head_q (w : FVec Ideal S4x2048x8192 .f32) (b : Fin 4) (h : Fin 16) (i : Fin 2048) (d : Fin 128) :
    (transpose S4x16x2048x128 [0, 2, 1, 3] (shapeCast S4x2048x16x128 (extractStridedSlice S4x2048x2048 ![0, 0, 0] w slices_S4x2048x8192_S4x2048x2048_0_0_0) shapeCasts_S4x2048x2048_S4x2048x16x128) transposes_S4x2048x16x128_S4x16x2048x128_0_2_1_3 : FVec Ideal S4x16x2048x128 .f32) (ix4 b h i d) = w (ix3 b i ⟨0 + (128 * h.val + d.val), by omega⟩) := by
  pointwise
  exact congrArg (fun r => w (ix3 b i r)) (Fin.ext (by simp only; omega))

theorem head_k (w : FVec Ideal S4x2048x8192 .f32) (b : Fin 4) (h : Fin 16) (i : Fin 2048) (d : Fin 128) :
    (transpose S4x16x2048x128 [0, 2, 1, 3] (shapeCast S4x2048x16x128 (extractStridedSlice S4x2048x2048 ![0, 0, 2048] w slices_S4x2048x8192_S4x2048x2048_0_0_2048) shapeCasts_S4x2048x2048_S4x2048x16x128) transposes_S4x2048x16x128_S4x16x2048x128_0_2_1_3 : FVec Ideal S4x16x2048x128 .f32) (ix4 b h i d) = w (ix3 b i ⟨2048 + (128 * h.val + d.val), by omega⟩) := by
  pointwise
  exact congrArg (fun r => w (ix3 b i r)) (Fin.ext (by simp only; omega))

theorem head_v (w : FVec Ideal S4x2048x8192 .f32) (b : Fin 4) (h : Fin 16) (i : Fin 2048) (d : Fin 128) :
    (transpose S4x16x2048x128 [0, 2, 1, 3] (shapeCast S4x2048x16x128 (extractStridedSlice S4x2048x2048 ![0, 0, 4096] w slices_S4x2048x8192_S4x2048x2048_0_0_4096) shapeCasts_S4x2048x2048_S4x2048x16x128) transposes_S4x2048x16x128_S4x16x2048x128_0_2_1_3 : FVec Ideal S4x16x2048x128 .f32) (ix4 b h i d) = w (ix3 b i ⟨4096 + (128 * h.val + d.val), by omega⟩) := by
  pointwise
  exact congrArg (fun r => w (ix3 b i r)) (Fin.ext (by simp only; omega))

theorem logits (q k : FVec Ideal S4x16x2048x128 .f32) (a : FVec Ideal S4x16x2048 .f32) (b : Fin 4) (h : Fin 16) (i j : Fin 2048) :
    (select (broadcastInDim S4x16x2048x2048 ![2, 3] bcast_S2048x2048_S4x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (Host.divf (Host.dotGeneral dot_S4x16x2048x128_S4x16x2048x128_S4x16x2048x2048_3_3_2_2_01_01 none q k) (broadcastInDim S4x16x2048x2048 ![] bcast_S_S4x16x2048x2048 (Host.sqrt (constant S_ .f32 0x43000000#32)))) (broadcastInDim S4x16x2048x2048 ![0, 1, 2, 3] bcast_S4x16x2048x1_S4x16x2048x2048_0_1_2_3 (broadcastInDim S4x16x2048x1 ![0, 1, 2] bcast_S4x16x2048_S4x16x2048x1_0_1_2 a))) (broadcastInDim S4x16x2048x2048 ![0, 1, 2, 3] bcast_S4x16x1x2048_S4x16x2048x2048_0_1_2_3 (broadcastInDim S4x16x1x2048 ![0, 1, 3] bcast_S4x16x2048_S4x16x1x2048_0_1_3 a))) (broadcastInDim S4x16x2048x2048 ![] bcast_S_S4x16x2048x2048 (id (constant S_ .f32 0xFF800000#32))) : FVec Ideal S4x16x2048x2048 .f32) (ix4 b h i j) = if j.val ≤ i.val then Ideal.div (∑ d : Fin 128, q (ix4 b h i d) * k (ix4 b h j d)) (Ideal.sqrt (Ideal.ofBits FTy.f32 0x43000000#32)) + a (ix3 b h i) - a (ix3 b h j) else ⊥ := by
  pointwise
  refine (Soft.select_ge i.isLt j.isLt _ _).trans ?_
  rw [show id (constant S_ FTy.f32 0xFF800000#32 : FVec Ideal S_ .f32) ix0 = ⊥ from Soft.neg_inf]

theorem top (u : FVec Ideal S4x16x2048x2048 .f32) (b : Fin 4) (h : Fin 16) (i : Fin 2048) :
    (Host.reduce FloatOps.maximumf u (constant S_ .f32 0xFF800000#32) reducesTo_S4x16x2048x2048_S4x16x2048_d3 h_S_ : FVec Ideal S4x16x2048 .f32) (ix3 b h i) = Finset.fold max (Ideal.ofBits FTy.f32 0xFF800000#32) (fun x : Fin 2048 => u (ix4 b h i x)) Finset.univ := by
  pointwise

theorem weights (u : FVec Ideal S4x16x2048x2048 .f32) (M : FVec Ideal S4x16x2048 .f32) (b : Fin 4) (h : Fin 16) (i j : Fin 2048) :
    (Host.exp (subf u (broadcastInDim S4x16x2048x2048 ![0, 1, 2, 3] bcast_S4x16x2048x1_S4x16x2048x2048_0_1_2_3 (broadcastInDim S4x16x2048x1 ![0, 1, 2] bcast_S4x16x2048_S4x16x2048x1_0_1_2 (maximumf (broadcastInDim S4x16x2048 ![] bcast_S_S4x16x2048 (constant S_ .f32 0xFF800000#32)) M)))) : FVec Ideal S4x16x2048x2048 .f32) (ix4 b h i j) = Ideal.exp (u (ix4 b h i j) - max (Ideal.ofBits FTy.f32 0xFF800000#32) (M (ix3 b h i))) := by
  pointwise

theorem normed (p : FVec Ideal S4x16x2048x2048 .f32) (b : Fin 4) (h : Fin 16) (i j : Fin 2048) :
    (Host.divf p (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd p (constant S_ .f32 0x00000000#32) reducesTo_S4x16x2048x2048_S4x16x2048_d3 h_S_))) : FVec Ideal S4x16x2048x2048 .f32) (ix4 b h i j) = Ideal.div (p (ix4 b h i j)) (∑ x : Fin 2048, p (ix4 b h i x)) := by
  pointwise

theorem gated (s : FVec Ideal S4x16x2048x2048 .f32) (v : FVec Ideal S4x16x2048x128 .f32) (w : FVec Ideal S4x2048x8192 .f32) (i : Fin 8192) (j : Fin 2048) :
    (truncf .bf16 (shapeCast S8192x2048 (mulf (shapeCast S4x2048x2048 (transpose S4x2048x16x128 [0, 2, 1, 3] (Host.dotGeneral dot_S4x16x2048x2048_S4x16x2048x128_S4x16x2048x128_3_2_2_3_01_01 none s v) transposes_S4x16x2048x128_S4x2048x16x128_0_2_1_3) shapeCasts_S4x2048x16x128_S4x2048x2048) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, 6144] w slices_S4x2048x8192_S4x2048x2048_0_0_6144)))))) shapeCasts_S4x2048x2048_S8192x2048) bitsLt_bf16_f32 : FVec Ideal S8192x2048 .bf16) (ix2 i j)
      = (∑ x : Fin 2048, s (ix4 ⟨i.val / 2048, by omega⟩ ⟨j.val / 128, by omega⟩ ⟨i.val % 2048, by omega⟩ x) * v (ix4 ⟨i.val / 2048, by omega⟩ ⟨j.val / 128, by omega⟩ x ⟨j.val % 128, by omega⟩))
        * Ideal.logistic (w (ix3 ⟨i.val / 2048, by omega⟩ ⟨i.val % 2048, by omega⟩ ⟨6144 + j.val, by omega⟩)) := by
  pointwise
  rfl

/-- The reference's stages, put together. -/
theorem stages (z : FVec Ideal S8320x8192 .f32) (a : FVec Ideal S4x16x2048 .f32) (w : FVec Ideal S4x2048x8192 .f32) (q k v : FVec Ideal S4x16x2048x128 .f32) (u p s : FVec Ideal S4x16x2048x2048 .f32) (M : FVec Ideal S4x16x2048 .f32)
    (hw : ∀ (b : Fin 4) (i : Fin 2048) (j : Fin 8192), w (ix3 b i j) = z (ix2 ⟨2048 * b.val + i.val, by omega⟩ j))
    (hq : ∀ (b : Fin 4) (h : Fin 16) (i : Fin 2048) (d : Fin 128), q (ix4 b h i d) = w (ix3 b i ⟨0 + (128 * h.val + d.val), by omega⟩))
    (hk : ∀ (b : Fin 4) (h : Fin 16) (i : Fin 2048) (d : Fin 128), k (ix4 b h i d) = w (ix3 b i ⟨2048 + (128 * h.val + d.val), by omega⟩))
    (hv : ∀ (b : Fin 4) (h : Fin 16) (i : Fin 2048) (d : Fin 128), v (ix4 b h i d) = w (ix3 b i ⟨4096 + (128 * h.val + d.val), by omega⟩))
    (hu : ∀ (b : Fin 4) (h : Fin 16) (i j : Fin 2048), u (ix4 b h i j) = if j.val ≤ i.val then Ideal.div (∑ d : Fin 128, q (ix4 b h i d) * k (ix4 b h j d)) (Ideal.sqrt (Ideal.ofBits FTy.f32 0x43000000#32)) + a (ix3 b h i) - a (ix3 b h j) else ⊥)
    (hM : ∀ (b : Fin 4) (h : Fin 16) (i : Fin 2048), M (ix3 b h i) = Finset.fold max (Ideal.ofBits FTy.f32 0xFF800000#32) (fun x : Fin 2048 => u (ix4 b h i x)) Finset.univ)
    (hp : ∀ (b : Fin 4) (h : Fin 16) (i j : Fin 2048), p (ix4 b h i j) = Ideal.exp (u (ix4 b h i j) - max (Ideal.ofBits FTy.f32 0xFF800000#32) (M (ix3 b h i))))
    (hs : ∀ (b : Fin 4) (h : Fin 16) (i j : Fin 2048), s (ix4 b h i j) = Ideal.div (p (ix4 b h i j)) (∑ x : Fin 2048, p (ix4 b h i x)))
    (i : Fin 8192) (j : Fin 2048) :
    (∑ x : Fin 2048, s (ix4 ⟨i.val / 2048, by omega⟩ ⟨j.val / 128, by omega⟩ ⟨i.val % 2048, by omega⟩ x) * v (ix4 ⟨i.val / 2048, by omega⟩ ⟨j.val / 128, by omega⟩ x ⟨j.val % 128, by omega⟩))
        * Ideal.logistic (w (ix3 ⟨i.val / 2048, by omega⟩ ⟨i.val % 2048, by omega⟩ ⟨6144 + j.val, by omega⟩)) = out z a i j := by
  have eu : ∀ (b : Fin 4) (h : Fin 16) (i j : Fin 2048), u (ix4 b h i j) = logit z a b h i j := by
    intro b h i j
    rw [hu]
    unfold logit
    refine if_congr Iff.rfl ?_ rfl
    refine congrArg (fun x : EReal => Ideal.div x _ + _ - _) (Finset.sum_congr rfl fun d _ => ?_)
    rw [hq, hk, hw, hw]
    exact congrArg (fun n => z (ix2 _ n) * _) (Fin.ext (Nat.zero_add _))
  have ep : ∀ (b : Fin 4) (h : Fin 16) (i j : Fin 2048), p (ix4 b h i j) = Ideal.exp (logit z a b h i j - Finset.fold max ⊥ (logit z a b h i) Finset.univ) := by
    intro b h i j
    rw [hp, hM, eu, Soft.neg_inf, max_eq_right bot_le]
    exact congrArg (fun f : Fin 2048 → EReal => Ideal.exp (_ - Finset.fold max ⊥ f Finset.univ)) (funext fun x => eu b h i x)
  unfold out Soft.soft
  refine congrArg₂ (· * ·) (Finset.sum_congr rfl fun x _ => ?_) (congrArg Ideal.logistic ?_)
  · rw [hs, hv, hw, ep]
    simp only [ep]
    exact congrArg (fun n => _ * z (ix2 _ n)) (Fin.ext (by simp only; omega))
  · rw [hw]
    exact congrArg (fun n => z (ix2 n _)) (Fin.ext (by simp only; omega))

theorem ref (m : (ℓ : Loc nD τ sig) → Buf (Elt Ideal) ℓ) (c : Dev nD) (i : S8192x2048.Idx) :
    (Cert.ReferenceIdeal.Value.res_main_v51 m c : FVec Ideal S8192x2048 .bf16) i = out (m ((c.tc : Thread nD τ).loc main_arg0)) (m ((c.tc : Thread nD τ).loc main_arg1)) (i 0) (i 1) := by
  unfold Cert.ReferenceIdeal.Value.res_main_v51
  refine (congrArg _ (eq_ix2 i)).trans ((gated _ _ _ (i 0) (i 1)).trans (stages _ _ _ _ _ _ _ _ _ _ (inp _) (head_q _) (head_k _) (head_v _) (logits _ _ _) (top _) (weights _ _) (normed _) (i 0) (i 1)))
end Reference

end Cert.Proof.Attn

end
-- ==== Proof.Mix.lean ====
module

public import proofs.«01_k».proof.Proof.Gen.Kernel6Ideal.Value
public import proofs.«01_k».proof.Proof.Gen.Reference6Ideal.Run
public import proofs.«01_k».proof.Proof.Ln
public import Idealize.ShloMosaic.Lib.Pipeline.ValueKit

@[expose] public section

set_option maxRecDepth 16384

noncomputable section

namespace Cert.Proof.Mix

open Idealize.ShloMosaic Idealize.ShloMosaic.TcCoe Idealize.SL.Sem
open Idealize.ShloMosaic.Pipeline (Dat)
open Cert.Proof.Ln (norm)

/-- The residual sum at row `i` and column `j`: the scaled input and the mixer's projected output. -/
def upd (y16 : FVec Ideal ⟨2, ![8320, 2048]⟩ .bf16) (w : FVec Ideal ⟨2, ![2048, 2048]⟩ .f32) (x : FVec Ideal ⟨2, ![8320, 2048]⟩ .f32)
    (i : Fin 8320) (j : Fin 2048) : EReal :=
  Ideal.ofBits FTy.f32 1068827891#32 * x (ix2 i j) +
    ∑ k : Fin 2048, y16 (ix2 i k) * w (ix2 k j)

/-- The layer norm of every row of the residual sum. -/
def out (y16 : FVec Ideal ⟨2, ![8320, 2048]⟩ .bf16) (w : FVec Ideal ⟨2, ![2048, 2048]⟩ .f32) (x : FVec Ideal ⟨2, ![8320, 2048]⟩ .f32)
    (g b : FVec Ideal ⟨3, ![2, 3, 2048]⟩ .f32) : FVec Ideal ⟨2, ![8320, 2048]⟩ .f32 := fun i =>
  norm (upd y16 w x (i 0)) (g (ix3 0 1 (i 1))) (b (ix3 0 1 (i 1))) (i 1)

theorem out_ix2 (y16 : FVec Ideal ⟨2, ![8320, 2048]⟩ .bf16) (w : FVec Ideal ⟨2, ![2048, 2048]⟩ .f32) (x : FVec Ideal ⟨2, ![8320, 2048]⟩ .f32)
    (g b : FVec Ideal ⟨3, ![2, 3, 2048]⟩ .f32) (i : Fin 8320) (j : Fin 2048) :
    out y16 w x g b (ix2 i j) = norm (upd y16 w x i) (g (ix3 0 1 j)) (b (ix3 0 1 j)) j := rfl

section Kernel
open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The array's row of row `r` of the block at point `t`. -/
def row (t : Fin cfg0.N) (r : Fin 320) : Fin 8320 := ⟨320 * t.val + r.val, by have : t.val < 26 := t.isLt; omega⟩

theorem pay (v0 : Vec Ideal S320x2048 .bf16) (v1 : Vec Ideal S2048x2048 .bf16) (v4 : Vec Ideal S320x2048 .f32)
    (v26 : Vec Ideal S1x2048 .f32) (v30 : Vec Ideal S1x2048 .f32) (y : S320x2048.Idx) :
    k0_pay1 v0 v1 v4 v26 v30 y = norm (fun j => Ideal.ofBits FTy.f32 1068827891#32 * v4 (ix2 (y 0) j) +
              ∑ x, v0 (ix2 (y 0) x) * v1 (ix2 x j)) (v26 (ix2 0 (y 1))) (v30 (ix2 0 (y 1))) (y 1) := by
  pointwise [k0_pay1, Ln.norm]

theorem pay_of (v0 : Vec Ideal S320x2048 .bf16) (v1 : Vec Ideal S2048x2048 .bf16) (v4 : Vec Ideal S320x2048 .f32)
    (v26 : Vec Ideal S1x2048 .f32) (v30 : Vec Ideal S1x2048 .f32)
    (y16 : FVec Ideal ⟨2, ![8320, 2048]⟩ .bf16) (w : FVec Ideal ⟨2, ![2048, 2048]⟩ .f32) (x : FVec Ideal ⟨2, ![8320, 2048]⟩ .f32)
    (g b : FVec Ideal ⟨3, ![2, 3, 2048]⟩ .f32) (i : Fin 8320) (y : S320x2048.Idx)
    (h0 : ∀ k : Fin 2048, v0 (ix2 (y 0) k) = y16 (ix2 i k)) (h1 : ∀ (k : Fin 2048) (j : Fin 2048), v1 (ix2 k j) = w (ix2 k j))
    (h2 : ∀ j : Fin 2048, v4 (ix2 (y 0) j) = x (ix2 i j)) (h3 : v26 (ix2 0 (y 1)) = g (ix3 0 1 (y 1))) (h4 : v30 (ix2 0 (y 1)) = b (ix3 0 1 (y 1))) :
    k0_pay1 v0 v1 v4 v26 v30 y = out y16 w x g b (ix2 i (y 1)) := by
  refine (pay _ _ _ _ _ y).trans (Eq.trans ?_ (out_ix2 _ _ _ _ _ _ _).symm)
  have h : (fun j => Ideal.ofBits FTy.f32 1068827891#32 * v4 (ix2 (y 0) j) +
          ∑ x : Fin 2048, v0 (ix2 (y 0) x) * v1 (ix2 x j)) = upd y16 w x i := by
    funext j
    unfold upd
    rw [h2 j]
    simp only [h0, h1]
  rw [h, h3, h4]

theorem B0 (c : Dev nD) (t : Fin cfg0.N) (r : Fin 320) (k : Fin 2048) :
    iblk m c 0 t (ix2 r k) = m ((c : Thread nD τ).loc main_arg0) (ix2 (row t r) k) := by
  blk_point [iblk, V, idx t, row]

theorem B1 (c : Dev nD) (t : Fin cfg0.N) (k : Fin 2048) (j : Fin 2048) :
    iblk m c 1 t (ix2 k j) = m ((c : Thread nD τ).loc main_arg1) (ix2 k j) := by
  blk_point [iblk, V, idx t, row]

theorem B2 (c : Dev nD) (t : Fin cfg0.N) (r : Fin 320) (j : Fin 2048) :
    iblk m c 2 t (ix2 r j) = m ((c : Thread nD τ).loc main_arg2) (ix2 (row t r) j) := by
  blk_point [iblk, V, idx t, row]

theorem B3 (c : Dev nD) (t : Fin cfg0.N) (j : Fin 2048) :
    iblk m c 3 t (ix2 0 j) = m ((c : Thread nD τ).loc main_arg3) (ix3 0 1 j) := by
  blk_point [iblk, V, idx t, row]

theorem B4 (c : Dev nD) (t : Fin cfg0.N) (j : Fin 2048) :
    iblk m c 4 t (ix2 0 j) = m ((c : Thread nD τ).loc main_arg4) (ix3 0 1 j) := by
  blk_point [iblk, V, idx t, row]

theorem E (t : Fin cfg0.N) (y : S320x2048.Idx) : ((cfg0.win 5).blk t).view.emb y = ix2 (row t (y 0)) (y 1) := by
  blk_ext [idx t, row]

theorem E6 (t : Fin cfg0.N) (y : S320x2048.Idx) : ((cfg0.win 6).blk t).view.emb y = ix2 (row t (y 0)) (y 1) := by
  blk_ext [idx t, row]

theorem point (c : Dev nD) (t : Fin cfg0.N) (y : S320x2048.Idx) : k0_pay1 (iblk m c 0 t) (iblk m c 1 t) (iblk m c 2 t) (iblk m c 3 t) (iblk m c 4 t) y
    = out (m ((c : Thread nD τ).loc main_arg0)) (m ((c : Thread nD τ).loc main_arg1)) (m ((c : Thread nD τ).loc main_arg2))
        (m ((c : Thread nD τ).loc main_arg3)) (m ((c : Thread nD τ).loc main_arg4)) (ix2 (row t (y 0)) (y 1)) := by
  exact pay_of _ _ _ _ _ _ _ _ _ _ _ y (B0 m c t _) (B1 m c t) (B2 m c t _) (B3 m c t _) (B4 m c t _)

theorem final5 (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp; rw [after0_5]; unfold out0_5; frame_out
  rw [E]
  exact point m c t y

theorem final6 (c : Dev nD) : (dats m 0 c).arrAt 6 (cfgs 0).N
    = (out (m ((c : Thread nD τ).loc main_arg0)) (m ((c : Thread nD τ).loc main_arg1)) (m ((c : Thread nD τ).loc main_arg2))
        (m ((c : Thread nD τ).loc main_arg3)) (m ((c : Thread nD τ).loc main_arg4)) : S8320x2048.Idx → EReal) := by
  refine (dats m 0 c).arrAt_eq_of_covers 6 _ (by decide +kernel) fun t _ y => ?_
  blk_simp; rw [after0_6]; unfold out0_6; frame_out
  rw [E6]
  exact point m c t y

end Kernel

section Reference
open Cert.Reference6Ideal Cert.Reference6Ideal.Gen Cert.Reference6Ideal.Value
variable (m : (ℓ : Loc nD τ sig) → Buf (Elt Ideal) ℓ)

theorem ref_z (a0 : FVec Ideal S8320x2048 .bf16) (a1 : FVec Ideal S2048x2048 .f32) (a2 : FVec Ideal S8320x2048 .f32) (i : S8320x2048.Idx) :
    (addf (mulf (broadcastInDim S8320x2048 ![] bcast_S_S8320x2048 (constant S_ .f32 0x3FB504F3#32)) a2) (Host.dotGeneral dot_S8320x2048_S2048x2048_S8320x2048_1_0_0_1_n_n none (extf .f32 a0 bitsLt_bf16_f32) a1) : FVec Ideal S8320x2048 .f32) i = upd a0 a1 a2 (i 0) (i 1) := by
  pointwise [upd]

theorem ref_n (h : Fin 8320 → Fin 2048 → EReal) (u : FVec Ideal S8320x2048 .f32) (a3 a4 : FVec Ideal S2x3x2048 .f32)
    (hu : ∀ i, u i = h (i 0) (i 1) - Ideal.div (∑ x, h (i 0) x) (Ideal.ofBits FTy.f32 1157627904#32)) (i : S8320x2048.Idx) :
    (addf (mulf (mulf u (broadcastInDim S8320x2048 ![0, 1] bcast_S8320x1_S8320x2048_0_1 (Host.rsqrt (addf (Host.divf (broadcastInDim S8320x1 ![0] bcast_S8320_S8320x1_0 (Host.reduceAdd (mulf u u) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 (broadcastInDim S1x2048 ![1] bcast_S2048_S1x2048_1 (shapeCast S2048 (extractStridedSlice S1x1x2048 ![0, 1, 0] a3 slices_S2x3x2048_S1x1x2048_0_1_0) shapeCasts_S1x1x2048_S2048)))) (broadcastInDim S8320x2048 ![0, 1] bcast_S1x2048_S8320x2048_0_1 (broadcastInDim S1x2048 ![1] bcast_S2048_S1x2048_1 (shapeCast S2048 (extractStridedSlice S1x1x2048 ![0, 1, 0] a4 slices_S2x3x2048_S1x1x2048_0_1_0) shapeCasts_S1x1x2048_S2048))) : FVec Ideal S8320x2048 .f32) i = norm (h (i 0)) (a3 (ix3 0 1 (i 1))) (a4 (ix3 0 1 (i 1))) (i 1) := by
  pointwise [Ln.norm, hu]

theorem ref (a0 : FVec Ideal S8320x2048 .bf16) (a1 : FVec Ideal S2048x2048 .f32) (a2 : FVec Ideal S8320x2048 .f32) (a3 a4 : FVec Ideal S2x3x2048 .f32)
    (z : FVec Ideal S8320x2048 .f32) (hz : z = addf (mulf (broadcastInDim S8320x2048 ![] bcast_S_S8320x2048 (constant S_ .f32 0x3FB504F3#32)) a2) (Host.dotGeneral dot_S8320x2048_S2048x2048_S8320x2048_1_0_0_1_n_n none (extf .f32 a0 bitsLt_bf16_f32) a1)) (i : S8320x2048.Idx) :
    (addf (mulf (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (broadcastInDim S8320x2048 ![0, 1] bcast_S8320x1_S8320x2048_0_1 (Host.rsqrt (addf (Host.divf (broadcastInDim S8320x1 ![0] bcast_S8320_S8320x1_0 (Host.reduceAdd (mulf (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32))))) (subf z (broadcastInDim S8320x2048 ![0, 1] bcast_S8320x1_S8320x2048_0_1 (Host.divf (broadcastInDim S8320x1 ![0] bcast_S8320_S8320x1_0 (Host.reduceAdd z (constant S_ .f32 0x00000000#32) reducesTo_S8320x2048_S8320_d1 h_S_)) (broadcastInDim S8320x1 ![] bcast_S_S8320x1 (constant S_ .f32 0x45000000#32)))))) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x3727C5AC#32)))))) (broadcastInDim S8320x2048 ![0, 1] bcast_S1x2048_S8320x2048_0_1 (broadcastInDim S1x2048 ![1] bcast_S2048_S1x2048_1 (shapeCast S2048 (extractStridedSlice S1x1x2048 ![0, 1, 0] a3 slices_S2x3x2048_S1x1x2048_0_1_0) shapeCasts_S1x1x2048_S2048)))) (broadcastInDim S8320x2048 ![0, 1] bcast_S1x2048_S8320x2048_0_1 (broadcastInDim S1x2048 ![1] bcast_S2048_S1x2048_1 (shapeCast S2048 (extractStridedSlice S1x1x2048 ![0, 1, 0] a4 slices_S2x3x2048_S1x1x2048_0_1_0) shapeCasts_S1x1x2048_S2048))) : FVec Ideal S8320x2048 .f32) i = out a0 a1 a2 a3 a4 i := by
  have h : ∀ i, z i = upd a0 a1 a2 (i 0) (i 1) := fun i => (congrFun hz i).trans (ref_z _ _ _ i)
  exact ref_n (upd _ _ _) _ _ _ (Ln.ref_u _ _ h) i

end Reference

end Cert.Proof.Mix

end
-- ==== Proof.Inp.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.ReadAt

@[expose] public section

set_option maxRecDepth 16384

noncomputable section

/-! The mLSTM's input projection: one product, its k columns scaled. -/

namespace Cert.Proof.Inp

open Idealize.ShloMosaic Idealize.ShloMosaic.TcCoe Idealize.SL.Sem
open Idealize.ShloMosaic.Pipeline (Dat)

/-- The scale of column `j`: that of k in the columns 1024 to 2047, one elsewhere. -/
def scale (j : Nat) : EReal := if j < 1024 then 1 else if j - 1024 < 1024 then Ideal.ofBits FTy.f32 0x3DB504F3#32 else 1

/-- The projection of row `i` at column `j`. -/
def out (x : FVec Ideal ⟨2, ![8320, 2048]⟩ .f32) (w : FVec Ideal ⟨2, ![2048, 6160]⟩ .f32) (i : Fin 8320) (j : Fin 6144) : EReal :=
  (∑ k : Fin 2048, x (ix2 i k) * w (ix2 k ⟨j.val, by omega⟩)) * scale j.val

section Kernel
open Cert.Kernel7Ideal Cert.Kernel7Ideal.Gen

variable (m : (ℓ : Loc nD τ sig) → Buf (Elt Ideal) ℓ)

theorem idx : ∀ t : Fin cfg0.N, win0_0.index t = ![t.val / 12, 0] ∧ win0_1.index t = ![t.val % 12, 0]
    ∧ win0_2.index t = ![0, t.val % 12] ∧ win0_3.index t = ![t.val / 12, t.val % 12] :=
  (by decide +kernel : ∀ t : Fin grid0.N, _)

/-- The array's row of row `r` of the block at point `t`. -/
def row (t : Fin cfg0.N) (r : Fin 1664) : Fin 8320 := ⟨1664 * (t.val / 12) + r.val, by have : t.val < 60 := t.isLt; omega⟩

/-- The array's column of column `j` of the block at point `t`. -/
def col (t : Fin cfg0.N) (j : Fin 512) : Fin 6144 := ⟨512 * (t.val % 12) + j.val, by omega⟩

theorem B0 (c : Dev nD) (t : Fin cfg0.N) (r : Fin 1664) (k : Fin 2048) :
    iblk m c 0 t (ix2 r k) = m ((c : Thread nD τ).loc main_arg0) (ix2 (row t r) k) := by
  blk_point [iblk, V, idx t, row]

theorem X1 (c : Dev nD) (t : Fin cfg0.N) (j : Fin 512) (k : Fin 2048) :
    X0_1 m c t (ix2 j k) = m ((c : Thread nD τ).loc main_arg1) (ix2 k ⟨(col t j).val, by have := (col t j).isLt; omega⟩) := by
  unfold X0_1 Pipeline.Window.fill
  rw [dif_pos (moved0_1 t _)]
  blk_point [iblk, V, idx t, col]

theorem cols (j : Fin 6144) :
    (shapeCast S1x6144 (concatenate S6144 0 [⟨S1024, broadcastInDim S1024 ![] bcast_S_S1024 (constant S_ .f32 0x3F800000#32)⟩, ⟨S1024, broadcastInDim S1024 ![] bcast_S_S1024 (constant S_ .f32 0x3DB504F3#32)⟩, ⟨S4096, broadcastInDim S4096 ![] bcast_S_S4096 (constant S_ .f32 0x3F800000#32)⟩] concatenates_S1024_S1024_S4096_S6144_d0) shapeCasts_S6144_S1x6144 : FVec Ideal S1x6144 .f32) (ix2 0 j) = scale j.val := by
  pointwise [scale]
  rfl

theorem V2 (c : Dev nD) (j : Fin 6144) : (V m c main_v6 : FVec Ideal S1x6144 .f32) (ix2 0 j) = scale j.val := by
  have h0 : StableHlo.upto hostOps0 (fun b => m (c, b)) 6 (Proc.tc.devRef main_v0) = (broadcastInDim S1024 ![] bcast_S_S1024 (constant S_ .f32 0x3F800000#32) : FVec Ideal S1024 .f32) := by
    after_reads_simp
  have h1 : StableHlo.upto hostOps0 (fun b => m (c, b)) 6 (Proc.tc.devRef main_v1) = (broadcastInDim S1024 ![] bcast_S_S1024 (constant S_ .f32 0x3DB504F3#32) : FVec Ideal S1024 .f32) := by
    after_reads_simp
  have h2 : StableHlo.upto hostOps0 (fun b => m (c, b)) 6 (Proc.tc.devRef main_v2) = (broadcastInDim S4096 ![] bcast_S_S4096 (constant S_ .f32 0x3F800000#32) : FVec Ideal S4096 .f32) := by
    after_reads_simp
  unfold V
  after_reads_simp
  refine Eq.trans ?_ (cols j)
  rw [← h0, ← h1, ← h2]
  rfl

theorem B2 (c : Dev nD) (t : Fin cfg0.N) (j : Fin 512) : iblk m c 2 t (ix2 0 j) = scale (col t j).val := by
  have h : iblk m c 2 t (ix2 0 j) = (V m c main_v6 : S1x6144.Idx → EReal) (ix2 0 (col t j)) := by
    blk_point [iblk, idx t, col]
  exact h.trans (V2 m c _)

theorem E (t : Fin cfg0.N) (y : S1664x512.Idx) : ((cfg0.win 3).blk t).view.emb y = ix2 (row t (y 0)) (col t (y 1)) := by
  blk_ext [idx t, row, col]

theorem pay_of (v0 : Vec Ideal S1664x2048 .bf16) (v2 : Vec Ideal S512x2048 .f32) (v6 : Vec Ideal S1x512 .f32) (y : S1664x512.Idx)
    (x : FVec Ideal ⟨2, ![8320, 2048]⟩ .f32) (w : FVec Ideal ⟨2, ![2048, 6160]⟩ .f32) (i : Fin 8320) (j : Fin 6144)
    (h0 : ∀ k : Fin 2048, v0 (ix2 (y 0) k) = x (ix2 i k)) (h1 : ∀ k : Fin 2048, v2 (ix2 (y 1) k) = w (ix2 k ⟨j.val, by omega⟩))
    (h2 : v6 (ix2 0 (y 1)) = scale j.val) : k0_pay1 v0 v2 v6 y = out x w i j := by
  have e : k0_pay1 v0 v2 v6 y = (∑ k : Fin 2048, v0 (ix2 (y 0) k) * v2 (ix2 (y 1) k)) * v6 (ix2 0 (y 1)) := by
    pointwise [k0_pay1]
  rw [e, h2]
  unfold out
  simp only [h0, h1]

theorem final3 (c : Dev nD) : (dats m 0 c).arrAt 3 (cfgs 0).N
    = fun i : S8320x6144.Idx => out (m ((c : Thread nD τ).loc main_arg0)) (m ((c : Thread nD τ).loc main_arg1)) (i 0) (i 1) := by
  refine (dats m 0 c).arrAt_eq_of_covers 3 _ (by decide +kernel) fun t _ y => ?_
  blk_simp; rw [after0_3]; unfold outsAt0; frame_out
  rw [E]
  exact pay_of _ _ _ y _ _ _ _ (B0 m c t _) (X1 m c t _) (B2 m c t _)

end Kernel

section Reference
open Cert.Reference7Ideal Cert.Reference7Ideal.Gen

theorem ref_u (a0 : FVec Ideal S8320x2048 .f32) (a1 : FVec Ideal S2048x6160 .f32) (i : S8320x6144.Idx) :
    (Host.dotGeneral dot_S8320x2048_S2048x6144_S8320x6144_1_0_0_1_n_n none a0 (extractStridedSlice S2048x6144 ![0, 0] a1 slices_S2048x6160_S2048x6144_0_0) : FVec Ideal S8320x6144 .f32) i = ∑ k : Fin 2048, a0 (ix2 (i 0) k) * a1 (ix2 k ⟨(i 1).val, (i 1).isLt.trans (by decide)⟩) := by
  pointwise

/-- Four pieces of one product, the second scaled. -/
theorem ref_c (u : FVec Ideal S8320x6144 .f32) (r : Fin 8320) (j : Fin 6144) :
    (concatenate S8320x6144 1 [⟨S8320x1024, (extractStridedSlice S8320x1024 ![0, 0] u slices_S8320x6144_S8320x1024_0_0)⟩, ⟨S8320x1024, (mulf (extractStridedSlice S8320x1024 ![0, 1024] u slices_S8320x6144_S8320x1024_0_1024) (broadcastInDim S8320x1024 ![] bcast_S_S8320x1024 (constant S_ .f32 0x3DB504F3#32)))⟩, ⟨S8320x2048, (extractStridedSlice S8320x2048 ![0, 2048] u slices_S8320x6144_S8320x2048_0_2048)⟩, ⟨S8320x2048, (extractStridedSlice S8320x2048 ![0, 4096] u slices_S8320x6144_S8320x2048_0_4096)⟩] concatenates_S8320x1024_S8320x1024_S8320x2048_S8320x2048_S8320x6144_d1 : FVec Ideal S8320x6144 .f32) (ix2 r j) = u (ix2 r j) * scale j.val := by
  have hu : ∀ (n : Nat) (h : n < 6144), n = j.val → u (ix2 r ⟨n, h⟩) = u (ix2 r j) := fun n h e =>
    congrArg (fun q => u (ix2 r q)) (Fin.ext e)
  unfold scale
  pointwise
  split
  · rw [mul_one]
  · split
    · rw [hu _ _ (by omega)]
    · rw [mul_one]
      split
      · exact hu _ _ (by omega)
      · exact hu _ _ (by omega)

theorem ref (a0 : FVec Ideal S8320x2048 .f32) (a1 : FVec Ideal S2048x6160 .f32) (u : FVec Ideal S8320x6144 .f32) (hu : u = Host.dotGeneral dot_S8320x2048_S2048x6144_S8320x6144_1_0_0_1_n_n none a0 (extractStridedSlice S2048x6144 ![0, 0] a1 slices_S2048x6160_S2048x6144_0_0)) (i : S8320x6144.Idx) :
    (concatenate S8320x6144 1 [⟨S8320x1024, (extractStridedSlice S8320x1024 ![0, 0] u slices_S8320x6144_S8320x1024_0_0)⟩, ⟨S8320x1024, (mulf (extractStridedSlice S8320x1024 ![0, 1024] u slices_S8320x6144_S8320x1024_0_1024) (broadcastInDim S8320x1024 ![] bcast_S_S8320x1024 (constant S_ .f32 0x3DB504F3#32)))⟩, ⟨S8320x2048, (extractStridedSlice S8320x2048 ![0, 2048] u slices_S8320x6144_S8320x2048_0_2048)⟩, ⟨S8320x2048, (extractStridedSlice S8320x2048 ![0, 4096] u slices_S8320x6144_S8320x2048_0_4096)⟩] concatenates_S8320x1024_S8320x1024_S8320x2048_S8320x2048_S8320x6144_d1 : FVec Ideal S8320x6144 .f32) i = out a0 a1 (i 0) (i 1) := by
  rw [eq_ix2 i]
  refine (ref_c u (i 0) (i 1)).trans ?_
  rw [hu]
  exact congrArg (· * scale (i 1).val) (ref_u a0 a1 (ix2 (i 0) (i 1)))

end Reference

end Cert.Proof.Inp

end
-- ==== Proof.Mgate.lean ====
module

public import proofs.«01_k».proof.Proof.Gen.Kernel8Ideal.Value
public import proofs.«01_k».proof.Proof.Gen.Reference8Ideal.Run
public import proofs.«01_k».proof.Proof.Gates
public import Idealize.ShloMosaic.Lib.StableHlo.ReadAt

@[expose] public section

set_option maxRecDepth 16384

noncomputable section

namespace Cert.Proof.Mgate

open Idealize.ShloMosaic Idealize.ShloMosaic.TcCoe Idealize.SL.Sem
open Idealize.ShloMosaic.Pipeline (Dat)
open Cert.Proof.Gates (ls)

/-- The bias of gate `j`: the input gates' eight, then the forget gates' eight. -/
def bias (bi bf : FVec Ideal ⟨1, ![8]⟩ .f32) (j : Fin 16) : EReal :=
  if h : j.val < 8 then bi (ix1 ⟨j.val, h⟩) else bf (ix1 ⟨j.val - 8, by omega⟩)

/-- Gate `j` of row `i` before the sigmoid. -/
def lin (x : FVec Ideal ⟨2, ![8320, 2048]⟩ .f32) (w : FVec Ideal ⟨2, ![2048, 6160]⟩ .f32) (bi bf : FVec Ideal ⟨1, ![8]⟩ .f32) (i : Fin 8320) (j : Fin 16) : EReal :=
  ∑ k : Fin 2048, x (ix2 i k) * w (ix2 k ⟨6144 + j.val, by omega⟩) + bias bi bf j

/-- The input gates as they are, the forget gates in logarithm. -/
def gate (x : FVec Ideal ⟨2, ![8320, 2048]⟩ .f32) (w : FVec Ideal ⟨2, ![2048, 6160]⟩ .f32) (bi bf : FVec Ideal ⟨1, ![8]⟩ .f32) (i : Fin 8320) (j : Fin 16) : EReal :=
  if j.val < 8 then lin x w bi bf i j else ls (lin x w bi bf i j)

/-- The gates, with zeros in the 112 columns behind them. -/
def outc (x : FVec Ideal ⟨2, ![8320, 2048]⟩ .f32) (w : FVec Ideal ⟨2, ![2048, 6160]⟩ .f32) (bi bf : FVec Ideal ⟨1, ![8]⟩ .f32) (i : Fin 8320) (j : Fin 128) : EReal :=
  if h : j.val < 16 then gate x w bi bf i ⟨j.val, h⟩ else 0

section Kernel
open Cert.Kernel8Ideal Cert.Kernel8Ideal.Gen

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] ∧ win0_4.index t = ![0, t.val] :=
  (by decide +kernel : ∀ t : Fin grid0.N, _)

/-- The array's row of row `r` of the block at point `t`. -/
def row (t : Fin cfg0.N) (r : Fin 1664) : Fin 8320 := ⟨1664 * t.val + r.val, by have : t.val < 5 := t.isLt; omega⟩

theorem pay2_of (v0 : Vec Ideal S1664x2048 .bf16) (v2 : Vec Ideal S2048x128 .bf16) (v5 : Vec Ideal S1x128 .f32) (y : S1664x128.Idx)
    (x : FVec Ideal ⟨2, ![8320, 2048]⟩ .f32) (w : FVec Ideal ⟨2, ![2048, 6160]⟩ .f32) (bi bf : FVec Ideal ⟨1, ![8]⟩ .f32) (i : Fin 8320)
    (h0 : ∀ k : Fin 2048, v0 (ix2 (y 0) k) = x (ix2 i k))
    (h1 : ∀ (k : Fin 2048) (j : Fin 128), v2 (ix2 k j) = if h : j.val < 16 then w (ix2 k ⟨6144 + j.val, by omega⟩) else (0 : EReal))
    (h2 : ∀ j : Fin 128, v5 (ix2 0 j) = if h : j.val < 16 then bias bi bf ⟨j.val, h⟩ else (0 : EReal)) :
    k0_pay2 v0 v2 v5 y = outc x w bi bf i (y 1) := by
  have hy : (y 1).val < 128 := (y 1).isLt
  have e : k0_pay2 v0 v2 v5 y = if 8 ≤ (y 1).val ∧ (y 1).val < 16 then ls (∑ k : Fin 2048, v0 (ix2 (y 0) k) * v2 (ix2 k (y 1)) + v5 (ix2 0 (y 1)))
      else ∑ k : Fin 2048, v0 (ix2 (y 0) k) * v2 (ix2 k (y 1)) + v5 (ix2 0 (y 1)) := by
    have hw : IntOp.andi (IntOp.cmpi CmpIPredicate.sge (BitVec.ofNat 32 (y 1).val) 8#32) (IntOp.cmpi CmpIPredicate.slt (BitVec.ofNat 32 (y 1).val) 16#32)
        = BitVec.ofBool (decide (8 ≤ (y 1).val ∧ (y 1).val < 16)) := by
      generalize (y 1).val = n at *
      interval_cases n <;> rfl
    pointwise [k0_pay2, ls]
    rw [hw]
    by_cases c : 8 ≤ (y 1).val ∧ (y 1).val < 16
    · rw [if_pos c, decide_eq_true c]; rfl
    · rw [if_neg c, decide_eq_false c]; rfl
  have s1 := fun k => h1 k (y 1)
  have s2 := h2 (y 1)
  rw [e]
  unfold outc gate
  by_cases c : (y 1).val < 16
  · rw [dif_pos c]
    simp only [dif_pos c] at s1 s2
    unfold lin
    simp only [h0, s1, s2]
    by_cases c8 : 8 ≤ (y 1).val
    · exact (if_pos ⟨c8, c⟩).trans (if_neg (Nat.not_lt.mpr c8)).symm
    · exact (if_neg (fun h => c8 h.1)).trans (if_pos (Nat.lt_of_not_le c8)).symm
  · rw [if_neg (fun h => c h.2), dif_neg c]
    simp only [dif_neg c] at s1 s2
    simp only [s1, s2, mul_zero, Finset.sum_const_zero, add_zero]

/-- A square of the first result, turned, at one of its entries. -/
theorem turn (o : Nat) (hs : S1664x128.Slices ![o, 0] S128x128) (v : FVec Ideal S1664x128 .f32) (y : S16x1664.Idx) (z : S16x128.Idx)
    (h0 : (y 0).val = (z 0).val) (h1 : (y 1).val = o + (z 1).val) :
    (extractStridedSlice S16x128 ![0, 0] (transpose S128x128 [1, 0] (extractStridedSlice S128x128 ![o, 0] v hs) transposes_S128x128_p1_0_S128x128) slices_S128x128_o0_0_S16x128 : FVec Ideal S16x128 .f32) z
      = v (ix2 (y 1) ⟨(y 0).val, (y 0).isLt.trans (by decide)⟩) := by
  pointwise
  exact congrArg v (congrArg₂ _ (Fin.ext h1.symm) (Fin.ext h0.symm))

theorem B0 (c : Dev nD) (t : Fin cfg0.N) (r : Fin 1664) (k : Fin 2048) :
    iblk m c 0 t (ix2 r k) = m ((c : Thread nD τ).loc main_arg0) (ix2 (row t r) k) := by
  blk_point [iblk, V, idx t, row]

theorem V1 (c : Dev nD) (k : Fin 2048) (j : Fin 128) : (V m c main_v4 : FVec Ideal S2048x128 .bf16) (ix2 k j)
    = if h : j.val < 16 then (m ((c : Thread nD τ).loc main_arg1) : FVec Ideal S2048x6160 .f32) (ix2 k ⟨6144 + j.val, by omega⟩) else (0 : EReal) := by
  unfold V
  after_reads_at
  rw [Gates.sitofp0]

theorem V2 (c : Dev nD) (j : Fin 128) : (V m c main_v6 : FVec Ideal S1x128 .f32) (ix2 0 j)
    = if h : j.val < 16 then bias (m ((c : Thread nD τ).loc main_arg2)) (m ((c : Thread nD τ).loc main_arg3)) ⟨j.val, h⟩ else (0 : EReal) := by
  unfold V
  after_reads_at
  rw [Gates.sitofp0]
  rfl

theorem B1 (c : Dev nD) (t : Fin cfg0.N) (k : Fin 2048) (j : Fin 128) : iblk m c 1 t (ix2 k j)
    = if h : j.val < 16 then (m ((c : Thread nD τ).loc main_arg1) : FVec Ideal S2048x6160 .f32) (ix2 k ⟨6144 + j.val, by omega⟩) else (0 : EReal) := by
  have h : iblk m c 1 t (ix2 k j) = (V m c main_v4 : S2048x128.Idx → EReal) (ix2 k j) := by
    blk_point [iblk, idx t]
  exact h.trans (V1 m c k j)

theorem B2 (c : Dev nD) (t : Fin cfg0.N) (j : Fin 128) : iblk m c 2 t (ix2 0 j)
    = if h : j.val < 16 then bias (m ((c : Thread nD τ).loc main_arg2)) (m ((c : Thread nD τ).loc main_arg3)) ⟨j.val, h⟩ else (0 : EReal) := by
  have h : iblk m c 2 t (ix2 0 j) = (V m c main_v6 : S1x128.Idx → EReal) (ix2 0 j) := by
    blk_point [iblk, idx t]
  exact h.trans (V2 m c j)

theorem E3 (t : Fin cfg0.N) (y : S1664x128.Idx) : ((cfg0.win 3).blk t).view.emb y = ix2 (row t (y 0)) (y 1) := by
  blk_ext [idx t, row]

theorem E4 (t : Fin cfg0.N) (y : S16x1664.Idx) : ((cfg0.win 4).blk t).view.emb y = ix2 (y 0) (row t (y 1)) := by
  blk_ext [idx t, row]

theorem final3 (c : Dev nD) : (dats m 0 c).arrAt 3 (cfgs 0).N
    = fun i : S8320x128.Idx => outc (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 3 _ (by decide +kernel) fun t _ y => ?_
  blk_simp; rw [after0_3]; unfold out0_3; frame_out
  rw [E3]
  exact pay2_of _ _ _ y _ _ _ _ _ (B0 m c t _) (B1 m c t) (B2 m c t)

theorem piece (o : Nat) (hs : S1664x128.Slices ![o, 0] S128x128) (c : Dev nD) (t : Fin cfg0.N) (y : S16x1664.Idx) (z : S16x128.Idx)
    (h0 : (y 0).val = (z 0).val) (h1 : (y 1).val = o + (z 1).val) :
    (extractStridedSlice S16x128 ![0, 0] (transpose S128x128 [1, 0] (extractStridedSlice S128x128 ![o, 0] (k0_pay2 (iblk m c 0 t) (iblk m c 1 t) (iblk m c 2 t)) hs) transposes_S128x128_p1_0_S128x128) slices_S128x128_o0_0_S16x128 : FVec Ideal S16x128 .f32) z
      = gate (m ((c : Thread nD τ).loc main_arg0)) (m ((c : Thread nD τ).loc main_arg1)) (m ((c : Thread nD τ).loc main_arg2)) (m ((c : Thread nD τ).loc main_arg3)) (row t (y 1)) (y 0) := by
  refine (turn o hs _ y z h0 h1).trans ?_
  refine (pay2_of _ _ _ (ix2 (y 1) _) _ _ _ _ _ (B0 m c t _) (B1 m c t) (B2 m c t)).trans ?_
  exact dif_pos (y 0).isLt

theorem final4 (c : Dev nD) : (dats m 0 c).arrAt 4 (cfgs 0).N
    = fun i : S16x8320.Idx => gate (m ((c : Thread nD τ).loc main_arg0)) (m ((c : Thread nD τ).loc main_arg1)) (m ((c : Thread nD τ).loc main_arg2)) (m ((c : Thread nD τ).loc main_arg3)) (i 1) (i 0) := by
  refine (dats m 0 c).arrAt_eq_of_covers 4 _ (by decide +kernel) fun t _ y => ?_
  blk_simp; rw [after0_4]; unfold_out out0_4; frame_out
  rw [E4]
  canon_tiles z h
  · exact piece m 1536 _ c t y z h0 h1
  · exact piece m 1408 _ c t y z h0 h1
  · exact piece m 1280 _ c t y z h0 h1
  · exact piece m 1152 _ c t y z h0 h1
  · exact piece m 1024 _ c t y z h0 h1
  · exact piece m 896 _ c t y z h0 h1
  · exact piece m 768 _ c t y z h0 h1
  · exact piece m 640 _ c t y z h0 h1
  · exact piece m 512 _ c t y z h0 h1
  · exact piece m 384 _ c t y z h0 h1
  · exact piece m 256 _ c t y z h0 h1
  · exact piece m 128 _ c t y z h0 h1
  · exact piece m 0 _ c t y z h0 (h1.trans (Nat.zero_add _).symm)

end Kernel

section Reference
open Cert.Reference8Ideal Cert.Reference8Ideal.Gen Cert.Reference8Ideal.Value

theorem ref_ls (n : FVec Ideal S8320x8 .f32) (i : S8320x8.Idx) : ((Host.negf (select (cmpf .une (subf (Host.negf n) (broadcastInDim S8320x8 ![] bcast_S_S8320x8 (constant S_ .f32 0x00000000#32))) (subf (Host.negf n) (broadcastInDim S8320x8 ![] bcast_S_S8320x8 (constant S_ .f32 0x00000000#32)))) (addf (Host.negf n) (broadcastInDim S8320x8 ![] bcast_S_S8320x8 (constant S_ .f32 0x00000000#32))) (addf (maximumf (Host.negf n) (broadcastInDim S8320x8 ![] bcast_S_S8320x8 (constant S_ .f32 0x00000000#32))) (Host.log1p (Host.exp (Host.negf (Host.absf (subf (Host.negf n) (broadcastInDim S8320x8 ![] bcast_S_S8320x8 (constant S_ .f32 0x00000000#32)))))))))) : FVec Ideal S8320x8 .f32) i = ls (n i) := by
  refine Eq.trans ?_ (Gates.ls_eq (n i))
  pointwise
  rw [if_neg (by simp)]
  rfl

theorem ref_ig (a0 : FVec Ideal S8320x2048 .f32) (a1 : FVec Ideal S2048x6160 .f32) (a2 a3 : FVec Ideal S8 .f32) (i : S8320x8.Idx) : ((addf (extractStridedSlice S8320x8 ![0, 0] (Host.dotGeneral dot_S8320x2048_S2048x16_S8320x16_1_0_0_1_n_n none a0 (extractStridedSlice S2048x16 ![0, 6144] a1 slices_S2048x6160_S2048x16_0_6144)) slices_S8320x16_S8320x8_0_0) (broadcastInDim S8320x8 ![0, 1] bcast_S1x8_S8320x8_0_1 (broadcastInDim S1x8 ![1] bcast_S8_S1x8_1 a2))) : FVec Ideal S8320x8 .f32) i = ∑ k : Fin 2048, a0 (ix2 (i 0) k) * a1 (ix2 k ⟨6144 + (i 1).val, by have : (i 1).val < 8 := (i 1).isLt; omega⟩) + a2 (ix1 (i 1)) := by
  pointwise

theorem ref_fg (a0 : FVec Ideal S8320x2048 .f32) (a1 : FVec Ideal S2048x6160 .f32) (a2 a3 : FVec Ideal S8 .f32) (i : S8320x8.Idx) : ((addf (extractStridedSlice S8320x8 ![0, 8] (Host.dotGeneral dot_S8320x2048_S2048x16_S8320x16_1_0_0_1_n_n none a0 (extractStridedSlice S2048x16 ![0, 6144] a1 slices_S2048x6160_S2048x16_0_6144)) slices_S8320x16_S8320x8_0_8) (broadcastInDim S8320x8 ![0, 1] bcast_S1x8_S8320x8_0_1 (broadcastInDim S1x8 ![1] bcast_S8_S1x8_1 a3))) : FVec Ideal S8320x8 .f32) i = ∑ k : Fin 2048, a0 (ix2 (i 0) k) * a1 (ix2 k ⟨6144 + (8 + (i 1).val), by have : (i 1).val < 8 := (i 1).isLt; omega⟩) + a3 (ix1 (i 1)) := by
  pointwise

theorem ref_cc (u v : FVec Ideal S8320x8 .f32) (i : S8320x16.Idx) : ((concatenate S8320x16 1 [⟨S8320x8, u⟩, ⟨S8320x8, v⟩] concatenates_S8320x8_S8320x8_S8320x16_d1) : FVec Ideal S8320x16 .f32) i
    = if h : (i 1).val < 8 then u (ix2 (i 0) ⟨(i 1).val, h⟩) else v (ix2 (i 0) ⟨(i 1).val - 8, by have : (i 1).val < 16 := (i 1).isLt; omega⟩) := by
  pointwise

/-- The reference's gates. -/
theorem ref_gate (a0 : FVec Ideal S8320x2048 .f32) (a1 : FVec Ideal S2048x6160 .f32) (a2 a3 : FVec Ideal S8 .f32) (n : FVec Ideal S8320x8 .f32) (hn : n = (addf (extractStridedSlice S8320x8 ![0, 8] (Host.dotGeneral dot_S8320x2048_S2048x16_S8320x16_1_0_0_1_n_n none a0 (extractStridedSlice S2048x16 ![0, 6144] a1 slices_S2048x6160_S2048x16_0_6144)) slices_S8320x16_S8320x8_0_8) (broadcastInDim S8320x8 ![0, 1] bcast_S1x8_S8320x8_0_1 (broadcastInDim S1x8 ![1] bcast_S8_S1x8_1 a3)))) (i : S8320x16.Idx) :
    ((concatenate S8320x16 1 [⟨S8320x8, (addf (extractStridedSlice S8320x8 ![0, 0] (Host.dotGeneral dot_S8320x2048_S2048x16_S8320x16_1_0_0_1_n_n none a0 (extractStridedSlice S2048x16 ![0, 6144] a1 slices_S2048x6160_S2048x16_0_6144)) slices_S8320x16_S8320x8_0_0) (broadcastInDim S8320x8 ![0, 1] bcast_S1x8_S8320x8_0_1 (broadcastInDim S1x8 ![1] bcast_S8_S1x8_1 a2)))⟩, ⟨S8320x8, (Host.negf (select (cmpf .une (subf (Host.negf n) (broadcastInDim S8320x8 ![] bcast_S_S8320x8 (constant S_ .f32 0x00000000#32))) (subf (Host.negf n) (broadcastInDim S8320x8 ![] bcast_S_S8320x8 (constant S_ .f32 0x00000000#32)))) (addf (Host.negf n) (broadcastInDim S8320x8 ![] bcast_S_S8320x8 (constant S_ .f32 0x00000000#32))) (addf (maximumf (Host.negf n) (broadcastInDim S8320x8 ![] bcast_S_S8320x8 (constant S_ .f32 0x00000000#32))) (Host.log1p (Host.exp (Host.negf (Host.absf (subf (Host.negf n) (broadcastInDim S8320x8 ![] bcast_S_S8320x8 (constant S_ .f32 0x00000000#32))))))))))⟩] concatenates_S8320x8_S8320x8_S8320x16_d1) : FVec Ideal S8320x16 .f32) i = gate a0 a1 a2 a3 (i 0) (i 1) := by
  refine (ref_cc _ _ i).trans ?_
  subst hn
  unfold gate lin bias
  by_cases c : (i 1).val < 8
  · rw [dif_pos c, if_pos c, dif_pos c]
    exact ref_ig a0 a1 a2 a3 _
  · have e : 8 + ((i 1).val - 8) = (i 1).val := by omega
    rw [dif_neg c, if_neg c, dif_neg c]
    refine (ref_ls _ _).trans (congrArg ls ((ref_fg a0 a1 a2 a3 _).trans ?_))
    exact congrArg₂ (· + ·) (Finset.sum_congr rfl fun k _ => congrArg₂ (· * ·) rfl (congrArg a1 (congrArg (ix2 k) (Fin.ext (congrArg (6144 + ·) e))))) rfl

theorem ref_pad (n : FVec Ideal S8320x16 .f32) (i : S8320x128.Idx) :
    (pad S8320x128 ![0, 0] ![0, 112] ![0, 0] n (sitofp .f32 (constantI S_ 32 0#32)) pads_S8320x16_S8320x128_000_01120 h_S_ : FVec Ideal S8320x128 .f32) i
      = if h : (i 1).val < 16 then n (ix2 (i 0) ⟨(i 1).val, h⟩) else 0 := by
  pointwise
  rw [Gates.sitofp0]

/-- The reference's first result. -/
theorem ref0 (a0 : FVec Ideal S8320x2048 .f32) (a1 : FVec Ideal S2048x6160 .f32) (a2 a3 : FVec Ideal S8 .f32) (n : FVec Ideal S8320x8 .f32) (hn : n = (addf (extractStridedSlice S8320x8 ![0, 8] (Host.dotGeneral dot_S8320x2048_S2048x16_S8320x16_1_0_0_1_n_n none a0 (extractStridedSlice S2048x16 ![0, 6144] a1 slices_S2048x6160_S2048x16_0_6144)) slices_S8320x16_S8320x8_0_8) (broadcastInDim S8320x8 ![0, 1] bcast_S1x8_S8320x8_0_1 (broadcastInDim S1x8 ![1] bcast_S8_S1x8_1 a3)))) (i : S8320x128.Idx) :
    (pad S8320x128 ![0, 0] ![0, 112] ![0, 0] (concatenate S8320x16 1 [⟨S8320x8, (addf (extractStridedSlice S8320x8 ![0, 0] (Host.dotGeneral dot_S8320x2048_S2048x16_S8320x16_1_0_0_1_n_n none a0 (extractStridedSlice S2048x16 ![0, 6144] a1 slices_S2048x6160_S2048x16_0_6144)) slices_S8320x16_S8320x8_0_0) (broadcastInDim S8320x8 ![0, 1] bcast_S1x8_S8320x8_0_1 (broadcastInDim S1x8 ![1] bcast_S8_S1x8_1 a2)))⟩, ⟨S8320x8, (Host.negf (select (cmpf .une (subf (Host.negf n) (broadcastInDim S8320x8 ![] bcast_S_S8320x8 (constant S_ .f32 0x00000000#32))) (subf (Host.negf n) (broadcastInDim S8320x8 ![] bcast_S_S8320x8 (constant S_ .f32 0x00000000#32)))) (addf (Host.negf n) (broadcastInDim S8320x8 ![] bcast_S_S8320x8 (constant S_ .f32 0x00000000#32))) (addf (maximumf (Host.negf n) (broadcastInDim S8320x8 ![] bcast_S_S8320x8 (constant S_ .f32 0x00000000#32))) (Host.log1p (Host.exp (Host.negf (Host.absf (subf (Host.negf n) (broadcastInDim S8320x8 ![] bcast_S_S8320x8 (constant S_ .f32 0x00000000#32))))))))))⟩] concatenates_S8320x8_S8320x8_S8320x16_d1) (sitofp .f32 (constantI S_ 32 0#32)) pads_S8320x16_S8320x128_000_01120 h_S_ : FVec Ideal S8320x128 .f32) i
      = outc a0 a1 a2 a3 (i 0) (i 1) := by
  refine (ref_pad _ i).trans ?_
  unfold outc
  split
  · exact ref_gate a0 a1 a2 a3 n hn _
  · rfl

/-- The reference's second result. -/
theorem ref1 (a0 : FVec Ideal S8320x2048 .f32) (a1 : FVec Ideal S2048x6160 .f32) (a2 a3 : FVec Ideal S8 .f32) (n : FVec Ideal S8320x8 .f32) (hn : n = (addf (extractStridedSlice S8320x8 ![0, 8] (Host.dotGeneral dot_S8320x2048_S2048x16_S8320x16_1_0_0_1_n_n none a0 (extractStridedSlice S2048x16 ![0, 6144] a1 slices_S2048x6160_S2048x16_0_6144)) slices_S8320x16_S8320x8_0_8) (broadcastInDim S8320x8 ![0, 1] bcast_S1x8_S8320x8_0_1 (broadcastInDim S1x8 ![1] bcast_S8_S1x8_1 a3)))) (i : S16x8320.Idx) :
    (transpose S16x8320 [1, 0] (concatenate S8320x16 1 [⟨S8320x8, (addf (extractStridedSlice S8320x8 ![0, 0] (Host.dotGeneral dot_S8320x2048_S2048x16_S8320x16_1_0_0_1_n_n none a0 (extractStridedSlice S2048x16 ![0, 6144] a1 slices_S2048x6160_S2048x16_0_6144)) slices_S8320x16_S8320x8_0_0) (broadcastInDim S8320x8 ![0, 1] bcast_S1x8_S8320x8_0_1 (broadcastInDim S1x8 ![1] bcast_S8_S1x8_1 a2)))⟩, ⟨S8320x8, (Host.negf (select (cmpf .une (subf (Host.negf n) (broadcastInDim S8320x8 ![] bcast_S_S8320x8 (constant S_ .f32 0x00000000#32))) (subf (Host.negf n) (broadcastInDim S8320x8 ![] bcast_S_S8320x8 (constant S_ .f32 0x00000000#32)))) (addf (Host.negf n) (broadcastInDim S8320x8 ![] bcast_S_S8320x8 (constant S_ .f32 0x00000000#32))) (addf (maximumf (Host.negf n) (broadcastInDim S8320x8 ![] bcast_S_S8320x8 (constant S_ .f32 0x00000000#32))) (Host.log1p (Host.exp (Host.negf (Host.absf (subf (Host.negf n) (broadcastInDim S8320x8 ![] bcast_S_S8320x8 (constant S_ .f32 0x00000000#32))))))))))⟩] concatenates_S8320x8_S8320x8_S8320x16_d1) transposes_S8320x16_S16x8320_1_0 : FVec Ideal S16x8320 .f32) i
      = gate a0 a1 a2 a3 (i 1) (i 0) := by
  have h : ∀ u : FVec Ideal S8320x16 .f32, (transpose S16x8320 [1, 0] u transposes_S8320x16_S16x8320_1_0 : FVec Ideal S16x8320 .f32) i = u (ix2 (i 1) (i 0)) := by
    intro u
    pointwise
  exact (h _).trans (ref_gate a0 a1 a2 a3 n hn _)

end Reference

end Cert.Proof.Mgate

end
-- ==== Proof.Cell.lean ====
module

public import proofs.«01_k».proof.Proof.Soft

@[expose] public section

set_option maxRecDepth 16384

noncomputable section

/-! Four steps of one mLSTM head in the stabilised form, and how sums and maxima over the 128 rows of a block that
holds 32 such sequences reduce to the four rows of one of them. -/

namespace Cert.Proof.Cell

open Idealize.ShloMosaic

section Steps

variable (g f : Fin 4 → EReal) (m : EReal)

/-- The running sum of the log forget gates. -/
def cum (t : Fin 4) : EReal := ∑ s : Fin 4, if s.val ≤ t.val then f s else 0

/-- The log weight of step `s` at step `t`. -/
def dm (t s : Fin 4) : EReal := if s.val ≤ t.val then cum f t - cum f s + g s else ⊥

/-- The stabiliser of step `t`. -/
def mt (t : Fin 4) : EReal := max (Finset.fold max ⊥ (dm g f t) Finset.univ) (cum f t + m)

def wt (t s : Fin 4) : EReal := Ideal.exp (dm g f t s - mt g f m t)

def wi (t : Fin 4) : EReal := Ideal.exp (cum f t + m - mt g f m t)

def dec (s : Fin 4) : EReal := cum f 3 - cum f s + g s

/-- The stabiliser of the new state. -/
def mn : EReal := max (cum f 3 + m) (Finset.fold max ⊥ (dec g f) Finset.univ)

def ws (s : Fin 4) : EReal := Ideal.exp (dec g f s - mn g f m)

def wc : EReal := Ideal.exp (cum f 3 + m - mn g f m)

variable (q k : Fin 4 → Fin 128 → EReal) (v : Fin 4 → Fin 256 → EReal) (C : Fin 256 → Fin 128 → EReal) (n : Fin 128 → EReal)

/-- The new matrix state. -/
def cn (e : Fin 256) (d : Fin 128) : EReal := wc g f m * C e d + ∑ s : Fin 4, v s e * ws g f m s * k s d

/-- The new normaliser. -/
def nn (d : Fin 128) : EReal := wc g f m * n d + ∑ s : Fin 4, ws g f m s * k s d

def sc (t s : Fin 4) : EReal := (∑ d : Fin 128, q t d * k s d) * wt g f m t s

def num (t : Fin 4) (e : Fin 256) : EReal := wi g f m t * (∑ d : Fin 128, q t d * C e d) + ∑ s : Fin 4, sc g f m q k t s * v s e

def den (t : Fin 4) : EReal := wi g f m t * (∑ d : Fin 128, q t d * n d) + ∑ s : Fin 4, sc g f m q k t s

def hv (t : Fin 4) (e : Fin 256) : EReal :=
  Ideal.div (num g f m q k v C t e) (max (max (den g f m q k n t) (-den g f m q k n t)) (Ideal.exp (-mt g f m t)))

end Steps

/-- The norm over a head's 256 columns, its weight and the output gate. -/
def fin (h : Fin 256 → EReal) (e : Fin 256) (w o : EReal) : EReal :=
  h e * Ideal.rsqrt (Ideal.div (∑ x, h x * h x) (Ideal.ofBits FTy.f32 0x43800000#32) + Ideal.ofBits FTy.f32 0x358637BD#32) * w * Ideal.logistic o

/-- Row `s` of sequence `b`. -/
def lane (b : Fin 32) (s : Fin 4) : Fin 128 := ⟨4 * b.val + s.val, by omega⟩

theorem lane_div (b : Fin 32) (s : Fin 4) : (lane b s).val / 4 = b.val := by
  show (4 * b.val + s.val) / 4 = b.val; omega

theorem lane_le (b : Fin 32) (s t : Fin 4) : (lane b s).val ≤ (lane b t).val ↔ s.val ≤ t.val := by
  show 4 * b.val + s.val ≤ 4 * b.val + t.val ↔ _; omega

theorem eq_lane (b : Fin 32) (x : Fin 128) (h : x.val / 4 = b.val) : x = lane b ⟨x.val % 4, by omega⟩ :=
  Fin.ext (by show x.val = 4 * b.val + x.val % 4; omega)

theorem sum_seg (F : Fin 128 → EReal) (b : Fin 32) (h : ∀ x : Fin 128, x.val / 4 ≠ b.val → F x = 0) : ∑ x, F x = ∑ s : Fin 4, F (lane b s) := by
  have inj : Function.Injective (lane b) := fun s t e => Fin.ext (by have := congrArg Fin.val e; change 4 * b.val + s.val = 4 * b.val + t.val at this; omega)
  refine Eq.trans ?_ (Finset.sum_map Finset.univ ⟨lane b, inj⟩ F)
  refine (Finset.sum_subset (Finset.subset_univ _) fun x _ hx => h x fun e => hx ?_).symm
  exact Finset.mem_map.mpr ⟨_, Finset.mem_univ _, (eq_lane b x e).symm⟩

theorem fold_seg (F : Fin 128 → EReal) (b : Fin 32) (h : ∀ x : Fin 128, x.val / 4 ≠ b.val → F x = ⊥) :
    Finset.fold max ⊥ F Finset.univ = Finset.fold max ⊥ (fun s : Fin 4 => F (lane b s)) Finset.univ := by
  apply le_antisymm
  · refine (Finset.fold_max_le _).mpr ⟨bot_le, fun x _ => ?_⟩
    by_cases e : x.val / 4 = b.val
    · exact (Finset.le_fold_max _).mpr (.inr ⟨_, Finset.mem_univ _, (congrArg F (eq_lane b x e)).le⟩)
    · exact (h x e).trans_le bot_le
  · exact (Finset.fold_max_le _).mpr ⟨bot_le, fun s _ => (Finset.le_fold_max _).mpr (.inr ⟨lane b s, Finset.mem_univ _, le_rfl⟩)⟩

/-- A masked step weighs nothing. -/
theorem exp_bot_sub (a : EReal) : Ideal.exp (⊥ - a) = 0 := by
  rw [sub_eq_add_neg, EReal.bot_add]; rfl

/-- A gate below +∞ in three terms: two vanish at a real gate, and at −∞ all three are −∞. -/
theorem three (x : EReal) (hx : x ≠ ⊤) (c : EReal) (hc : c = 0 ∨ c = 1) : x * c + (x - x) * c + (x - x - (x - x)) * c = x * c := by
  rcases hc with rfl | rfl
  · simp only [mul_zero, add_zero]
  · simp only [mul_one]
    induction x with
    | bot => simp only [EReal.bot_sub, EReal.bot_add]
    | coe r => rw [← EReal.coe_sub, sub_self, EReal.coe_zero, sub_zero, add_zero, add_zero]
    | top => exact absurd rfl hx

/-- The sum over the block, written in three terms, which come back together below +∞. -/
theorem cum_of (F : Fin 128 → EReal) (b : Fin 32) (t : Fin 4) (hF : ∀ x, F x ≠ ⊤) (c : Fin 128 → EReal)
    (hc : ∀ x : Fin 128, c x = if x.val / 4 = b.val ∧ x.val ≤ (lane b t).val then 1 else 0) :
    ∑ x, F x * c x + ∑ x, (F x - F x) * c x + ∑ x, (F x - F x - (F x - F x)) * c x = cum (fun s => F (lane b s)) t := by
  have z : ∀ x, F x * c x + (F x - F x) * c x + (F x - F x - (F x - F x)) * c x = F x * c x := fun x => three _ (hF x) _ (by
    rw [hc]
    split_ifs
    · exact .inr rfl
    · exact .inl rfl)
  rw [← Finset.sum_add_distrib, ← Finset.sum_add_distrib, Finset.sum_congr rfl fun x _ => z x]
  rw [sum_seg _ b fun x hx => by rw [hc, if_neg (fun h => hx h.1), mul_zero]]
  refine Finset.sum_congr rfl fun s _ => ?_
  rw [hc]
  by_cases h : s.val ≤ t.val
  · rw [if_pos ⟨lane_div b s, (lane_le b s t).mpr h⟩, if_pos h, mul_one]
  · rw [if_neg (fun c => h ((lane_le b s t).mp c.2)), if_neg h, mul_zero]

end Cert.Proof.Cell

end
-- ==== Proof.Mlstm.lean ====
module

public import proofs.«01_k».proof.Proof.Gen.Kernel9Ideal.Value
public import proofs.«01_k».proof.Proof.Cell
public import Idealize.ShloMosaic.Lib.Pipeline.ValueKit

@[expose] public section

set_option maxRecDepth 16384

noncomputable section

/-! One head of the mLSTM sample step as the kernel's body computes it on a block of 32 sequences of four rows. -/

namespace Cert.Proof.Mlstm

open Idealize.ShloMosaic Idealize.ShloMosaic.TcCoe Idealize.SL.Sem
open Cert.Kernel9Ideal Cert.Kernel9Ideal.Gen

theorem one32 : Ideal.ofBits FTy.f32 0x3F800000#32 = 1 := by
  simp [Ideal.ofBits, Ideal.ieee]
  rw [← EReal.coe_mul]
  norm_num

theorem bits_mask : ∀ r s : Fin 128, IntOp.andi (IntOp.cmpi CmpIPredicate.eq (IntOp.shrui ArithUnit.vector (BitVec.ofNat 32 s.val) 2#32) (IntOp.shrui ArithUnit.vector (BitVec.ofNat 32 r.val) 2#32)) (IntOp.cmpi CmpIPredicate.sle (BitVec.ofNat 32 s.val) (BitVec.ofNat 32 r.val))
    = BitVec.ofBool (decide (s.val / 4 = r.val / 4 ∧ s.val ≤ r.val)) := by
  decide +kernel

theorem bits_live : ∀ (r : Fin 128) (b : Fin 32), IntOp.cmpi CmpIPredicate.eq (IntOp.shrui ArithUnit.vector (BitVec.ofNat 32 r.val) 2#32) (BitVec.ofNat 32 b.val) = BitVec.ofBool (decide (r.val / 4 = b.val)) := by
  decide +kernel

theorem bits_last : ∀ (r : Fin 128) (b : Fin 32), IntOp.cmpi CmpIPredicate.eq (BitVec.ofNat 32 r.val) (Scalar.addi (Scalar.muli (BitVec.ofNat 32 b.val) 4#32) 3#32) = BitVec.ofBool (decide (r.val = 4 * b.val + 3)) := by
  decide +kernel

theorem select_if {α : Type} (p : Prop) [Decidable p] (a b : α) : Scalar.select (BitVec.ofBool (decide p)) a b = if p then a else b := by
  by_cases h : p <;> simp [Scalar.select, h]

/-- The mask of one sequence's earlier rows. -/
theorem pay10_at (r s : Fin 128) : k0_pay10 (ix2 r s) = BitVec.ofBool (decide (s.val / 4 = r.val / 4 ∧ s.val ≤ r.val)) := by
  refine Eq.trans ?_ (bits_mask r s)
  pointwise [k0_pay10, k0_pay8, k0_pay9]

theorem pay13_at (s r : Fin 128) : (k0_pay13 : FVec Ideal S128x128 .bf16) (ix2 s r) = if s.val / 4 = r.val / 4 ∧ s.val ≤ r.val then (1 : EReal) else 0 := by
  pointwise [k0_pay13, k0_pay8]
  rw [bits_mask, select_if]

theorem pay11_at (i : grid0.Coords) (r : Fin 128) : k0_pay11 i (ix2 r 0) = BitVec.ofBool (decide (r.val / 4 = (i 0).val)) := by
  pointwise [k0_pay11, k0_pay9]
  exact bits_live r (i 0)

theorem pay12_at (i : grid0.Coords) (r : Fin 128) : k0_pay12 i (ix2 0 r) = BitVec.ofBool (decide (r.val / 4 = (i 0).val)) := by
  pointwise [k0_pay12, k0_pay8]
  exact bits_live r (i 0)

/-- The running sum in three terms. -/
theorem bc_at (A : FVec Ideal S128x128 .bf16) (w : Vec Ideal S16x128 .f32) (h : Fin 8) (r : Fin 128) :
    k0_pay18 A (k0_pay15 w) (k0_pay16 w) (k0_pay17 w) (ix2 h r)
      = (∑ x : Fin 128, w (ix2 ⟨8 + h.val, by omega⟩ x) * A (ix2 x r) + ∑ x : Fin 128, (w (ix2 ⟨8 + h.val, by omega⟩ x) - w (ix2 ⟨8 + h.val, by omega⟩ x)) * A (ix2 x r))
        + ∑ x : Fin 128, (w (ix2 ⟨8 + h.val, by omega⟩ x) - w (ix2 ⟨8 + h.val, by omega⟩ x) - (w (ix2 ⟨8 + h.val, by omega⟩ x) - w (ix2 ⟨8 + h.val, by omega⟩ x))) * A (ix2 x r) := by
  pointwise [k0_pay18, k0_pay15, k0_pay16, k0_pay17]

theorem bT_at (A : FVec Ideal S128x128 .bf16) (p : FVec Ideal S8x128 .f32) (p1 : FVec Ideal S8x128 .bf16) (p2 : FVec Ideal S8x128 .f32) (h : Fin 8) (r c : Fin 128) (hc : c.val = h.val) :
    k0_pay20 A p p1 p2 (ix2 r c) = k0_pay18 A p p1 p2 (ix2 h r) := by
  unfold k0_pay20
  generalize k0_pay18 A p p1 p2 = u
  pointwise
  have hc8 : c.val < 8 := hc ▸ h.isLt
  exact (dif_pos hc8).trans (congrArg (fun a => u (ix2 a r)) (Fin.ext hc))

theorem src_at (A : FVec Ideal S128x128 .bf16) (g p : FVec Ideal S8x128 .f32) (p1 : FVec Ideal S8x128 .bf16) (p2 : FVec Ideal S8x128 .f32) (z : S8x128.Idx) :
    k0_pay19 A g p p1 p2 z = g z - k0_pay18 A p p1 p2 z := rfl

theorem ig_at (w : Vec Ideal S16x128 .f32) (h : Fin 8) (r : Fin 128) : k0_pay14 w (ix2 h r) = w (ix2 ⟨h.val, by omega⟩ r) := by
  pointwise [k0_pay14]

section Head
variable (o : ℕ) (hT : S128x128.Slices ![0, o] S128x1) (hg : S8x128.Slices ![o, 0] S1x128)

/-- The masked log weights of head `o`. -/
def gD (M : IVec S128x128 1) (bT : FVec Ideal S128x128 .f32) (src : FVec Ideal S8x128 .f32) : FVec Ideal S128x128 .f32 :=
  select M (addf (broadcastTo S128x128 (extractStridedSlice S128x1 ![0, o] bT hT) broadcasts_S128x1_S128x128) (broadcastTo S128x128 (extractStridedSlice S1x128 ![o, 0] src hg) broadcasts_S1x128_S128x128))
    (broadcast S128x128 (Scalar.ofBits .f32 0xFF800000#32))

/-- The log weight of the incoming state. -/
def gI (bT : FVec Ideal S128x128 .f32) (w : Vec Ideal S1x1x1 .f32) : FVec Ideal S128x1 .f32 :=
  addf (extractStridedSlice S128x1 ![0, o] bT hT) (broadcastTo S128x1 (shapeCast S1x1 w shapeCasts_S1x1x1_S1x1) broadcasts_S1x1_S128x1)

def gB (bc : FVec Ideal S8x128 .f32) : FVec Ideal S1x128 .f32 := extractStridedSlice S1x128 ![o, 0] bc hg

theorem gD_at (M : IVec S128x128 1) (bT : FVec Ideal S128x128 .f32) (src : FVec Ideal S8x128 .f32) (r s : Fin 128) (ho : o < 8) :
    gD o hT hg M bT src (ix2 r s) = Scalar.select (M (ix2 r s)) (bT (ix2 r ⟨o, by omega⟩) + src (ix2 ⟨o, ho⟩ s)) (⊥ : EReal) := by
  pointwise [gD]
  exact congrArg (Scalar.select _ _) Soft.neg_inf

theorem gI_at (bT : FVec Ideal S128x128 .f32) (w : Vec Ideal S1x1x1 .f32) (r : Fin 128) (ho : o < 8) :
    gI o hT bT w (ix2 r 0) = bT (ix2 r ⟨o, by omega⟩) + w (ix3 0 0 0) := by
  pointwise [gI]

theorem gB_at (bc : FVec Ideal S8x128 .f32) (r : Fin 128) (ho : o < 8) : gB o hg bc (ix2 0 r) = bc (ix2 ⟨o, ho⟩ r) := by
  pointwise [gB]

/-- The log weights of the rows in the new state. -/
def gE (live : IVec S1x128 1) (bl : FVec Ideal S1x1 .f32) (bc ig : FVec Ideal S8x128 .f32) : FVec Ideal S1x128 .f32 :=
  select live (addf (subf (broadcastTo S1x128 bl broadcasts_S1x1_S1x128) (extractStridedSlice S1x128 ![o, 0] bc hg)) (extractStridedSlice S1x128 ![o, 0] ig hg)) (broadcast S1x128 (Scalar.ofBits .f32 0xFF800000#32))

theorem gE_at (live : IVec S1x128 1) (bl : FVec Ideal S1x1 .f32) (bc ig : FVec Ideal S8x128 .f32) (r : Fin 128) (ho : o < 8) :
    gE o hg live bl bc ig (ix2 0 r) = Scalar.select (live (ix2 0 r)) (bl (ix2 0 0) - bc (ix2 ⟨o, ho⟩ r) + ig (ix2 ⟨o, ho⟩ r)) (⊥ : EReal) := by
  pointwise [gE]
  exact congrArg (Scalar.select _ _) Soft.neg_inf

end Head

def gM (D : FVec Ideal S128x128 .f32) (I : FVec Ideal S128x1 .f32) : FVec Ideal S128x1 .f32 :=
  maximumf (shapeCast S128x1 (multiReduction .maximumf [1] S128 D 0xFF800000#32 reduces_S128x128_S128 (.inl rfl) rfl) shapeCasts_S128_S128x1) I

def gW (D : FVec Ideal S128x128 .f32) (M : FVec Ideal S128x1 .f32) : FVec Ideal S128x128 .f32 := exp (subf D (broadcastTo S128x128 M broadcasts_S128x1_S128x128))

def gWi (I M : FVec Ideal S128x1 .f32) : FVec Ideal S128x1 .f32 := exp (subf I M)

theorem gM_at (D : FVec Ideal S128x128 .f32) (I : FVec Ideal S128x1 .f32) (r : Fin 128) :
    gM D I (ix2 r 0) = max (Finset.fold max ⊥ (fun s : Fin 128 => D (ix2 r s)) Finset.univ) (I (ix2 r 0)) := by
  pointwise [gM]
  rw [← Soft.neg_inf]

theorem gW_at (D : FVec Ideal S128x128 .f32) (M : FVec Ideal S128x1 .f32) (r s : Fin 128) : gW D M (ix2 r s) = Ideal.exp (D (ix2 r s) - M (ix2 r 0)) := by
  pointwise [gW]

theorem gWi_at (I M : FVec Ideal S128x1 .f32) (r : Fin 128) : gWi I M (ix2 r 0) = Ideal.exp (I (ix2 r 0) - M (ix2 r 0)) := by
  pointwise [gWi]

theorem pay35_at (live : IVec S128x1 1) (u : FVec Ideal S128x256 .f32) (p : Vec Ideal S128x256 .bf16) (r : Fin 128) (e : Fin 256) :
    k0_pay35 live u p (ix2 r e) = Scalar.select (live (ix2 r 0)) (u (ix2 r e)) (p (ix2 r e)) := by
  pointwise [k0_pay35]

/-- The head's value before the norm, over all 128 rows. -/
def wide (M Wi : EReal) (W : Fin 128 → EReal) (q : Fin 128 → EReal) (k : Fin 128 → Fin 128 → EReal) (v : Fin 128 → Fin 256 → EReal) (C : Fin 256 → Fin 128 → EReal) (n : Fin 128 → EReal) (e : Fin 256) : EReal :=
  Ideal.div (Wi * (∑ d, q d * C e d) + ∑ x, (∑ d, q d * k x d) * W x * v x e)
    (max (max (Wi * (∑ d, q d * n d) + ∑ x, (∑ d, q d * k x d) * W x) (-(Wi * (∑ d, q d * n d) + ∑ x, (∑ d, q d * k x d) * W x))) (Ideal.exp (0 - M)))

theorem pay34_at (M : FVec Ideal S128x1 .f32) (W : FVec Ideal S128x128 .f32) (Wi : FVec Ideal S128x1 .f32) (q k : Vec Ideal S128x128 .f32) (v : Vec Ideal S128x256 .f32)
    (C : Vec Ideal S1x1x256x128 .f32) (n : Vec Ideal S1x1x128 .f32) (w : Vec Ideal S1x256 .f32) (g : Vec Ideal S128x256 .f32) (r : Fin 128) (e : Fin 256) :
    k0_pay34 M W Wi q (k0_pay29 q) (k0_pay30 k) (k0_pay31 v) C n w g (ix2 r e)
      = Cell.fin (wide (M (ix2 r 0)) (Wi (ix2 r 0)) (fun x => W (ix2 r x)) (fun d => q (ix2 r d)) (fun x d => k (ix2 x d)) (fun x e => v (ix2 x e)) (fun e d => C (ix4 0 0 e d)) (fun d => n (ix3 0 0 d))) e (w (ix2 0 e)) (g (ix2 r e)) := by
  pointwise [k0_pay34, k0_pay29, k0_pay30, k0_pay31, k0_pay32, k0_pay33]
  rfl

theorem wide_eq (g f : Fin 4 → EReal) (m : EReal) (b : Fin 32) (t : Fin 4) (M Wi : EReal) (W : Fin 128 → EReal) (q : Fin 4 → Fin 128 → EReal) (k : Fin 128 → Fin 128 → EReal) (v : Fin 128 → Fin 256 → EReal)
    (C : Fin 256 → Fin 128 → EReal) (n : Fin 128 → EReal) (e : Fin 256) (hM : M = Cell.mt g f m t) (hWi : Wi = Cell.wi g f m t) (hW : ∀ s, W (Cell.lane b s) = Cell.wt g f m t s) (h0 : ∀ x : Fin 128, x.val / 4 ≠ b.val → W x = 0) :
    wide M Wi W (q t) k v C n e = Cell.hv g f m q (fun s => k (Cell.lane b s)) (fun s => v (Cell.lane b s)) C n t e := by
  have e1 : ∑ x, (∑ d, q t d * k x d) * W x * v x e = ∑ s, Cell.sc g f m q (fun s => k (Cell.lane b s)) t s * v (Cell.lane b s) e := by
    rw [Cell.sum_seg _ b fun x hx => by rw [h0 x hx, mul_zero, zero_mul]]
    exact Finset.sum_congr rfl fun s _ => by rw [hW]; rfl
  have e2 : ∑ x, (∑ d, q t d * k x d) * W x = ∑ s, Cell.sc g f m q (fun s => k (Cell.lane b s)) t s := by
    rw [Cell.sum_seg _ b fun x hx => by rw [h0 x hx, mul_zero]]
    exact Finset.sum_congr rfl fun s _ => by rw [hW]; rfl
  unfold wide Cell.hv Cell.num Cell.den
  rw [e1, e2, hM, hWi, zero_sub]

/-- The last row's running sum. -/
theorem pay36_at (last : BitVec 32) (u : FVec Ideal S1x128 .f32) :
    k0_pay36 (iota Kind.tc S1x128 32 [1] iota_S1x128_d1_w32) last u (ix2 0 0) = ∑ x : Fin 128, Scalar.select (IntOp.cmpi CmpIPredicate.eq (BitVec.ofNat 32 x.val) last) (u (ix2 0 x)) (0 : EReal) := by
  pointwise [k0_pay36]

def gN (bl m : FVec Ideal S1x1 .f32) (E : FVec Ideal S1x128 .f32) : FVec Ideal S1x1 .f32 :=
  maximumf (addf bl m) (shapeCast S1x1 (multiReduction .maximumf [1] S1 E 0xFF800000#32 reduces_S1x128_S1 (.inl rfl) rfl) shapeCasts_S1_S1x1)

theorem gN_at (bl m : FVec Ideal S1x1 .f32) (E : FVec Ideal S1x128 .f32) :
    gN bl m E (ix2 0 0) = max (bl (ix2 0 0) + m (ix2 0 0)) (Finset.fold max ⊥ (fun s : Fin 128 => E (ix2 0 s)) Finset.univ) := by
  pointwise [gN]
  rw [← Soft.neg_inf]

def gS (E : FVec Ideal S1x128 .f32) (N : FVec Ideal S1x1 .f32) : FVec Ideal S1x128 .f32 := exp (subf E (broadcastTo S1x128 N broadcasts_S1x1_S1x128))

theorem gS_at (E : FVec Ideal S1x128 .f32) (N : FVec Ideal S1x1 .f32) (r : Fin 128) : gS E N (ix2 0 r) = Ideal.exp (E (ix2 0 r) - N (ix2 0 0)) := by
  pointwise [gS]

def gC (bl m N : FVec Ideal S1x1 .f32) : FVec Ideal S1x1 .f32 := exp (subf (addf bl m) N)

def stC (ws : FVec Ideal S1x128 .f32) (wc : FVec Ideal S1x1 .f32) (k : FVec Ideal S128x128 .bf16) (v : Vec Ideal S128x256 .f32) (C : FVec Ideal S256x128 .f32) : FVec Ideal S1x1x256x128 .f32 :=
  shapeCast S1x1x256x128 (addf (mulf (broadcastTo S256x128 wc broadcasts_S1x1_S256x128) C)
    (matmul dot_S256x128_S128x128_S256x128_1_0_0_1_n_n none (truncf .bf16 (mulf (transpose S256x128 [1, 0] v transposes_S128x256_p1_0_S256x128) (broadcastTo S256x128 ws broadcasts_S1x128_S256x128)) bitsLt_bf16_f32) k (constant S256x128 .f32 0x00000000#32))) shapeCasts_S256x128_S1x1x256x128

theorem stC_at (ws : FVec Ideal S1x128 .f32) (wc : FVec Ideal S1x1 .f32) (k : Vec Ideal S128x128 .f32) (v : Vec Ideal S128x256 .f32) (C : Vec Ideal S1x1x256x128 .f32) (e : Fin 256) (d : Fin 128) :
    stC ws wc (k0_pay30 k) v (k0_pay32 C) (ix4 0 0 e d) = wc (ix2 0 0) * C (ix4 0 0 e d) + ∑ x : Fin 128, v (ix2 x e) * ws (ix2 0 x) * k (ix2 x d) := by
  pointwise [stC, k0_pay30, k0_pay32]

def stN (ws : FVec Ideal S1x128 .f32) (wc : FVec Ideal S1x1 .f32) (k : FVec Ideal S128x128 .bf16) (n : FVec Ideal S1x128 .f32) : FVec Ideal S1x1x128 .f32 :=
  k0_pay44 k (truncf .bf16 (broadcastTo S8x128 (shapeCast S1x128 ws shapeCasts_S1x128_S1x128) broadcasts_S1x128_S8x128) bitsLt_bf16_f32) (mulf (broadcastTo S1x128 wc broadcasts_S1x1_S1x128) n)

theorem stN_at (ws : FVec Ideal S1x128 .f32) (wc : FVec Ideal S1x1 .f32) (k : Vec Ideal S128x128 .f32) (n : Vec Ideal S1x1x128 .f32) (d : Fin 128) :
    stN ws wc (k0_pay30 k) (k0_pay33 n) (ix3 0 0 d) = wc (ix2 0 0) * n (ix3 0 0 d) + ∑ x : Fin 128, ws (ix2 0 x) * k (ix2 x d) := by
  pointwise [stN, k0_pay30, k0_pay33, k0_pay44]

theorem stM_at (N : FVec Ideal S1x1 .f32) (d : Fin 128) : k0_pay45 N (ix3 0 0 d) = N (ix2 0 0) := by
  pointwise [k0_pay45]

section Point
variable (w : Vec Ideal S16x128 .f32) (ldm : Vec Ideal S1x1x1 .f32) (i : grid0.Coords) (o : ℕ) (ho : o < 8) (hT : S128x128.Slices ![0, o] S128x1) (hg : S8x128.Slices ![o, 0] S1x128)

/-- Input gates and log forget gates of head `o` in sequence `b`. -/
def igs (b : Fin 32) (s : Fin 4) : EReal := w (ix2 ⟨o, by omega⟩ (Cell.lane b s))
def lfs (b : Fin 32) (s : Fin 4) : EReal := w (ix2 ⟨8 + o, by omega⟩ (Cell.lane b s))

def bc : FVec Ideal S8x128 .f32 := k0_pay18 k0_pay13 (k0_pay15 w) (k0_pay16 w) (k0_pay17 w)

/-- The body's values for head `o`. -/
def vD : FVec Ideal S128x128 .f32 := gD o hT hg k0_pay10 (k0_pay20 k0_pay13 (k0_pay15 w) (k0_pay16 w) (k0_pay17 w)) (k0_pay19 k0_pay13 (k0_pay14 w) (k0_pay15 w) (k0_pay16 w) (k0_pay17 w))
def vI : FVec Ideal S128x1 .f32 := gI o hT (k0_pay20 k0_pay13 (k0_pay15 w) (k0_pay16 w) (k0_pay17 w)) ldm
def vM : FVec Ideal S128x1 .f32 := gM (vD w o hT hg) (vI w ldm o hT)
def vBl : FVec Ideal S1x1 .f32 := k0_pay36 (iota Kind.tc S1x128 32 [1] iota_S1x128_d1_w32) (Scalar.addi (Scalar.muli (BitVec.ofNat 32 (i 0).val) 4#32) 3#32) (gB o hg (bc w))
def vE : FVec Ideal S1x128 .f32 := gE o hg (k0_pay12 i) (vBl w i o hg) (bc w) (k0_pay14 w)
def vm : FVec Ideal S1x1 .f32 := shapeCast S1x1 ldm shapeCasts_S1x1x1_S1x1
def vN : FVec Ideal S1x1 .f32 := gN (vBl w i o hg) (vm ldm) (vE w i o hg)
def vS : FVec Ideal S1x128 .f32 := gS (vE w i o hg) (vN w ldm i o hg)
def vC : FVec Ideal S1x1 .f32 := gC (vBl w i o hg) (vm ldm) (vN w ldm i o hg)

theorem vm_at : vm ldm (ix2 0 0) = ldm (ix3 0 0 0) := by
  pointwise [vm]

variable (hF : ∀ x : Fin 128, w (ix2 ⟨8 + o, by omega⟩ x) ≠ ⊤)
include ho hF

theorem bc_lane (b : Fin 32) (t : Fin 4) : bc w (ix2 ⟨o, ho⟩ (Cell.lane b t)) = Cell.cum (lfs w o ho b) t := by
  refine (bc_at _ w ⟨o, ho⟩ _).trans ?_
  exact Cell.cum_of (fun x => w (ix2 ⟨8 + o, by omega⟩ x)) b t hF (fun x => (k0_pay13 : FVec Ideal S128x128 .bf16) (ix2 x (Cell.lane b t))) fun x => by
    rw [pay13_at, Cell.lane_div]

theorem vD_lane (b : Fin 32) (t s : Fin 4) : vD w o hT hg (ix2 (Cell.lane b t) (Cell.lane b s)) = Cell.dm (igs w o ho b) (lfs w o ho b) t s := by
  refine (gD_at o hT hg _ _ _ _ _ ho).trans ?_
  rw [pay10_at, select_if, bT_at _ _ _ _ ⟨o, ho⟩ _ _ rfl, src_at, ig_at]
  unfold Cell.dm
  have e1 := bc_lane w o ho hF b t
  have e2 := bc_lane w o ho hF b s
  unfold bc at e1 e2
  rw [e1, e2]
  by_cases h : s.val ≤ t.val
  · rw [if_pos ⟨(Cell.lane_div b s).trans (Cell.lane_div b t).symm, (Cell.lane_le b s t).mpr h⟩, if_pos h, sub_eq_add_neg, sub_eq_add_neg, add_assoc, add_comm (-_) _]
    rfl
  · rw [if_neg (fun c => h ((Cell.lane_le b s t).mp c.2)), if_neg h]

omit hF in
theorem vD_off (b : Fin 32) (t : Fin 4) (x : Fin 128) (h : x.val / 4 ≠ b.val) : vD w o hT hg (ix2 (Cell.lane b t) x) = ⊥ := by
  refine (gD_at o hT hg _ _ _ _ _ ho).trans ?_
  rw [pay10_at, select_if, if_neg (fun c => h (c.1.trans (Cell.lane_div b t)))]

theorem vI_lane (b : Fin 32) (t : Fin 4) : vI w ldm o hT (ix2 (Cell.lane b t) 0) = Cell.cum (lfs w o ho b) t + ldm (ix3 0 0 0) := by
  refine (gI_at o hT _ _ _ ho).trans ?_
  rw [bT_at _ _ _ _ ⟨o, ho⟩ _ _ rfl]
  exact congrArg (· + _) (bc_lane w o ho hF b t)

theorem vM_lane (b : Fin 32) (t : Fin 4) : vM w ldm o hT hg (ix2 (Cell.lane b t) 0) = Cell.mt (igs w o ho b) (lfs w o ho b) (ldm (ix3 0 0 0)) t := by
  refine (gM_at _ _ _).trans ?_
  rw [Cell.fold_seg _ b (fun x hx => vD_off w o ho hT hg b t x hx), vI_lane w ldm o ho hT hF]
  refine congrArg (max · _) (congrArg (Finset.fold max ⊥ · _) (funext fun s => vD_lane w o ho hT hg hF b t s))

/-- A row of the head's output: the step's value on the live sequence's rows, elsewhere what was there. -/
theorem out_lane (b : Fin 32) (t : Fin 4) (hi : (i 0).val = b.val) (q k : Vec Ideal S128x128 .f32) (v : Vec Ideal S128x256 .f32)
    (C : Vec Ideal S1x1x256x128 .f32) (n : Vec Ideal S1x1x128 .f32) (nw : Vec Ideal S1x256 .f32) (g : Vec Ideal S128x256 .f32) (p : Vec Ideal S128x256 .bf16) (e : Fin 256) :
    k0_pay35 (k0_pay11 i) (k0_pay34 (vM w ldm o hT hg) (gW (vD w o hT hg) (vM w ldm o hT hg)) (gWi (vI w ldm o hT) (vM w ldm o hT hg)) q (k0_pay29 q) (k0_pay30 k) (k0_pay31 v) C n nw g) p (ix2 (Cell.lane b t) e)
      = Cell.fin (Cell.hv (igs w o ho b) (lfs w o ho b) (ldm (ix3 0 0 0)) (fun s d => q (ix2 (Cell.lane b s) d)) (fun s d => k (ix2 (Cell.lane b s) d)) (fun s e => v (ix2 (Cell.lane b s) e)) (fun e d => C (ix4 0 0 e d)) (fun d => n (ix3 0 0 d)) t) e (nw (ix2 0 e)) (g (ix2 (Cell.lane b t) e)) := by
  refine (pay35_at _ _ _ _ _).trans ?_
  rw [pay11_at, select_if, if_pos ((Cell.lane_div b t).trans hi.symm)]
  refine (pay34_at _ _ _ _ _ _ _ _ _ _ _ _).trans ?_
  refine congrArg (fun h => Cell.fin h e _ _) (funext fun e' => ?_)
  refine wide_eq (igs w o ho b) (lfs w o ho b) (ldm (ix3 0 0 0)) b t _ _ _ (fun s d => q (ix2 (Cell.lane b s) d)) _ _ _ _ e' (vM_lane w ldm o ho hT hg hF b t) ?_ (fun s => ?_) (fun x hx => ?_)
  · rw [gWi_at, vM_lane w ldm o ho hT hg hF, vI_lane w ldm o ho hT hF]; rfl
  · rw [gW_at, vM_lane w ldm o ho hT hg hF, vD_lane w o ho hT hg hF]; rfl
  · rw [gW_at, vD_off w o ho hT hg b t x hx, Cell.exp_bot_sub]

omit ho hF in
theorem out_keep (r : Fin 128) (hi : r.val / 4 ≠ (i 0).val) (u : FVec Ideal S128x256 .f32) (p : Vec Ideal S128x256 .bf16) (e : Fin 256) : k0_pay35 (k0_pay11 i) u p (ix2 r e) = p (ix2 r e) := by
  refine (pay35_at _ _ _ _ _).trans ?_
  rw [pay11_at, select_if, if_neg hi]

theorem vBl_at (b : Fin 32) (hi : (i 0).val = b.val) : vBl w i o hg (ix2 0 0) = Cell.cum (lfs w o ho b) 3 := by
  refine (pay36_at _ _).trans ?_
  rw [hi]
  simp only [bits_last, select_if]
  refine (Finset.sum_eq_single (Cell.lane b 3) (fun x _ hx => if_neg fun c => hx (Fin.ext c)) (fun c => absurd (Finset.mem_univ _) c)).trans ?_
  refine (if_pos rfl).trans ?_
  exact (gB_at o hg _ _ ho).trans (bc_lane w o ho hF b 3)

theorem vE_lane (b : Fin 32) (hi : (i 0).val = b.val) (s : Fin 4) : vE w i o hg (ix2 0 (Cell.lane b s)) = Cell.dec (igs w o ho b) (lfs w o ho b) s := by
  refine (gE_at o hg _ _ _ _ _ ho).trans ?_
  rw [pay12_at, select_if, if_pos ((Cell.lane_div b s).trans hi.symm), vBl_at w i o ho hg hF b hi, bc_lane w o ho hF, ig_at]
  rfl

omit hF in
theorem vE_off (b : Fin 32) (hi : (i 0).val = b.val) (x : Fin 128) (h : x.val / 4 ≠ b.val) : vE w i o hg (ix2 0 x) = ⊥ := by
  refine (gE_at o hg _ _ _ _ _ ho).trans ?_
  rw [pay12_at, select_if, if_neg (fun c => h (c.trans hi))]

theorem vN_at (b : Fin 32) (hi : (i 0).val = b.val) : vN w ldm i o hg (ix2 0 0) = Cell.mn (igs w o ho b) (lfs w o ho b) (ldm (ix3 0 0 0)) := by
  refine (gN_at _ _ _).trans ?_
  rw [Cell.fold_seg _ b (fun x hx => vE_off w i o ho hg b hi x hx), vBl_at w i o ho hg hF b hi, vm_at]
  exact congrArg (max _) (congrArg (Finset.fold max ⊥ · _) (funext fun s => vE_lane w i o ho hg hF b hi s))

theorem vS_lane (b : Fin 32) (hi : (i 0).val = b.val) (s : Fin 4) : vS w ldm i o hg (ix2 0 (Cell.lane b s)) = Cell.ws (igs w o ho b) (lfs w o ho b) (ldm (ix3 0 0 0)) s := by
  refine (gS_at _ _ _).trans ?_
  rw [vE_lane w i o ho hg hF b hi, vN_at w ldm i o ho hg hF b hi]; rfl

omit hF in
theorem vS_off (b : Fin 32) (hi : (i 0).val = b.val) (x : Fin 128) (h : x.val / 4 ≠ b.val) : vS w ldm i o hg (ix2 0 x) = 0 := by
  refine (gS_at _ _ _).trans ?_
  rw [vE_off w i o ho hg b hi x h, Cell.exp_bot_sub]

theorem vC_at (b : Fin 32) (hi : (i 0).val = b.val) : vC w ldm i o hg (ix2 0 0) = Cell.wc (igs w o ho b) (lfs w o ho b) (ldm (ix3 0 0 0)) := by
  show Ideal.exp (vBl w i o hg (ix2 0 0) + vm ldm (ix2 0 0) - vN w ldm i o hg (ix2 0 0)) = _
  rw [vN_at w ldm i o ho hg hF b hi, vBl_at w i o ho hg hF b hi, vm_at]; rfl

theorem C_at (b : Fin 32) (hi : (i 0).val = b.val) (k : Vec Ideal S128x128 .f32) (v : Vec Ideal S128x256 .f32) (C : Vec Ideal S1x1x256x128 .f32) (e : Fin 256) (d : Fin 128) :
    stC (vS w ldm i o hg) (vC w ldm i o hg) (k0_pay30 k) v (k0_pay32 C) (ix4 0 0 e d)
      = Cell.cn (igs w o ho b) (lfs w o ho b) (ldm (ix3 0 0 0)) (fun s d => k (ix2 (Cell.lane b s) d)) (fun s e => v (ix2 (Cell.lane b s) e)) (fun e d => C (ix4 0 0 e d)) e d := by
  rw [stC_at, vC_at w ldm i o ho hg hF b hi, Cell.sum_seg _ b fun x hx => by rw [vS_off w ldm i o ho hg b hi x hx, mul_zero, zero_mul]]
  exact congrArg (_ + ·) (Finset.sum_congr rfl fun s _ => by rw [vS_lane w ldm i o ho hg hF b hi])

theorem n_at (b : Fin 32) (hi : (i 0).val = b.val) (k : Vec Ideal S128x128 .f32) (n : Vec Ideal S1x1x128 .f32) (d : Fin 128) :
    stN (vS w ldm i o hg) (vC w ldm i o hg) (k0_pay30 k) (k0_pay33 n) (ix3 0 0 d)
      = Cell.nn (igs w o ho b) (lfs w o ho b) (ldm (ix3 0 0 0)) (fun s d => k (ix2 (Cell.lane b s) d)) (fun d => n (ix3 0 0 d)) d := by
  rw [stN_at, vC_at w ldm i o ho hg hF b hi, Cell.sum_seg _ b fun x hx => by rw [vS_off w ldm i o ho hg b hi x hx, zero_mul]]
  exact congrArg (_ + ·) (Finset.sum_congr rfl fun s _ => by rw [vS_lane w ldm i o ho hg hF b hi])

theorem m_at (b : Fin 32) (hi : (i 0).val = b.val) (d : Fin 128) : k0_pay45 (vN w ldm i o hg) (ix3 0 0 d) = Cell.mn (igs w o ho b) (lfs w o ho b) (ldm (ix3 0 0 0)) :=
  (stM_at _ d).trans (vN_at w ldm i o ho hg hF b hi)

end Point

end Cert.Proof.Mlstm

end
-- ==== Proof.Step.lean ====
module

public import proofs.«01_k».proof.Proof.Mlstm
public import Idealize.ShloMosaic.Lib.Pipeline.ReadBack
public import Idealize.ShloMosaic.Lib.Pipeline.Covers

@[expose] public section

set_option maxRecDepth 16384

noncomputable section

/-! The eight heads of one grid point: what the point's body leaves in its four output blocks. -/

namespace Cert.Proof.Step

open Idealize.ShloMosaic Idealize.ShloMosaic.TcCoe Idealize.SL.Sem
open Cert.Kernel9Ideal Cert.Kernel9Ideal.Gen Cert.Proof.Mlstm

theorem ldb2 {e' : EltTy} {N K n k : ℕ} (p q : ℕ) (w : (⟨2, ![N, K]⟩ : Shape).Idx → Elt Ideal e') (inb : ∀ a, (![p, q] : Fin 2 → ℕ) a + (![n, k] : Fin 2 → ℕ) a ≤ (![N, K] : Fin 2 → ℕ) a)
    (z : Fin n) (l : Fin k) (r : Fin N) (s : Fin K) (hr : r.val = p + z.val) (hs : s.val = q + l.val) :
    View.ld (Val := Elt Ideal) (e' := e') w (Rect.unit (s := ⟨2, ![N, K]⟩) ![p, q] ![n, k] inb) (ix2 z l) = w (ix2 r s) := by
  refine congrArg w (funext fun a => Fin.ext ?_)
  refine (ValueKit.rect_emb_unit_val _ _ _ _ _).trans ?_
  match a with
  | 0 => exact hr.symm
  | 1 => exact hs.symm

theorem ldb3 {e' : EltTy} {M K k : ℕ} (p : ℕ) (w : (⟨3, ![1, M, K]⟩ : Shape).Idx → Elt Ideal e') (inb : ∀ a, (![0, p, 0] : Fin 3 → ℕ) a + (![1, 1, k] : Fin 3 → ℕ) a ≤ (![1, M, K] : Fin 3 → ℕ) a)
    (l : Fin k) (r : Fin M) (s : Fin K) (hr : r.val = p) (hs : s.val = l.val) :
    View.ld (Val := Elt Ideal) (e' := e') w (Rect.unit (s := ⟨3, ![1, M, K]⟩) ![0, p, 0] ![1, 1, k] inb) (ix3 0 0 l) = w (ix3 0 r s) := by
  refine congrArg w (funext fun a => Fin.ext ?_)
  refine (ValueKit.rect_emb_unit_val _ _ _ _ _).trans ?_
  match a with
  | 0 => rfl
  | 1 => exact hr.symm
  | 2 => exact (Nat.zero_add _).trans hs.symm

theorem ldb4 {e' : EltTy} {M : ℕ} (p : ℕ) (w : (⟨4, ![1, M, 256, 128]⟩ : Shape).Idx → Elt Ideal e') (inb : ∀ a, (![0, p, 0, 0] : Fin 4 → ℕ) a + (![1, 1, 256, 128] : Fin 4 → ℕ) a ≤ (![1, M, 256, 128] : Fin 4 → ℕ) a)
    (e : Fin 256) (d : Fin 128) (r : Fin M) (hr : r.val = p) :
    View.ld (Val := Elt Ideal) (e' := e') w (Rect.unit (s := ⟨4, ![1, M, 256, 128]⟩) ![0, p, 0, 0] ![1, 1, 256, 128] inb) (ix4 0 0 e d) = w (ix4 0 r e d) := by
  refine congrArg w (funext fun a => Fin.ext ?_)
  refine (ValueKit.rect_emb_unit_val _ _ _ _ _).trans ?_
  match a with
  | 0 => rfl
  | 1 => exact hr.symm
  | 2 => exact Nat.zero_add _
  | 3 => exact Nat.zero_add _

/-- Stores under the ones that cover do not show. -/
theorem drop {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; exact absurd hp List.not_mem_nil
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact drop L' y L ⟨q, hq, hy⟩

theorem drop9 {Val : EltTy → Type} {S : Shape} {e : EltTy} [∀ e, Nonempty (Val e)] (p1 p2 p3 p4 p5 p6 p7 p8 p9 : View.Piece Val S e) (y : S.Idx) (h : ∃ p ∈ [p1, p2, p3, p4, p5, p6, p7, p8], y ∈ p.1.set) :
    View.canon [p1, p2, p3, p4, p5, p6, p7, p8, p9] y = View.canon [p1, p2, p3, p4, p5, p6, p7, p8] y := drop [p9] y _ h

theorem pay4_at (x : Vec Ideal S1x8x256x128 .f32) (z : S1x8x256x128.Idx) : k0_pay4 x z = x z := by
  pointwise [k0_pay4]
theorem pay5_at (x : Vec Ideal S1x8x128 .f32) (z : S1x8x128.Idx) : k0_pay5 x z = x z := by
  pointwise [k0_pay5]
theorem pay6_at (x : Vec Ideal S1x8x128 .f32) (z : S1x8x128.Idx) : k0_pay6 x z = x z := by
  pointwise [k0_pay6]

section Congr
open Cert.Proof.Cell
variable {g f : Fin 4 → EReal} {m m' : EReal} {q q' k k' : Fin 4 → Fin 128 → EReal} {v v' : Fin 4 → Fin 256 → EReal} {C C' : Fin 256 → Fin 128 → EReal} {n n' : Fin 128 → EReal}

theorem cn_congr (hm : m = m') (hk : ∀ s d, k s d = k' s d) (hv : ∀ s e, v s e = v' s e) (hC : ∀ e d, C e d = C' e d) (e : Fin 256) (d : Fin 128) : cn g f m k v C e d = cn g f m' k' v' C' e d := by
  subst hm
  obtain rfl : k = k' := funext₂ hk
  obtain rfl : v = v' := funext₂ hv
  obtain rfl : C = C' := funext₂ hC
  rfl

theorem nn_congr (hm : m = m') (hk : ∀ s d, k s d = k' s d) (hn : ∀ d, n d = n' d) (d : Fin 128) : nn g f m k n d = nn g f m' k' n' d := by
  subst hm
  obtain rfl : k = k' := funext₂ hk
  obtain rfl : n = n' := funext hn
  rfl

theorem hv_congr (hm : m = m') (hq : ∀ s d, q s d = q' s d) (hk : ∀ s d, k s d = k' s d) (hv : ∀ s e, v s e = v' s e) (hC : ∀ e d, C e d = C' e d) (hn : ∀ d, n d = n' d) (t : Fin 4) :
    Cell.hv g f m q k v C n t = Cell.hv g f m' q' k' v' C' n' t := by
  subst hm
  obtain rfl : q = q' := funext₂ hq
  obtain rfl : k = k' := funext₂ hk
  obtain rfl : v = v' := funext₂ hv
  obtain rfl : C = C' := funext₂ hC
  obtain rfl : n = n' := funext hn
  rfl
end Congr

section Loads
variable (x0 x1 : Vec Ideal S128x1024 .f32) (x2 x3 : Vec Ideal S128x2048 .f32) (x4 : Vec Ideal S16x128 .f32) (x5 : Vec Ideal S1x8x256x128 .f32) (x6 x7 : Vec Ideal S1x8x128 .f32) (x8 : Vec Ideal S1x2048 .f32)
variable (o : ℕ) (ho : o < 8) (hT : S128x128.Slices ![0, o] S128x1) (hg : S8x128.Slices ![o, 0] S1x128)
  (im : ∀ a, (![0, o, 0] : Fin 3 → ℕ) a + (![1, 1, 1] : Fin 3 → ℕ) a ≤ S1x8x128.size a) (inn : ∀ a, (![0, o, 0] : Fin 3 → ℕ) a + (![1, 1, 128] : Fin 3 → ℕ) a ≤ S1x8x128.size a)
  (iC : ∀ a, (![0, o, 0, 0] : Fin 4 → ℕ) a + (![1, 1, 256, 128] : Fin 4 → ℕ) a ≤ S1x8x256x128.size a)
  (iq : ∀ a, (![0, 128 * o] : Fin 2 → ℕ) a + (![128, 128] : Fin 2 → ℕ) a ≤ S128x1024.size a) (iv : ∀ a, (![0, 256 * o] : Fin 2 → ℕ) a + (![128, 256] : Fin 2 → ℕ) a ≤ S128x2048.size a)
  (iw : ∀ a, (![0, 256 * o] : Fin 2 → ℕ) a + (![1, 256] : Fin 2 → ℕ) a ≤ S1x2048.size a)

/-- The loads of head `o`. -/
abbrev lm : Vec Ideal S1x1x1 .f32 := View.ld (Val := Elt Ideal) (e' := .f32) (k0_pay6 x7) (Rect.unit (s := S1x8x128) ![0, o, 0] ![1, 1, 1] im)
abbrev ln : Vec Ideal S1x1x128 .f32 := View.ld (Val := Elt Ideal) (e' := .f32) (k0_pay5 x6) (Rect.unit (s := S1x8x128) ![0, o, 0] ![1, 1, 128] inn)
abbrev lC : Vec Ideal S1x1x256x128 .f32 := View.ld (Val := Elt Ideal) (e' := .f32) (k0_pay4 x5) (Rect.unit (s := S1x8x256x128) ![0, o, 0, 0] ![1, 1, 256, 128] iC)
abbrev lq : Vec Ideal S128x128 .f32 := View.ld (Val := Elt Ideal) (e' := .f32) x0 (Rect.unit (s := S128x1024) ![0, 128 * o] ![128, 128] iq)
abbrev lv : Vec Ideal S128x256 .f32 := View.ld (Val := Elt Ideal) (e' := .f32) x2 (Rect.unit (s := S128x2048) ![0, 256 * o] ![128, 256] iv)
abbrev lw : Vec Ideal S1x256 .f32 := View.ld (Val := Elt Ideal) (e' := .f32) x8 (Rect.unit (s := S1x2048) ![0, 256 * o] ![1, 256] iw)

theorem lm_at : lm x7 o im (ix3 0 0 0) = x7 (ix3 0 ⟨o, ho⟩ 0) := by
  rw [← pay6_at x7]; exact ldb3 (e' := .f32) o (k0_pay6 x7) im 0 ⟨o, ho⟩ 0 rfl rfl
theorem ln_at (d : Fin 128) : ln x6 o inn (ix3 0 0 d) = x6 (ix3 0 ⟨o, ho⟩ d) := by
  rw [← pay5_at x6]; exact ldb3 (e' := .f32) o (k0_pay5 x6) inn d ⟨o, ho⟩ d rfl rfl
theorem lC_at (e : Fin 256) (d : Fin 128) : lC x5 o iC (ix4 0 0 e d) = x5 (ix4 0 ⟨o, ho⟩ e d) := by
  rw [← pay4_at x5]; exact ldb4 (e' := .f32) o (k0_pay4 x5) iC e d ⟨o, ho⟩ rfl
theorem lq_at (r : Fin 128) (d : Fin 128) : lq x0 o iq (ix2 r d) = x0 (ix2 r ⟨128 * o + d.val, by omega⟩) := ldb2 0 (128 * o) x0 iq r d r _ (Nat.zero_add _).symm rfl
theorem lv_at (r : Fin 128) (e : Fin 256) : lv x2 o iv (ix2 r e) = x2 (ix2 r ⟨256 * o + e.val, by omega⟩) := ldb2 0 (256 * o) x2 iv r e r _ (Nat.zero_add _).symm rfl
theorem lw_at (e : Fin 256) : lw x8 o iw (ix2 0 e) = x8 (ix2 0 ⟨256 * o + e.val, by omega⟩) := ldb2 0 (256 * o) x8 iw 0 e 0 _ rfl rfl

end Loads

/-- The block's log forget gates are real numbers. -/
def Below4 (x4 : Vec Ideal S16x128 .f32) : Prop := ∀ (h : Fin 8) (x : Fin 128), x4 (ix2 ⟨8 + h.val, by omega⟩ x) ≠ ⊤

section Spec
variable (b : Fin 32) (x0 x1 : Vec Ideal S128x1024 .f32) (x2 x3 : Vec Ideal S128x2048 .f32) (x4 : Vec Ideal S16x128 .f32) (x5 : Vec Ideal S1x8x256x128 .f32) (x6 x7 : Vec Ideal S1x8x128 .f32) (x8 : Vec Ideal S1x2048 .f32)

/-- The four results of head `h`, read off the point's blocks. -/
def spC (h : Fin 8) (e : Fin 256) (d : Fin 128) : EReal :=
  Cell.cn (igs x4 h.val h.isLt b) (lfs x4 h.val h.isLt b) (x7 (ix3 0 h 0)) (fun s d => x1 (ix2 (Cell.lane b s) ⟨128 * h.val + d.val, by omega⟩)) (fun s e => x2 (ix2 (Cell.lane b s) ⟨256 * h.val + e.val, by omega⟩)) (fun e d => x5 (ix4 0 h e d)) e d

def spN (h : Fin 8) (d : Fin 128) : EReal :=
  Cell.nn (igs x4 h.val h.isLt b) (lfs x4 h.val h.isLt b) (x7 (ix3 0 h 0)) (fun s d => x1 (ix2 (Cell.lane b s) ⟨128 * h.val + d.val, by omega⟩)) (fun d => x6 (ix3 0 h d)) d

def spM (h : Fin 8) : EReal := Cell.mn (igs x4 h.val h.isLt b) (lfs x4 h.val h.isLt b) (x7 (ix3 0 h 0))

def spY (h : Fin 8) (t : Fin 4) (e : Fin 256) : EReal :=
  Cell.fin (Cell.hv (igs x4 h.val h.isLt b) (lfs x4 h.val h.isLt b) (x7 (ix3 0 h 0)) (fun s d => x0 (ix2 (Cell.lane b s) ⟨128 * h.val + d.val, by omega⟩)) (fun s d => x1 (ix2 (Cell.lane b s) ⟨128 * h.val + d.val, by omega⟩))
    (fun s e => x2 (ix2 (Cell.lane b s) ⟨256 * h.val + e.val, by omega⟩)) (fun e d => x5 (ix4 0 h e d)) (fun d => x6 (ix3 0 h d)) t) e (x8 (ix2 0 ⟨256 * h.val + e.val, by omega⟩)) (x3 (ix2 (Cell.lane b t) ⟨256 * h.val + e.val, by omega⟩))

variable (i : grid0.Coords) (hi : (i 0).val = b.val) (hF : Below4 x4)
variable (o : ℕ) (ho : o < 8) (hT : S128x128.Slices ![0, o] S128x1) (hg : S8x128.Slices ![o, 0] S1x128)
  (im : ∀ a, (![0, o, 0] : Fin 3 → ℕ) a + (![1, 1, 1] : Fin 3 → ℕ) a ≤ S1x8x128.size a) (inn : ∀ a, (![0, o, 0] : Fin 3 → ℕ) a + (![1, 1, 128] : Fin 3 → ℕ) a ≤ S1x8x128.size a)
  (iC : ∀ a, (![0, o, 0, 0] : Fin 4 → ℕ) a + (![1, 1, 256, 128] : Fin 4 → ℕ) a ≤ S1x8x256x128.size a)
  (iq : ∀ a, (![0, 128 * o] : Fin 2 → ℕ) a + (![128, 128] : Fin 2 → ℕ) a ≤ S128x1024.size a) (iv : ∀ a, (![0, 256 * o] : Fin 2 → ℕ) a + (![128, 256] : Fin 2 → ℕ) a ≤ S128x2048.size a)
  (iw : ∀ a, (![0, 256 * o] : Fin 2 → ℕ) a + (![1, 256] : Fin 2 → ℕ) a ≤ S1x2048.size a)

include hi hF ho

theorem C_piece (z : S1x1x256x128.Idx) (y : S1x8x256x128.Idx) (h1 : (y 1).val = o + (z 1).val) (h2 : (y 2).val = (z 2).val) (h3 : (y 3).val = (z 3).val) :
    stC (vS x4 (lm x7 o im) i o hg) (vC x4 (lm x7 o im) i o hg) (k0_pay30 (lq x1 o iq)) (lv x2 o iv) (k0_pay32 (lC x5 o iC)) z = spC b x1 x2 x4 x5 x7 (y 1) (y 2) (y 3) := by
  have z1 : (z 1).val < 1 := (z 1).isLt
  have e1 : (y 1 : Fin 8) = ⟨o, ho⟩ := Fin.ext (by show (y 1).val = o; omega)
  have e2 : (y 2 : Fin 256) = (z 2 : Fin 256) := Fin.ext h2
  have e3 : (y 3 : Fin 128) = (z 3 : Fin 128) := Fin.ext h3
  have ez : z = ix4 0 0 (z 2 : Fin 256) (z 3 : Fin 128) := by
    funext a
    match a with
    | 0 => exact Subsingleton.elim (α := Fin 1) _ _
    | 1 => exact Subsingleton.elim (α := Fin 1) _ _
    | 2 => rfl
    | 3 => rfl
  rw [e1, e2, e3]
  refine (congrArg (stC (vS x4 (lm x7 o im) i o hg) (vC x4 (lm x7 o im) i o hg) (k0_pay30 (lq x1 o iq)) (lv x2 o iv) (k0_pay32 (lC x5 o iC))) ez).trans ?_
  refine (C_at x4 (lm x7 o im) i o ho hg (hF ⟨o, ho⟩) b hi _ _ _ _ _).trans ?_
  exact cn_congr (lm_at x7 o ho im) (fun s d => lq_at x1 o ho iq _ d) (fun s e => lv_at x2 o ho iv _ e) (fun e d => lC_at x5 o ho iC e d) _ _

theorem n_piece (z : S1x1x128.Idx) (y : S1x8x128.Idx) (h1 : (y 1).val = o + (z 1).val) (h2 : (y 2).val = (z 2).val) :
    stN (vS x4 (lm x7 o im) i o hg) (vC x4 (lm x7 o im) i o hg) (k0_pay30 (lq x1 o iq)) (k0_pay33 (ln x6 o inn)) z = spN b x1 x4 x6 x7 (y 1) (y 2) := by
  have z1 : (z 1).val < 1 := (z 1).isLt
  have e1 : (y 1 : Fin 8) = ⟨o, ho⟩ := Fin.ext (by show (y 1).val = o; omega)
  have e2 : (y 2 : Fin 128) = (z 2 : Fin 128) := Fin.ext h2
  have ez : z = ix3 0 0 (z 2 : Fin 128) := by
    funext a
    match a with
    | 0 => exact Subsingleton.elim (α := Fin 1) _ _
    | 1 => exact Subsingleton.elim (α := Fin 1) _ _
    | 2 => rfl
  rw [e1, e2]
  refine (congrArg (stN (vS x4 (lm x7 o im) i o hg) (vC x4 (lm x7 o im) i o hg) (k0_pay30 (lq x1 o iq)) (k0_pay33 (ln x6 o inn))) ez).trans ?_
  refine (n_at x4 (lm x7 o im) i o ho hg (hF ⟨o, ho⟩) b hi _ _ _).trans ?_
  exact nn_congr (lm_at x7 o ho im) (fun s d => lq_at x1 o ho iq _ d) (fun d => ln_at x6 o ho inn d) _

theorem m_piece (z : S1x1x128.Idx) (y : S1x8x128.Idx) (h1 : (y 1).val = o + (z 1).val) :
    k0_pay45 (vN x4 (lm x7 o im) i o hg) z = spM b x4 x7 (y 1) := by
  have z1 : (z 1).val < 1 := (z 1).isLt
  have e1 : (y 1 : Fin 8) = ⟨o, ho⟩ := Fin.ext (by show (y 1).val = o; omega)
  have ez : z = ix3 0 0 (z 2 : Fin 128) := by
    funext a
    match a with
    | 0 => exact Subsingleton.elim (α := Fin 1) _ _
    | 1 => exact Subsingleton.elim (α := Fin 1) _ _
    | 2 => rfl
  rw [e1]
  refine (congrArg (k0_pay45 (vN x4 (lm x7 o im) i o hg)) ez).trans ?_
  refine (m_at x4 (lm x7 o im) i o ho hg (hF ⟨o, ho⟩) b hi _).trans ?_
  exact congrArg (Cell.mn _ _) (lm_at x7 o ho im)

theorem Y_piece (p : Vec Ideal S128x256 .bf16) (z : S128x256.Idx) (y : S128x2048.Idx) (h0 : (y 0).val = (z 0).val) (h1 : (y 1).val = 256 * o + (z 1).val) (hy : (y 0).val / 4 = b.val) :
    k0_pay35 (k0_pay11 i) (k0_pay34 (vM x4 (lm x7 o im) o hT hg) (gW (vD x4 o hT hg) (vM x4 (lm x7 o im) o hT hg)) (gWi (vI x4 (lm x7 o im) o hT) (vM x4 (lm x7 o im) o hT hg)) (lq x0 o iq) (k0_pay29 (lq x0 o iq)) (k0_pay30 (lq x1 o iq)) (k0_pay31 (lv x2 o iv)) (lC x5 o iC) (ln x6 o inn) (lw x8 o iw) (lv x3 o iv)) p z
      = spY b x0 x1 x2 x3 x4 x5 x6 x7 x8 ⟨(y 1).val / 256, by have := (y 1).isLt; change _ < 2048 at this; omega⟩ ⟨(y 0).val % 4, by omega⟩ ⟨(y 1).val % 256, by omega⟩ := by
  have z1 : (z 1).val < 256 := (z 1).isLt
  have e1 : (⟨(y 1).val / 256, by omega⟩ : Fin 8) = ⟨o, ho⟩ := Fin.ext (by show (y 1).val / 256 = o; omega)
  have e2 : (⟨(y 1).val % 256, by omega⟩ : Fin 256) = (z 1 : Fin 256) := Fin.ext (by show (y 1).val % 256 = (z 1).val; omega)
  have ez : z = ix2 (Cell.lane b ⟨(y 0).val % 4, by omega⟩) (z 1 : Fin 256) := by
    funext a
    match a with
    | 0 => exact (Cell.eq_lane b (z 0) (h0 ▸ hy)).trans (congrArg (Cell.lane b) (Fin.ext (by show (z 0).val % 4 = (y 0).val % 4; omega)))
    | 1 => rfl
  rw [e1, e2]
  refine (congrArg (k0_pay35 _ _ p) ez).trans ?_
  refine (out_lane x4 (lm x7 o im) i o ho hT hg (hF ⟨o, ho⟩) b ⟨(y 0).val % 4, by omega⟩ hi _ _ _ _ _ _ _ _ _).trans ?_
  refine congr (congr (congr (congrArg Cell.fin ?_) rfl) (lw_at x8 o ho iw _)) (lv_at x3 o ho iv _ _)
  exact hv_congr (lm_at x7 o ho im) (fun s d => lq_at x0 o ho iq _ d) (fun s d => lq_at x1 o ho iq _ d) (fun s e => lv_at x2 o ho iv _ e) (fun e d => lC_at x5 o ho iC e d) (fun d => ln_at x6 o ho inn d) _

omit hi hF ho in
theorem keep_piece (xo : Vec Ideal S128x2048 .bf16) (iv : ∀ a, (![0, 256 * o] : Fin 2 → ℕ) a + (![128, 256] : Fin 2 → ℕ) a ≤ S128x2048.size a) (u : FVec Ideal S128x256 .f32) (z : S128x256.Idx) (y : S128x2048.Idx) (h0 : (y 0).val = (z 0).val) (h1 : (y 1).val = 256 * o + (z 1).val) (hy : (y 0).val / 4 ≠ (i 0).val) :
    k0_pay35 (k0_pay11 i) u (View.ld (Val := Elt Ideal) (e' := .bf16) xo (Rect.unit (s := S128x2048) ![0, 256 * o] ![128, 256] iv)) z = xo y := by
  refine (congrArg (k0_pay35 _ _ _) (eq_ix2 z)).trans ?_
  refine (out_keep i (z 0) (h0 ▸ hy) u _ (z 1)).trans ?_
  refine (ldb2 (e' := .bf16) 0 (256 * o) xo iv (z 0) (z 1) (y 0) (y 1) (h0.trans (Nat.zero_add _).symm) h1).trans (congrArg xo (eq_ix2 y).symm)

end Spec

end Cert.Proof.Step

end
-- ==== Proof.Blocks.lean ====
module

public import proofs.«01_k».proof.Proof.Step
public import Idealize.ShloMosaic.Lib.Pipeline.ReadBack

@[expose] public section

set_option maxRecDepth 16384

noncomputable section

/-! The output blocks of a grid point, store by store: eight heads over the block filled first. -/

namespace Cert.Proof.Blocks

open Idealize.ShloMosaic Idealize.ShloMosaic.TcCoe Idealize.SL.Sem
open Cert.Kernel9Ideal Cert.Kernel9Ideal.Gen Cert.Proof.Mlstm Cert.Proof.Step

section A
variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x128 .f32) (harg6 : arg6.IsWhole) (arg7 : Memref sig .tc .vmem S1x8x256x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x256x128 .f32) (harg12 : arg12.IsWhole) (arg13 : Memref sig .tc .vmem S1x8x128 .f32) (harg13 : arg13.IsWhole) (arg14 : Memref sig .tc .vmem S1x8x128 .f32) (harg14 : arg14.IsWhole) (hc0 : cond0_0 i) (hc1 : cond0_1 i)
    (x0 : Vec Ideal S128x1024 .f32) (x1 : Vec Ideal S128x1024 .f32) (x2 : Vec Ideal S128x2048 .f32) (x3 : Vec Ideal S128x2048 .f32) (x4 : Vec Ideal S16x128 .f32) (x5 : Vec Ideal S1x8x256x128 .f32) (x6 : Vec Ideal S1x8x128 .f32) (x7 : Vec Ideal S1x8x128 .f32) (x8 : Vec Ideal S1x2048 .f32)
  (b : Fin 32) (hi : (i 0).val = b.val) (hF : Below4 x4)
include hi hF

theorem atA_12 (y : S1x8x128.Idx) : out0_A_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = spM b x4 x7 (y 1) := by
  unfold out0_A_12; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact m_piece b x4 x7 i hi hF 7 (by decide) (by decide) (by decide) z y h1
  · exact m_piece b x4 x7 i hi hF 6 (by decide) (by decide) (by decide) z y h1
  · exact m_piece b x4 x7 i hi hF 5 (by decide) (by decide) (by decide) z y h1
  · exact m_piece b x4 x7 i hi hF 4 (by decide) (by decide) (by decide) z y h1
  · exact m_piece b x4 x7 i hi hF 3 (by decide) (by decide) (by decide) z y h1
  · exact m_piece b x4 x7 i hi hF 2 (by decide) (by decide) (by decide) z y h1
  · exact m_piece b x4 x7 i hi hF 1 (by decide) (by decide) (by decide) z y h1
  · exact m_piece b x4 x7 i hi hF 0 (by decide) (by decide) (by decide) z y (h1.trans (Nat.zero_add _).symm)

theorem atA_11 (y : S1x8x128.Idx) : out0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = spN b x1 x4 x6 x7 (y 1) (y 2) := by
  unfold out0_A_11; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact n_piece b x1 x4 x6 x7 i hi hF 7 (by decide) (by decide) (by decide) (by decide) (by decide) z y h1 h2
  · exact n_piece b x1 x4 x6 x7 i hi hF 6 (by decide) (by decide) (by decide) (by decide) (by decide) z y h1 h2
  · exact n_piece b x1 x4 x6 x7 i hi hF 5 (by decide) (by decide) (by decide) (by decide) (by decide) z y h1 h2
  · exact n_piece b x1 x4 x6 x7 i hi hF 4 (by decide) (by decide) (by decide) (by decide) (by decide) z y h1 h2
  · exact n_piece b x1 x4 x6 x7 i hi hF 3 (by decide) (by decide) (by decide) (by decide) (by decide) z y h1 h2
  · exact n_piece b x1 x4 x6 x7 i hi hF 2 (by decide) (by decide) (by decide) (by decide) (by decide) z y h1 h2
  · exact n_piece b x1 x4 x6 x7 i hi hF 1 (by decide) (by decide) (by decide) (by decide) (by decide) z y h1 h2
  · exact n_piece b x1 x4 x6 x7 i hi hF 0 (by decide) (by decide) (by decide) (by decide) (by decide) z y (h1.trans (Nat.zero_add _).symm) h2

theorem atA_10 (y : S1x8x256x128.Idx) : out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y = spC b x1 x2 x4 x5 x7 (y 1) (y 2) (y 3) := by
  unfold out0_A_10; frame_out
  simp (disch := decide) only [↓ View.readCov_skip, ↓ View.readCov_cons_toLoadRect, ↓ View.readCov_fill]
  refine (drop9 _ _ _ _ _ _ _ _ _ y (View.cover_of_tiled _ ![1, 1, 256, 128] (by rfl) y)).trans ?_
  canon_tiles z h
  · exact C_piece b x1 x2 x4 x5 x7 i hi hF 7 (by decide) (by decide) (by decide) (by decide) (by decide) (by decide) z y h1 h2 h3
  · exact C_piece b x1 x2 x4 x5 x7 i hi hF 6 (by decide) (by decide) (by decide) (by decide) (by decide) (by decide) z y h1 h2 h3
  · exact C_piece b x1 x2 x4 x5 x7 i hi hF 5 (by decide) (by decide) (by decide) (by decide) (by decide) (by decide) z y h1 h2 h3
  · exact C_piece b x1 x2 x4 x5 x7 i hi hF 4 (by decide) (by decide) (by decide) (by decide) (by decide) (by decide) z y h1 h2 h3
  · exact C_piece b x1 x2 x4 x5 x7 i hi hF 3 (by decide) (by decide) (by decide) (by decide) (by decide) (by decide) z y h1 h2 h3
  · exact C_piece b x1 x2 x4 x5 x7 i hi hF 2 (by decide) (by decide) (by decide) (by decide) (by decide) (by decide) z y h1 h2 h3
  · exact C_piece b x1 x2 x4 x5 x7 i hi hF 1 (by decide) (by decide) (by decide) (by decide) (by decide) (by decide) z y h1 h2 h3
  · exact C_piece b x1 x2 x4 x5 x7 i hi hF 0 (by decide) (by decide) (by decide) (by decide) (by decide) (by decide) z y (h1.trans (Nat.zero_add _).symm) h2 h3

theorem atA_9 (y : S128x2048.Idx) (hy : (y 0).val / 4 = b.val) : out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y
    = spY b x0 x1 x2 x3 x4 x5 x6 x7 x8 ⟨(y 1).val / 256, by have := (y 1).isLt; change _ < 2048 at this; omega⟩ ⟨(y 0).val % 4, by omega⟩ ⟨(y 1).val % 256, by omega⟩ := by
  unfold out0_A_9; frame_out
  simp (disch := decide) only [↓ View.readCov_skip, ↓ View.readCov_cons_toLoadRect, ↓ View.readCov_fill]
  refine (drop9 _ _ _ _ _ _ _ _ _ y (View.cover_of_tiled _ ![128, 256] (by rfl) y)).trans ?_
  canon_tiles z h
  · exact Y_piece b x0 x1 x2 x3 x4 x5 x6 x7 x8 i hi hF 7 (by decide) (by decide) (by decide) (by decide) (by decide) (by decide) (by decide) (by decide) (by decide) _ z y h0 h1 hy
  · exact Y_piece b x0 x1 x2 x3 x4 x5 x6 x7 x8 i hi hF 6 (by decide) (by decide) (by decide) (by decide) (by decide) (by decide) (by decide) (by decide) (by decide) _ z y h0 h1 hy
  · exact Y_piece b x0 x1 x2 x3 x4 x5 x6 x7 x8 i hi hF 5 (by decide) (by decide) (by decide) (by decide) (by decide) (by decide) (by decide) (by decide) (by decide) _ z y h0 h1 hy
  · exact Y_piece b x0 x1 x2 x3 x4 x5 x6 x7 x8 i hi hF 4 (by decide) (by decide) (by decide) (by decide) (by decide) (by decide) (by decide) (by decide) (by decide) _ z y h0 h1 hy
  · exact Y_piece b x0 x1 x2 x3 x4 x5 x6 x7 x8 i hi hF 3 (by decide) (by decide) (by decide) (by decide) (by decide) (by decide) (by decide) (by decide) (by decide) _ z y h0 h1 hy
  · exact Y_piece b x0 x1 x2 x3 x4 x5 x6 x7 x8 i hi hF 2 (by decide) (by decide) (by decide) (by decide) (by decide) (by decide) (by decide) (by decide) (by decide) _ z y h0 h1 hy
  · exact Y_piece b x0 x1 x2 x3 x4 x5 x6 x7 x8 i hi hF 1 (by decide) (by decide) (by decide) (by decide) (by decide) (by decide) (by decide) (by decide) (by decide) _ z y h0 h1 hy
  · exact Y_piece b x0 x1 x2 x3 x4 x5 x6 x7 x8 i hi hF 0 (by decide) (by decide) (by decide) (by decide) (by decide) (by decide) (by decide) (by decide) (by decide) _ z y h0 (h1.trans (Nat.zero_add _).symm) hy

end A

section B
variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x128 .f32) (harg6 : arg6.IsWhole) (arg7 : Memref sig .tc .vmem S1x8x256x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x256x128 .f32) (harg12 : arg12.IsWhole) (arg13 : Memref sig .tc .vmem S1x8x128 .f32) (harg13 : arg13.IsWhole) (arg14 : Memref sig .tc .vmem S1x8x128 .f32) (harg14 : arg14.IsWhole) (hc0 : cond0_0 i) (hc1 : ¬cond0_1 i)
    (x0 : Vec Ideal S128x1024 .f32) (x1 : Vec Ideal S128x1024 .f32) (x2 : Vec Ideal S128x2048 .f32) (x3 : Vec Ideal S128x2048 .f32) (x4 : Vec Ideal S16x128 .f32) (x5 : Vec Ideal S1x8x256x128 .f32) (x6 : Vec Ideal S1x8x128 .f32) (x7 : Vec Ideal S1x8x128 .f32) (x8 : Vec Ideal S1x2048 .f32) (xo9 : Vec Ideal S128x2048 .bf16)
  (b : Fin 32) (hi : (i 0).val = b.val) (hF : Below4 x4)
include hi hF

theorem atB_12 (y : S1x8x128.Idx) : out0_B_12 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xo9 y = spM b x4 x7 (y 1) := by
  unfold out0_B_12; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact m_piece b x4 x7 i hi hF 7 (by decide) (by decide) (by decide) z y h1
  · exact m_piece b x4 x7 i hi hF 6 (by decide) (by decide) (by decide) z y h1
  · exact m_piece b x4 x7 i hi hF 5 (by decide) (by decide) (by decide) z y h1
  · exact m_piece b x4 x7 i hi hF 4 (by decide) (by decide) (by decide) z y h1
  · exact m_piece b x4 x7 i hi hF 3 (by decide) (by decide) (by decide) z y h1
  · exact m_piece b x4 x7 i hi hF 2 (by decide) (by decide) (by decide) z y h1
  · exact m_piece b x4 x7 i hi hF 1 (by decide) (by decide) (by decide) z y h1
  · exact m_piece b x4 x7 i hi hF 0 (by decide) (by decide) (by decide) z y (h1.trans (Nat.zero_add _).symm)

theorem atB_11 (y : S1x8x128.Idx) : out0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xo9 y = spN b x1 x4 x6 x7 (y 1) (y 2) := by
  unfold out0_B_11; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact n_piece b x1 x4 x6 x7 i hi hF 7 (by decide) (by decide) (by decide) (by decide) (by decide) z y h1 h2
  · exact n_piece b x1 x4 x6 x7 i hi hF 6 (by decide) (by decide) (by decide) (by decide) (by decide) z y h1 h2
  · exact n_piece b x1 x4 x6 x7 i hi hF 5 (by decide) (by decide) (by decide) (by decide) (by decide) z y h1 h2
  · exact n_piece b x1 x4 x6 x7 i hi hF 4 (by decide) (by decide) (by decide) (by decide) (by decide) z y h1 h2
  · exact n_piece b x1 x4 x6 x7 i hi hF 3 (by decide) (by decide) (by decide) (by decide) (by decide) z y h1 h2
  · exact n_piece b x1 x4 x6 x7 i hi hF 2 (by decide) (by decide) (by decide) (by decide) (by decide) z y h1 h2
  · exact n_piece b x1 x4 x6 x7 i hi hF 1 (by decide) (by decide) (by decide) (by decide) (by decide) z y h1 h2
  · exact n_piece b x1 x4 x6 x7 i hi hF 0 (by decide) (by decide) (by decide) (by decide) (by decide) z y (h1.trans (Nat.zero_add _).symm) h2

theorem atB_10 (y : S1x8x256x128.Idx) : out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xo9 y = spC b x1 x2 x4 x5 x7 (y 1) (y 2) (y 3) := by
  unfold out0_B_10; frame_out
  simp (disch := decide) only [↓ View.readCov_skip, ↓ View.readCov_cons_toLoadRect, ↓ View.readCov_fill]
  refine (drop9 _ _ _ _ _ _ _ _ _ y (View.cover_of_tiled _ ![1, 1, 256, 128] (by rfl) y)).trans ?_
  canon_tiles z h
  · exact C_piece b x1 x2 x4 x5 x7 i hi hF 7 (by decide) (by decide) (by decide) (by decide) (by decide) (by decide) z y h1 h2 h3
  · exact C_piece b x1 x2 x4 x5 x7 i hi hF 6 (by decide) (by decide) (by decide) (by decide) (by decide) (by decide) z y h1 h2 h3
  · exact C_piece b x1 x2 x4 x5 x7 i hi hF 5 (by decide) (by decide) (by decide) (by decide) (by decide) (by decide) z y h1 h2 h3
  · exact C_piece b x1 x2 x4 x5 x7 i hi hF 4 (by decide) (by decide) (by decide) (by decide) (by decide) (by decide) z y h1 h2 h3
  · exact C_piece b x1 x2 x4 x5 x7 i hi hF 3 (by decide) (by decide) (by decide) (by decide) (by decide) (by decide) z y h1 h2 h3
  · exact C_piece b x1 x2 x4 x5 x7 i hi hF 2 (by decide) (by decide) (by decide) (by decide) (by decide) (by decide) z y h1 h2 h3
  · exact C_piece b x1 x2 x4 x5 x7 i hi hF 1 (by decide) (by decide) (by decide) (by decide) (by decide) (by decide) z y h1 h2 h3
  · exact C_piece b x1 x2 x4 x5 x7 i hi hF 0 (by decide) (by decide) (by decide) (by decide) (by decide) (by decide) z y (h1.trans (Nat.zero_add _).symm) h2 h3

theorem atB_9 (y : S128x2048.Idx) (hy : (y 0).val / 4 = b.val) : out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xo9 y
    = spY b x0 x1 x2 x3 x4 x5 x6 x7 x8 ⟨(y 1).val / 256, by have := (y 1).isLt; change _ < 2048 at this; omega⟩ ⟨(y 0).val % 4, by omega⟩ ⟨(y 1).val % 256, by omega⟩ := by
  unfold out0_B_9; frame_out
  simp (disch := decide) only [↓ View.readCov_skip, ↓ View.readCov_cons_toLoadRect, ↓ View.readCov_fill]
  canon_tiles z h
  · exact Y_piece b x0 x1 x2 x3 x4 x5 x6 x7 x8 i hi hF 7 (by decide) (by decide) (by decide) (by decide) (by decide) (by decide) (by decide) (by decide) (by decide) _ z y h0 h1 hy
  · exact Y_piece b x0 x1 x2 x3 x4 x5 x6 x7 x8 i hi hF 6 (by decide) (by decide) (by decide) (by decide) (by decide) (by decide) (by decide) (by decide) (by decide) _ z y h0 h1 hy
  · exact Y_piece b x0 x1 x2 x3 x4 x5 x6 x7 x8 i hi hF 5 (by decide) (by decide) (by decide) (by decide) (by decide) (by decide) (by decide) (by decide) (by decide) _ z y h0 h1 hy
  · exact Y_piece b x0 x1 x2 x3 x4 x5 x6 x7 x8 i hi hF 4 (by decide) (by decide) (by decide) (by decide) (by decide) (by decide) (by decide) (by decide) (by decide) _ z y h0 h1 hy
  · exact Y_piece b x0 x1 x2 x3 x4 x5 x6 x7 x8 i hi hF 3 (by decide) (by decide) (by decide) (by decide) (by decide) (by decide) (by decide) (by decide) (by decide) _ z y h0 h1 hy
  · exact Y_piece b x0 x1 x2 x3 x4 x5 x6 x7 x8 i hi hF 2 (by decide) (by decide) (by decide) (by decide) (by decide) (by decide) (by decide) (by decide) (by decide) _ z y h0 h1 hy
  · exact Y_piece b x0 x1 x2 x3 x4 x5 x6 x7 x8 i hi hF 1 (by decide) (by decide) (by decide) (by decide) (by decide) (by decide) (by decide) (by decide) (by decide) _ z y h0 h1 hy
  · exact Y_piece b x0 x1 x2 x3 x4 x5 x6 x7 x8 i hi hF 0 (by decide) (by decide) (by decide) (by decide) (by decide) (by decide) (by decide) (by decide) (by decide) _ z y h0 (h1.trans (Nat.zero_add _).symm) hy

omit hi hF in
theorem keep (y : S128x2048.Idx) (hy : (y 0).val / 4 ≠ (i 0).val) : out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xo9 y = xo9 y := by
  unfold out0_B_9; frame_out
  simp (disch := decide) only [↓ View.readCov_skip, ↓ View.readCov_cons_toLoadRect, ↓ View.readCov_fill]
  canon_tiles z h
  · exact keep_piece i 7 xo9 (by decide) _ z y h0 h1 hy
  · exact keep_piece i 6 xo9 (by decide) _ z y h0 h1 hy
  · exact keep_piece i 5 xo9 (by decide) _ z y h0 h1 hy
  · exact keep_piece i 4 xo9 (by decide) _ z y h0 h1 hy
  · exact keep_piece i 3 xo9 (by decide) _ z y h0 h1 hy
  · exact keep_piece i 2 xo9 (by decide) _ z y h0 h1 hy
  · exact keep_piece i 1 xo9 (by decide) _ z y h0 h1 hy
  · exact keep_piece i 0 xo9 (by decide) _ z y h0 (h1.trans (Nat.zero_add _).symm) hy

end B

end Cert.Proof.Blocks

end
-- ==== Proof.State.lean ====
module

public import proofs.«01_k».proof.Proof.Cell

@[expose] public section

noncomputable section

/-! The mLSTM's four steps over the sample as a function of the call's arguments: sequence `b`, head `h`, step `t`. -/

namespace Cert.Proof.State

open Idealize.ShloMosaic

section
variable (z : FVec Ideal ⟨2, ![8320, 6144]⟩ .f32) (g : FVec Ideal ⟨2, ![16, 8320]⟩ .f32) (C : FVec Ideal ⟨4, ![32, 8, 256, 128]⟩ .f32) (n : FVec Ideal ⟨3, ![32, 8, 128]⟩ .f32)
  (m : FVec Ideal ⟨2, ![32, 8]⟩ .f32) (w : FVec Ideal ⟨1, ![2048]⟩ .f32)

/-- The row of step `s` of sequence `b`. -/
def row (b : Fin 32) (s : Fin 4) : Fin 8320 := ⟨8192 + (4 * b.val + s.val), by omega⟩

def ig (b : Fin 32) (h : Fin 8) (s : Fin 4) : EReal := g (ix2 ⟨h.val, by omega⟩ (row b s))
def lf (b : Fin 32) (h : Fin 8) (s : Fin 4) : EReal := g (ix2 ⟨8 + h.val, by omega⟩ (row b s))
def q (b : Fin 32) (h : Fin 8) (s : Fin 4) (d : Fin 128) : EReal := z (ix2 (row b s) ⟨128 * h.val + d.val, by omega⟩)
def k (b : Fin 32) (h : Fin 8) (s : Fin 4) (d : Fin 128) : EReal := z (ix2 (row b s) ⟨1024 + (128 * h.val + d.val), by omega⟩)
def v (b : Fin 32) (h : Fin 8) (s : Fin 4) (e : Fin 256) : EReal := z (ix2 (row b s) ⟨2048 + (256 * h.val + e.val), by omega⟩)

/-- The new matrix state, normaliser and stabiliser. -/
def outC (b : Fin 32) (h : Fin 8) (e : Fin 256) (d : Fin 128) : EReal :=
  Cell.cn (ig g b h) (lf g b h) (m (ix2 b h)) (k z b h) (v z b h) (fun e d => C (ix4 b h e d)) e d
def outN (b : Fin 32) (h : Fin 8) (d : Fin 128) : EReal :=
  Cell.nn (ig g b h) (lf g b h) (m (ix2 b h)) (k z b h) (fun d => n (ix3 b h d)) d
def outM (b : Fin 32) (h : Fin 8) : EReal := Cell.mn (ig g b h) (lf g b h) (m (ix2 b h))

/-- The head's value before the norm. -/
def hid (b : Fin 32) (h : Fin 8) (t : Fin 4) (e : Fin 256) : EReal :=
  Cell.hv (ig g b h) (lf g b h) (m (ix2 b h)) (q z b h) (k z b h) (v z b h) (fun e d => C (ix4 b h e d)) (fun d => n (ix3 b h d)) t e

/-- The gated output. -/
def outY (b : Fin 32) (h : Fin 8) (t : Fin 4) (e : Fin 256) : EReal :=
  Cell.fin (hid z g C n m b h t) e (w (ix1 ⟨256 * h.val + e.val, by omega⟩)) (z (ix2 (row b t) ⟨4096 + (256 * h.val + e.val), by omega⟩))

/-- The same by row and column of the result. -/
def outR (i : Fin 128) (j : Fin 2048) : EReal :=
  outY z g C n m w ⟨i.val / 4, by omega⟩ ⟨j.val / 256, by omega⟩ ⟨i.val % 4, by omega⟩ ⟨j.val % 256, by omega⟩

end

/-- The log forget gates of the sample are real numbers. -/
def Below (g : FVec Ideal ⟨2, ![16, 8320]⟩ .f32) : Prop := ∀ (h : Fin 8) (x : Fin 128), g (ix2 ⟨8 + h.val, by omega⟩ ⟨8192 + x.val, by omega⟩) ≠ ⊤

end Cert.Proof.State

end
-- ==== Proof.Sample.lean ====
module

public import proofs.«01_k».proof.Proof.Blocks
public import proofs.«01_k».proof.Proof.State
public import proofs.«01_k».proof.Proof.Attn
public import proofs.«01_k».proof.Proof.Gen.Pre_forget_below
public import Idealize.ShloMosaic.Lib.StableHlo.ReadAt

@[expose] public section

set_option maxRecDepth 16384

noncomputable section

/-! The kernel's sample call: the grid's blocks put together into the four results. -/

namespace Cert.Proof.Sample

open Idealize.ShloMosaic Idealize.ShloMosaic.TcCoe Idealize.SL.Sem
open Idealize.ShloMosaic.Pipeline (Dat)
open Cert.Kernel9Ideal Cert.Kernel9Ideal.Gen Cert.Proof.Step

variable (m : (ℓ : Loc nD τ sig) → Buf (Elt Ideal) ℓ)

theorem idx : ∀ t : Fin cfg0.N, win0_0.index t = ![64, 0] ∧ win0_1.index t = ![64, 1] ∧ win0_2.index t = ![64, 1] ∧ win0_3.index t = ![64, 2] ∧ win0_4.index t = ![0, 64]
    ∧ win0_5.index t = ![t.val, 0, 0, 0] ∧ win0_6.index t = ![t.val, 0, 0] ∧ win0_7.index t = ![t.val, 0, 0] ∧ win0_8.index t = ![0, 0] ∧ win0_9.index t = ![0, 0]
    ∧ win0_10.index t = ![t.val, 0, 0, 0] ∧ win0_11.index t = ![t.val, 0, 0] ∧ win0_12.index t = ![t.val, 0, 0] :=
  (by decide +kernel : ∀ t : Fin grid0.N, _)

theorem coord : ∀ t : Fin cfg0.N, (grid0.coords t 0).val = t.val :=
  (by decide +kernel : ∀ t : Fin grid0.N, (grid0.coords t 0).val = t.val)

/-- The sequence of point `t`. -/
def seq (t : Fin cfg0.N) : Fin 32 := ⟨t.val, t.isLt⟩

theorem B0 (c : Dev nD) (t : Fin cfg0.N) (r : Fin 128) (j : Fin 1024) : iblk m c 0 t (ix2 r j) = m ((c : Thread nD τ).loc main_arg0) (ix2 ⟨8192 + r.val, by omega⟩ ⟨j.val, by omega⟩) := by
  blk_point [iblk, V, idx t]
theorem B1 (c : Dev nD) (t : Fin cfg0.N) (r : Fin 128) (j : Fin 1024) : iblk m c 1 t (ix2 r j) = m ((c : Thread nD τ).loc main_arg0) (ix2 ⟨8192 + r.val, by omega⟩ ⟨1024 + j.val, by omega⟩) := by
  blk_point [iblk, V, idx t]
theorem B2 (c : Dev nD) (t : Fin cfg0.N) (r : Fin 128) (j : Fin 2048) : iblk m c 2 t (ix2 r j) = m ((c : Thread nD τ).loc main_arg0) (ix2 ⟨8192 + r.val, by omega⟩ ⟨2048 + j.val, by omega⟩) := by
  blk_point [iblk, V, idx t]
theorem B3 (c : Dev nD) (t : Fin cfg0.N) (r : Fin 128) (j : Fin 2048) : iblk m c 3 t (ix2 r j) = m ((c : Thread nD τ).loc main_arg0) (ix2 ⟨8192 + r.val, by omega⟩ ⟨4096 + j.val, by omega⟩) := by
  blk_point [iblk, V, idx t]
theorem B4 (c : Dev nD) (t : Fin cfg0.N) (r : Fin 16) (j : Fin 128) : iblk m c 4 t (ix2 r j) = m ((c : Thread nD τ).loc main_arg1) (ix2 r ⟨8192 + j.val, by omega⟩) := by
  blk_point [iblk, V, idx t]
theorem B5 (c : Dev nD) (t : Fin cfg0.N) (h : Fin 8) (e : Fin 256) (d : Fin 128) : iblk m c 5 t (ix4 0 h e d) = m ((c : Thread nD τ).loc main_arg2) (ix4 (seq t) h e d) := by
  blk_point [iblk, V, idx t, seq]
theorem B6 (c : Dev nD) (t : Fin cfg0.N) (h : Fin 8) (d : Fin 128) : iblk m c 6 t (ix3 0 h d) = m ((c : Thread nD τ).loc main_arg3) (ix3 (seq t) h d) := by
  blk_point [iblk, V, idx t, seq]

theorem V7 (c : Dev nD) (b : Fin 32) (h : Fin 8) (d : Fin 128) : (V m c main_v1 : FVec Ideal S32x8x128 .f32) (ix3 b h d) = m ((c : Thread nD τ).loc main_arg4) (ix2 b h) := by
  unfold V
  after_reads_at

theorem V8 (c : Dev nD) (j : Fin 2048) : (V m c main_v2 : FVec Ideal S1x2048 .f32) (ix2 0 j) = m ((c : Thread nD τ).loc main_arg5) (ix1 j) := by
  unfold V
  after_reads_at

theorem B7 (c : Dev nD) (t : Fin cfg0.N) (h : Fin 8) (d : Fin 128) : iblk m c 7 t (ix3 0 h d) = m ((c : Thread nD τ).loc main_arg4) (ix2 (seq t) h) := by
  have e : iblk m c 7 t (ix3 0 h d) = (V m c main_v1 : S32x8x128.Idx → EReal) (ix3 (seq t) h d) := by
    blk_point [iblk, idx t, seq]
  exact e.trans (V7 m c _ h d)

theorem B8 (c : Dev nD) (t : Fin cfg0.N) (j : Fin 2048) : iblk m c 8 t (ix2 0 j) = m ((c : Thread nD τ).loc main_arg5) (ix1 j) := by
  have e : iblk m c 8 t (ix2 0 j) = (V m c main_v2 : S1x2048.Idx → EReal) (ix2 0 j) := by
    blk_point [iblk, idx t]
  exact e.trans (V8 m c j)

theorem E10 (t : Fin cfg0.N) (y : S1x8x256x128.Idx) : ((cfg0.win 10).blk t).view.emb y = ix4 (seq t) (y 1) (y 2) (y 3) := by
  blk_ext [idx t, seq]
theorem E11 (t : Fin cfg0.N) (y : S1x8x128.Idx) : ((cfg0.win 11).blk t).view.emb y = ix3 (seq t) (y 1) (y 2) := by
  blk_ext [idx t, seq]
theorem E12 (t : Fin cfg0.N) (y : S1x8x128.Idx) : ((cfg0.win 12).blk t).view.emb y = ix3 (seq t) (y 1) (y 2) := by
  blk_ext [idx t, seq]
theorem E9 (t : Fin cfg0.N) (y : S128x2048.Idx) : ((cfg0.win 9).blk t).view.emb y = ix2 (y 0) (y 1) := by
  blk_ext [idx t]

section Values
variable (c : Dev nD) (t : Fin cfg0.N)

theorem igs_eq (h : Fin 8) : Mlstm.igs (iblk m c 4 t) h.val h.isLt (seq t) = State.ig (m ((c : Thread nD τ).loc main_arg1)) (seq t) h := funext fun s => B4 m c t _ _
theorem lfs_eq (h : Fin 8) : Mlstm.lfs (iblk m c 4 t) h.val h.isLt (seq t) = State.lf (m ((c : Thread nD τ).loc main_arg1)) (seq t) h := funext fun s => B4 m c t _ _

theorem spC_eq (h : Fin 8) (e : Fin 256) (d : Fin 128) : spC (seq t) (iblk m c 1 t) (iblk m c 2 t) (iblk m c 4 t) (iblk m c 5 t) (iblk m c 7 t) h e d
    = State.outC (m ((c : Thread nD τ).loc main_arg0)) (m ((c : Thread nD τ).loc main_arg1)) (m ((c : Thread nD τ).loc main_arg2)) (m ((c : Thread nD τ).loc main_arg4)) (seq t) h e d := by
  unfold spC State.outC
  rw [igs_eq, lfs_eq]
  exact cn_congr (B7 m c t h 0) (fun s d => B1 m c t _ _) (fun s e => B2 m c t _ _) (fun e d => B5 m c t h e d) e d

theorem spN_eq (h : Fin 8) (d : Fin 128) : spN (seq t) (iblk m c 1 t) (iblk m c 4 t) (iblk m c 6 t) (iblk m c 7 t) h d
    = State.outN (m ((c : Thread nD τ).loc main_arg0)) (m ((c : Thread nD τ).loc main_arg1)) (m ((c : Thread nD τ).loc main_arg3)) (m ((c : Thread nD τ).loc main_arg4)) (seq t) h d := by
  unfold spN State.outN
  rw [igs_eq, lfs_eq]
  exact nn_congr (B7 m c t h 0) (fun s d => B1 m c t _ _) (fun d => B6 m c t h d) d

theorem spM_eq (h : Fin 8) : spM (seq t) (iblk m c 4 t) (iblk m c 7 t) h = State.outM (m ((c : Thread nD τ).loc main_arg1)) (m ((c : Thread nD τ).loc main_arg4)) (seq t) h := by
  unfold spM State.outM
  rw [igs_eq, lfs_eq]
  exact congrArg (Cell.mn _ _) (B7 m c t h 0)

theorem spY_eq (h : Fin 8) (s : Fin 4) (e : Fin 256) : spY (seq t) (iblk m c 0 t) (iblk m c 1 t) (iblk m c 2 t) (iblk m c 3 t) (iblk m c 4 t) (iblk m c 5 t) (iblk m c 6 t) (iblk m c 7 t) (iblk m c 8 t) h s e
    = State.outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seq t) h s e := by
  unfold spY State.outY
  rw [igs_eq, lfs_eq]
  refine congr (congr (congr (congrArg Cell.fin ?_) rfl) (B8 m c t _)) (B3 m c t _ _)
  exact hv_congr (B7 m c t h 0) (fun s d => B0 m c t _ _) (fun s d => B1 m c t _ _) (fun s e => B2 m c t _ _) (fun e d => B5 m c t h e d) (fun d => B6 m c t h d) s

end Values

variable (c : Dev nD) (hR : State.Below (m ((c : Thread nD τ).loc main_arg1)))
include hR

theorem real4 (t : Fin cfg0.N) : Below4 (iblk m c 4 t) := fun h x =>
  fun e => hR h x ((B4 m c t _ x).symm.trans e)

theorem final10 : (dats m 0 c).arrAt 10 (cfgs 0).N
    = fun i : S32x8x256x128.Idx => State.outC (m ((c : Thread nD τ).loc main_arg0)) (m ((c : Thread nD τ).loc main_arg1)) (m ((c : Thread nD τ).loc main_arg2)) (m ((c : Thread nD τ).loc main_arg4)) (i 0) (i 1) (i 2) (i 3) := by
  refine (dats m 0 c).arrAt_eq_of_covers 10 _ (by decide +kernel) fun t _ y => ?_
  by_cases h : t.val % 32 = 0
  · blk_simp; rw [after0_10, outsAt0_A m c t h, E10]; dsimp only
    exact (Blocks.atA_10 _ _ _ _ _ _ _ _ _ _ _ _ _ _ _ _ _ _ _ _ _ _ _ _ _ _ _ _ _ _ _ _ _ _ _ _ _ _ _ (seq t) (coord t) (real4 m c hR t) y).trans (spC_eq m c t _ _ _)
  · blk_simp; rw [after0_10, outsAt0_B m c t h, E10]; dsimp only
    exact (Blocks.atB_10 _ _ _ _ _ _ _ _ _ _ _ _ _ _ _ _ _ _ _ _ _ _ _ _ _ _ _ _ _ _ _ _ _ _ _ _ _ _ _ _ (seq t) (coord t) (real4 m c hR t) y).trans (spC_eq m c t _ _ _)

theorem final11 : (dats m 0 c).arrAt 11 (cfgs 0).N
    = fun i : S32x8x128.Idx => State.outN (m ((c : Thread nD τ).loc main_arg0)) (m ((c : Thread nD τ).loc main_arg1)) (m ((c : Thread nD τ).loc main_arg3)) (m ((c : Thread nD τ).loc main_arg4)) (i 0) (i 1) (i 2) := by
  refine (dats m 0 c).arrAt_eq_of_covers 11 _ (by decide +kernel) fun t _ y => ?_
  by_cases h : t.val % 32 = 0
  · blk_simp; rw [after0_11, outsAt0_A m c t h, E11]; dsimp only
    exact (Blocks.atA_11 _ _ _ _ _ _ _ _ _ _ _ _ _ _ _ _ _ _ _ _ _ _ _ _ _ _ _ _ _ _ _ _ _ _ _ _ _ _ _ (seq t) (coord t) (real4 m c hR t) y).trans (spN_eq m c t _ _)
  · blk_simp; rw [after0_11, outsAt0_B m c t h, E11]; dsimp only
    exact (Blocks.atB_11 _ _ _ _ _ _ _ _ _ _ _ _ _ _ _ _ _ _ _ _ _ _ _ _ _ _ _ _ _ _ _ _ _ _ _ _ _ _ _ _ (seq t) (coord t) (real4 m c hR t) y).trans (spN_eq m c t _ _)

theorem final12 : (dats m 0 c).arrAt 12 (cfgs 0).N
    = fun i : S32x8x128.Idx => State.outM (m ((c : Thread nD τ).loc main_arg1)) (m ((c : Thread nD τ).loc main_arg4)) (i 0) (i 1) := by
  refine (dats m 0 c).arrAt_eq_of_covers 12 _ (by decide +kernel) fun t _ y => ?_
  by_cases h : t.val % 32 = 0
  · blk_simp; rw [after0_12, outsAt0_A m c t h, E12]; dsimp only
    exact (Blocks.atA_12 _ _ _ _ _ _ _ _ _ _ _ _ _ _ _ _ _ _ _ _ _ _ _ _ _ _ _ _ _ _ _ _ _ _ _ _ _ _ _ (seq t) (coord t) (real4 m c hR t) y).trans (spM_eq m c t _)
  · blk_simp; rw [after0_12, outsAt0_B m c t h, E12]; dsimp only
    exact (Blocks.atB_12 _ _ _ _ _ _ _ _ _ _ _ _ _ _ _ _ _ _ _ _ _ _ _ _ _ _ _ _ _ _ _ _ _ _ _ _ _ _ _ _ (seq t) (coord t) (real4 m c hR t) y).trans (spM_eq m c t _)

/-- After point `n` the rows of the first `n + 1` sequences are done. -/
theorem rows : ∀ (n : ℕ) (hn : n < cfg0.N) (y : S128x2048.Idx), (y 0).val / 4 ≤ n → (outsAt0 m c n hn).1 y
    = State.outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1)
  | 0, hn, y, h => by
    have e : (y 0).val / 4 = (seq ⟨0, hn⟩).val := Nat.le_zero.mp h
    rw [outsAt0_A m c ⟨0, hn⟩ rfl]; dsimp only
    refine (Blocks.atA_9 _ _ _ _ _ _ _ _ _ _ _ _ _ _ _ _ _ _ _ _ _ _ _ _ _ _ _ _ _ _ _ _ _ _ _ _ _ _ _ (seq ⟨0, hn⟩) (coord ⟨0, hn⟩) (real4 m c hR _) y e).trans ?_
    refine (spY_eq m c ⟨0, hn⟩ _ _ _).trans ?_
    unfold State.outR
    exact congrArg (fun b => State.outY _ _ _ _ _ _ b _ _ _) (Fin.ext e.symm)
  | n + 1, hn, y, h => by
    have hN : n + 1 < 32 := hn
    have hm : ¬(n + 1) % 32 = 0 := by omega
    rw [outsAt0_B m c ⟨n + 1, hn⟩ hm]; dsimp only
    by_cases e : (y 0).val / 4 = n + 1
    · refine (Blocks.atB_9 _ _ _ _ _ _ _ _ _ _ _ _ _ _ _ _ _ _ _ _ _ _ _ _ _ _ _ _ _ _ _ _ _ _ _ _ _ _ _ _ (seq ⟨n + 1, hn⟩) (coord ⟨n + 1, hn⟩) (real4 m c hR _) y e).trans ?_
      refine (spY_eq m c ⟨n + 1, hn⟩ _ _ _).trans ?_
      unfold State.outR
      exact congrArg (fun b => State.outY _ _ _ _ _ _ b _ _ _) (Fin.ext e.symm)
    · refine (Blocks.keep _ _ _ _ _ _ _ _ _ _ _ _ _ _ _ _ _ _ _ _ _ _ _ _ _ _ _ _ _ _ _ _ _ _ _ _ _ _ _ _ y (fun e' => e (e'.trans (coord ⟨n + 1, hn⟩)))).trans ?_
      exact rows n (by omega) y (by omega)

theorem final9 : (dats m 0 c).arrAt 9 (cfgs 0).N
    = fun i : S128x2048.Idx => State.outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  have last : ∀ t : Fin cfg0.N, (cfg0.win 9).flush t = true → t.val = 31 := (by decide +kernel : ∀ t : Fin grid0.N, _)
  refine (dats m 0 c).arrAt_eq_of_covers 9 _ (by decide +kernel) fun t hf y => ?_
  blk_simp; rw [after0_9, E9]
  exact rows m c hR t.val t.isLt y (by have := last t hf; have : (y 0).val < 128 := (y 0).isLt; omega)

end Cert.Proof.Sample

namespace Cert.Proof.Sample
open Idealize.ShloMosaic Cert.Pre_forget_below

theorem below [Facts] (z : FVec Ideal S8320x6144 .f32) (g : FVec Ideal S16x8320 .f32) (C : FVec Ideal S32x8x256x128 .f32) (n : FVec Ideal S32x8x128 .f32) (m : FVec Ideal S32x8 .f32) (w : FVec Ideal S2048 .f32)
    (h : fn (F := Ideal) z g C n m w = fun _ => 1#1) : State.Below g := by
  intro a x
  have e := congrFun h (fun a => a.elim0)
  dsimp only [fn] at e
  have e3 := Host.reduce_andi_all _ _ _ _ _ e (ix2 a x)
  have e4 : (g (ix2 ⟨8 + a.val, by omega⟩ ⟨8192 + x.val, by omega⟩) : EReal) < ⊤ := by
    rw [← Attn.pos_inf]
    refine (Ideal.cmp_olt_eq_one _ _).1 (Eq.trans ?_ e3)
    refine congrArg (fun x : EReal => Ideal.cmp .olt x (Ideal.ofBits FTy.f32 0x7F800000#32)) (congrArg g ?_)
    funext k
    match k with
    | 0 => rfl
    | 1 => rfl
  exact e4.ne

end Cert.Proof.Sample

end
-- ==== Proof.Stages.lean ====
module

public import proofs.«01_k».proof.Proof.State
public import proofs.«01_k».proof.Proof.Soft
public import proofs.«01_k».proof.Proof.Gen.Reference9Ideal.Run

@[expose] public section

set_option maxRecDepth 16384

noncomputable section

/-! The reference's sample call in stages, each read at an index. -/

namespace Cert.Proof.Stages

open Idealize.ShloMosaic Idealize.ShloMosaic.TcCoe Idealize.SL.Sem
open Cert.Reference9Ideal Cert.Reference9Ideal.Gen

/-- Sequence, step, head and column of a row and column of the result. -/
def B (i : Fin 128) : Fin 32 := ⟨i.val / 4, by omega⟩
def T (i : Fin 128) : Fin 4 := ⟨i.val % 4, by omega⟩
def H (j : Fin 2048) : Fin 8 := ⟨j.val / 256, by omega⟩
def E (j : Fin 2048) : Fin 256 := ⟨j.val % 256, by omega⟩

def queries (arg0 : FVec Ideal S8320x6144 .f32) : FVec Ideal S32x8x4x128 .f32 :=
  transpose S32x8x4x128 [0, 2, 1, 3] (shapeCast S32x4x8x128 (extractStridedSlice S32x4x1024 ![0, 0, 0] (shapeCast S32x4x6144 (extractStridedSlice S128x6144 ![8192, 0] arg0 slices_S8320x6144_S128x6144_8192_0) shapeCasts_S128x6144_S32x4x6144) slices_S32x4x6144_S32x4x1024_0_0_0) shapeCasts_S32x4x1024_S32x4x8x128) transposes_S32x4x8x128_S32x8x4x128_0_2_1_3

theorem queries_at (arg0 : FVec Ideal S8320x6144 .f32) (b : Fin 32) (h : Fin 8) (t : Fin 4) (d : Fin 128) : queries arg0 (ix4 b h t d) = State.q arg0 b h t d := by
  unfold queries
  pointwise
  exact congrArg₂ (fun r c => arg0 (ix2 r c)) (Fin.ext (by simp only [State.row]; omega)) (Fin.ext (by simp only; omega))

def keys (arg0 : FVec Ideal S8320x6144 .f32) : FVec Ideal S32x8x4x128 .f32 :=
  transpose S32x8x4x128 [0, 2, 1, 3] (shapeCast S32x4x8x128 (extractStridedSlice S32x4x1024 ![0, 0, 1024] (shapeCast S32x4x6144 (extractStridedSlice S128x6144 ![8192, 0] arg0 slices_S8320x6144_S128x6144_8192_0) shapeCasts_S128x6144_S32x4x6144) slices_S32x4x6144_S32x4x1024_0_0_1024) shapeCasts_S32x4x1024_S32x4x8x128) transposes_S32x4x8x128_S32x8x4x128_0_2_1_3

theorem keys_at (arg0 : FVec Ideal S8320x6144 .f32) (b : Fin 32) (h : Fin 8) (t : Fin 4) (d : Fin 128) : keys arg0 (ix4 b h t d) = State.k arg0 b h t d := by
  unfold keys
  pointwise
  exact congrArg₂ (fun r c => arg0 (ix2 r c)) (Fin.ext (by simp only [State.row]; omega)) (Fin.ext (by simp only; omega))

def values (arg0 : FVec Ideal S8320x6144 .f32) : FVec Ideal S32x8x4x256 .f32 :=
  transpose S32x8x4x256 [0, 2, 1, 3] (shapeCast S32x4x8x256 (extractStridedSlice S32x4x2048 ![0, 0, 2048] (shapeCast S32x4x6144 (extractStridedSlice S128x6144 ![8192, 0] arg0 slices_S8320x6144_S128x6144_8192_0) shapeCasts_S128x6144_S32x4x6144) slices_S32x4x6144_S32x4x2048_0_0_2048) shapeCasts_S32x4x2048_S32x4x8x256) transposes_S32x4x8x256_S32x8x4x256_0_2_1_3

theorem values_at (arg0 : FVec Ideal S8320x6144 .f32) (b : Fin 32) (h : Fin 8) (t : Fin 4) (e : Fin 256) : values arg0 (ix4 b h t e) = State.v arg0 b h t e := by
  unfold values
  pointwise
  exact congrArg₂ (fun r c => arg0 (ix2 r c)) (Fin.ext (by simp only [State.row]; omega)) (Fin.ext (by simp only; omega))

def ogate (arg0 : FVec Ideal S8320x6144 .f32) : FVec Ideal S128x2048 .f32 :=
  shapeCast S128x2048 (extractStridedSlice S32x4x2048 ![0, 0, 4096] (shapeCast S32x4x6144 (extractStridedSlice S128x6144 ![8192, 0] arg0 slices_S8320x6144_S128x6144_8192_0) shapeCasts_S128x6144_S32x4x6144) slices_S32x4x6144_S32x4x2048_0_0_4096) shapeCasts_S32x4x2048_S128x2048

theorem ogate_at (arg0 : FVec Ideal S8320x6144 .f32) (i : Fin 128) (j : Fin 2048) : ogate arg0 (ix2 i j) = arg0 (ix2 ⟨8192 + i.val, by omega⟩ ⟨4096 + j.val, by omega⟩) := by
  unfold ogate
  pointwise

def inGate (arg1 : FVec Ideal S16x8320 .f32) : FVec Ideal S32x8x4 .f32 :=
  extractStridedSlice S32x8x4 ![0, 0, 0] (transpose S32x16x4 [1, 0, 2] (shapeCast S16x32x4 (extractStridedSlice S16x128 ![0, 8192] arg1 slices_S16x8320_S16x128_0_8192) shapeCasts_S16x128_S16x32x4) transposes_S16x32x4_S32x16x4_1_0_2) slices_S32x16x4_S32x8x4_0_0_0

theorem inGate_at (arg1 : FVec Ideal S16x8320 .f32) (b : Fin 32) (h : Fin 8) (t : Fin 4) : inGate arg1 (ix3 b h t) = State.ig arg1 b h t := by
  unfold inGate
  pointwise
  exact congrArg₂ (fun r c => arg1 (ix2 r c)) rfl (Fin.ext (by simp only [State.row]; omega))

def forGate (arg1 : FVec Ideal S16x8320 .f32) : FVec Ideal S32x8x4 .f32 :=
  extractStridedSlice S32x8x4 ![0, 8, 0] (transpose S32x16x4 [1, 0, 2] (shapeCast S16x32x4 (extractStridedSlice S16x128 ![0, 8192] arg1 slices_S16x8320_S16x128_0_8192) shapeCasts_S16x128_S16x32x4) transposes_S16x32x4_S32x16x4_1_0_2) slices_S32x16x4_S32x8x4_0_8_0

theorem forGate_at (arg1 : FVec Ideal S16x8320 .f32) (b : Fin 32) (h : Fin 8) (t : Fin 4) : forGate arg1 (ix3 b h t) = State.lf arg1 b h t := by
  unfold forGate
  pointwise
  exact congrArg₂ (fun r c => arg1 (ix2 r c)) rfl (Fin.ext (by simp only [State.row]; omega))

def running (v16 : FVec Ideal S32x8x4 .f32) : FVec Ideal S32x8x4 .f32 :=
  Host.reduceWindowAdd ![1, 1, 4] ![1, 1, 1] ![0, 0, 3] ![0, 0, 0] v16 (broadcastInDim S_ ![] bcast_S_S_ (constant S_ .f32 0x00000000#32)) reduceWindows_S32x8x4_S32x8x4_w1s1p0_0_w1s1p0_0_w4s1p3_0 h_S_

theorem place : ∀ n : Fin (⟨3, ![1, 1, 4]⟩ : Shape).numel, ((⟨3, ![1, 1, 4]⟩ : Shape).rowMajor.symm n 0).val = 0 ∧ ((⟨3, ![1, 1, 4]⟩ : Shape).rowMajor.symm n 1).val = 0
    ∧ ((⟨3, ![1, 1, 4]⟩ : Shape).rowMajor.symm n 2).val = n.val := by
  decide +kernel

theorem running_at (v16 : FVec Ideal S32x8x4 .f32) (b : Fin 32) (h : Fin 8) (t : Fin 4) : running v16 (ix3 b h t) = Cell.cum (fun s => v16 (ix3 b h s)) t := by
  unfold running
  have z0 : (broadcastInDim S_ ![] bcast_S_S_ (constant S_ .f32 0x00000000#32) : FVec Ideal S_ .f32) (Shape.Idx.first h_S_) = (0 : EReal) := by
    show Ideal.ofBits FTy.f32 0x00000000#32 = 0
    simp [Ideal.ofBits, Ideal.ieee]
  have key : ∀ (n : Fin (⟨3, ![1, 1, 4]⟩ : Shape).numel) (D : Decidable (∀ a : Fin 3, (![0, 0, 3] : Fin 3 → Nat) a ≤ ((ix3 b h t : S32x8x4.Idx) a).val * (![1, 1, 1] : Fin 3 → Nat) a + ((⟨3, ![1, 1, 4]⟩ : Shape).rowMajor.symm n a).val
          ∧ ((ix3 b h t : S32x8x4.Idx) a).val * (![1, 1, 1] : Fin 3 → Nat) a + ((⟨3, ![1, 1, 4]⟩ : Shape).rowMajor.symm n a).val - (![0, 0, 3] : Fin 3 → Nat) a < S32x8x4.size a)),
      (@dite EReal (∀ a : Fin 3, (![0, 0, 3] : Fin 3 → Nat) a ≤ ((ix3 b h t : S32x8x4.Idx) a).val * (![1, 1, 1] : Fin 3 → Nat) a + ((⟨3, ![1, 1, 4]⟩ : Shape).rowMajor.symm n a).val
          ∧ ((ix3 b h t : S32x8x4.Idx) a).val * (![1, 1, 1] : Fin 3 → Nat) a + ((⟨3, ![1, 1, 4]⟩ : Shape).rowMajor.symm n a).val - (![0, 0, 3] : Fin 3 → Nat) a < S32x8x4.size a) D (fun hin => v16 (fun a => ⟨_, (hin a).2⟩)) fun _ => 0)
      = if hs : 3 ≤ t.val + n.val ∧ t.val + n.val - 3 < 4 then v16 (ix3 b h ⟨t.val + n.val - 3, hs.2⟩) else 0 := by
    intro n _
    obtain ⟨p0, p1, p2⟩ := place n
    by_cases hs : 3 ≤ t.val + n.val ∧ t.val + n.val - 3 < 4
    · rw [dif_pos hs, dif_pos]
      · refine congrArg v16 (funext fun a => Fin.ext ?_)
        match a with
        | 0 => show b.val * 1 + _ - 0 = b.val; rw [p0]; omega
        | 1 => show h.val * 1 + _ - 0 = h.val; rw [p1]; omega
        | 2 => show t.val * 1 + _ - 3 = t.val + n.val - 3; rw [p2]; omega
      · intro a
        match a with
        | 0 => show 0 ≤ b.val * 1 + _ ∧ b.val * 1 + _ - 0 < 32; rw [p0]; omega
        | 1 => show 0 ≤ h.val * 1 + _ ∧ h.val * 1 + _ - 0 < 8; rw [p1]; omega
        | 2 => show 3 ≤ t.val * 1 + _ ∧ t.val * 1 + _ - 3 < 4; rw [p2]; omega
    · rw [dif_neg hs, dif_neg]
      intro hin
      have h2 := hin 2
      change 3 ≤ t.val * 1 + ((⟨3, ![1, 1, 4]⟩ : Shape).rowMajor.symm n 2).val ∧ t.val * 1 + ((⟨3, ![1, 1, 4]⟩ : Shape).rowMajor.symm n 2).val - 3 < 4 at h2
      rw [p2] at h2
      omega
  have e : (Host.reduceWindowAdd ![1, 1, 4] ![1, 1, 1] ![0, 0, 3] ![0, 0, 0] v16 (broadcastInDim S_ ![] bcast_S_S_ (constant S_ .f32 0x00000000#32)) reduceWindows_S32x8x4_S32x8x4_w1s1p0_0_w1s1p0_0_w4s1p3_0 h_S_ : FVec Ideal S32x8x4 .f32) (ix3 b h t)
      = (List.finRange 4).foldl (fun r (n : Fin 4) => r + if hs : 3 ≤ t.val + n.val ∧ t.val + n.val - 3 < 4 then v16 (ix3 b h ⟨t.val + n.val - 3, hs.2⟩) else 0) (0 : EReal) := by
    show Host.reduceWindow (· + ·) ![1, 1, 4] ![1, 1, 1] ![0, 0, 3] ![0, 0, 0] v16 (fun _ : (⟨0, ![]⟩ : Shape).Idx => (broadcastInDim S_ ![] bcast_S_S_ (constant S_ .f32 0x00000000#32) : FVec Ideal S_ .f32) (Shape.Idx.first h_S_)) reduceWindows_S32x8x4_S32x8x4_w1s1p0_0_w1s1p0_0_w4s1p3_0 (by decide) (ix3 b h t) = _
    rw [z0]
    unfold Host.reduceWindow
    exact congrArg (fun F => List.foldl F (0 : EReal) (List.finRange 4)) (funext fun r => funext fun n => congrArg (fun y : EReal => r + y) (key n _))
  refine e.trans ?_
  unfold Cell.cum
  rw [Fin.sum_univ_four]
  fin_cases t <;> simp [List.finRange_succ, add_assoc]

def logW (v17 : FVec Ideal S32x8x4 .f32) (v15 : FVec Ideal S32x8x4 .f32) : FVec Ideal S32x8x4x4 .f32 :=
  select (broadcastInDim S32x8x4x4 ![2, 3] bcast_S4x4_S32x8x4x4_2_3 (cmpi .sge (broadcastInDim S4x4 ![0, 1] bcast_S4x1_S4x4_0_1 (broadcastInDim S4x1 ![0] bcast_S4_S4x1_0 (iotaInDim S4 32 0))) (broadcastInDim S4x4 ![0, 1] bcast_S1x4_S4x4_0_1 (broadcastInDim S1x4 ![1] bcast_S4_S1x4_1 (iotaInDim S4 32 0))))) (addf (subf (broadcastInDim S32x8x4x4 ![0, 1, 2, 3] bcast_S32x8x4x1_S32x8x4x4_0_1_2_3 (broadcastInDim S32x8x4x1 ![0, 1, 2] bcast_S32x8x4_S32x8x4x1_0_1_2 v17)) (broadcastInDim S32x8x4x4 ![0, 1, 2, 3] bcast_S32x8x1x4_S32x8x4x4_0_1_2_3 (broadcastInDim S32x8x1x4 ![0, 1, 3] bcast_S32x8x4_S32x8x1x4_0_1_3 v17))) (broadcastInDim S32x8x4x4 ![0, 1, 2, 3] bcast_S32x8x1x4_S32x8x4x4_0_1_2_3 (broadcastInDim S32x8x1x4 ![0, 1, 3] bcast_S32x8x4_S32x8x1x4_0_1_3 v15))) (broadcastInDim S32x8x4x4 ![] bcast_S_S32x8x4x4 (id (constant S_ .f32 0xFF800000#32)))

theorem logW_at (v17 : FVec Ideal S32x8x4 .f32) (v15 : FVec Ideal S32x8x4 .f32) (b : Fin 32) (h : Fin 8) (t : Fin 4) (s : Fin 4) : logW v17 v15 (ix4 b h t s) = if s.val ≤ t.val then v17 (ix3 b h t) - v17 (ix3 b h s) + v15 (ix3 b h s) else ⊥ := by
  unfold logW
  pointwise
  refine (Soft.select_ge (t.isLt.trans (by omega)) (s.isLt.trans (by omega)) _ _).trans ?_
  rw [show id (constant S_ FTy.f32 0xFF800000#32 : FVec Ideal S_ .f32) ix0 = ⊥ from Soft.neg_inf]

def inter (v17 : FVec Ideal S32x8x4 .f32) (arg4 : FVec Ideal S32x8 .f32) : FVec Ideal S32x8x4 .f32 :=
  addf v17 (broadcastInDim S32x8x4 ![0, 1, 2] bcast_S32x8x1_S32x8x4_0_1_2 (broadcastInDim S32x8x1 ![0, 1] bcast_S32x8_S32x8x1_0_1 arg4))

theorem inter_at (v17 : FVec Ideal S32x8x4 .f32) (arg4 : FVec Ideal S32x8 .f32) (b : Fin 32) (h : Fin 8) (t : Fin 4) : inter v17 arg4 (ix3 b h t) = v17 (ix3 b h t) + arg4 (ix2 b h) := by
  unfold inter
  pointwise

def stab (v32 : FVec Ideal S32x8x4x4 .f32) (v35 : FVec Ideal S32x8x4 .f32) : FVec Ideal S32x8x4 .f32 :=
  maximumf (Host.reduce FloatOps.maximumf v32 (constant S_ .f32 0xFF800000#32) reducesTo_S32x8x4x4_S32x8x4_d3 h_S_) v35

theorem stab_at (v32 : FVec Ideal S32x8x4x4 .f32) (v35 : FVec Ideal S32x8x4 .f32) (b : Fin 32) (h : Fin 8) (t : Fin 4) : stab v32 v35 (ix3 b h t) = max (Finset.fold max ⊥ (fun s : Fin 4 => v32 (ix4 b h t s)) Finset.univ) (v35 (ix3 b h t)) := by
  unfold stab
  pointwise
  rw [← Soft.neg_inf]

def wIntra (v32 : FVec Ideal S32x8x4x4 .f32) (v37 : FVec Ideal S32x8x4 .f32) : FVec Ideal S32x8x4x4 .f32 :=
  Host.exp (subf v32 (broadcastInDim S32x8x4x4 ![0, 1, 2, 3] bcast_S32x8x4x1_S32x8x4x4_0_1_2_3 (broadcastInDim S32x8x4x1 ![0, 1, 2] bcast_S32x8x4_S32x8x4x1_0_1_2 v37)))

theorem wIntra_at (v32 : FVec Ideal S32x8x4x4 .f32) (v37 : FVec Ideal S32x8x4 .f32) (b : Fin 32) (h : Fin 8) (t : Fin 4) (s : Fin 4) : wIntra v32 v37 (ix4 b h t s) = Ideal.exp (v32 (ix4 b h t s) - v37 (ix3 b h t)) := by
  unfold wIntra
  pointwise

def wInter (v35 : FVec Ideal S32x8x4 .f32) (v37 : FVec Ideal S32x8x4 .f32) : FVec Ideal S32x8x4 .f32 :=
  Host.exp (subf v35 v37)

theorem wInter_at (v35 : FVec Ideal S32x8x4 .f32) (v37 : FVec Ideal S32x8x4 .f32) (b : Fin 32) (h : Fin 8) (t : Fin 4) : wInter v35 v37 (ix3 b h t) = Ideal.exp (v35 (ix3 b h t) - v37 (ix3 b h t)) := by
  unfold wInter
  pointwise

def scores (v7 : FVec Ideal S32x8x4x128 .f32) (v9 : FVec Ideal S32x8x4x128 .f32) (v41 : FVec Ideal S32x8x4x4 .f32) : FVec Ideal S32x8x4x4 .f32 :=
  mulf (Host.dotGeneral dot_S32x8x4x128_S32x8x4x128_S32x8x4x4_3_3_2_2_01_01 none v7 v9) v41

theorem scores_at (v7 : FVec Ideal S32x8x4x128 .f32) (v9 : FVec Ideal S32x8x4x128 .f32) (v41 : FVec Ideal S32x8x4x4 .f32) (b : Fin 32) (h : Fin 8) (t : Fin 4) (s : Fin 4) : scores v7 v9 v41 (ix4 b h t s) = (∑ d : Fin 128, v7 (ix4 b h t d) * v9 (ix4 b h s d)) * v41 (ix4 b h t s) := by
  unfold scores
  pointwise

def numer (v43 : FVec Ideal S32x8x4 .f32) (v7 : FVec Ideal S32x8x4x128 .f32) (arg2 : FVec Ideal S32x8x256x128 .f32) (v45 : FVec Ideal S32x8x4x4 .f32) (v11 : FVec Ideal S32x8x4x256 .f32) : FVec Ideal S32x8x4x256 .f32 :=
  addf (mulf (broadcastInDim S32x8x4x256 ![0, 1, 2, 3] bcast_S32x8x4x1_S32x8x4x256_0_1_2_3 (broadcastInDim S32x8x4x1 ![0, 1, 2] bcast_S32x8x4_S32x8x4x1_0_1_2 v43)) (Host.dotGeneral dot_S32x8x4x128_S32x8x256x128_S32x8x4x256_3_3_2_2_01_01 none v7 arg2)) (Host.dotGeneral dot_S32x8x4x4_S32x8x4x256_S32x8x4x256_3_2_2_3_01_01 none v45 v11)

theorem numer_at (v43 : FVec Ideal S32x8x4 .f32) (v7 : FVec Ideal S32x8x4x128 .f32) (arg2 : FVec Ideal S32x8x256x128 .f32) (v45 : FVec Ideal S32x8x4x4 .f32) (v11 : FVec Ideal S32x8x4x256 .f32) (b : Fin 32) (h : Fin 8) (t : Fin 4) (e : Fin 256) : numer v43 v7 arg2 v45 v11 (ix4 b h t e) = v43 (ix3 b h t) * (∑ d : Fin 128, v7 (ix4 b h t d) * arg2 (ix4 b h e d)) + ∑ s : Fin 4, v45 (ix4 b h t s) * v11 (ix4 b h s e) := by
  unfold numer
  pointwise

def denom (v43 : FVec Ideal S32x8x4 .f32) (arg3 : FVec Ideal S32x8x128 .f32) (v7 : FVec Ideal S32x8x4x128 .f32) (v45 : FVec Ideal S32x8x4x4 .f32) : FVec Ideal S32x8x4 .f32 :=
  addf (mulf v43 (Host.dotGeneral dot_S32x8x128_S32x8x4x128_S32x8x4_2_3_n_2_01_01 none arg3 v7)) (Host.reduceAdd v45 (constant S_ .f32 0x00000000#32) reducesTo_S32x8x4x4_S32x8x4_d3 h_S_)

theorem denom_at (v43 : FVec Ideal S32x8x4 .f32) (arg3 : FVec Ideal S32x8x128 .f32) (v7 : FVec Ideal S32x8x4x128 .f32) (v45 : FVec Ideal S32x8x4x4 .f32) (b : Fin 32) (h : Fin 8) (t : Fin 4) : denom v43 arg3 v7 v45 (ix3 b h t) = v43 (ix3 b h t) * (∑ d : Fin 128, arg3 (ix3 b h d) * v7 (ix4 b h t d)) + ∑ s : Fin 4, v45 (ix4 b h t s) := by
  unfold denom
  pointwise

def hidden (v51 : FVec Ideal S32x8x4x256 .f32) (v55 : FVec Ideal S32x8x4 .f32) (v37 : FVec Ideal S32x8x4 .f32) : FVec Ideal S32x8x4x256 .f32 :=
  Host.divf v51 (broadcastInDim S32x8x4x256 ![0, 1, 2, 3] bcast_S32x8x4x1_S32x8x4x256_0_1_2_3 (broadcastInDim S32x8x4x1 ![0, 1, 2] bcast_S32x8x4_S32x8x4x1_0_1_2 (maximumf (Host.absf v55) (Host.exp (Host.negf v37)))))

theorem hidden_at (v51 : FVec Ideal S32x8x4x256 .f32) (v55 : FVec Ideal S32x8x4 .f32) (v37 : FVec Ideal S32x8x4 .f32) (b : Fin 32) (h : Fin 8) (t : Fin 4) (e : Fin 256) : hidden v51 v55 v37 (ix4 b h t e) = Ideal.div (v51 (ix4 b h t e)) (max (max (v55 (ix3 b h t)) (-v55 (ix3 b h t))) (Ideal.exp (-v37 (ix3 b h t)))) := by
  unfold hidden
  pointwise
  rfl

def total (v17 : FVec Ideal S32x8x4 .f32) : FVec Ideal S32x8 .f32 :=
  shapeCast S32x8 (extractStridedSlice S32x8x1 ![0, 0, 3] v17 slices_S32x8x4_S32x8x1_0_0_3) shapeCasts_S32x8x1_S32x8

theorem total_at (v17 : FVec Ideal S32x8x4 .f32) (b : Fin 32) (h : Fin 8) : total v17 (ix2 b h) = v17 (ix3 b h 3) := by
  unfold total
  pointwise

def decay (v64 : FVec Ideal S32x8 .f32) (v17 : FVec Ideal S32x8x4 .f32) (v15 : FVec Ideal S32x8x4 .f32) : FVec Ideal S32x8x4 .f32 :=
  addf (subf (broadcastInDim S32x8x4 ![0, 1, 2] bcast_S32x8x1_S32x8x4_0_1_2 (broadcastInDim S32x8x1 ![0, 1] bcast_S32x8_S32x8x1_0_1 v64)) v17) v15

theorem decay_at (v64 : FVec Ideal S32x8 .f32) (v17 : FVec Ideal S32x8x4 .f32) (v15 : FVec Ideal S32x8x4 .f32) (b : Fin 32) (h : Fin 8) (s : Fin 4) : decay v64 v17 v15 (ix3 b h s) = v64 (ix2 b h) - v17 (ix3 b h s) + v15 (ix3 b h s) := by
  unfold decay
  pointwise

def newStab (v64 : FVec Ideal S32x8 .f32) (arg4 : FVec Ideal S32x8 .f32) (v68 : FVec Ideal S32x8x4 .f32) : FVec Ideal S32x8 .f32 :=
  maximumf (addf v64 arg4) (Host.reduce FloatOps.maximumf v68 (constant S_ .f32 0xFF800000#32) reducesTo_S32x8x4_S32x8_d2 h_S_)

theorem newStab_at (v64 : FVec Ideal S32x8 .f32) (arg4 : FVec Ideal S32x8 .f32) (v68 : FVec Ideal S32x8x4 .f32) (b : Fin 32) (h : Fin 8) : newStab v64 arg4 v68 (ix2 b h) = max (v64 (ix2 b h) + arg4 (ix2 b h)) (Finset.fold max ⊥ (fun s : Fin 4 => v68 (ix3 b h s)) Finset.univ) := by
  unfold newStab
  pointwise
  rw [← Soft.neg_inf]

def wStep (v68 : FVec Ideal S32x8x4 .f32) (v71 : FVec Ideal S32x8 .f32) : FVec Ideal S32x8x4 .f32 :=
  Host.exp (subf v68 (broadcastInDim S32x8x4 ![0, 1, 2] bcast_S32x8x1_S32x8x4_0_1_2 (broadcastInDim S32x8x1 ![0, 1] bcast_S32x8_S32x8x1_0_1 v71)))

theorem wStep_at (v68 : FVec Ideal S32x8x4 .f32) (v71 : FVec Ideal S32x8 .f32) (b : Fin 32) (h : Fin 8) (s : Fin 4) : wStep v68 v71 (ix3 b h s) = Ideal.exp (v68 (ix3 b h s) - v71 (ix2 b h)) := by
  unfold wStep
  pointwise

def wKeep (v64 : FVec Ideal S32x8 .f32) (arg4 : FVec Ideal S32x8 .f32) (v71 : FVec Ideal S32x8 .f32) : FVec Ideal S32x8 .f32 :=
  Host.exp (subf (addf v64 arg4) v71)

theorem wKeep_at (v64 : FVec Ideal S32x8 .f32) (arg4 : FVec Ideal S32x8 .f32) (v71 : FVec Ideal S32x8 .f32) (b : Fin 32) (h : Fin 8) : wKeep v64 arg4 v71 (ix2 b h) = Ideal.exp (v64 (ix2 b h) + arg4 (ix2 b h) - v71 (ix2 b h)) := by
  unfold wKeep
  pointwise

def newC (v78 : FVec Ideal S32x8 .f32) (arg2 : FVec Ideal S32x8x256x128 .f32) (v11 : FVec Ideal S32x8x4x256 .f32) (v75 : FVec Ideal S32x8x4 .f32) (v9 : FVec Ideal S32x8x4x128 .f32) : FVec Ideal S32x8x256x128 .f32 :=
  addf (mulf (broadcastInDim S32x8x256x128 ![0, 1, 2, 3] bcast_S32x8x1x1_S32x8x256x128_0_1_2_3 (broadcastInDim S32x8x1x1 ![0, 1] bcast_S32x8_S32x8x1x1_0_1 v78)) arg2) (Host.dotGeneral dot_S32x8x4x256_S32x8x4x128_S32x8x256x128_2_2_3_3_01_01 none (mulf v11 (broadcastInDim S32x8x4x256 ![0, 1, 2, 3] bcast_S32x8x4x1_S32x8x4x256_0_1_2_3 (broadcastInDim S32x8x4x1 ![0, 1, 2] bcast_S32x8x4_S32x8x4x1_0_1_2 v75))) v9)

theorem newC_at (v78 : FVec Ideal S32x8 .f32) (arg2 : FVec Ideal S32x8x256x128 .f32) (v11 : FVec Ideal S32x8x4x256 .f32) (v75 : FVec Ideal S32x8x4 .f32) (v9 : FVec Ideal S32x8x4x128 .f32) (b : Fin 32) (h : Fin 8) (e : Fin 256) (d : Fin 128) : newC v78 arg2 v11 v75 v9 (ix4 b h e d) = v78 (ix2 b h) * arg2 (ix4 b h e d) + ∑ s : Fin 4, v11 (ix4 b h s e) * v75 (ix3 b h s) * v9 (ix4 b h s d) := by
  unfold newC
  pointwise

def newN (v78 : FVec Ideal S32x8 .f32) (arg3 : FVec Ideal S32x8x128 .f32) (v75 : FVec Ideal S32x8x4 .f32) (v9 : FVec Ideal S32x8x4x128 .f32) : FVec Ideal S32x8x128 .f32 :=
  addf (mulf (broadcastInDim S32x8x128 ![0, 1, 2] bcast_S32x8x1_S32x8x128_0_1_2 (broadcastInDim S32x8x1 ![0, 1] bcast_S32x8_S32x8x1_0_1 v78)) arg3) (Host.dotGeneral dot_S32x8x4_S32x8x4x128_S32x8x128_2_2_n_3_01_01 none v75 v9)

theorem newN_at (v78 : FVec Ideal S32x8 .f32) (arg3 : FVec Ideal S32x8x128 .f32) (v75 : FVec Ideal S32x8x4 .f32) (v9 : FVec Ideal S32x8x4x128 .f32) (b : Fin 32) (h : Fin 8) (d : Fin 128) : newN v78 arg3 v75 v9 (ix3 b h d) = v78 (ix2 b h) * arg3 (ix3 b h d) + ∑ s : Fin 4, v75 (ix3 b h s) * v9 (ix4 b h s d) := by
  unfold newN
  pointwise

def normed (v62 : FVec Ideal S32x8x4x256 .f32) (arg5 : FVec Ideal S2048 .f32) : FVec Ideal S128x2048 .f32 :=
  shapeCast S128x2048 (mulf (mulf (transpose S32x4x8x256 [0, 2, 1, 3] v62 transposes_S32x8x4x256_S32x4x8x256_0_2_1_3) (broadcastInDim S32x4x8x256 ![0, 1, 2, 3] bcast_S32x4x8x1_S32x4x8x256_0_1_2_3 (Host.rsqrt (addf (Host.divf (broadcastInDim S32x4x8x1 ![0, 1, 2] bcast_S32x4x8_S32x4x8x1_0_1_2 (Host.reduceAdd (mulf (transpose S32x4x8x256 [0, 2, 1, 3] v62 transposes_S32x8x4x256_S32x4x8x256_0_2_1_3) (transpose S32x4x8x256 [0, 2, 1, 3] v62 transposes_S32x8x4x256_S32x4x8x256_0_2_1_3)) (constant S_ .f32 0x00000000#32) reducesTo_S32x4x8x256_S32x4x8_d3 h_S_)) (broadcastInDim S32x4x8x1 ![] bcast_S_S32x4x8x1 (constant S_ .f32 0x43800000#32))) (broadcastInDim S32x4x8x1 ![] bcast_S_S32x4x8x1 (constant S_ .f32 0x358637BD#32)))))) (broadcastInDim S32x4x8x256 ![0, 1, 2, 3] bcast_S1x1x8x256_S32x4x8x256_0_1_2_3 (broadcastInDim S1x1x8x256 ![2, 3] bcast_S8x256_S1x1x8x256_2_3 (shapeCast S8x256 arg5 shapeCasts_S2048_S8x256)))) shapeCasts_S32x4x8x256_S128x2048

theorem normed_at (v62 : FVec Ideal S32x8x4x256 .f32) (arg5 : FVec Ideal S2048 .f32) (i : Fin 128) (j : Fin 2048) : normed v62 arg5 (ix2 i j) = v62 (ix4 (B i) (H j) (T i) (E j)) * Ideal.rsqrt (Ideal.div (∑ x : Fin 256, v62 (ix4 (B i) (H j) (T i) x) * v62 (ix4 (B i) (H j) (T i) x)) (Ideal.ofBits FTy.f32 0x43800000#32) + Ideal.ofBits FTy.f32 0x358637BD#32) * arg5 (ix1 j) := by
  unfold normed
  pointwise
  rfl

def gatedOut (v107 : FVec Ideal S128x2048 .f32) (v108 : FVec Ideal S128x2048 .f32) : FVec Ideal S128x2048 .bf16 :=
  truncf .bf16 (mulf v107 (Host.divf (broadcastInDim S128x2048 ![] bcast_S_S128x2048 (constant S_ .f32 0x3F800000#32)) (addf (broadcastInDim S128x2048 ![] bcast_S_S128x2048 (constant S_ .f32 0x3F800000#32)) (Host.exp (Host.negf v108))))) bitsLt_bf16_f32

theorem gatedOut_at (v107 : FVec Ideal S128x2048 .f32) (v108 : FVec Ideal S128x2048 .f32) (i : Fin 128) (j : Fin 2048) : gatedOut v107 v108 (ix2 i j) = v107 (ix2 i j) * Ideal.logistic (v108 (ix2 i j)) := by
  unfold gatedOut
  pointwise
  rfl

def lanes (v71 : FVec Ideal S32x8 .f32) : FVec Ideal S32x8x128 .f32 :=
  broadcastInDim S32x8x128 ![0, 1, 2] bcast_S32x8x1_S32x8x128_0_1_2 (broadcastInDim S32x8x1 ![0, 1] bcast_S32x8_S32x8x1_0_1 v71)

theorem lanes_at (v71 : FVec Ideal S32x8 .f32) (b : Fin 32) (h : Fin 8) (d : Fin 128) : lanes v71 (ix3 b h d) = v71 (ix2 b h) := by
  unfold lanes
  pointwise

end Cert.Proof.Stages

end
-- ==== Proof.SampleRef.lean ====
module

public import proofs.«01_k».proof.Proof.Stages

@[expose] public section

set_option maxRecDepth 16384

noncomputable section

/-! The reference's four results of the sample call. -/

namespace Cert.Proof.SampleRef

open Idealize.ShloMosaic Idealize.ShloMosaic.TcCoe Idealize.SL.Sem
open Cert.Reference9Ideal Cert.Reference9Ideal.Gen Cert.Proof.Stages

section
variable (z : FVec Ideal S8320x6144 .f32) (g : FVec Ideal S16x8320 .f32) (C : FVec Ideal S32x8x256x128 .f32) (n : FVec Ideal S32x8x128 .f32) (m : FVec Ideal S32x8 .f32) (w : FVec Ideal S2048 .f32)

def rB : FVec Ideal S32x8x4 .f32 := running (forGate g)
def rD : FVec Ideal S32x8x4x4 .f32 := logW (rB g) (inGate g)
def rJ : FVec Ideal S32x8x4 .f32 := inter (rB g) m
def rM : FVec Ideal S32x8x4 .f32 := stab (rD g) (rJ g m)
def rW : FVec Ideal S32x8x4x4 .f32 := wIntra (rD g) (rM g m)
def rI : FVec Ideal S32x8x4 .f32 := wInter (rJ g m) (rM g m)
def rS : FVec Ideal S32x8x4x4 .f32 := scores (queries z) (keys z) (rW g m)
def rN : FVec Ideal S32x8x4x256 .f32 := numer (rI g m) (queries z) C (rS z g m) (values z)
def rE : FVec Ideal S32x8x4 .f32 := denom (rI g m) n (queries z) (rS z g m)
def rH : FVec Ideal S32x8x4x256 .f32 := Stages.hidden (rN z g C m) (rE z g n m) (rM g m)
def rL : FVec Ideal S32x8 .f32 := total (rB g)
def rX : FVec Ideal S32x8x4 .f32 := decay (rL g) (rB g) (inGate g)
def rT : FVec Ideal S32x8 .f32 := newStab (rL g) m (rX g)
def rU : FVec Ideal S32x8x4 .f32 := wStep (rX g) (rT g m)
def rK : FVec Ideal S32x8 .f32 := wKeep (rL g) m (rT g m)
def rC : FVec Ideal S32x8x256x128 .f32 := newC (rK g m) C (values z) (rU g m) (keys z)
def rP : FVec Ideal S32x8x128 .f32 := newN (rK g m) n (rU g m) (keys z)
def rY : FVec Ideal S128x2048 .bf16 := gatedOut (normed (rH z g C n m) w) (ogate z)
def rV : FVec Ideal S32x8x128 .f32 := lanes (rT g m)

variable (b : Fin 32) (h : Fin 8) (t s : Fin 4)

theorem rB_at : rB g (ix3 b h t) = Cell.cum (State.lf g b h) t := by
  unfold rB
  rw [running_at]
  exact congrArg (fun f => Cell.cum f t) (funext fun s => forGate_at g b h s)

theorem rD_at : rD g (ix4 b h t s) = Cell.dm (State.ig g b h) (State.lf g b h) t s := by
  unfold rD
  rw [logW_at, rB_at, rB_at, inGate_at]
  rfl

theorem rJ_at : rJ g m (ix3 b h t) = Cell.cum (State.lf g b h) t + m (ix2 b h) := by
  unfold rJ
  rw [inter_at, rB_at]

theorem rM_at : rM g m (ix3 b h t) = Cell.mt (State.ig g b h) (State.lf g b h) (m (ix2 b h)) t := by
  unfold rM
  rw [stab_at, rJ_at]
  exact congrArg (fun f : Fin 4 → EReal => max (Finset.fold max ⊥ f Finset.univ) _) (funext fun s => rD_at g b h t s)

theorem rW_at : rW g m (ix4 b h t s) = Cell.wt (State.ig g b h) (State.lf g b h) (m (ix2 b h)) t s := by
  unfold rW
  rw [wIntra_at, rD_at, rM_at]
  rfl

theorem rI_at : rI g m (ix3 b h t) = Cell.wi (State.ig g b h) (State.lf g b h) (m (ix2 b h)) t := by
  unfold rI
  rw [wInter_at, rJ_at, rM_at]
  rfl

theorem rS_at : rS z g m (ix4 b h t s) = Cell.sc (State.ig g b h) (State.lf g b h) (m (ix2 b h)) (State.q z b h) (State.k z b h) t s := by
  unfold rS
  rw [scores_at, rW_at]
  exact congrArg (fun x : EReal => x * _) (Finset.sum_congr rfl fun d _ => by rw [queries_at, keys_at])

theorem rN_at (e : Fin 256) : rN z g C m (ix4 b h t e) = Cell.num (State.ig g b h) (State.lf g b h) (m (ix2 b h)) (State.q z b h) (State.k z b h) (State.v z b h) (fun e d => C (ix4 b h e d)) t e := by
  unfold rN
  rw [numer_at, rI_at]
  exact congrArg₂ (fun x y : EReal => _ * x + y) (Finset.sum_congr rfl fun d _ => by rw [queries_at]) (Finset.sum_congr rfl fun s _ => by rw [rS_at, values_at])

theorem rE_at : rE z g n m (ix3 b h t) = Cell.den (State.ig g b h) (State.lf g b h) (m (ix2 b h)) (State.q z b h) (State.k z b h) (fun d => n (ix3 b h d)) t := by
  unfold rE
  rw [denom_at, rI_at]
  exact congrArg₂ (fun x y : EReal => _ * x + y) (Finset.sum_congr rfl fun d _ => by rw [queries_at, mul_comm]) (Finset.sum_congr rfl fun s _ => by rw [rS_at])

theorem rH_at (e : Fin 256) : rH z g C n m (ix4 b h t e) = State.hid z g C n m b h t e := by
  unfold rH
  rw [hidden_at, rN_at, rE_at, rM_at]
  rfl

theorem rL_at : rL g (ix2 b h) = Cell.cum (State.lf g b h) 3 := by
  unfold rL
  rw [total_at, rB_at]

theorem rX_at : rX g (ix3 b h s) = Cell.dec (State.ig g b h) (State.lf g b h) s := by
  unfold rX
  rw [decay_at, rL_at, rB_at, inGate_at]
  rfl

theorem rT_at : rT g m (ix2 b h) = State.outM g m b h := by
  unfold rT
  rw [newStab_at, rL_at]
  exact congrArg (fun f : Fin 4 → EReal => max _ (Finset.fold max ⊥ f Finset.univ)) (funext fun s => rX_at g b h s)

theorem rU_at : rU g m (ix3 b h s) = Cell.ws (State.ig g b h) (State.lf g b h) (m (ix2 b h)) s := by
  unfold rU
  rw [wStep_at, rX_at, rT_at]
  rfl

theorem rK_at : rK g m (ix2 b h) = Cell.wc (State.ig g b h) (State.lf g b h) (m (ix2 b h)) := by
  unfold rK
  rw [wKeep_at, rL_at, rT_at]
  rfl

theorem rC_ix (e : Fin 256) (d : Fin 128) : rC z g C m (ix4 b h e d) = State.outC z g C m b h e d := by
  unfold rC
  rw [newC_at, rK_at]
  exact congrArg (fun y : EReal => _ + y) (Finset.sum_congr rfl fun s _ => by rw [values_at, rU_at, keys_at])

theorem rP_ix (d : Fin 128) : rP z g n m (ix3 b h d) = State.outN z g n m b h d := by
  unfold rP
  rw [newN_at, rK_at]
  exact congrArg (fun y : EReal => _ + y) (Finset.sum_congr rfl fun s _ => by rw [rU_at, keys_at])

theorem rV_ix (d : Fin 128) : rV g m (ix3 b h d) = State.outM g m b h := by
  unfold rV
  rw [lanes_at, rT_at]

theorem rY_ix (i : Fin 128) (j : Fin 2048) : rY z g C n m w (ix2 i j) = State.outR z g C n m w i j := by
  unfold rY
  rw [gatedOut_at, normed_at, ogate_at, rH_at]
  simp only [rH_at]
  unfold State.outR State.outY Cell.fin
  refine congrArg₂ (fun x y : EReal => _ * x * Ideal.logistic y) (congrArg (fun j => w (ix1 j)) (Fin.ext ?_)) (congrArg₂ (fun r j => z (ix2 r j)) (Fin.ext ?_) (Fin.ext ?_))
  · show j.val = 256 * (j.val / 256) + j.val % 256; omega
  · show 8192 + i.val = 8192 + (4 * (i.val / 4) + i.val % 4); omega
  · show 4096 + j.val = 4096 + (256 * (j.val / 256) + j.val % 256); omega

theorem rC_at (i : S32x8x256x128.Idx) : rC z g C m i = State.outC z g C m (i 0) (i 1) (i 2) (i 3) :=
  (congrArg (rC z g C m) (eq_ix4 i)).trans (rC_ix z g C m (i 0) (i 1) (i 2) (i 3))

theorem rP_at (i : S32x8x128.Idx) : rP z g n m i = State.outN z g n m (i 0) (i 1) (i 2) :=
  (congrArg (rP z g n m) (eq_ix3 i)).trans (rP_ix z g n m (i 0) (i 1) (i 2))

theorem rV_at (i : S32x8x128.Idx) : rV g m i = State.outM g m (i 0) (i 1) :=
  (congrArg (rV g m) (eq_ix3 i)).trans (rV_ix g m (i 0) (i 1) (i 2))

theorem rY_at (i : S128x2048.Idx) : rY z g C n m w i = State.outR z g C n m w (i 0) (i 1) :=
  (congrArg (rY z g C n m w) (eq_ix2 i)).trans (rY_ix z g C n m w (i 0) (i 1))

end

theorem ref3 (g : FVec Ideal S16x8320 .f32) (m : FVec Ideal S32x8 .f32) : rV g m = fun i => State.outM g m (i 0) (i 1) := funext fun i => rV_at g m i

variable (μ : (ℓ : Loc nD τ sig) → Buf (Elt Ideal) ℓ) (c : Dev nD)

theorem ref0 : (Cert.Reference9Ideal.Value.res_main_v116 μ c : FVec Ideal S128x2048 .bf16) = fun i => State.outR (μ ((c.tc : Thread nD τ).loc main_arg0)) (μ ((c.tc : Thread nD τ).loc main_arg1)) (μ ((c.tc : Thread nD τ).loc main_arg2)) (μ ((c.tc : Thread nD τ).loc main_arg3)) (μ ((c.tc : Thread nD τ).loc main_arg4)) (μ ((c.tc : Thread nD τ).loc main_arg5)) (i 0) (i 1) :=
  (by unfold Cert.Reference9Ideal.Value.res_main_v116; rfl : Cert.Reference9Ideal.Value.res_main_v116 μ c = rY _ _ _ _ _ _).trans (funext fun i => rY_at _ _ _ _ _ _ i)

theorem ref1 : (Cert.Reference9Ideal.Value.res_main_v86 μ c : FVec Ideal S32x8x256x128 .f32) = fun i => State.outC (μ ((c.tc : Thread nD τ).loc main_arg0)) (μ ((c.tc : Thread nD τ).loc main_arg1)) (μ ((c.tc : Thread nD τ).loc main_arg2)) (μ ((c.tc : Thread nD τ).loc main_arg4)) (i 0) (i 1) (i 2) (i 3) :=
  (by unfold Cert.Reference9Ideal.Value.res_main_v86; rfl : Cert.Reference9Ideal.Value.res_main_v86 μ c = rC _ _ _ _).trans (funext fun i => rC_at _ _ _ _ i)

theorem ref2 : (Cert.Reference9Ideal.Value.res_main_v91 μ c : FVec Ideal S32x8x128 .f32) = fun i => State.outN (μ ((c.tc : Thread nD τ).loc main_arg0)) (μ ((c.tc : Thread nD τ).loc main_arg1)) (μ ((c.tc : Thread nD τ).loc main_arg3)) (μ ((c.tc : Thread nD τ).loc main_arg4)) (i 0) (i 1) (i 2) :=
  (by unfold Cert.Reference9Ideal.Value.res_main_v91; rfl : Cert.Reference9Ideal.Value.res_main_v91 μ c = rP _ _ _ _).trans (funext fun i => rP_at _ _ _ _ i)

end Cert.Proof.SampleRef

end
-- ==== Proof.Scan.lean ====
module

public import proofs.«01_k».proof.Proof.Soft

@[expose] public section

noncomputable section

/-! The mLSTM's state after a number of steps from zero, and one chunk of any length on top of it. -/

namespace Cert.Proof.Scan

open Idealize.ShloMosaic

section Chunk
variable {n : ℕ} (F G : Fin n → EReal) (l : Fin n) (m : EReal)

/-- The running sum of the chunk's log forget gates. -/
def cum (r : Fin n) : EReal := ∑ x : Fin n, if x.val ≤ r.val then F x else 0
/-- What a step's log weight is at the chunk's end; `l` is the last step. -/
def dec (r : Fin n) : EReal := cum F l - cum F r + G r
/-- The new stabiliser. -/
def mn : EReal := max (cum F l + m) (Finset.fold max ⊥ (dec F G l) Finset.univ)
def ws (r : Fin n) : EReal := Ideal.exp (dec F G l r - mn F G l m)
def wc : EReal := Ideal.exp (cum F l + m - mn F G l m)
end Chunk

section Run
variable (f : ℕ → ℝ) (g : ℕ → EReal)

def S (T : ℕ) : ℝ := ∑ x ∈ Finset.range T, f x
/-- The log weight of step `s` after `T` steps. -/
def lw (T s : ℕ) : EReal := ((S f T - S f (s + 1) : ℝ) : EReal) + g s
/-- The stabiliser after `T` steps. -/
def M (T : ℕ) : EReal := max ((S f T : ℝ) : EReal) (Finset.fold max ⊥ (lw f g T) (Finset.range T))
def w (T s : ℕ) : EReal := Ideal.exp (lw f g T s - M f g T)
/-- An entry of the matrix state after `T` steps. -/
def C (v k : ℕ → EReal) (T : ℕ) : EReal := ∑ s ∈ Finset.range T, v s * w f g T s * k s
/-- An entry of the normaliser after `T` steps. -/
def N (k : ℕ → EReal) (T : ℕ) : EReal := ∑ s ∈ Finset.range T, w f g T s * k s

theorem M_zero : M f g 0 = 0 := by
  unfold M S
  simp
theorem C_zero (v k : ℕ → EReal) : C f g v k 0 = 0 := by
  unfold C; simp
theorem N_zero (k : ℕ → EReal) : N f g k 0 = 0 := by
  unfold N; simp

theorem coe_sum {ι : Type} (s : Finset ι) (h : ι → ℝ) : ((∑ x ∈ s, h x : ℝ) : EReal) = ∑ x ∈ s, (h x : EReal) := by
  classical
  induction s using Finset.induction_on with
  | empty => simp
  | insert a s ha ih => rw [Finset.sum_insert ha, Finset.sum_insert ha, EReal.coe_add, ih]

theorem le_M (T s : ℕ) (hs : s < T) : lw f g T s ≤ M f g T :=
  le_max_of_le_right ((Finset.le_fold_max _).mpr (.inr ⟨s, Finset.mem_range.mpr hs, le_rfl⟩))

theorem M_ne_bot (T : ℕ) : M f g T ≠ ⊥ := fun e => by
  have h : ((S f T : ℝ) : EReal) ≤ M f g T := le_max_left _ _
  rw [e] at h
  exact EReal.coe_ne_bot _ (le_bot_iff.mp h)

theorem add_fold {ι : Type} (s : Finset ι) (a : ℝ) (h : ι → EReal) : Finset.fold max ⊥ (fun x => (a : EReal) + h x) s = a + Finset.fold max ⊥ h s := by
  classical
  induction s using Finset.induction_on with
  | empty => simp
  | insert b s hb ih => rw [Finset.fold_insert hb, Finset.fold_insert hb, ih, max_add_add_left]

theorem fold_add (h : ℕ → EReal) (T n : ℕ) : Finset.fold max ⊥ h (Finset.range (T + n)) = max (Finset.fold max ⊥ h (Finset.range T)) (Finset.fold max ⊥ (fun r : Fin n => h (T + r.val)) Finset.univ) := by
  apply le_antisymm
  · refine (Finset.fold_max_le _).mpr ⟨bot_le, fun x hx => ?_⟩
    have hx := Finset.mem_range.mp hx
    by_cases e : x < T
    · exact le_max_of_le_left ((Finset.le_fold_max _).mpr (.inr ⟨x, Finset.mem_range.mpr e, le_rfl⟩))
    · exact le_max_of_le_right ((Finset.le_fold_max _).mpr (.inr ⟨⟨x - T, by omega⟩, Finset.mem_univ _, (congrArg h (by show x = T + (x - T); omega)).le⟩))
  · refine max_le ((Finset.fold_max_le _).mpr ⟨bot_le, fun x hx => ?_⟩) ((Finset.fold_max_le _).mpr ⟨bot_le, fun x _ => ?_⟩)
    · have hx := Finset.mem_range.mp hx
      exact (Finset.le_fold_max _).mpr (.inr ⟨x, Finset.mem_range.mpr (by omega), le_rfl⟩)
    · exact (Finset.le_fold_max _).mpr (.inr ⟨T + x.val, Finset.mem_range.mpr (by have := x.isLt; omega), le_rfl⟩)

/-- Two weights one after the other. -/
theorem exp_mul (a : ℝ) (x μ ν : EReal) (hx : x ≤ μ) (hμ : μ ≠ ⊥) (hν : (a : EReal) + μ ≤ ν) : Ideal.exp (a + μ - ν) * Ideal.exp (x - μ) = Ideal.exp (a + x - ν) := by
  have z : Ideal.exp (⊥ : EReal) = 0 := rfl
  induction μ with
  | bot => exact absurd rfl hμ
  | top =>
    rw [EReal.coe_add_top, top_le_iff] at hν
    rw [hν, sub_eq_add_neg x, sub_eq_add_neg ((a : EReal) + x), EReal.neg_top, EReal.add_bot, EReal.add_bot, z, mul_zero]
  | coe μ =>
    induction ν with
    | bot =>
      rw [← EReal.coe_add] at hν
      exact absurd (le_bot_iff.mp hν) (EReal.coe_ne_bot _)
    | top => rw [sub_eq_add_neg _ ⊤, sub_eq_add_neg _ ⊤, EReal.neg_top, EReal.add_bot, EReal.add_bot, z, zero_mul]
    | coe ν =>
      induction x with
      | bot => rw [EReal.bot_sub, EReal.add_bot, EReal.bot_sub, z, mul_zero]
      | top => exact absurd (top_le_iff.mp hx) (EReal.coe_ne_top _)
      | coe x =>
        rw [← EReal.coe_add, ← EReal.coe_add, ← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2
        ring

theorem exp_real (a : ℝ) (μ ν : EReal) (hμ : μ ≠ ⊥) (hν : (a : EReal) + μ ≤ ν) : ∃ r : ℝ, 0 ≤ r ∧ Ideal.exp (a + μ - ν) = (r : EReal) := by
  have z : Ideal.exp (⊥ : EReal) = ((0 : ℝ) : EReal) := rfl
  induction μ with
  | bot => exact absurd rfl hμ
  | top =>
    rw [EReal.coe_add_top, top_le_iff] at hν
    refine ⟨0, le_rfl, ?_⟩
    rw [hν, sub_eq_add_neg, EReal.neg_top, EReal.add_bot, z]
  | coe μ =>
    induction ν with
    | bot =>
      rw [← EReal.coe_add] at hν
      exact absurd (le_bot_iff.mp hν) (EReal.coe_ne_bot _)
    | top => exact ⟨0, le_rfl, by rw [sub_eq_add_neg, EReal.neg_top, EReal.add_bot, z]⟩
    | coe ν => exact ⟨Real.exp (a + μ - ν), (Real.exp_pos _).le, by rw [← EReal.coe_add, ← EReal.coe_sub]; rfl⟩

theorem mul_sum_coe {ι : Type} (s : Finset ι) (r : ℝ) (hr : 0 ≤ r) (h : ι → EReal) : (r : EReal) * ∑ x ∈ s, h x = ∑ x ∈ s, (r : EReal) * h x := by
  classical
  induction s using Finset.induction_on with
  | empty => simp
  | insert a s ha ih => rw [Finset.sum_insert ha, Finset.sum_insert ha, EReal.left_distrib_of_nonneg_of_ne_top (by exact_mod_cast hr) (EReal.coe_ne_top _), ih]

section Step
variable {n : ℕ} (F G : Fin n → EReal) (l : Fin n) (T : ℕ) (hl : l.val + 1 = n) (hF : ∀ r, F r = (f (T + r.val) : EReal)) (hG : ∀ r, G r = g (T + r.val))
include hF

theorem cum_eq (r : Fin n) : cum F r = ((S f (T + r.val + 1) - S f T : ℝ) : EReal) := by
  have e : ∀ x : Fin n, (if x.val ≤ r.val then F x else 0) = (((fun i : ℕ => if i ≤ r.val then f (T + i) else 0) x.val : ℝ) : EReal) := fun x => by
    rw [hF]; dsimp only; split_ifs <;> rfl
  unfold cum
  rw [Finset.sum_congr rfl fun x _ => e x, ← coe_sum, Fin.sum_univ_eq_sum_range (fun i : ℕ => if i ≤ r.val then f (T + i) else 0) n]
  congr 1
  have e2 : (Finset.range n).filter (fun i => i ≤ r.val) = Finset.range (r.val + 1) := by
    ext i
    have := r.isLt
    simp only [Finset.mem_filter, Finset.mem_range]
    omega
  rw [← Finset.sum_filter, e2]
  unfold S
  rw [show T + r.val + 1 = T + (r.val + 1) from rfl, Finset.sum_range_add f T (r.val + 1)]
  ring

include hl
theorem last_eq : cum F l = ((S f (T + n) - S f T : ℝ) : EReal) := by
  rw [cum_eq f F T hF, add_assoc, hl]

include hG
theorem dec_eq (r : Fin n) : dec F G l r = lw f g (T + n) (T + r.val) := by
  unfold dec lw
  rw [last_eq f F l T hl hF, cum_eq f F T hF, hG, ← EReal.coe_sub]
  congr 2
  ring

omit hl hF hG in
theorem lw_eq (s : ℕ) : ((S f (T + n) - S f T : ℝ) : EReal) + lw f g T s = lw f g (T + n) s := by
  unfold lw
  rw [← add_assoc, ← EReal.coe_add]
  congr 2
  ring

theorem mn_eq : mn F G l (M f g T) = M f g (T + n) := by
  unfold mn
  rw [last_eq f F l T hl hF, funext (dec_eq f g F G l T hl hF hG)]
  conv_rhs => unfold M
  conv_lhs => unfold M
  rw [fold_add, ← max_add_add_left, ← add_fold, ← EReal.coe_add, ← max_assoc]
  simp only [lw_eq]
  congr 4
  ring

theorem ws_eq (r : Fin n) : ws F G l (M f g T) r = w f g (T + n) (T + r.val) := by
  unfold ws w
  rw [dec_eq f g F G l T hl hF hG, mn_eq f g F G l T hl hF hG]

theorem wc_le : ((S f (T + n) - S f T : ℝ) : EReal) + M f g T ≤ M f g (T + n) := by
  rw [← mn_eq f g F G l T hl hF hG, ← last_eq f F l T hl hF]
  exact le_max_left _ _

theorem wc_mul (s : ℕ) (hs : s < T) : wc F G l (M f g T) * w f g T s = w f g (T + n) s := by
  unfold wc w
  rw [mn_eq f g F G l T hl hF hG, last_eq f F l T hl hF, exp_mul _ _ _ _ (le_M f g T s hs) (M_ne_bot f g T) (wc_le f g F G l T hl hF hG), lw_eq]

theorem wc_real : ∃ r : ℝ, 0 ≤ r ∧ wc F G l (M f g T) = (r : EReal) := by
  unfold wc
  rw [mn_eq f g F G l T hl hF hG, last_eq f F l T hl hF]
  exact exp_real _ _ _ (M_ne_bot f g T) (wc_le f g F G l T hl hF hG)

theorem C_step (v k : ℕ → EReal) : wc F G l (M f g T) * C f g v k T + ∑ r : Fin n, v (T + r.val) * ws F G l (M f g T) r * k (T + r.val) = C f g v k (T + n) := by
  obtain ⟨a, ha, e⟩ := wc_real f g F G l T hl hF hG
  conv_rhs => unfold C
  rw [Finset.sum_range_add, ← Fin.sum_univ_eq_sum_range (fun s => v (T + s) * w f g (T + n) (T + s) * k (T + s)) n]
  refine congr (congrArg _ ?_) (Finset.sum_congr rfl fun r _ => by rw [ws_eq f g F G l T hl hF hG])
  unfold C
  rw [e, mul_sum_coe _ _ ha, ← e]
  refine Finset.sum_congr rfl fun s hs => ?_
  rw [← wc_mul f g F G l T hl hF hG s (Finset.mem_range.mp hs), ← mul_assoc, mul_left_comm]

theorem N_step (k : ℕ → EReal) : wc F G l (M f g T) * N f g k T + ∑ r : Fin n, ws F G l (M f g T) r * k (T + r.val) = N f g k (T + n) := by
  obtain ⟨a, ha, e⟩ := wc_real f g F G l T hl hF hG
  conv_rhs => unfold N
  rw [Finset.sum_range_add, ← Fin.sum_univ_eq_sum_range (fun s => w f g (T + n) (T + s) * k (T + s)) n]
  refine congr (congrArg _ ?_) (Finset.sum_congr rfl fun r _ => by rw [ws_eq f g F G l T hl hF hG])
  unfold N
  rw [e, mul_sum_coe _ _ ha, ← e]
  refine Finset.sum_congr rfl fun s hs => ?_
  rw [← wc_mul f g F G l T hl hF hG s (Finset.mem_range.mp hs), ← mul_assoc]

end Step
end Run

end Cert.Proof.Scan

end
-- ==== Proof.Chunk.lean ====
module

public import proofs.«01_k».proof.Proof.Gen.Kernel10Ideal.Value
public import proofs.«01_k».proof.Proof.Scan
public import proofs.«01_k».proof.Proof.Cell
public import Idealize.ShloMosaic.Lib.Pipeline.ValueKit

@[expose] public section

set_option maxRecDepth 16384

noncomputable section

/-! One head's new state in the mLSTM's prompt call, as the kernel's body computes it on a chunk of 128 steps. -/

namespace Cert.Proof.Chunk

open Idealize.ShloMosaic Idealize.ShloMosaic.TcCoe Idealize.SL.Sem
open Cert.Kernel10Ideal Cert.Kernel10Ideal.Gen

theorem bits_mask : ∀ r s : Fin 128, IntOp.andi (IntOp.cmpi CmpIPredicate.eq (IntOp.shrui ArithUnit.vector (BitVec.ofNat 32 s.val) 7#32) (IntOp.shrui ArithUnit.vector (BitVec.ofNat 32 r.val) 7#32)) (IntOp.cmpi CmpIPredicate.sle (BitVec.ofNat 32 s.val) (BitVec.ofNat 32 r.val))
    = BitVec.ofBool (decide (s.val ≤ r.val)) := by
  decide +kernel

theorem bits_live : ∀ r : Fin 128, IntOp.cmpi CmpIPredicate.eq (IntOp.shrui ArithUnit.vector (BitVec.ofNat 32 r.val) 7#32) 0#32 = 1#1 := by
  decide +kernel

theorem bits_last : ∀ r : Fin 128, IntOp.cmpi CmpIPredicate.eq (BitVec.ofNat 32 r.val) 127#32 = BitVec.ofBool (decide (r.val = 127)) := by
  decide +kernel

theorem one32 : Ideal.ofBits FTy.f32 0x3F800000#32 = 1 := by
  simp [Ideal.ofBits, Ideal.ieee]
  rw [← EReal.coe_mul]
  norm_num

theorem select_if {α : Type} (p : Prop) [Decidable p] (a b : α) : Scalar.select (BitVec.ofBool (decide p)) a b = if p then a else b := by
  by_cases h : p <;> simp [Scalar.select, h]

theorem pay10_at (s r : Fin 128) : (k0_pay10 : FVec Ideal S128x128 .bf16) (ix2 s r) = if s.val ≤ r.val then (1 : EReal) else 0 := by
  pointwise [k0_pay10, k0_pay7]
  rw [bits_mask, select_if]

theorem pay9_at (r : Fin 128) : k0_pay9 (ix2 0 r) = 1#1 := by
  refine Eq.trans ?_ (bits_live r)
  pointwise [k0_pay9, k0_pay7]

def bc (w : Vec Ideal S16x128 .f32) : FVec Ideal S8x128 .f32 := k0_pay18 k0_pay10 (k0_pay16 w) (k0_pay17 w) (constant S8x128 .f32 0x00000000#32)

/-- The running sum in three terms. -/
theorem bc_at (w : Vec Ideal S16x128 .f32) (h : Fin 8) (r : Fin 128) :
    bc w (ix2 h r)
      = (∑ x : Fin 128, w (ix2 ⟨8 + h.val, by omega⟩ x) * (k0_pay10 : FVec Ideal S128x128 .bf16) (ix2 x r) + ∑ x : Fin 128, (w (ix2 ⟨8 + h.val, by omega⟩ x) - w (ix2 ⟨8 + h.val, by omega⟩ x)) * (k0_pay10 : FVec Ideal S128x128 .bf16) (ix2 x r))
        + ∑ x : Fin 128, (w (ix2 ⟨8 + h.val, by omega⟩ x) - w (ix2 ⟨8 + h.val, by omega⟩ x) - (w (ix2 ⟨8 + h.val, by omega⟩ x) - w (ix2 ⟨8 + h.val, by omega⟩ x))) * (k0_pay10 : FVec Ideal S128x128 .bf16) (ix2 x r) := by
  pointwise [bc, k0_pay18, k0_pay12, k0_pay13, k0_pay14, k0_pay15, k0_pay16, k0_pay17]

theorem ig_at (w : Vec Ideal S16x128 .f32) (h : Fin 8) (r : Fin 128) : k0_pay11 w (ix2 h r) = w (ix2 ⟨h.val, by omega⟩ r) := by
  pointwise [k0_pay11]

section Head
variable (o : ℕ) (hg : S8x128.Slices ![o, 0] S1x128)

def gB (bc : FVec Ideal S8x128 .f32) : FVec Ideal S1x128 .f32 := extractStridedSlice S1x128 ![o, 0] bc hg

theorem gB_at (bc : FVec Ideal S8x128 .f32) (r : Fin 128) (ho : o < 8) : gB o hg bc (ix2 0 r) = bc (ix2 ⟨o, ho⟩ r) := by
  pointwise [gB]

/-- The log weights of the rows in the new state. -/
def gE (live : IVec S1x128 1) (bl : FVec Ideal S1x1 .f32) (bc ig : FVec Ideal S8x128 .f32) : FVec Ideal S1x128 .f32 :=
  select live (addf (subf (broadcastTo S1x128 bl broadcasts_S1x1_S1x128) (extractStridedSlice S1x128 ![o, 0] bc hg)) (extractStridedSlice S1x128 ![o, 0] ig hg)) (broadcast S1x128 (Scalar.ofBits .f32 0xFF800000#32))

theorem gE_at (live : IVec S1x128 1) (bl : FVec Ideal S1x1 .f32) (bc ig : FVec Ideal S8x128 .f32) (r : Fin 128) (ho : o < 8) :
    gE o hg live bl bc ig (ix2 0 r) = Scalar.select (live (ix2 0 r)) (bl (ix2 0 0) - bc (ix2 ⟨o, ho⟩ r) + ig (ix2 ⟨o, ho⟩ r)) (⊥ : EReal) := by
  pointwise [gE]
  exact congrArg (Scalar.select _ _) Soft.neg_inf

end Head

/-- The last row's running sum. -/
theorem pay37_at (u : FVec Ideal S1x128 .f32) :
    k0_pay37 (k0_pay36 (iota Kind.tc S1x128 32 [1] iota_S1x128_d1_w32) u) (ix2 0 0) = ∑ x : Fin 128, Scalar.select (IntOp.cmpi CmpIPredicate.eq (BitVec.ofNat 32 x.val) 127#32) (u (ix2 0 x)) (0 : EReal) := by
  pointwise [k0_pay37, k0_pay36]

def gN (bl m : FVec Ideal S1x1 .f32) (E : FVec Ideal S1x128 .f32) : FVec Ideal S1x1 .f32 :=
  maximumf (addf bl m) (shapeCast S1x1 (multiReduction .maximumf [1] S1 E 0xFF800000#32 reduces_S1x128_S1 (.inl rfl) rfl) shapeCasts_S1_S1x1)

theorem gN_at (bl m : FVec Ideal S1x1 .f32) (E : FVec Ideal S1x128 .f32) :
    gN bl m E (ix2 0 0) = max (bl (ix2 0 0) + m (ix2 0 0)) (Finset.fold max ⊥ (fun s : Fin 128 => E (ix2 0 s)) Finset.univ) := by
  pointwise [gN]
  rw [← Soft.neg_inf]

def gS (E : FVec Ideal S1x128 .f32) (N : FVec Ideal S1x1 .f32) : FVec Ideal S1x128 .f32 := exp (subf E (broadcastTo S1x128 N broadcasts_S1x1_S1x128))

theorem gS_at (E : FVec Ideal S1x128 .f32) (N : FVec Ideal S1x1 .f32) (r : Fin 128) : gS E N (ix2 0 r) = Ideal.exp (E (ix2 0 r) - N (ix2 0 0)) := by
  pointwise [gS]

def gC (bl m N : FVec Ideal S1x1 .f32) : FVec Ideal S1x1 .f32 := exp (subf (addf bl m) N)

def stC (ws : FVec Ideal S1x128 .f32) (wc : FVec Ideal S1x1 .f32) (k : FVec Ideal S128x128 .bf16) (v : Vec Ideal S128x256 .f32) (C : FVec Ideal S256x128 .f32) : FVec Ideal S1x1x256x128 .f32 :=
  k0_pay1 k (truncf .bf16 (mulf (transpose S256x128 [1, 0] v transposes_S128x256_p1_0_S256x128) (broadcastTo S256x128 ws broadcasts_S1x128_S256x128)) bitsLt_bf16_f32) (mulf (broadcastTo S256x128 wc broadcasts_S1x1_S256x128) C) (constant S256x128 .f32 0x00000000#32)

theorem stC_at (ws : FVec Ideal S1x128 .f32) (wc : FVec Ideal S1x1 .f32) (k : Vec Ideal S128x128 .f32) (v : Vec Ideal S128x256 .f32) (C : Vec Ideal S1x1x256x128 .f32) (e : Fin 256) (d : Fin 128) :
    stC ws wc (k0_pay29 k) v (k0_pay31 C) (ix4 0 0 e d) = wc (ix2 0 0) * C (ix4 0 0 e d) + ∑ x : Fin 128, v (ix2 x e) * ws (ix2 0 x) * k (ix2 x d) := by
  pointwise [stC, k0_pay1, k0_pay29, k0_pay31]

theorem stN_at (ws : FVec Ideal S1x128 .f32) (wc : FVec Ideal S1x1 .f32) (k : Vec Ideal S128x128 .f32) (n : Vec Ideal S1x1x128 .f32) (d : Fin 128) :
    k0_pay2 (k0_pay29 k) (k0_pay32 n) ws wc (ix3 0 0 d) = wc (ix2 0 0) * n (ix3 0 0 d) + ∑ x : Fin 128, ws (ix2 0 x) * k (ix2 x d) := by
  pointwise [k0_pay2, k0_pay29, k0_pay32]

theorem stM_at (N : FVec Ideal S1x1 .f32) (d : Fin 128) : k0_pay3 N (ix3 0 0 d) = N (ix2 0 0) := by
  pointwise [k0_pay3]

def last : Fin 128 := ⟨127, by decide⟩

section Point
variable (w : Vec Ideal S16x128 .f32) (ldm : Vec Ideal S1x1x1 .f32) (o : ℕ) (ho : o < 8) (hg : S8x128.Slices ![o, 0] S1x128)

/-- Input gates and log forget gates of head `o`. -/
def igs (s : Fin 128) : EReal := w (ix2 ⟨o, by omega⟩ s)
def lfs (s : Fin 128) : EReal := w (ix2 ⟨8 + o, by omega⟩ s)

/-- The body's values for head `o`. -/
def vBl : FVec Ideal S1x1 .f32 := k0_pay37 (k0_pay36 (iota Kind.tc S1x128 32 [1] iota_S1x128_d1_w32) (gB o hg (bc w)))
def vE : FVec Ideal S1x128 .f32 := gE o hg k0_pay9 (vBl w o hg) (bc w) (k0_pay11 w)
def vm : FVec Ideal S1x1 .f32 := shapeCast S1x1 ldm shapeCasts_S1x1x1_S1x1
def vN : FVec Ideal S1x1 .f32 := gN (vBl w o hg) (vm ldm) (vE w o hg)
def vS : FVec Ideal S1x128 .f32 := gS (vE w o hg) (vN w ldm o hg)
def vC : FVec Ideal S1x1 .f32 := gC (vBl w o hg) (vm ldm) (vN w ldm o hg)

theorem vm_at : vm ldm (ix2 0 0) = ldm (ix3 0 0 0) := by
  pointwise [vm]

variable (hF : ∀ x : Fin 128, lfs w o ho x ≠ ⊤)
include ho hF

theorem bc_lane (r : Fin 128) : bc w (ix2 ⟨o, ho⟩ r) = Scan.cum (lfs w o ho) r := by
  refine (bc_at w ⟨o, ho⟩ r).trans ?_
  unfold Scan.cum
  rw [← Finset.sum_add_distrib, ← Finset.sum_add_distrib]
  refine Finset.sum_congr rfl fun x _ => ?_
  refine (Cell.three _ (hF x) _ ?_).trans ?_
  · rw [pay10_at]
    split_ifs
    · exact .inr rfl
    · exact .inl rfl
  · rw [pay10_at]
    split_ifs
    · exact mul_one _
    · exact mul_zero _

theorem vBl_at : vBl w o hg (ix2 0 0) = Scan.cum (lfs w o ho) last := by
  refine (pay37_at _).trans ?_
  simp only [bits_last, select_if]
  refine (Finset.sum_eq_single last (fun x _ hx => if_neg fun c => hx (Fin.ext c)) (fun c => absurd (Finset.mem_univ _) c)).trans ?_
  refine (if_pos rfl).trans ?_
  exact (gB_at o hg _ _ ho).trans (bc_lane w o ho hF last)

theorem vE_at (s : Fin 128) : vE w o hg (ix2 0 s) = Scan.dec (lfs w o ho) (igs w o ho) last s := by
  refine (gE_at o hg _ _ _ _ _ ho).trans ?_
  rw [pay9_at, vBl_at w o ho hg hF, bc_lane w o ho hF, ig_at]
  rfl

theorem vN_at : vN w ldm o hg (ix2 0 0) = Scan.mn (lfs w o ho) (igs w o ho) last (ldm (ix3 0 0 0)) := by
  refine (gN_at _ _ _).trans ?_
  rw [vBl_at w o ho hg hF, vm_at]
  exact congrArg (max _) (congrArg (Finset.fold max ⊥ · _) (funext fun s => vE_at w o ho hg hF s))

theorem vS_at (s : Fin 128) : vS w ldm o hg (ix2 0 s) = Scan.ws (lfs w o ho) (igs w o ho) last (ldm (ix3 0 0 0)) s := by
  refine (gS_at _ _ _).trans ?_
  rw [vE_at w o ho hg hF, vN_at w ldm o ho hg hF]; rfl

theorem vC_at : vC w ldm o hg (ix2 0 0) = Scan.wc (lfs w o ho) (igs w o ho) last (ldm (ix3 0 0 0)) := by
  show Ideal.exp (vBl w o hg (ix2 0 0) + vm ldm (ix2 0 0) - vN w ldm o hg (ix2 0 0)) = _
  rw [vN_at w ldm o ho hg hF, vBl_at w o ho hg hF, vm_at]; rfl

theorem C_at (k : Vec Ideal S128x128 .f32) (v : Vec Ideal S128x256 .f32) (C : Vec Ideal S1x1x256x128 .f32) (e : Fin 256) (d : Fin 128) :
    stC (vS w ldm o hg) (vC w ldm o hg) (k0_pay29 k) v (k0_pay31 C) (ix4 0 0 e d)
      = Scan.wc (lfs w o ho) (igs w o ho) last (ldm (ix3 0 0 0)) * C (ix4 0 0 e d) + ∑ x : Fin 128, v (ix2 x e) * Scan.ws (lfs w o ho) (igs w o ho) last (ldm (ix3 0 0 0)) x * k (ix2 x d) := by
  rw [stC_at, vC_at w ldm o ho hg hF]
  exact congrArg (_ + ·) (Finset.sum_congr rfl fun s _ => by rw [vS_at w ldm o ho hg hF s])

theorem n_at (k : Vec Ideal S128x128 .f32) (n : Vec Ideal S1x1x128 .f32) (d : Fin 128) :
    k0_pay2 (k0_pay29 k) (k0_pay32 n) (vS w ldm o hg) (vC w ldm o hg) (ix3 0 0 d)
      = Scan.wc (lfs w o ho) (igs w o ho) last (ldm (ix3 0 0 0)) * n (ix3 0 0 d) + ∑ x : Fin 128, Scan.ws (lfs w o ho) (igs w o ho) last (ldm (ix3 0 0 0)) x * k (ix2 x d) := by
  rw [stN_at, vC_at w ldm o ho hg hF]
  exact congrArg (_ + ·) (Finset.sum_congr rfl fun s _ => by rw [vS_at w ldm o ho hg hF s])

theorem m_at (d : Fin 128) : k0_pay3 (vN w ldm o hg) (ix3 0 0 d) = Scan.mn (lfs w o ho) (igs w o ho) last (ldm (ix3 0 0 0)) :=
  (stM_at _ d).trans (vN_at w ldm o ho hg hF)

end Point

end Cert.Proof.Chunk

end
-- ==== Proof.ChunkBlocks.lean ====
module

public import proofs.«01_k».proof.Proof.Chunk
public import proofs.«01_k».proof.Proof.Step
public import Idealize.ShloMosaic.Lib.Pipeline.ReadBack

@[expose] public section

set_option maxRecDepth 16384

noncomputable section

/-! The three state blocks after a grid point of the mLSTM's prompt call: eight heads, at a sequence's first chunk and at a later one. -/

namespace Cert.Proof.ChunkBlocks

open Idealize.ShloMosaic Idealize.ShloMosaic.TcCoe Idealize.SL.Sem
open Cert.Kernel10Ideal Cert.Kernel10Ideal.Gen Cert.Proof.Chunk
open Cert.Proof.Step (ldb2 ldb3 ldb4 drop9)

theorem pay4_at (x : Vec Ideal S1x8x256x128 .f32) (z : S1x8x256x128.Idx) : k0_pay4 x z = x z := by
  pointwise [k0_pay4]
theorem pay5_at (x : Vec Ideal S1x8x128 .f32) (z : S1x8x128.Idx) : k0_pay5 x z = x z := by
  pointwise [k0_pay5]
theorem pay6_at (x : Vec Ideal S1x8x128 .f32) (z : S1x8x128.Idx) : k0_pay6 x z = x z := by
  pointwise [k0_pay6]

section Loads
variable (x1 : Vec Ideal S128x1024 .f32) (x2 : Vec Ideal S128x2048 .f32) (C : Vec Ideal S1x8x256x128 .f32) (n m : Vec Ideal S1x8x128 .f32)
variable (o : ℕ) (ho : o < 8)
  (im : ∀ a, (![0, o, 0] : Fin 3 → ℕ) a + (![1, 1, 1] : Fin 3 → ℕ) a ≤ S1x8x128.size a) (inn : ∀ a, (![0, o, 0] : Fin 3 → ℕ) a + (![1, 1, 128] : Fin 3 → ℕ) a ≤ S1x8x128.size a)
  (iC : ∀ a, (![0, o, 0, 0] : Fin 4 → ℕ) a + (![1, 1, 256, 128] : Fin 4 → ℕ) a ≤ S1x8x256x128.size a)
  (iq : ∀ a, (![0, 128 * o] : Fin 2 → ℕ) a + (![128, 128] : Fin 2 → ℕ) a ≤ S128x1024.size a) (iv : ∀ a, (![0, 256 * o] : Fin 2 → ℕ) a + (![128, 256] : Fin 2 → ℕ) a ≤ S128x2048.size a)

/-- The loads of head `o`. -/
abbrev lm : Vec Ideal S1x1x1 .f32 := View.ld (Val := Elt Ideal) (e' := .f32) m (Rect.unit (s := S1x8x128) ![0, o, 0] ![1, 1, 1] im)
abbrev ln : Vec Ideal S1x1x128 .f32 := View.ld (Val := Elt Ideal) (e' := .f32) n (Rect.unit (s := S1x8x128) ![0, o, 0] ![1, 1, 128] inn)
abbrev lC : Vec Ideal S1x1x256x128 .f32 := View.ld (Val := Elt Ideal) (e' := .f32) C (Rect.unit (s := S1x8x256x128) ![0, o, 0, 0] ![1, 1, 256, 128] iC)
abbrev lk : Vec Ideal S128x128 .f32 := View.ld (Val := Elt Ideal) (e' := .f32) x1 (Rect.unit (s := S128x1024) ![0, 128 * o] ![128, 128] iq)
abbrev lv : Vec Ideal S128x256 .f32 := View.ld (Val := Elt Ideal) (e' := .f32) x2 (Rect.unit (s := S128x2048) ![0, 256 * o] ![128, 256] iv)

theorem lm_at : lm m o im (ix3 0 0 0) = m (ix3 0 ⟨o, ho⟩ 0) := ldb3 (e' := .f32) o m im 0 ⟨o, ho⟩ 0 rfl rfl
theorem ln_at (d : Fin 128) : ln n o inn (ix3 0 0 d) = n (ix3 0 ⟨o, ho⟩ d) := ldb3 (e' := .f32) o n inn d ⟨o, ho⟩ d rfl rfl
theorem lC_at (e : Fin 256) (d : Fin 128) : lC C o iC (ix4 0 0 e d) = C (ix4 0 ⟨o, ho⟩ e d) := ldb4 (e' := .f32) o C iC e d ⟨o, ho⟩ rfl
theorem lk_at (r : Fin 128) (d : Fin 128) : lk x1 o iq (ix2 r d) = x1 (ix2 r ⟨128 * o + d.val, by omega⟩) := ldb2 0 (128 * o) x1 iq r d r _ (Nat.zero_add _).symm rfl
theorem lv_at (r : Fin 128) (e : Fin 256) : lv x2 o iv (ix2 r e) = x2 (ix2 r ⟨256 * o + e.val, by omega⟩) := ldb2 0 (256 * o) x2 iv r e r _ (Nat.zero_add _).symm rfl

end Loads

/-- The block's log forget gates are not plus infinity. -/
def Below4 (x4 : Vec Ideal S16x128 .f32) : Prop := ∀ (h : Fin 8) (x : Fin 128), x4 (ix2 ⟨8 + h.val, by omega⟩ x) ≠ ⊤

section Spec
variable (x1 : Vec Ideal S128x1024 .f32) (x2 : Vec Ideal S128x2048 .f32) (x4 : Vec Ideal S16x128 .f32) (C : Vec Ideal S1x8x256x128 .f32) (n m : Vec Ideal S1x8x128 .f32)

/-- The three states of head `h` after the chunk, read off the point's blocks. -/
def spC (h : Fin 8) (e : Fin 256) (d : Fin 128) : EReal :=
  Scan.wc (lfs x4 h.val h.isLt) (igs x4 h.val h.isLt) last (m (ix3 0 h 0)) * C (ix4 0 h e d)
    + ∑ x : Fin 128, x2 (ix2 x ⟨256 * h.val + e.val, by omega⟩) * Scan.ws (lfs x4 h.val h.isLt) (igs x4 h.val h.isLt) last (m (ix3 0 h 0)) x * x1 (ix2 x ⟨128 * h.val + d.val, by omega⟩)

def spN (h : Fin 8) (d : Fin 128) : EReal :=
  Scan.wc (lfs x4 h.val h.isLt) (igs x4 h.val h.isLt) last (m (ix3 0 h 0)) * n (ix3 0 h d)
    + ∑ x : Fin 128, Scan.ws (lfs x4 h.val h.isLt) (igs x4 h.val h.isLt) last (m (ix3 0 h 0)) x * x1 (ix2 x ⟨128 * h.val + d.val, by omega⟩)

def spM (h : Fin 8) : EReal := Scan.mn (lfs x4 h.val h.isLt) (igs x4 h.val h.isLt) last (m (ix3 0 h 0))

variable (hF : Below4 x4)
variable (o : ℕ) (ho : o < 8) (hg : S8x128.Slices ![o, 0] S1x128)
  (im : ∀ a, (![0, o, 0] : Fin 3 → ℕ) a + (![1, 1, 1] : Fin 3 → ℕ) a ≤ S1x8x128.size a) (inn : ∀ a, (![0, o, 0] : Fin 3 → ℕ) a + (![1, 1, 128] : Fin 3 → ℕ) a ≤ S1x8x128.size a)
  (iC : ∀ a, (![0, o, 0, 0] : Fin 4 → ℕ) a + (![1, 1, 256, 128] : Fin 4 → ℕ) a ≤ S1x8x256x128.size a)
  (iq : ∀ a, (![0, 128 * o] : Fin 2 → ℕ) a + (![128, 128] : Fin 2 → ℕ) a ≤ S128x1024.size a) (iv : ∀ a, (![0, 256 * o] : Fin 2 → ℕ) a + (![128, 256] : Fin 2 → ℕ) a ≤ S128x2048.size a)

include hF ho

theorem C_piece (z : S1x1x256x128.Idx) (y : S1x8x256x128.Idx) (h1 : (y 1).val = o + (z 1).val) (h2 : (y 2).val = (z 2).val) (h3 : (y 3).val = (z 3).val) :
    stC (vS x4 (lm m o im) o hg) (vC x4 (lm m o im) o hg) (k0_pay29 (lk x1 o iq)) (lv x2 o iv) (k0_pay31 (lC C o iC)) z = spC x1 x2 x4 C m (y 1) (y 2) (y 3) := by
  have z1 : (z 1).val < 1 := (z 1).isLt
  have e1 : (y 1 : Fin 8) = ⟨o, ho⟩ := Fin.ext (by show (y 1).val = o; omega)
  have e2 : (y 2 : Fin 256) = (z 2 : Fin 256) := Fin.ext h2
  have e3 : (y 3 : Fin 128) = (z 3 : Fin 128) := Fin.ext h3
  have ez : z = ix4 0 0 (z 2 : Fin 256) (z 3 : Fin 128) := by
    funext a
    match a with
    | 0 => exact Subsingleton.elim (α := Fin 1) _ _
    | 1 => exact Subsingleton.elim (α := Fin 1) _ _
    | 2 => rfl
    | 3 => rfl
  rw [e1, e2, e3]
  refine (congrArg (stC (vS x4 (lm m o im) o hg) (vC x4 (lm m o im) o hg) (k0_pay29 (lk x1 o iq)) (lv x2 o iv) (k0_pay31 (lC C o iC))) ez).trans ?_
  refine (C_at x4 (lm m o im) o ho hg (hF ⟨o, ho⟩) _ _ _ _ _).trans ?_
  rw [lm_at m o ho im]
  exact congr (congrArg HAdd.hAdd (congrArg (_ * ·) (lC_at C o ho iC _ _))) (Finset.sum_congr rfl fun s _ => congr (congrArg HMul.hMul (congr (congrArg HMul.hMul (lv_at x2 o ho iv s _)) rfl)) (lk_at x1 o ho iq s _))

theorem n_piece (z : S1x1x128.Idx) (y : S1x8x128.Idx) (h1 : (y 1).val = o + (z 1).val) (h2 : (y 2).val = (z 2).val) :
    k0_pay2 (k0_pay29 (lk x1 o iq)) (k0_pay32 (ln n o inn)) (vS x4 (lm m o im) o hg) (vC x4 (lm m o im) o hg) z = spN x1 x4 n m (y 1) (y 2) := by
  have z1 : (z 1).val < 1 := (z 1).isLt
  have e1 : (y 1 : Fin 8) = ⟨o, ho⟩ := Fin.ext (by show (y 1).val = o; omega)
  have e2 : (y 2 : Fin 128) = (z 2 : Fin 128) := Fin.ext h2
  have ez : z = ix3 0 0 (z 2 : Fin 128) := by
    funext a
    match a with
    | 0 => exact Subsingleton.elim (α := Fin 1) _ _
    | 1 => exact Subsingleton.elim (α := Fin 1) _ _
    | 2 => rfl
  rw [e1, e2]
  refine (congrArg (k0_pay2 (k0_pay29 (lk x1 o iq)) (k0_pay32 (ln n o inn)) (vS x4 (lm m o im) o hg) (vC x4 (lm m o im) o hg)) ez).trans ?_
  refine (n_at x4 (lm m o im) o ho hg (hF ⟨o, ho⟩) _ _ _).trans ?_
  rw [lm_at m o ho im]
  exact congr (congrArg HAdd.hAdd (congrArg (_ * ·) (ln_at n o ho inn _))) (Finset.sum_congr rfl fun s _ => congrArg (_ * ·) (lk_at x1 o ho iq s _))

theorem m_piece (z : S1x1x128.Idx) (y : S1x8x128.Idx) (h1 : (y 1).val = o + (z 1).val) :
    k0_pay3 (vN x4 (lm m o im) o hg) z = spM x4 m (y 1) := by
  have z1 : (z 1).val < 1 := (z 1).isLt
  have e1 : (y 1 : Fin 8) = ⟨o, ho⟩ := Fin.ext (by show (y 1).val = o; omega)
  have ez : z = ix3 0 0 (z 2 : Fin 128) := by
    funext a
    match a with
    | 0 => exact Subsingleton.elim (α := Fin 1) _ _
    | 1 => exact Subsingleton.elim (α := Fin 1) _ _
    | 2 => rfl
  rw [e1]
  refine (congrArg (k0_pay3 (vN x4 (lm m o im) o hg)) ez).trans ?_
  refine (m_at x4 (lm m o im) o ho hg (hF ⟨o, ho⟩) _).trans ?_
  rw [lm_at m o ho im]; rfl

end Spec

section A
variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x128 .f32) (harg6 : arg6.IsWhole) (arg7 : Memref sig .tc .vmem S1x8x256x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x256x128 .f32) (harg12 : arg12.IsWhole) (arg13 : Memref sig .tc .vmem S1x8x128 .f32) (harg13 : arg13.IsWhole) (arg14 : Memref sig .tc .vmem S1x8x128 .f32) (harg14 : arg14.IsWhole) (hc0 : cond0_0 i)
    (x0 : Vec Ideal S128x1024 .f32) (x1 : Vec Ideal S128x1024 .f32) (x2 : Vec Ideal S128x2048 .f32) (x3 : Vec Ideal S128x2048 .f32) (x4 : Vec Ideal S16x128 .f32) (x5 : Vec Ideal S1x8x256x128 .f32) (x6 : Vec Ideal S1x8x128 .f32) (x7 : Vec Ideal S1x8x128 .f32) (x8 : Vec Ideal S1x2048 .f32) (hF : Below4 x4)
include hF

theorem atA_12 (y : S1x8x128.Idx) : out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y = spM x4 (k0_pay6 x7) (y 1) := by
  unfold out0_A_12; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact m_piece x4 (k0_pay6 x7) hF 7 (by decide) (by decide) (by decide) z y h1
  · exact m_piece x4 (k0_pay6 x7) hF 6 (by decide) (by decide) (by decide) z y h1
  · exact m_piece x4 (k0_pay6 x7) hF 5 (by decide) (by decide) (by decide) z y h1
  · exact m_piece x4 (k0_pay6 x7) hF 4 (by decide) (by decide) (by decide) z y h1
  · exact m_piece x4 (k0_pay6 x7) hF 3 (by decide) (by decide) (by decide) z y h1
  · exact m_piece x4 (k0_pay6 x7) hF 2 (by decide) (by decide) (by decide) z y h1
  · exact m_piece x4 (k0_pay6 x7) hF 1 (by decide) (by decide) (by decide) z y h1
  · exact m_piece x4 (k0_pay6 x7) hF 0 (by decide) (by decide) (by decide) z y (h1.trans (Nat.zero_add _).symm)

theorem atA_11 (y : S1x8x128.Idx) : out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y = spN x1 x4 (k0_pay5 x6) (k0_pay6 x7) (y 1) (y 2) := by
  unfold out0_A_11; frame_out
  simp (disch := decide) only [↓ View.readCov_skip, ↓ View.readCov_cons_toLoadRect, ↓ View.readCov_fill]
  refine (drop9 _ _ _ _ _ _ _ _ _ y (View.cover_of_tiled _ ![1, 1, 128] (by rfl) y)).trans ?_
  canon_tiles z h
  · exact n_piece x1 x4 (k0_pay5 x6) (k0_pay6 x7) hF 7 (by decide) (by decide) (by decide) (by decide) (by decide) z y h1 h2
  · exact n_piece x1 x4 (k0_pay5 x6) (k0_pay6 x7) hF 6 (by decide) (by decide) (by decide) (by decide) (by decide) z y h1 h2
  · exact n_piece x1 x4 (k0_pay5 x6) (k0_pay6 x7) hF 5 (by decide) (by decide) (by decide) (by decide) (by decide) z y h1 h2
  · exact n_piece x1 x4 (k0_pay5 x6) (k0_pay6 x7) hF 4 (by decide) (by decide) (by decide) (by decide) (by decide) z y h1 h2
  · exact n_piece x1 x4 (k0_pay5 x6) (k0_pay6 x7) hF 3 (by decide) (by decide) (by decide) (by decide) (by decide) z y h1 h2
  · exact n_piece x1 x4 (k0_pay5 x6) (k0_pay6 x7) hF 2 (by decide) (by decide) (by decide) (by decide) (by decide) z y h1 h2
  · exact n_piece x1 x4 (k0_pay5 x6) (k0_pay6 x7) hF 1 (by decide) (by decide) (by decide) (by decide) (by decide) z y h1 h2
  · exact n_piece x1 x4 (k0_pay5 x6) (k0_pay6 x7) hF 0 (by decide) (by decide) (by decide) (by decide) (by decide) z y (h1.trans (Nat.zero_add _).symm) h2

theorem atA_10 (y : S1x8x256x128.Idx) : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y = spC x1 x2 x4 (k0_pay4 x5) (k0_pay6 x7) (y 1) (y 2) (y 3) := by
  unfold out0_A_10; frame_out
  simp (disch := decide) only [↓ View.readCov_skip, ↓ View.readCov_cons_toLoadRect, ↓ View.readCov_fill]
  refine (drop9 _ _ _ _ _ _ _ _ _ y (View.cover_of_tiled _ ![1, 1, 256, 128] (by rfl) y)).trans ?_
  canon_tiles z h
  · exact C_piece x1 x2 x4 (k0_pay4 x5) (k0_pay6 x7) hF 7 (by decide) (by decide) (by decide) (by decide) (by decide) (by decide) z y h1 h2 h3
  · exact C_piece x1 x2 x4 (k0_pay4 x5) (k0_pay6 x7) hF 6 (by decide) (by decide) (by decide) (by decide) (by decide) (by decide) z y h1 h2 h3
  · exact C_piece x1 x2 x4 (k0_pay4 x5) (k0_pay6 x7) hF 5 (by decide) (by decide) (by decide) (by decide) (by decide) (by decide) z y h1 h2 h3
  · exact C_piece x1 x2 x4 (k0_pay4 x5) (k0_pay6 x7) hF 4 (by decide) (by decide) (by decide) (by decide) (by decide) (by decide) z y h1 h2 h3
  · exact C_piece x1 x2 x4 (k0_pay4 x5) (k0_pay6 x7) hF 3 (by decide) (by decide) (by decide) (by decide) (by decide) (by decide) z y h1 h2 h3
  · exact C_piece x1 x2 x4 (k0_pay4 x5) (k0_pay6 x7) hF 2 (by decide) (by decide) (by decide) (by decide) (by decide) (by decide) z y h1 h2 h3
  · exact C_piece x1 x2 x4 (k0_pay4 x5) (k0_pay6 x7) hF 1 (by decide) (by decide) (by decide) (by decide) (by decide) (by decide) z y h1 h2 h3
  · exact C_piece x1 x2 x4 (k0_pay4 x5) (k0_pay6 x7) hF 0 (by decide) (by decide) (by decide) (by decide) (by decide) (by decide) z y (h1.trans (Nat.zero_add _).symm) h2 h3

end A

section B
variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x128 .f32) (harg6 : arg6.IsWhole) (arg7 : Memref sig .tc .vmem S1x8x256x128 .f32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x256x128 .f32) (harg12 : arg12.IsWhole) (arg13 : Memref sig .tc .vmem S1x8x128 .f32) (harg13 : arg13.IsWhole) (arg14 : Memref sig .tc .vmem S1x8x128 .f32) (harg14 : arg14.IsWhole) (hc0 : ¬cond0_0 i)
    (x0 : Vec Ideal S128x1024 .f32) (x1 : Vec Ideal S128x1024 .f32) (x2 : Vec Ideal S128x2048 .f32) (x3 : Vec Ideal S128x2048 .f32) (x4 : Vec Ideal S16x128 .f32) (x5 : Vec Ideal S1x8x256x128 .f32) (x6 : Vec Ideal S1x8x128 .f32) (x7 : Vec Ideal S1x8x128 .f32) (x8 : Vec Ideal S1x2048 .f32) (xo10 : Vec Ideal S1x8x256x128 .f32) (xo11 : Vec Ideal S1x8x128 .f32) (xo12 : Vec Ideal S1x8x128 .f32) (hF : Below4 x4)
include hF

theorem atB_12 (y : S1x8x128.Idx) : out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 y = spM x4 xo12 (y 1) := by
  unfold out0_B_12; frame_out
  canon_tiles z h
  · exact m_piece x4 xo12 hF 7 (by decide) (by decide) (by decide) z y h1
  · exact m_piece x4 xo12 hF 6 (by decide) (by decide) (by decide) z y h1
  · exact m_piece x4 xo12 hF 5 (by decide) (by decide) (by decide) z y h1
  · exact m_piece x4 xo12 hF 4 (by decide) (by decide) (by decide) z y h1
  · exact m_piece x4 xo12 hF 3 (by decide) (by decide) (by decide) z y h1
  · exact m_piece x4 xo12 hF 2 (by decide) (by decide) (by decide) z y h1
  · exact m_piece x4 xo12 hF 1 (by decide) (by decide) (by decide) z y h1
  · exact m_piece x4 xo12 hF 0 (by decide) (by decide) (by decide) z y (h1.trans (Nat.zero_add _).symm)

theorem atB_11 (y : S1x8x128.Idx) : out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 y = spN x1 x4 xo11 xo12 (y 1) (y 2) := by
  unfold out0_B_11; frame_out
  canon_tiles z h
  · exact n_piece x1 x4 xo11 xo12 hF 7 (by decide) (by decide) (by decide) (by decide) (by decide) z y h1 h2
  · exact n_piece x1 x4 xo11 xo12 hF 6 (by decide) (by decide) (by decide) (by decide) (by decide) z y h1 h2
  · exact n_piece x1 x4 xo11 xo12 hF 5 (by decide) (by decide) (by decide) (by decide) (by decide) z y h1 h2
  · exact n_piece x1 x4 xo11 xo12 hF 4 (by decide) (by decide) (by decide) (by decide) (by decide) z y h1 h2
  · exact n_piece x1 x4 xo11 xo12 hF 3 (by decide) (by decide) (by decide) (by decide) (by decide) z y h1 h2
  · exact n_piece x1 x4 xo11 xo12 hF 2 (by decide) (by decide) (by decide) (by decide) (by decide) z y h1 h2
  · exact n_piece x1 x4 xo11 xo12 hF 1 (by decide) (by decide) (by decide) (by decide) (by decide) z y h1 h2
  · exact n_piece x1 x4 xo11 xo12 hF 0 (by decide) (by decide) (by decide) (by decide) (by decide) z y (h1.trans (Nat.zero_add _).symm) h2

theorem atB_10 (y : S1x8x256x128.Idx) : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo10 xo11 xo12 y = spC x1 x2 x4 xo10 xo12 (y 1) (y 2) (y 3) := by
  unfold out0_B_10; frame_out
  canon_tiles z h
  · exact C_piece x1 x2 x4 xo10 xo12 hF 7 (by decide) (by decide) (by decide) (by decide) (by decide) (by decide) z y h1 h2 h3
  · exact C_piece x1 x2 x4 xo10 xo12 hF 6 (by decide) (by decide) (by decide) (by decide) (by decide) (by decide) z y h1 h2 h3
  · exact C_piece x1 x2 x4 xo10 xo12 hF 5 (by decide) (by decide) (by decide) (by decide) (by decide) (by decide) z y h1 h2 h3
  · exact C_piece x1 x2 x4 xo10 xo12 hF 4 (by decide) (by decide) (by decide) (by decide) (by decide) (by decide) z y h1 h2 h3
  · exact C_piece x1 x2 x4 xo10 xo12 hF 3 (by decide) (by decide) (by decide) (by decide) (by decide) (by decide) z y h1 h2 h3
  · exact C_piece x1 x2 x4 xo10 xo12 hF 2 (by decide) (by decide) (by decide) (by decide) (by decide) (by decide) z y h1 h2 h3
  · exact C_piece x1 x2 x4 xo10 xo12 hF 1 (by decide) (by decide) (by decide) (by decide) (by decide) (by decide) z y h1 h2 h3
  · exact C_piece x1 x2 x4 xo10 xo12 hF 0 (by decide) (by decide) (by decide) (by decide) (by decide) (by decide) z y (h1.trans (Nat.zero_add _).symm) h2 h3

end B

end Cert.Proof.ChunkBlocks

end
-- ==== Proof.Whole.lean ====
module

public import proofs.«01_k».proof.Proof.Scan
public import proofs.«01_k».proof.Proof.Attn
public import proofs.«01_k».proof.Proof.Gen.Pre_forget_finite

@[expose] public section

set_option maxRecDepth 16384

noncomputable section

/-! The mLSTM's states after a whole prompt, as functions of the projected activations and the gates. -/

namespace Cert.Proof.Whole

open Idealize.ShloMosaic Idealize.SL.Sem

/-- The row of step `s` of sequence `b`. -/
def row (b : Fin 4) (s : ℕ) : Fin 8320 := ⟨(2048 * b.val + s) % 8192, by omega⟩

variable (z : FVec Ideal ⟨2, ![8320, 6144]⟩ .f32) (g : FVec Ideal ⟨2, ![16, 8320]⟩ .f32) (b : Fin 4) (h : Fin 8)

def ig (s : ℕ) : EReal := g (ix2 ⟨h.val, by omega⟩ (row b s))
def lf (s : ℕ) : ℝ := (g (ix2 ⟨8 + h.val, by omega⟩ (row b s)) : EReal).toReal
def ks (d : Fin 128) (s : ℕ) : EReal := z (ix2 (row b s) ⟨1024 + (128 * h.val + d.val), by omega⟩)
def vs (e : Fin 256) (s : ℕ) : EReal := z (ix2 (row b s) ⟨2048 + (256 * h.val + e.val), by omega⟩)

/-- The states of head `h` of sequence `b`. -/
def outC (e : Fin 256) (d : Fin 128) : EReal := Scan.C (lf g b h) (ig g b h) (vs z b h e) (ks z b h d) 2048
def outN (d : Fin 128) : EReal := Scan.N (lf g b h) (ig g b h) (ks z b h d) 2048
def outM : EReal := Scan.M (lf g b h) (ig g b h) 2048

/-- The prompt's log forget gates are real numbers. -/
def Fin4 : Prop := ∀ (h : Fin 8) (x : Fin 8320), x.val < 8192 → (g (ix2 ⟨8 + h.val, by omega⟩ x) : EReal) ≠ ⊤ ∧ (g (ix2 ⟨8 + h.val, by omega⟩ x) : EReal) ≠ ⊥

theorem lf_eq (hR : Fin4 g) (s : ℕ) : (g (ix2 ⟨8 + h.val, by omega⟩ (row b s)) : EReal) = (lf g b h s : EReal) := by
  have e := hR h (row b s) (Nat.mod_lt _ (by decide))
  exact (EReal.coe_toReal e.1 e.2).symm

end Cert.Proof.Whole

namespace Cert.Proof.Whole
open Idealize.ShloMosaic Cert.Pre_forget_finite

theorem finite [Facts] (z : FVec Ideal S8320x6144 .f32) (g : FVec Ideal S16x8320 .f32) (w : FVec Ideal S2048 .f32)
    (h : fn (F := Ideal) z g w = fun _ => 1#1) : Fin4 g := by
  intro a x hx
  have e := congrFun h (fun a => a.elim0)
  dsimp only [fn] at e
  have e3 := Host.reduce_andi_all _ _ _ _ _ e (ix2 a ⟨x.val, hx⟩)
  have hr : (((g (ix2 ⟨8 + a.val, by omega⟩ x) : EReal).toReal : ℝ) : EReal) = g (ix2 ⟨8 + a.val, by omega⟩ x) := by
    refine Attn.real_of_lt _ (Eq.trans ?_ e3)
    refine congrArg (fun x : EReal => Ideal.cmp .olt (max x (-x)) (Ideal.ofBits FTy.f32 0x7F800000#32)) (congrArg g ?_)
    funext k
    match k with
    | 0 => rfl
    | 1 => exact Fin.ext (Nat.zero_add _).symm
  rw [← hr]
  exact ⟨EReal.coe_ne_top _, EReal.coe_ne_bot _⟩

end Cert.Proof.Whole

end
-- ==== Proof.Prompt.lean ====
module

public import proofs.«01_k».proof.Proof.ChunkBlocks
public import proofs.«01_k».proof.Proof.Whole
public import Idealize.ShloMosaic.Lib.StableHlo.ReadAt

@[expose] public section

set_option maxRecDepth 16384

noncomputable section

/-! The kernel's mLSTM prompt call: sixteen chunks of a sequence put together into its three states. -/

namespace Cert.Proof.Prompt

open Idealize.ShloMosaic Idealize.ShloMosaic.TcCoe Idealize.SL.Sem
open Idealize.ShloMosaic.Pipeline (Dat)
open Cert.Kernel10Ideal Cert.Kernel10Ideal.Gen Cert.Proof.ChunkBlocks

variable (m : (ℓ : Loc nD τ sig) → Buf (Elt Ideal) ℓ)

theorem idx : ∀ t : Fin cfg0.N, win0_1.index t = ![t.val, 1] ∧ win0_2.index t = ![t.val, 1] ∧ win0_4.index t = ![0, t.val]
    ∧ win0_5.index t = ![t.val / 16, 0, 0, 0] ∧ win0_6.index t = ![t.val / 16, 0, 0] ∧ win0_7.index t = ![t.val / 16, 0, 0]
    ∧ win0_10.index t = ![t.val / 16, 0, 0, 0] ∧ win0_11.index t = ![t.val / 16, 0, 0] ∧ win0_12.index t = ![t.val / 16, 0, 0] :=
  (by decide +kernel : ∀ t : Fin grid0.N, _)

theorem last : ∀ t : Fin cfg0.N, ((cfg0.win 10).flush t = true → t.val % 16 = 15) ∧ ((cfg0.win 11).flush t = true → t.val % 16 = 15) ∧ ((cfg0.win 12).flush t = true → t.val % 16 = 15) :=
  (by decide +kernel : ∀ t : Fin grid0.N, _)

theorem zero32 : Ideal.ofBits FTy.f32 0x00000000#32 = (0 : EReal) := by
  simp [Ideal.ofBits, Ideal.ieee]

theorem lt64 (t : Fin cfg0.N) : t.val < 64 := t.isLt

/-- The sequence of point `t`. -/
def seq (t : Fin cfg0.N) : Fin 4 := ⟨t.val / 16, by have := lt64 t; omega⟩

/-- Row `r` of point `t`'s chunk. -/
def tok (t : Fin cfg0.N) (r : Fin 128) : Fin 8320 := ⟨128 * t.val + r.val, by have := lt64 t; omega⟩

theorem tok_eq (t : Fin cfg0.N) (r : Fin 128) : tok t r = Whole.row (seq t) (128 * (t.val % 16) + r.val) := by
  have := lt64 t
  apply Fin.ext
  show 128 * t.val + r.val = (2048 * (t.val / 16) + (128 * (t.val % 16) + r.val)) % 8192
  omega

theorem B1 (c : Dev nD) (t : Fin cfg0.N) (r : Fin 128) (j : Fin 1024) : iblk m c 1 t (ix2 r j) = m ((c : Thread nD τ).loc main_arg0) (ix2 (tok t r) ⟨1024 + j.val, by omega⟩) := by
  blk_point [iblk, V, idx t, tok]
theorem B2 (c : Dev nD) (t : Fin cfg0.N) (r : Fin 128) (j : Fin 2048) : iblk m c 2 t (ix2 r j) = m ((c : Thread nD τ).loc main_arg0) (ix2 (tok t r) ⟨2048 + j.val, by omega⟩) := by
  blk_point [iblk, V, idx t, tok]
theorem B4 (c : Dev nD) (t : Fin cfg0.N) (r : Fin 16) (j : Fin 128) : iblk m c 4 t (ix2 r j) = m ((c : Thread nD τ).loc main_arg1) (ix2 r (tok t j)) := by
  blk_point [iblk, V, idx t, tok]

theorem V5 (c : Dev nD) (b : Fin 4) (h : Fin 8) (e : Fin 256) (d : Fin 128) : (V m c main_v0 : FVec Ideal S4x8x256x128 .f32) (ix4 b h e d) = (0 : EReal) := by
  unfold V
  after_reads_at
  all_goals exact zero32
theorem V6 (c : Dev nD) (b : Fin 4) (h : Fin 8) (d : Fin 128) : (V m c main_v1 : FVec Ideal S4x8x128 .f32) (ix3 b h d) = (0 : EReal) := by
  unfold V
  after_reads_at
  all_goals exact zero32
theorem V7 (c : Dev nD) (b : Fin 4) (h : Fin 8) (d : Fin 128) : (V m c main_v2 : FVec Ideal S4x8x128 .f32) (ix3 b h d) = (0 : EReal) := by
  unfold V
  after_reads_at
  all_goals exact zero32

theorem B5 (c : Dev nD) (t : Fin cfg0.N) (h : Fin 8) (e : Fin 256) (d : Fin 128) : iblk m c 5 t (ix4 0 h e d) = (0 : EReal) := by
  have e' : iblk m c 5 t (ix4 0 h e d) = (V m c main_v0 : S4x8x256x128.Idx → EReal) (ix4 (seq t) h e d) := by
    blk_point [iblk, idx t, seq]
  exact e'.trans (V5 m c _ h _ d)
theorem B6 (c : Dev nD) (t : Fin cfg0.N) (h : Fin 8) (d : Fin 128) : iblk m c 6 t (ix3 0 h d) = (0 : EReal) := by
  have e' : iblk m c 6 t (ix3 0 h d) = (V m c main_v1 : S4x8x128.Idx → EReal) (ix3 (seq t) h d) := by
    blk_point [iblk, idx t, seq]
  exact e'.trans (V6 m c _ h d)
theorem B7 (c : Dev nD) (t : Fin cfg0.N) (h : Fin 8) (d : Fin 128) : iblk m c 7 t (ix3 0 h d) = (0 : EReal) := by
  have e' : iblk m c 7 t (ix3 0 h d) = (V m c main_v2 : S4x8x128.Idx → EReal) (ix3 (seq t) h d) := by
    blk_point [iblk, idx t, seq]
  exact e'.trans (V7 m c _ h d)

theorem E10 (t : Fin cfg0.N) (y : S1x8x256x128.Idx) : ((cfg0.win 10).blk t).view.emb y = ix4 (seq t) (y 1) (y 2) (y 3) := by
  blk_ext [idx t, seq]
theorem E11 (t : Fin cfg0.N) (y : S1x8x128.Idx) : ((cfg0.win 11).blk t).view.emb y = ix3 (seq t) (y 1) (y 2) := by
  blk_ext [idx t, seq]
theorem E12 (t : Fin cfg0.N) (y : S1x8x128.Idx) : ((cfg0.win 12).blk t).view.emb y = ix3 (seq t) (y 1) (y 2) := by
  blk_ext [idx t, seq]

variable (c : Dev nD)

/-- The states of head `h` of sequence `b` after `T` steps. -/
def sC (b : Fin 4) (T : ℕ) (h : Fin 8) (e : Fin 256) (d : Fin 128) : EReal :=
  Scan.C (Whole.lf (m ((c : Thread nD τ).loc main_arg1)) b h) (Whole.ig (m ((c : Thread nD τ).loc main_arg1)) b h) (Whole.vs (m ((c : Thread nD τ).loc main_arg0)) b h e) (Whole.ks (m ((c : Thread nD τ).loc main_arg0)) b h d) T
def sN (b : Fin 4) (T : ℕ) (h : Fin 8) (d : Fin 128) : EReal :=
  Scan.N (Whole.lf (m ((c : Thread nD τ).loc main_arg1)) b h) (Whole.ig (m ((c : Thread nD τ).loc main_arg1)) b h) (Whole.ks (m ((c : Thread nD τ).loc main_arg0)) b h d) T
def sM (b : Fin 4) (T : ℕ) (h : Fin 8) : EReal :=
  Scan.M (Whole.lf (m ((c : Thread nD τ).loc main_arg1)) b h) (Whole.ig (m ((c : Thread nD τ).loc main_arg1)) b h) T

variable (hR : Whole.Fin4 (m ((c : Thread nD τ).loc main_arg1)))
include hR

theorem lfs_eq (t : Fin cfg0.N) (h : Fin 8) (r : Fin 128) : Chunk.lfs (iblk m c 4 t) h.val h.isLt r = (Whole.lf (m ((c : Thread nD τ).loc main_arg1)) (seq t) h (128 * (t.val % 16) + r.val) : EReal) := by
  refine (B4 m c t _ r).trans ?_
  rw [tok_eq]
  exact Whole.lf_eq _ _ h hR _

omit hR in
theorem igs_eq (t : Fin cfg0.N) (h : Fin 8) (r : Fin 128) : Chunk.igs (iblk m c 4 t) h.val h.isLt r = Whole.ig (m ((c : Thread nD τ).loc main_arg1)) (seq t) h (128 * (t.val % 16) + r.val) := by
  refine (B4 m c t _ r).trans ?_
  rw [tok_eq]
  rfl

omit hR in
theorem k_eq (t : Fin cfg0.N) (h : Fin 8) (r d : Fin 128) : iblk m c 1 t (ix2 r ⟨128 * h.val + d.val, by omega⟩) = Whole.ks (m ((c : Thread nD τ).loc main_arg0)) (seq t) h d (128 * (t.val % 16) + r.val) := by
  refine (B1 m c t r _).trans ?_
  rw [tok_eq]
  rfl

omit hR in
theorem v_eq (t : Fin cfg0.N) (h : Fin 8) (r : Fin 128) (e : Fin 256) : iblk m c 2 t (ix2 r ⟨256 * h.val + e.val, by omega⟩) = Whole.vs (m ((c : Thread nD τ).loc main_arg0)) (seq t) h e (128 * (t.val % 16) + r.val) := by
  refine (B2 m c t r _).trans ?_
  rw [tok_eq]
  rfl

theorem below (t : Fin cfg0.N) : Below4 (iblk m c 4 t) := fun h x e =>
  EReal.coe_ne_top _ ((lfs_eq m c hR t h x).symm.trans e)

section Step
variable (t : Fin cfg0.N) (h : Fin 8) (C : Vec Ideal S1x8x256x128 .f32) (n μ : Vec Ideal S1x8x128 .f32) (hμ : μ (ix3 0 h 0) = sM m c (seq t) (128 * (t.val % 16)) h)
include hμ

theorem M_next : spM (iblk m c 4 t) μ h = sM m c (seq t) (128 * (t.val % 16) + 128) h := by
  unfold spM
  rw [hμ]
  exact Scan.mn_eq _ _ _ _ Chunk.last _ rfl (lfs_eq m c hR t h) (igs_eq m c t h)

theorem N_next (d : Fin 128) (hn : n (ix3 0 h d) = sN m c (seq t) (128 * (t.val % 16)) h d) : spN (iblk m c 1 t) (iblk m c 4 t) n μ h d = sN m c (seq t) (128 * (t.val % 16) + 128) h d := by
  unfold spN
  rw [hμ, hn]
  refine Eq.trans ?_ (Scan.N_step _ _ (Chunk.lfs (iblk m c 4 t) h.val h.isLt) (Chunk.igs (iblk m c 4 t) h.val h.isLt) Chunk.last _ rfl (lfs_eq m c hR t h) (igs_eq m c t h) (Whole.ks (m ((c : Thread nD τ).loc main_arg0)) (seq t) h d))
  exact congrArg (_ + ·) (Finset.sum_congr rfl fun r _ => congrArg (fun y : EReal => _ * y) (k_eq m c t h r d))

theorem C_next (e : Fin 256) (d : Fin 128) (hC : C (ix4 0 h e d) = sC m c (seq t) (128 * (t.val % 16)) h e d) :
    spC (iblk m c 1 t) (iblk m c 2 t) (iblk m c 4 t) C μ h e d = sC m c (seq t) (128 * (t.val % 16) + 128) h e d := by
  unfold spC
  rw [hμ, hC]
  refine Eq.trans ?_ (Scan.C_step _ _ (Chunk.lfs (iblk m c 4 t) h.val h.isLt) (Chunk.igs (iblk m c 4 t) h.val h.isLt) Chunk.last _ rfl (lfs_eq m c hR t h) (igs_eq m c t h) (Whole.vs (m ((c : Thread nD τ).loc main_arg0)) (seq t) h e) (Whole.ks (m ((c : Thread nD τ).loc main_arg0)) (seq t) h d))
  exact congrArg (_ + ·) (Finset.sum_congr rfl fun r _ => congrArg₂ (fun x y : EReal => x * _ * y) (v_eq m c t h r e) (k_eq m c t h r d))

end Step

/-- The states after a sequence's first chunk. -/
theorem first (t : Fin cfg0.N) (ht : t.val % 16 = 0) :
    (∀ y : S1x8x256x128.Idx, (outsAt0 m c t.val t.isLt).2.1 y = sC m c (seq t) (128 * (t.val % 16) + 128) (y 1) (y 2) (y 3))
    ∧ (∀ y : S1x8x128.Idx, (outsAt0 m c t.val t.isLt).2.2.1 y = sN m c (seq t) (128 * (t.val % 16) + 128) (y 1) (y 2))
    ∧ ∀ y : S1x8x128.Idx, (outsAt0 m c t.val t.isLt).2.2.2 y = sM m c (seq t) (128 * (t.val % 16) + 128) (y 1) := by
  rw [outsAt0_A m c t ht]; dsimp only
  have e0 : 128 * (t.val % 16) = 0 := by omega
  have μ : ∀ a : Fin 8, k0_pay6 (iblk m c 7 t) (ix3 0 a 0) = sM m c (seq t) (128 * (t.val % 16)) a := fun a => by
    rw [e0]; exact (pay6_at _ _).trans ((B7 m c t a 0).trans (Scan.M_zero _ _).symm)
  refine ⟨fun y => ?_, fun y => ?_, fun y => ?_⟩
  · refine (atA_10 _ _ _ _ _ _ _ _ _ _ _ _ _ _ _ _ _ _ _ _ _ _ _ _ _ _ _ _ _ _ _ _ _ _ _ _ _ _ (below m c hR t) y).trans ?_
    refine C_next m c hR t (y 1) _ _ (μ (y 1)) (y 2) (y 3) ?_
    rw [e0]; exact (pay4_at _ _).trans ((B5 m c t (y 1) (y 2) (y 3)).trans (Scan.C_zero _ _ _ _).symm)
  · refine (atA_11 _ _ _ _ _ _ _ _ _ _ _ _ _ _ _ _ _ _ _ _ _ _ _ _ _ _ _ _ _ _ _ _ _ _ _ _ _ _ (below m c hR t) y).trans ?_
    refine N_next m c hR t (y 1) _ _ (μ (y 1)) (y 2) ?_
    rw [e0]; exact (pay5_at _ _).trans ((B6 m c t (y 1) (y 2)).trans (Scan.N_zero _ _ _).symm)
  · refine (atA_12 _ _ _ _ _ _ _ _ _ _ _ _ _ _ _ _ _ _ _ _ _ _ _ _ _ _ _ _ _ _ _ _ _ _ _ _ _ _ (below m c hR t) y).trans ?_
    exact M_next m c hR t (y 1) _ (μ (y 1))

/-- The states after point `n`. -/
theorem states : ∀ (n : ℕ) (hn : n < cfg0.N),
    (∀ y : S1x8x256x128.Idx, (outsAt0 m c n hn).2.1 y = sC m c (seq ⟨n, hn⟩) (128 * (n % 16) + 128) (y 1) (y 2) (y 3))
    ∧ (∀ y : S1x8x128.Idx, (outsAt0 m c n hn).2.2.1 y = sN m c (seq ⟨n, hn⟩) (128 * (n % 16) + 128) (y 1) (y 2))
    ∧ ∀ y : S1x8x128.Idx, (outsAt0 m c n hn).2.2.2 y = sM m c (seq ⟨n, hn⟩) (128 * (n % 16) + 128) (y 1) := by
  intro n
  induction n with
  | zero => exact fun hn => first m c hR ⟨0, hn⟩ rfl
  | succ k ih =>
    intro hn
    by_cases h : (k + 1) % 16 = 0
    · exact first m c hR ⟨k + 1, hn⟩ h
    · have hk := ih (by omega)
      have e1 : seq ⟨k, by omega⟩ = seq ⟨k + 1, hn⟩ := Fin.ext (by show k / 16 = (k + 1) / 16; omega)
      have e2 : 128 * (k % 16) + 128 = 128 * ((k + 1) % 16) := by omega
      rw [e1, e2] at hk
      obtain ⟨hC, hN, hM⟩ := hk
      rw [outsAt0_B m c ⟨k + 1, hn⟩ h]; dsimp only
      have μ := fun a : Fin 8 => hM (ix3 0 a 0)
      refine ⟨fun y => ?_, fun y => ?_, fun y => ?_⟩
      · refine (atB_10 _ _ _ _ _ _ _ _ _ _ _ _ _ _ _ _ _ _ _ _ _ _ _ _ _ _ _ _ _ _ _ _ _ _ _ _ _ _ _ _ _ (below m c hR ⟨k + 1, hn⟩) y).trans ?_
        exact C_next m c hR ⟨k + 1, hn⟩ (y 1) _ _ (μ (y 1)) (y 2) (y 3) (hC (ix4 0 (y 1) (y 2) (y 3)))
      · refine (atB_11 _ _ _ _ _ _ _ _ _ _ _ _ _ _ _ _ _ _ _ _ _ _ _ _ _ _ _ _ _ _ _ _ _ _ _ _ _ _ _ _ _ (below m c hR ⟨k + 1, hn⟩) y).trans ?_
        exact N_next m c hR ⟨k + 1, hn⟩ (y 1) _ _ (μ (y 1)) (y 2) (hN (ix3 0 (y 1) (y 2)))
      · refine (atB_12 _ _ _ _ _ _ _ _ _ _ _ _ _ _ _ _ _ _ _ _ _ _ _ _ _ _ _ _ _ _ _ _ _ _ _ _ _ _ _ _ _ (below m c hR ⟨k + 1, hn⟩) y).trans ?_
        exact M_next m c hR ⟨k + 1, hn⟩ (y 1) _ (μ (y 1))

theorem final10 : (dats m 0 c).arrAt 10 (cfgs 0).N
    = fun i : S4x8x256x128.Idx => Whole.outC (m ((c : Thread nD τ).loc main_arg0)) (m ((c : Thread nD τ).loc main_arg1)) (i 0) (i 1) (i 2) (i 3) := by
  refine (dats m 0 c).arrAt_eq_of_covers 10 _ (by decide +kernel) fun t hf y => ?_
  blk_simp; rw [after0_10, E10]
  refine ((states m c hR t.val t.isLt).1 y).trans ?_
  rw [(last t).1 hf]; rfl

theorem final11 : (dats m 0 c).arrAt 11 (cfgs 0).N
    = fun i : S4x8x128.Idx => Whole.outN (m ((c : Thread nD τ).loc main_arg0)) (m ((c : Thread nD τ).loc main_arg1)) (i 0) (i 1) (i 2) := by
  refine (dats m 0 c).arrAt_eq_of_covers 11 _ (by decide +kernel) fun t hf y => ?_
  blk_simp; rw [after0_11, E11]
  refine ((states m c hR t.val t.isLt).2.1 y).trans ?_
  rw [(last t).2.1 hf]; rfl

theorem final12 : (dats m 0 c).arrAt 12 (cfgs 0).N
    = fun i : S4x8x128.Idx => Whole.outM (m ((c : Thread nD τ).loc main_arg1)) (i 0) (i 1) := by
  refine (dats m 0 c).arrAt_eq_of_covers 12 _ (by decide +kernel) fun t hf y => ?_
  blk_simp; rw [after0_12, E12]
  refine ((states m c hR t.val t.isLt).2.2 y).trans ?_
  rw [(last t).2.2 hf]; rfl

end Cert.Proof.Prompt

end
-- ==== Proof.WholeStages.lean ====
module

public import proofs.«01_k».proof.Proof.Whole
public import proofs.«01_k».proof.Proof.Soft
public import proofs.«01_k».proof.Proof.Gen.Reference10Ideal.Run

@[expose] public section

set_option maxRecDepth 16384

noncomputable section

/-! The reference's pass over the prompt in stages, each read at an index. -/

namespace Cert.Proof.WholeStages

open Idealize.ShloMosaic Idealize.ShloMosaic.TcCoe Idealize.SL.Sem
open Cert.Reference10Ideal Cert.Reference10Ideal.Gen

/-- The last step. -/
def last : Fin 2048 := ⟨2047, by decide⟩

def keys (arg0 : FVec Ideal S8320x6144 .f32) : FVec Ideal S4x8x2048x128 .f32 :=
  transpose S4x8x2048x128 [0, 2, 1, 3] (shapeCast S4x2048x8x128 (extractStridedSlice S4x2048x1024 ![0, 0, 0] (shapeCast S4x2048x3072 (extractStridedSlice S8192x3072 ![0, 1024] arg0 slices_S8320x6144_S8192x3072_0_1024) shapeCasts_S8192x3072_S4x2048x3072) slices_S4x2048x3072_S4x2048x1024_0_0_0) shapeCasts_S4x2048x1024_S4x2048x8x128) transposes_S4x2048x8x128_S4x8x2048x128_0_2_1_3

theorem keys_at (arg0 : FVec Ideal S8320x6144 .f32) (b : Fin 4) (h : Fin 8) (s : Fin 2048) (d : Fin 128) : keys arg0 (ix4 b h s d) = Whole.ks arg0 b h d s.val := by
  unfold keys
  pointwise
  exact congrArg₂ (fun r c => arg0 (ix2 r c)) (Fin.ext (by simp only [Whole.row]; omega)) (Fin.ext (by simp only; omega))

def values (arg0 : FVec Ideal S8320x6144 .f32) : FVec Ideal S4x8x2048x256 .f32 :=
  transpose S4x8x2048x256 [0, 2, 1, 3] (shapeCast S4x2048x8x256 (extractStridedSlice S4x2048x2048 ![0, 0, 1024] (shapeCast S4x2048x3072 (extractStridedSlice S8192x3072 ![0, 1024] arg0 slices_S8320x6144_S8192x3072_0_1024) shapeCasts_S8192x3072_S4x2048x3072) slices_S4x2048x3072_S4x2048x2048_0_0_1024) shapeCasts_S4x2048x2048_S4x2048x8x256) transposes_S4x2048x8x256_S4x8x2048x256_0_2_1_3

theorem values_at (arg0 : FVec Ideal S8320x6144 .f32) (b : Fin 4) (h : Fin 8) (s : Fin 2048) (e : Fin 256) : values arg0 (ix4 b h s e) = Whole.vs arg0 b h e s.val := by
  unfold values
  pointwise
  exact congrArg₂ (fun r c => arg0 (ix2 r c)) (Fin.ext (by simp only [Whole.row]; omega)) (Fin.ext (by simp only; omega))

def inGate (arg1 : FVec Ideal S16x8320 .f32) : FVec Ideal S4x8x2048 .f32 :=
  extractStridedSlice S4x8x2048 ![0, 0, 0] (transpose S4x16x2048 [1, 0, 2] (shapeCast S16x4x2048 (extractStridedSlice S16x8192 ![0, 0] arg1 slices_S16x8320_S16x8192_0_0) shapeCasts_S16x8192_S16x4x2048) transposes_S16x4x2048_S4x16x2048_1_0_2) slices_S4x16x2048_S4x8x2048_0_0_0

theorem inGate_at (arg1 : FVec Ideal S16x8320 .f32) (b : Fin 4) (h : Fin 8) (s : Fin 2048) : inGate arg1 (ix3 b h s) = Whole.ig arg1 b h s.val := by
  unfold inGate
  pointwise
  exact congrArg₂ (fun r c => arg1 (ix2 r c)) rfl (Fin.ext (by simp only [Whole.row]; omega))

def forGate (arg1 : FVec Ideal S16x8320 .f32) : FVec Ideal S4x8x2048 .f32 :=
  extractStridedSlice S4x8x2048 ![0, 8, 0] (transpose S4x16x2048 [1, 0, 2] (shapeCast S16x4x2048 (extractStridedSlice S16x8192 ![0, 0] arg1 slices_S16x8320_S16x8192_0_0) shapeCasts_S16x8192_S16x4x2048) transposes_S16x4x2048_S4x16x2048_1_0_2) slices_S4x16x2048_S4x8x2048_0_8_0

theorem forGate_at (arg1 : FVec Ideal S16x8320 .f32) (b : Fin 4) (h : Fin 8) (s : Fin 2048) : forGate arg1 (ix3 b h s) = arg1 (ix2 ⟨8 + h.val, by omega⟩ (Whole.row b s.val)) := by
  unfold forGate
  pointwise
  exact congrArg₂ (fun r c => arg1 (ix2 r c)) rfl (Fin.ext (by simp only [Whole.row]; omega))

def running (v15 : FVec Ideal S4x8x2048 .f32) : FVec Ideal S4x8x2048 .f32 :=
  Host.reduceWindowAdd ![1, 1, 2048] ![1, 1, 1] ![0, 0, 2047] ![0, 0, 0] v15 (broadcastInDim S_ ![] bcast_S_S_ (constant S_ .f32 0x00000000#32)) reduceWindows_S4x8x2048_S4x8x2048_w1s1p0_0_w1s1p0_0_w2048s1p2047_0 h_S_

theorem folded (N : ℕ) (F : Fin N → EReal) : (List.finRange N).foldl (fun r n => r + F n) (0 : EReal) = ∑ n : Fin N, F n := by
  rw [Fin.sum_univ_def, List.sum_eq_foldl, List.foldl_map]

/-- A sum over a window that ends at step `t`. -/
theorem shift (N : ℕ) (hN : N = 2048) (v : Fin 2048 → EReal) (t : Fin 2048) : (∑ n : Fin N, if hs : 2047 ≤ t.val + n.val ∧ t.val + n.val - 2047 < 2048 then v ⟨t.val + n.val - 2047, hs.2⟩ else 0) = ∑ x : Fin 2048, if x.val ≤ t.val then v x else 0 := by
  subst hN
  rw [← Finset.sum_filter]
  have e : ∀ n : Fin 2048, (if hs : 2047 ≤ t.val + n.val ∧ t.val + n.val - 2047 < 2048 then v ⟨t.val + n.val - 2047, hs.2⟩ else 0) = if 2047 ≤ t.val + n.val then v ⟨t.val + n.val - 2047, by omega⟩ else 0 := fun n => by
    by_cases h : 2047 ≤ t.val + n.val
    · rw [dif_pos ⟨h, by omega⟩, if_pos h]
    · rw [dif_neg (fun c => h c.1), if_neg h]
  rw [Finset.sum_congr rfl fun n _ => e n, ← Finset.sum_filter]
  refine Finset.sum_nbij' (fun n => ⟨t.val + n.val - 2047, by omega⟩) (fun x => ⟨(x.val + 2047 - t.val) % 2048, by omega⟩) ?_ ?_ ?_ ?_ ?_
  · intro n hn
    have hn := (Finset.mem_filter.mp hn).2
    exact Finset.mem_filter.mpr ⟨Finset.mem_univ _, by show t.val + n.val - 2047 ≤ t.val; omega⟩
  · intro x hx
    have hx := (Finset.mem_filter.mp hx).2
    exact Finset.mem_filter.mpr ⟨Finset.mem_univ _, by show 2047 ≤ t.val + (x.val + 2047 - t.val) % 2048; omega⟩
  · intro n hn
    have hn := (Finset.mem_filter.mp hn).2
    exact Fin.ext (by show (t.val + n.val - 2047 + 2047 - t.val) % 2048 = n.val; omega)
  · intro x hx
    have hx := (Finset.mem_filter.mp hx).2
    exact Fin.ext (by show t.val + (x.val + 2047 - t.val) % 2048 - 2047 = x.val; omega)
  · intro n hn
    rfl

theorem place : ∀ n : Fin (⟨3, ![1, 1, 2048]⟩ : Shape).numel, ((⟨3, ![1, 1, 2048]⟩ : Shape).rowMajor.symm n 0).val = 0 ∧ ((⟨3, ![1, 1, 2048]⟩ : Shape).rowMajor.symm n 1).val = 0
    ∧ ((⟨3, ![1, 1, 2048]⟩ : Shape).rowMajor.symm n 2).val = n.val := by
  decide +kernel

theorem running_at (v15 : FVec Ideal S4x8x2048 .f32) (b : Fin 4) (h : Fin 8) (t : Fin 2048) : running v15 (ix3 b h t) = Scan.cum (fun s => v15 (ix3 b h s)) t := by
  unfold running
  have z0 : (broadcastInDim S_ ![] bcast_S_S_ (constant S_ .f32 0x00000000#32) : FVec Ideal S_ .f32) (Shape.Idx.first h_S_) = (0 : EReal) := by
    show Ideal.ofBits FTy.f32 0x00000000#32 = 0
    simp [Ideal.ofBits, Ideal.ieee]
  have key : ∀ (n : Fin (⟨3, ![1, 1, 2048]⟩ : Shape).numel) (D : Decidable (∀ a : Fin 3, (![0, 0, 2047] : Fin 3 → Nat) a ≤ ((ix3 b h t : S4x8x2048.Idx) a).val * (![1, 1, 1] : Fin 3 → Nat) a + ((⟨3, ![1, 1, 2048]⟩ : Shape).rowMajor.symm n a).val
          ∧ ((ix3 b h t : S4x8x2048.Idx) a).val * (![1, 1, 1] : Fin 3 → Nat) a + ((⟨3, ![1, 1, 2048]⟩ : Shape).rowMajor.symm n a).val - (![0, 0, 2047] : Fin 3 → Nat) a < S4x8x2048.size a)),
      (@dite EReal (∀ a : Fin 3, (![0, 0, 2047] : Fin 3 → Nat) a ≤ ((ix3 b h t : S4x8x2048.Idx) a).val * (![1, 1, 1] : Fin 3 → Nat) a + ((⟨3, ![1, 1, 2048]⟩ : Shape).rowMajor.symm n a).val
          ∧ ((ix3 b h t : S4x8x2048.Idx) a).val * (![1, 1, 1] : Fin 3 → Nat) a + ((⟨3, ![1, 1, 2048]⟩ : Shape).rowMajor.symm n a).val - (![0, 0, 2047] : Fin 3 → Nat) a < S4x8x2048.size a) D (fun hin => v15 (fun a => ⟨_, (hin a).2⟩)) fun _ => 0)
      = if hs : 2047 ≤ t.val + n.val ∧ t.val + n.val - 2047 < 2048 then v15 (ix3 b h ⟨t.val + n.val - 2047, hs.2⟩) else 0 := by
    intro n _
    obtain ⟨p0, p1, p2⟩ := place n
    by_cases hs : 2047 ≤ t.val + n.val ∧ t.val + n.val - 2047 < 2048
    · rw [dif_pos hs, dif_pos]
      · refine congrArg v15 (funext fun a => Fin.ext ?_)
        match a with
        | 0 => show b.val * 1 + _ - 0 = b.val; rw [p0]; omega
        | 1 => show h.val * 1 + _ - 0 = h.val; rw [p1]; omega
        | 2 => show t.val * 1 + _ - 2047 = t.val + n.val - 2047; rw [p2]; omega
      · intro a
        match a with
        | 0 => show 0 ≤ b.val * 1 + _ ∧ b.val * 1 + _ - 0 < 4; rw [p0]; omega
        | 1 => show 0 ≤ h.val * 1 + _ ∧ h.val * 1 + _ - 0 < 8; rw [p1]; omega
        | 2 => show 2047 ≤ t.val * 1 + _ ∧ t.val * 1 + _ - 2047 < 2048; rw [p2]; omega
    · rw [dif_neg hs, dif_neg]
      intro hin
      have h2 := hin 2
      change 2047 ≤ t.val * 1 + ((⟨3, ![1, 1, 2048]⟩ : Shape).rowMajor.symm n 2).val ∧ t.val * 1 + ((⟨3, ![1, 1, 2048]⟩ : Shape).rowMajor.symm n 2).val - 2047 < 2048 at h2
      rw [p2] at h2
      omega
  have e : (Host.reduceWindowAdd ![1, 1, 2048] ![1, 1, 1] ![0, 0, 2047] ![0, 0, 0] v15 (broadcastInDim S_ ![] bcast_S_S_ (constant S_ .f32 0x00000000#32)) reduceWindows_S4x8x2048_S4x8x2048_w1s1p0_0_w1s1p0_0_w2048s1p2047_0 h_S_ : FVec Ideal S4x8x2048 .f32) (ix3 b h t)
      = (List.finRange (⟨3, ![1, 1, 2048]⟩ : Shape).numel).foldl (fun r (n : Fin (⟨3, ![1, 1, 2048]⟩ : Shape).numel) => r + if hs : 2047 ≤ t.val + n.val ∧ t.val + n.val - 2047 < 2048 then v15 (ix3 b h ⟨t.val + n.val - 2047, hs.2⟩) else 0) (0 : EReal) := by
    unfold Host.reduceWindowAdd
    rw [Ideal.hostReduceWindowAdd_def]
    unfold Ideal.hostReduceWindowAdd
    rw [z0]
    unfold Host.reduceWindow
    exact congrArg (fun F => List.foldl F (0 : EReal) (List.finRange (⟨3, ![1, 1, 2048]⟩ : Shape).numel)) (funext fun r => funext fun n => congrArg (fun y : EReal => r + y) (key n _))
  refine e.trans ?_
  unfold Scan.cum
  rw [folded]
  exact shift _ (by decide +kernel) (fun x : Fin 2048 => v15 (ix3 b h x)) t

def total (v16 : FVec Ideal S4x8x2048 .f32) : FVec Ideal S4x8 .f32 :=
  shapeCast S4x8 (extractStridedSlice S4x8x1 ![0, 0, 2047] v16 slices_S4x8x2048_S4x8x1_0_0_2047) shapeCasts_S4x8x1_S4x8

theorem total_at (v16 : FVec Ideal S4x8x2048 .f32) (b : Fin 4) (h : Fin 8) : total v16 (ix2 b h) = v16 (ix3 b h last) := by
  unfold total
  pointwise
  rfl

def decay (v18 : FVec Ideal S4x8 .f32) (v16 : FVec Ideal S4x8x2048 .f32) (v14 : FVec Ideal S4x8x2048 .f32) : FVec Ideal S4x8x2048 .f32 :=
  addf (subf (broadcastInDim S4x8x2048 ![0, 1, 2] bcast_S4x8x1_S4x8x2048_0_1_2 (broadcastInDim S4x8x1 ![0, 1] bcast_S4x8_S4x8x1_0_1 v18)) v16) v14

theorem decay_at (v18 : FVec Ideal S4x8 .f32) (v16 : FVec Ideal S4x8x2048 .f32) (v14 : FVec Ideal S4x8x2048 .f32) (b : Fin 4) (h : Fin 8) (s : Fin 2048) : decay v18 v16 v14 (ix3 b h s) = v18 (ix2 b h) - v16 (ix3 b h s) + v14 (ix3 b h s) := by
  unfold decay
  pointwise

def newStab (v18 : FVec Ideal S4x8 .f32) (v22 : FVec Ideal S4x8x2048 .f32) : FVec Ideal S4x8 .f32 :=
  maximumf (addf v18 (broadcastInDim S4x8 ![] bcast_S_S4x8 (constant S_ .f32 0x00000000#32))) (Host.reduce FloatOps.maximumf v22 (constant S_ .f32 0xFF800000#32) reducesTo_S4x8x2048_S4x8_d2 h_S_)

theorem newStab_at (v18 : FVec Ideal S4x8 .f32) (v22 : FVec Ideal S4x8x2048 .f32) (b : Fin 4) (h : Fin 8) : newStab v18 v22 (ix2 b h) = max (v18 (ix2 b h) + 0) (Finset.fold max ⊥ (fun s : Fin 2048 => v22 (ix3 b h s)) Finset.univ) := by
  unfold newStab
  pointwise
  rw [← Soft.neg_inf]

def wStep (v22 : FVec Ideal S4x8x2048 .f32) (v25 : FVec Ideal S4x8 .f32) : FVec Ideal S4x8x2048 .f32 :=
  Host.exp (subf v22 (broadcastInDim S4x8x2048 ![0, 1, 2] bcast_S4x8x1_S4x8x2048_0_1_2 (broadcastInDim S4x8x1 ![0, 1] bcast_S4x8_S4x8x1_0_1 v25)))

theorem wStep_at (v22 : FVec Ideal S4x8x2048 .f32) (v25 : FVec Ideal S4x8 .f32) (b : Fin 4) (h : Fin 8) (s : Fin 2048) : wStep v22 v25 (ix3 b h s) = Ideal.exp (v22 (ix3 b h s) - v25 (ix2 b h)) := by
  unfold wStep
  pointwise

def wKeep (v18 : FVec Ideal S4x8 .f32) (v25 : FVec Ideal S4x8 .f32) : FVec Ideal S4x8 .f32 :=
  Host.exp (subf (addf v18 (broadcastInDim S4x8 ![] bcast_S_S4x8 (constant S_ .f32 0x00000000#32))) v25)

theorem wKeep_at (v18 : FVec Ideal S4x8 .f32) (v25 : FVec Ideal S4x8 .f32) (b : Fin 4) (h : Fin 8) : wKeep v18 v25 (ix2 b h) = Ideal.exp (v18 (ix2 b h) + 0 - v25 (ix2 b h)) := by
  unfold wKeep
  pointwise

def newC (v32 : FVec Ideal S4x8 .f32) (v10 : FVec Ideal S4x8x2048x256 .f32) (v29 : FVec Ideal S4x8x2048 .f32) (v8 : FVec Ideal S4x8x2048x128 .f32) : FVec Ideal S4x8x256x128 .f32 :=
  addf (mulf (broadcastInDim S4x8x256x128 ![0, 1, 2, 3] bcast_S4x8x1x1_S4x8x256x128_0_1_2_3 (broadcastInDim S4x8x1x1 ![0, 1] bcast_S4x8_S4x8x1x1_0_1 v32)) (broadcastInDim S4x8x256x128 ![] bcast_S_S4x8x256x128 (constant S_ .f32 0x00000000#32))) (Host.dotGeneral dot_S4x8x2048x256_S4x8x2048x128_S4x8x256x128_2_2_3_3_01_01 none (mulf v10 (broadcastInDim S4x8x2048x256 ![0, 1, 2, 3] bcast_S4x8x2048x1_S4x8x2048x256_0_1_2_3 (broadcastInDim S4x8x2048x1 ![0, 1, 2] bcast_S4x8x2048_S4x8x2048x1_0_1_2 v29))) v8)

theorem newC_at (v32 : FVec Ideal S4x8 .f32) (v10 : FVec Ideal S4x8x2048x256 .f32) (v29 : FVec Ideal S4x8x2048 .f32) (v8 : FVec Ideal S4x8x2048x128 .f32) (b : Fin 4) (h : Fin 8) (e : Fin 256) (d : Fin 128) : newC v32 v10 v29 v8 (ix4 b h e d) = v32 (ix2 b h) * 0 + ∑ s : Fin 2048, v10 (ix4 b h s e) * v29 (ix3 b h s) * v8 (ix4 b h s d) := by
  unfold newC
  pointwise

def newN (v32 : FVec Ideal S4x8 .f32) (v29 : FVec Ideal S4x8x2048 .f32) (v8 : FVec Ideal S4x8x2048x128 .f32) : FVec Ideal S4x8x128 .f32 :=
  addf (mulf (broadcastInDim S4x8x128 ![0, 1, 2] bcast_S4x8x1_S4x8x128_0_1_2 (broadcastInDim S4x8x1 ![0, 1] bcast_S4x8_S4x8x1_0_1 v32)) (broadcastInDim S4x8x128 ![] bcast_S_S4x8x128 (constant S_ .f32 0x00000000#32))) (Host.dotGeneral dot_S4x8x2048_S4x8x2048x128_S4x8x128_2_2_n_3_01_01 none v29 v8)

theorem newN_at (v32 : FVec Ideal S4x8 .f32) (v29 : FVec Ideal S4x8x2048 .f32) (v8 : FVec Ideal S4x8x2048x128 .f32) (b : Fin 4) (h : Fin 8) (d : Fin 128) : newN v32 v29 v8 (ix3 b h d) = v32 (ix2 b h) * 0 + ∑ s : Fin 2048, v29 (ix3 b h s) * v8 (ix4 b h s d) := by
  unfold newN
  pointwise

def lanes (v25 : FVec Ideal S4x8 .f32) : FVec Ideal S4x8x128 .f32 :=
  broadcastInDim S4x8x128 ![0, 1, 2] bcast_S4x8x1_S4x8x128_0_1_2 (broadcastInDim S4x8x1 ![0, 1] bcast_S4x8_S4x8x1_0_1 v25)

theorem lanes_at (v25 : FVec Ideal S4x8 .f32) (b : Fin 4) (h : Fin 8) (d : Fin 128) : lanes v25 (ix3 b h d) = v25 (ix2 b h) := by
  unfold lanes
  pointwise

end Cert.Proof.WholeStages

end
-- ==== Proof.WholeRef.lean ====
module

public import proofs.«01_k».proof.Proof.WholeStages

@[expose] public section

set_option maxRecDepth 16384

noncomputable section

/-! The reference's three states after the prompt. -/

namespace Cert.Proof.WholeRef

open Idealize.ShloMosaic Idealize.ShloMosaic.TcCoe Idealize.SL.Sem
open Cert.Reference10Ideal Cert.Reference10Ideal.Gen Cert.Proof.WholeStages

section
variable (z : FVec Ideal S8320x6144 .f32) (g : FVec Ideal S16x8320 .f32)

def rB : FVec Ideal S4x8x2048 .f32 := running (forGate g)
def rL : FVec Ideal S4x8 .f32 := total (rB g)
def rX : FVec Ideal S4x8x2048 .f32 := decay (rL g) (rB g) (inGate g)
def rT : FVec Ideal S4x8 .f32 := newStab (rL g) (rX g)
def rU : FVec Ideal S4x8x2048 .f32 := wStep (rX g) (rT g)
def rK : FVec Ideal S4x8 .f32 := wKeep (rL g) (rT g)
def rC : FVec Ideal S4x8x256x128 .f32 := newC (rK g) (values z) (rU g) (keys z)
def rP : FVec Ideal S4x8x128 .f32 := newN (rK g) (rU g) (keys z)
def rV : FVec Ideal S4x8x128 .f32 := lanes (rT g)

variable (b : Fin 4) (h : Fin 8) (s : Fin 2048)

/-- The gates of a sequence, step by step. -/
def F (s : Fin 2048) : EReal := g (ix2 ⟨8 + h.val, by omega⟩ (Whole.row b s.val))
def G (s : Fin 2048) : EReal := Whole.ig g b h s.val

theorem rB_at : rB g (ix3 b h s) = Scan.cum (F g b h) s := by
  unfold rB
  rw [running_at]
  exact congrArg (fun f => Scan.cum f s) (funext fun s => forGate_at g b h s)

theorem rL_at : rL g (ix2 b h) = Scan.cum (F g b h) last := by
  unfold rL
  rw [total_at, rB_at]

theorem rX_at : rX g (ix3 b h s) = Scan.dec (F g b h) (G g b h) last s := by
  unfold rX
  rw [decay_at, rL_at, rB_at, inGate_at]
  rfl

variable (hR : Whole.Fin4 g)
include hR

theorem hF (r : Fin 2048) : F g b h r = (Whole.lf g b h (0 + r.val) : EReal) := by
  rw [Nat.zero_add]; exact Whole.lf_eq g b h hR r.val
omit hR in
theorem hG (r : Fin 2048) : G g b h r = Whole.ig g b h (0 + r.val) := by
  rw [Nat.zero_add]; rfl

omit hR in
theorem rT_mn : rT g (ix2 b h) = Scan.mn (F g b h) (G g b h) last (Scan.M (Whole.lf g b h) (Whole.ig g b h) 0) := by
  unfold rT
  rw [newStab_at, rL_at, Scan.M_zero]
  exact congrArg (fun f : Fin 2048 → EReal => max _ (Finset.fold max ⊥ f Finset.univ)) (funext fun s => rX_at g b h s)

theorem rT_at : rT g (ix2 b h) = Whole.outM g b h :=
  (rT_mn g b h).trans ((Scan.mn_eq _ _ _ _ last 0 rfl (hF g b h hR) (hG g b h)).trans (congrArg (Scan.M _ _) (Nat.zero_add 2048)))

omit hR in
theorem rU_at : rU g (ix3 b h s) = Scan.ws (F g b h) (G g b h) last (Scan.M (Whole.lf g b h) (Whole.ig g b h) 0) s := by
  unfold rU
  rw [wStep_at, rX_at, rT_mn]
  rfl

omit hR in
theorem rK_at : rK g (ix2 b h) = Scan.wc (F g b h) (G g b h) last (Scan.M (Whole.lf g b h) (Whole.ig g b h) 0) := by
  unfold rK
  rw [wKeep_at, rL_at, rT_mn]
  exact congrArg (fun y : EReal => Ideal.exp (Scan.cum (F g b h) last + y - Scan.mn (F g b h) (G g b h) last (Scan.M (Whole.lf g b h) (Whole.ig g b h) 0))) (Scan.M_zero (Whole.lf g b h) (Whole.ig g b h)).symm

theorem rC_ix (e : Fin 256) (d : Fin 128) : rC z g (ix4 b h e d) = Whole.outC z g b h e d := by
  unfold rC
  rw [newC_at, rK_at]
  refine Eq.trans ?_ ((Scan.C_step _ _ _ _ last 0 rfl (hF g b h hR) (hG g b h) (Whole.vs z b h e) (Whole.ks z b h d)).trans (congrArg (Scan.C _ _ _ _) (Nat.zero_add 2048)))
  rw [Scan.C_zero]
  exact congrArg (fun y : EReal => _ + y) (Finset.sum_congr rfl fun s _ => by rw [values_at, rU_at, keys_at, Nat.zero_add])

theorem rP_ix (d : Fin 128) : rP z g (ix3 b h d) = Whole.outN z g b h d := by
  unfold rP
  rw [newN_at, rK_at]
  refine Eq.trans ?_ ((Scan.N_step _ _ _ _ last 0 rfl (hF g b h hR) (hG g b h) (Whole.ks z b h d)).trans (congrArg (Scan.N _ _ _) (Nat.zero_add 2048)))
  rw [Scan.N_zero]
  refine congrArg₂ (fun x y : EReal => x + y) rfl (Finset.sum_congr rfl fun s _ => ?_)
  rw [rU_at, keys_at, Nat.zero_add]

theorem rV_ix (d : Fin 128) : rV g (ix3 b h d) = Whole.outM g b h := by
  unfold rV
  rw [lanes_at, rT_at g b h hR]

omit b h in
theorem rC_at (i : S4x8x256x128.Idx) : rC z g i = Whole.outC z g (i 0) (i 1) (i 2) (i 3) :=
  (congrArg (rC z g) (eq_ix4 i)).trans (rC_ix z g (i 0) (i 1) hR (i 2) (i 3))

omit b h in
theorem rP_at (i : S4x8x128.Idx) : rP z g i = Whole.outN z g (i 0) (i 1) (i 2) :=
  (congrArg (rP z g) (eq_ix3 i)).trans (rP_ix z g (i 0) (i 1) hR (i 2))

omit b h in
theorem rV_at (i : S4x8x128.Idx) : rV g i = Whole.outM g (i 0) (i 1) :=
  (congrArg (rV g) (eq_ix3 i)).trans (rV_ix g (i 0) (i 1) hR (i 2))

omit b h in
theorem ref2 : rV g = fun i => Whole.outM g (i 0) (i 1) := funext fun i => rV_at g hR i

end

variable (μ : (ℓ : Loc nD τ sig) → Buf (Elt Ideal) ℓ) (c : Dev nD) (hR : Whole.Fin4 (μ ((c.tc : Thread nD τ).loc main_arg1)))
include hR

theorem ref0 : (Cert.Reference10Ideal.Value.res_main_v40 μ c : FVec Ideal S4x8x256x128 .f32) = fun i => Whole.outC (μ ((c.tc : Thread nD τ).loc main_arg0)) (μ ((c.tc : Thread nD τ).loc main_arg1)) (i 0) (i 1) (i 2) (i 3) :=
  (by unfold Cert.Reference10Ideal.Value.res_main_v40; rfl : Cert.Reference10Ideal.Value.res_main_v40 μ c = rC _ _).trans (funext fun i => rC_at _ _ hR i)

theorem ref1 : (Cert.Reference10Ideal.Value.res_main_v45 μ c : FVec Ideal S4x8x128 .f32) = fun i => Whole.outN (μ ((c.tc : Thread nD τ).loc main_arg0)) (μ ((c.tc : Thread nD τ).loc main_arg1)) (i 0) (i 1) (i 2) :=
  (by unfold Cert.Reference10Ideal.Value.res_main_v45; rfl : Cert.Reference10Ideal.Value.res_main_v45 μ c = rP _ _).trans (funext fun i => rP_at _ _ hR i)

end Cert.Proof.WholeRef

end
-- ==== Proof.Csum.lean ====
module

public import proofs.«01_k».proof.Proof.Gen.Kernel11Ideal.Value
public import proofs.«01_k».proof.Proof.Cell
public import proofs.«01_k».proof.Proof.Chunk
public import proofs.«01_k».proof.Proof.Attn
public import proofs.«01_k».proof.Proof.WholeStages
public import proofs.«01_k».proof.Proof.Gen.Pre_gates_below
public import proofs.«01_k».proof.Proof.Gen.Reference11Ideal.Run
public import Idealize.ShloMosaic.Lib.Pipeline.ValueKit

@[expose] public section

set_option maxRecDepth 16384

noncomputable section

/-! The running sum of the attention's log forget gates: 16 blocks of 128 steps, each a product with a matrix of zeros and
ones plus the last column of the block before. -/

namespace Cert.Proof.Csum

open Idealize.ShloMosaic Idealize.ShloMosaic.TcCoe Idealize.SL.Sem
open Cert.Kernel11Ideal Cert.Kernel11Ideal.Gen

theorem bits_le : ∀ s r : Fin 128, IntOp.cmpi CmpIPredicate.sle (BitVec.ofNat 32 s.val) (BitVec.ofNat 32 r.val) = BitVec.ofBool (decide (s.val ≤ r.val)) := by
  decide +kernel

theorem tri_at (s r : Fin 128) : (k0_pay4 : FVec Ideal S128x128 .bf16) (ix2 s r) = if s.val ≤ r.val then (1 : EReal) else 0 := by
  pointwise [k0_pay4]
  rw [bits_le, Chunk.select_if]

/-- One block: the sums inside it and what came before. -/
def st (w : Vec Ideal S16x128 .f32) (c : FVec Ideal S16x1 .f32) : FVec Ideal S16x128 .f32 := k0_pay18 k0_pay4 c w
def lc (p : FVec Ideal S16x128 .f32) : FVec Ideal S16x1 .f32 := extractStridedSlice S16x1 ![0, 127] p slices_S16x128_o0_127_S16x1

theorem st_three (w : Vec Ideal S16x128 .f32) (c : FVec Ideal S16x1 .f32) (h : Fin 16) (r : Fin 128) :
    st w c (ix2 h r) = (∑ x : Fin 128, w (ix2 h x) * (k0_pay4 : FVec Ideal S128x128 .bf16) (ix2 x r) + ∑ x : Fin 128, (w (ix2 h x) - w (ix2 h x)) * (k0_pay4 : FVec Ideal S128x128 .bf16) (ix2 x r)
      + ∑ x : Fin 128, (w (ix2 h x) - w (ix2 h x) - (w (ix2 h x) - w (ix2 h x))) * (k0_pay4 : FVec Ideal S128x128 .bf16) (ix2 x r)) + c (ix2 h 0) := by
  pointwise [st, k0_pay18]

theorem lc_at (p : FVec Ideal S16x128 .f32) (h : Fin 16) : lc p (ix2 h 0) = p (ix2 h ⟨127, by decide⟩) := by
  pointwise [lc]

/-- A sum up to an index, over a range. -/
theorem upto (n : ℕ) (g : ℕ → EReal) (j : ℕ) (hj : j < n) : (∑ x : Fin n, if x.val ≤ j then g x.val else 0) = ∑ s ∈ Finset.range (j + 1), g s := by
  rw [Fin.sum_univ_eq_sum_range (fun s => if s ≤ j then g s else 0) n, ← Finset.sum_filter]
  refine Finset.sum_congr (Finset.ext fun s => ?_) fun _ _ => rfl
  rw [Finset.mem_filter, Finset.mem_range, Finset.mem_range]
  omega

theorem st_at (w : Vec Ideal S16x128 .f32) (c : FVec Ideal S16x1 .f32) (h : Fin 16) (r : Fin 128) (g : ℕ → EReal) (hg : ∀ x : Fin 128, w (ix2 h x) = g x.val) (hF : ∀ s, g s ≠ ⊤) :
    st w c (ix2 h r) = c (ix2 h 0) + ∑ s ∈ Finset.range (r.val + 1), g s := by
  refine (st_three w c h r).trans ((add_comm _ _).trans (congrArg (fun y : EReal => c (ix2 h 0) + y) ?_))
  rw [← Finset.sum_add_distrib, ← Finset.sum_add_distrib, ← upto 128 g r.val r.isLt]
  refine Finset.sum_congr rfl fun x _ => ?_
  rw [hg]
  refine (Cell.three _ (hF x.val) _ ?_).trans ?_
  · rw [tri_at]
    split_ifs
    · exact .inr rfl
    · exact .inl rfl
  · rw [tri_at]
    split_ifs
    · exact mul_one _
    · exact mul_zero _

section Block
variable (x0 : Vec Ideal S16x2048 .f32)

/-- Row `h`, step by step. -/
def gate (h : Fin 16) (s : ℕ) : EReal := x0 (ix2 h ⟨s % 2048, Nat.mod_lt _ (by decide)⟩)

/-- The sums before block `r`. -/
def Good (r : ℕ) (c : FVec Ideal S16x1 .f32) : Prop := ∀ h : Fin 16, c (ix2 h 0) = ∑ s ∈ Finset.range (128 * r), gate x0 h s

theorem ld_at (o : ℕ) (ho : o + 128 ≤ 2048) (inb : ∀ a, (![0, o] : Fin 2 → Nat) a + (![16, 128] : Fin 2 → Nat) a ≤ S16x2048.size a) (h : Fin 16) (x : Fin 128) :
    View.ld (Val := Elt Ideal) (e' := .f32) x0 (Rect.unit (s := S16x2048) ![0, o] ![16, 128] inb) (ix2 h x) = gate x0 h (o + x.val) := by
  refine congrArg x0 (funext fun a => Fin.ext ?_)
  refine (ValueKit.rect_emb_unit_val _ _ _ _ _).trans ?_
  match a with
  | 0 => exact Nat.zero_add _
  | 1 => show o + x.val = (o + x.val) % 2048; omega

variable (hF : ∀ (h : Fin 16) (s : Fin 2048), x0 (ix2 h s) ≠ ⊤)
include hF

theorem blk_at (r o : ℕ) (e : o = 128 * r) (hr : r < 16) (inb : ∀ a, (![0, o] : Fin 2 → Nat) a + (![16, 128] : Fin 2 → Nat) a ≤ S16x2048.size a) (c : FVec Ideal S16x1 .f32) (hc : Good x0 r c) (h : Fin 16) (j : Fin 128) :
    st (View.ld (Val := Elt Ideal) (e' := .f32) x0 (Rect.unit (s := S16x2048) ![0, o] ![16, 128] inb)) c (ix2 h j) = ∑ s ∈ Finset.range (o + j.val + 1), gate x0 h s := by
  refine (st_at _ c h j (fun s => gate x0 h (o + s)) (fun x => ld_at x0 o (by omega) inb h x) (fun s => hF h _)).trans ?_
  rw [hc h, add_assoc o, Finset.sum_range_add (gate x0 h) o (j.val + 1), ← e]

theorem next (r o : ℕ) (e : o = 128 * r) (hr : r < 16) (inb : ∀ a, (![0, o] : Fin 2 → Nat) a + (![16, 128] : Fin 2 → Nat) a ≤ S16x2048.size a) (c : FVec Ideal S16x1 .f32) (hc : Good x0 r c) :
    Good x0 (r + 1) (lc (st (View.ld (Val := Elt Ideal) (e' := .f32) x0 (Rect.unit (s := S16x2048) ![0, o] ![16, 128] inb)) c)) := fun h => by
  rw [lc_at]
  refine (blk_at x0 hF r o e hr inb c hc h _).trans ?_
  exact congrArg (fun n => ∑ s ∈ Finset.range n, gate x0 h s) (by show o + 127 + 1 = 128 * (r + 1); omega)

theorem piece (r o : ℕ) (e : o = 128 * r) (hr : r < 16) (inb : ∀ a, (![0, o] : Fin 2 → Nat) a + (![16, 128] : Fin 2 → Nat) a ≤ S16x2048.size a) (c : FVec Ideal S16x1 .f32) (hc : Good x0 r c)
    (y : S1x16x2048.Idx) (z : S1x16x128.Idx) (h1 : (y 1).val = (z 1).val) (h2 : (y 2).val = o + (z 2).val) :
    (shapeCast S1x16x128 (st (View.ld (Val := Elt Ideal) (e' := .f32) x0 (Rect.unit (s := S16x2048) ![0, o] ![16, 128] inb)) c) shapeCasts_S16x128_S1x16x128 : FVec Ideal S1x16x128 .f32) z
      = ∑ s ∈ Finset.range ((y 2).val + 1), gate x0 (y 1) s := by
  have sc : ∀ p : FVec Ideal S16x128 .f32, (shapeCast S1x16x128 p shapeCasts_S16x128_S1x16x128 : FVec Ideal S1x16x128 .f32) z = p (ix2 (z 1) (z 2)) := fun p => by
    pointwise
  refine (sc _).trans ((blk_at x0 hF r o e hr inb c hc (z 1) (z 2)).trans ?_)
  rw [h2]
  exact congrArg (fun h : Fin 16 => ∑ s ∈ Finset.range (o + (z 2).val + 1), gate x0 h s) (Fin.ext h1.symm)

omit hF
def c0 : FVec Ideal S16x1 .f32 := broadcast S16x1 (Scalar.ofBits .f32 0x00000000#32)
def c1 : FVec Ideal S16x1 .f32 := lc (st (View.ld x0 (Rect.unit (s := S16x2048) ![0, 0] ![16, 128] inb_S16x2048_S16x128_0_0)) (c0))
def c2 : FVec Ideal S16x1 .f32 := lc (st (View.ld x0 (Rect.unit (s := S16x2048) ![0, 128] ![16, 128] inb_S16x2048_S16x128_0_128)) (c1 x0))
def c3 : FVec Ideal S16x1 .f32 := lc (st (View.ld x0 (Rect.unit (s := S16x2048) ![0, 256] ![16, 128] inb_S16x2048_S16x128_0_256)) (c2 x0))
def c4 : FVec Ideal S16x1 .f32 := lc (st (View.ld x0 (Rect.unit (s := S16x2048) ![0, 384] ![16, 128] inb_S16x2048_S16x128_0_384)) (c3 x0))
def c5 : FVec Ideal S16x1 .f32 := lc (st (View.ld x0 (Rect.unit (s := S16x2048) ![0, 512] ![16, 128] inb_S16x2048_S16x128_0_512)) (c4 x0))
def c6 : FVec Ideal S16x1 .f32 := lc (st (View.ld x0 (Rect.unit (s := S16x2048) ![0, 640] ![16, 128] inb_S16x2048_S16x128_0_640)) (c5 x0))
def c7 : FVec Ideal S16x1 .f32 := lc (st (View.ld x0 (Rect.unit (s := S16x2048) ![0, 768] ![16, 128] inb_S16x2048_S16x128_0_768)) (c6 x0))
def c8 : FVec Ideal S16x1 .f32 := lc (st (View.ld x0 (Rect.unit (s := S16x2048) ![0, 896] ![16, 128] inb_S16x2048_S16x128_0_896)) (c7 x0))
def c9 : FVec Ideal S16x1 .f32 := lc (st (View.ld x0 (Rect.unit (s := S16x2048) ![0, 1024] ![16, 128] inb_S16x2048_S16x128_0_1024)) (c8 x0))
def c10 : FVec Ideal S16x1 .f32 := lc (st (View.ld x0 (Rect.unit (s := S16x2048) ![0, 1152] ![16, 128] inb_S16x2048_S16x128_0_1152)) (c9 x0))
def c11 : FVec Ideal S16x1 .f32 := lc (st (View.ld x0 (Rect.unit (s := S16x2048) ![0, 1280] ![16, 128] inb_S16x2048_S16x128_0_1280)) (c10 x0))
def c12 : FVec Ideal S16x1 .f32 := lc (st (View.ld x0 (Rect.unit (s := S16x2048) ![0, 1408] ![16, 128] inb_S16x2048_S16x128_0_1408)) (c11 x0))
def c13 : FVec Ideal S16x1 .f32 := lc (st (View.ld x0 (Rect.unit (s := S16x2048) ![0, 1536] ![16, 128] inb_S16x2048_S16x128_0_1536)) (c12 x0))
def c14 : FVec Ideal S16x1 .f32 := lc (st (View.ld x0 (Rect.unit (s := S16x2048) ![0, 1664] ![16, 128] inb_S16x2048_S16x128_0_1664)) (c13 x0))
def c15 : FVec Ideal S16x1 .f32 := lc (st (View.ld x0 (Rect.unit (s := S16x2048) ![0, 1792] ![16, 128] inb_S16x2048_S16x128_0_1792)) (c14 x0))

theorem g0 : Good x0 0 c0 := fun h => by
  refine Eq.trans ?_ (Finset.sum_range_zero _).symm
  show Ideal.ofBits FTy.f32 0x00000000#32 = (0 : EReal)
  simp [Ideal.ofBits, Ideal.ieee]
include hF
theorem g1 : Good x0 1 (c1 x0) := next x0 hF 0 0 rfl (by decide) inb_S16x2048_S16x128_0_0 _ (g0 x0)
theorem g2 : Good x0 2 (c2 x0) := next x0 hF 1 128 rfl (by decide) inb_S16x2048_S16x128_0_128 _ (g1 x0 hF)
theorem g3 : Good x0 3 (c3 x0) := next x0 hF 2 256 rfl (by decide) inb_S16x2048_S16x128_0_256 _ (g2 x0 hF)
theorem g4 : Good x0 4 (c4 x0) := next x0 hF 3 384 rfl (by decide) inb_S16x2048_S16x128_0_384 _ (g3 x0 hF)
theorem g5 : Good x0 5 (c5 x0) := next x0 hF 4 512 rfl (by decide) inb_S16x2048_S16x128_0_512 _ (g4 x0 hF)
theorem g6 : Good x0 6 (c6 x0) := next x0 hF 5 640 rfl (by decide) inb_S16x2048_S16x128_0_640 _ (g5 x0 hF)
theorem g7 : Good x0 7 (c7 x0) := next x0 hF 6 768 rfl (by decide) inb_S16x2048_S16x128_0_768 _ (g6 x0 hF)
theorem g8 : Good x0 8 (c8 x0) := next x0 hF 7 896 rfl (by decide) inb_S16x2048_S16x128_0_896 _ (g7 x0 hF)
theorem g9 : Good x0 9 (c9 x0) := next x0 hF 8 1024 rfl (by decide) inb_S16x2048_S16x128_0_1024 _ (g8 x0 hF)
theorem g10 : Good x0 10 (c10 x0) := next x0 hF 9 1152 rfl (by decide) inb_S16x2048_S16x128_0_1152 _ (g9 x0 hF)
theorem g11 : Good x0 11 (c11 x0) := next x0 hF 10 1280 rfl (by decide) inb_S16x2048_S16x128_0_1280 _ (g10 x0 hF)
theorem g12 : Good x0 12 (c12 x0) := next x0 hF 11 1408 rfl (by decide) inb_S16x2048_S16x128_0_1408 _ (g11 x0 hF)
theorem g13 : Good x0 13 (c13 x0) := next x0 hF 12 1536 rfl (by decide) inb_S16x2048_S16x128_0_1536 _ (g12 x0 hF)
theorem g14 : Good x0 14 (c14 x0) := next x0 hF 13 1664 rfl (by decide) inb_S16x2048_S16x128_0_1664 _ (g13 x0 hF)
theorem g15 : Good x0 15 (c15 x0) := next x0 hF 14 1792 rfl (by decide) inb_S16x2048_S16x128_0_1792 _ (g14 x0 hF)

variable (c : Dev nD) (i : grid0.Coords) (arg1 : Memref sig .tc .vmem S16x2048 .f32) (harg1 : arg1.IsWhole) (arg2 : Memref sig .tc .vmem S1x16x2048 .f32) (harg2 : arg2.IsWhole)

theorem out_at (y : S1x16x2048.Idx) : out0_A_1 c i arg1 harg1 arg2 harg2 x0 y = ∑ s ∈ Finset.range ((y 2).val + 1), gate x0 (y 1) s := by
  unfold out0_A_1; frame_out
  canon_tiles z h
  · exact piece x0 hF 15 1920 rfl (by decide) inb_S16x2048_S16x128_0_1920 _ (g15 x0 hF) y z h1 h2
  · exact piece x0 hF 14 1792 rfl (by decide) inb_S16x2048_S16x128_0_1792 _ (g14 x0 hF) y z h1 h2
  · exact piece x0 hF 13 1664 rfl (by decide) inb_S16x2048_S16x128_0_1664 _ (g13 x0 hF) y z h1 h2
  · exact piece x0 hF 12 1536 rfl (by decide) inb_S16x2048_S16x128_0_1536 _ (g12 x0 hF) y z h1 h2
  · exact piece x0 hF 11 1408 rfl (by decide) inb_S16x2048_S16x128_0_1408 _ (g11 x0 hF) y z h1 h2
  · exact piece x0 hF 10 1280 rfl (by decide) inb_S16x2048_S16x128_0_1280 _ (g10 x0 hF) y z h1 h2
  · exact piece x0 hF 9 1152 rfl (by decide) inb_S16x2048_S16x128_0_1152 _ (g9 x0 hF) y z h1 h2
  · exact piece x0 hF 8 1024 rfl (by decide) inb_S16x2048_S16x128_0_1024 _ (g8 x0 hF) y z h1 h2
  · exact piece x0 hF 7 896 rfl (by decide) inb_S16x2048_S16x128_0_896 _ (g7 x0 hF) y z h1 h2
  · exact piece x0 hF 6 768 rfl (by decide) inb_S16x2048_S16x128_0_768 _ (g6 x0 hF) y z h1 h2
  · exact piece x0 hF 5 640 rfl (by decide) inb_S16x2048_S16x128_0_640 _ (g5 x0 hF) y z h1 h2
  · exact piece x0 hF 4 512 rfl (by decide) inb_S16x2048_S16x128_0_512 _ (g4 x0 hF) y z h1 h2
  · exact piece x0 hF 3 384 rfl (by decide) inb_S16x2048_S16x128_0_384 _ (g3 x0 hF) y z h1 h2
  · exact piece x0 hF 2 256 rfl (by decide) inb_S16x2048_S16x128_0_256 _ (g2 x0 hF) y z h1 h2
  · exact piece x0 hF 1 128 rfl (by decide) inb_S16x2048_S16x128_0_128 _ (g1 x0 hF) y z h1 h2
  · exact piece x0 hF 0 0 rfl (by decide) inb_S16x2048_S16x128_0_0 _ (g0 x0) y z h1 (h2.trans (Nat.zero_add _).symm)

end Block

/-- The log forget gate of head `h` at step `s` of sequence `b`. -/
def lfp (g : FVec Ideal ⟨2, ![16, 8320]⟩ .f32) (b : Fin 4) (h : Fin 16) (s : Fin 2048) : EReal := g (ix2 h ⟨2048 * b.val + s.val, by omega⟩)

/-- Below +∞ on the prompt. -/
def Below (g : FVec Ideal ⟨2, ![16, 8320]⟩ .f32) : Prop := ∀ (b : Fin 4) (h : Fin 16) (s : Fin 2048), lfp g b h s ≠ ⊤

def out (g : FVec Ideal ⟨2, ![16, 8320]⟩ .f32) (b : Fin 4) (h : Fin 16) (t : Fin 2048) : EReal := Scan.cum (lfp g b h) t

variable (m : (ℓ : Loc nD τ sig) → Buf (Elt Ideal) ℓ) (c : Dev nD)

theorem idx : ∀ t : Fin cfg0.N, win0_0.index t = ![0, t.val] ∧ win0_1.index t = ![t.val, 0, 0] :=
  (by decide +kernel : ∀ t : Fin grid0.N, _)

theorem X0 (t : Fin cfg0.N) (h : Fin 16) (s : Fin 2048) : X0_0 m c t (ix2 h s) = lfp (m ((c : Thread nD τ).loc main_arg0)) ⟨t.val, t.isLt⟩ h s := by
  unfold X0_0 Pipeline.Window.fill
  rw [dif_pos (moved0_0 t _)]
  blk_point [iblk, V, idx t, lfp]

theorem E1 (t : Fin cfg0.N) (y : S1x16x2048.Idx) : ((cfg0.win 1).blk t).view.emb y = ix3 ⟨t.val, t.isLt⟩ (y 1) (y 2) := by
  blk_ext [idx t]

theorem final1 (hB : Below (m ((c : Thread nD τ).loc main_arg0))) : (dats m 0 c).arrAt 1 (cfgs 0).N
    = fun i : S4x16x2048.Idx => out (m ((c : Thread nD τ).loc main_arg0)) (i 0) (i 1) (i 2) := by
  refine (dats m 0 c).arrAt_eq_of_covers 1 _ (by decide +kernel) fun t hf y => ?_
  blk_simp; rw [after0_1, E1]
  unfold outsAt0
  refine (out_at (X0_0 m c t) (fun h s => by rw [X0]; exact hB _ h s) c _ _ _ _ _ y).trans ?_
  refine (upto 2048 _ (y 2).val (y 2).isLt).symm.trans ?_
  show (∑ x : Fin 2048, if x.val ≤ (y 2).val then gate (X0_0 m c t) (y 1) x.val else (0 : EReal)) = ∑ x : Fin 2048, if x.val ≤ (y 2).val then lfp (m ((c : Thread nD τ).loc main_arg0)) ⟨t.val, t.isLt⟩ (y 1) x else (0 : EReal)
  refine Finset.sum_congr rfl fun x _ => ?_
  refine congrArg (fun v : EReal => if x.val ≤ (y 2).val then v else 0) ?_
  refine Eq.trans ?_ (X0 m c t (y 1) x)
  exact congrArg (fun s => X0_0 m c t (ix2 (y 1) s)) (Fin.ext (Nat.mod_eq_of_lt x.isLt))

end Cert.Proof.Csum

namespace Cert.Proof.Csum
open Idealize.ShloMosaic Cert.Pre_gates_below

theorem below [Facts] (g : FVec Ideal S16x8320 .f32) (h : fn (F := Ideal) g = fun _ => 1#1) : Below g := by
  intro b a x
  have e := congrFun h (fun a => a.elim0)
  dsimp only [fn] at e
  have e3 := Host.reduce_andi_all _ _ _ _ _ e (ix2 a ⟨2048 * b.val + x.val, by omega⟩)
  have e4 : lfp g b a x < ⊤ := by
    rw [← Attn.pos_inf]
    refine (Ideal.cmp_olt_eq_one _ _).1 (Eq.trans ?_ e3)
    refine congrArg (fun x : EReal => Ideal.cmp .olt x (Ideal.ofBits FTy.f32 0x7F800000#32)) (congrArg g ?_)
    funext k
    match k with
    | 0 => exact Fin.ext (Nat.zero_add _).symm
    | 1 => exact Fin.ext (Nat.zero_add _).symm
  exact e4.ne

end Cert.Proof.Csum

namespace Cert.Proof.Csum
open Idealize.ShloMosaic Idealize.ShloMosaic.TcCoe Idealize.SL.Sem
open Cert.Reference11Ideal Cert.Reference11Ideal.Gen

def running (v15 : FVec Ideal S4x16x2048 .f32) : FVec Ideal S4x16x2048 .f32 :=
  Host.reduceWindowAdd ![1, 1, 2048] ![1, 1, 1] ![0, 0, 2047] ![0, 0, 0] v15 (broadcastInDim S_ ![] bcast_S_S_ (constant S_ .f32 0x00000000#32)) reduceWindows_S4x16x2048_S4x16x2048_w1s1p0_0_w1s1p0_0_w2048s1p2047_0 h_S_

theorem running_at (v15 : FVec Ideal S4x16x2048 .f32) (b : Fin 4) (h : Fin 16) (t : Fin 2048) : running v15 (ix3 b h t) = Scan.cum (fun s => v15 (ix3 b h s)) t := by
  unfold running
  have z0 : (broadcastInDim S_ ![] bcast_S_S_ (constant S_ .f32 0x00000000#32) : FVec Ideal S_ .f32) (Shape.Idx.first h_S_) = (0 : EReal) := by
    show Ideal.ofBits FTy.f32 0x00000000#32 = 0
    simp [Ideal.ofBits, Ideal.ieee]
  have key : ∀ (n : Fin (⟨3, ![1, 1, 2048]⟩ : Shape).numel) (D : Decidable (∀ a : Fin 3, (![0, 0, 2047] : Fin 3 → Nat) a ≤ ((ix3 b h t : S4x16x2048.Idx) a).val * (![1, 1, 1] : Fin 3 → Nat) a + ((⟨3, ![1, 1, 2048]⟩ : Shape).rowMajor.symm n a).val
          ∧ ((ix3 b h t : S4x16x2048.Idx) a).val * (![1, 1, 1] : Fin 3 → Nat) a + ((⟨3, ![1, 1, 2048]⟩ : Shape).rowMajor.symm n a).val - (![0, 0, 2047] : Fin 3 → Nat) a < S4x16x2048.size a)),
      (@dite EReal (∀ a : Fin 3, (![0, 0, 2047] : Fin 3 → Nat) a ≤ ((ix3 b h t : S4x16x2048.Idx) a).val * (![1, 1, 1] : Fin 3 → Nat) a + ((⟨3, ![1, 1, 2048]⟩ : Shape).rowMajor.symm n a).val
          ∧ ((ix3 b h t : S4x16x2048.Idx) a).val * (![1, 1, 1] : Fin 3 → Nat) a + ((⟨3, ![1, 1, 2048]⟩ : Shape).rowMajor.symm n a).val - (![0, 0, 2047] : Fin 3 → Nat) a < S4x16x2048.size a) D (fun hin => v15 (fun a => ⟨_, (hin a).2⟩)) fun _ => 0)
      = if hs : 2047 ≤ t.val + n.val ∧ t.val + n.val - 2047 < 2048 then v15 (ix3 b h ⟨t.val + n.val - 2047, hs.2⟩) else 0 := by
    intro n _
    obtain ⟨p0, p1, p2⟩ := WholeStages.place n
    by_cases hs : 2047 ≤ t.val + n.val ∧ t.val + n.val - 2047 < 2048
    · rw [dif_pos hs, dif_pos]
      · refine congrArg v15 (funext fun a => Fin.ext ?_)
        match a with
        | 0 => show b.val * 1 + _ - 0 = b.val; rw [p0]; omega
        | 1 => show h.val * 1 + _ - 0 = h.val; rw [p1]; omega
        | 2 => show t.val * 1 + _ - 2047 = t.val + n.val - 2047; rw [p2]; omega
      · intro a
        match a with
        | 0 => show 0 ≤ b.val * 1 + _ ∧ b.val * 1 + _ - 0 < 4; rw [p0]; omega
        | 1 => show 0 ≤ h.val * 1 + _ ∧ h.val * 1 + _ - 0 < 16; rw [p1]; omega
        | 2 => show 2047 ≤ t.val * 1 + _ ∧ t.val * 1 + _ - 2047 < 2048; rw [p2]; omega
    · rw [dif_neg hs, dif_neg]
      intro hin
      have h2 := hin 2
      change 2047 ≤ t.val * 1 + ((⟨3, ![1, 1, 2048]⟩ : Shape).rowMajor.symm n 2).val ∧ t.val * 1 + ((⟨3, ![1, 1, 2048]⟩ : Shape).rowMajor.symm n 2).val - 2047 < 2048 at h2
      rw [p2] at h2
      omega
  have e : (Host.reduceWindowAdd ![1, 1, 2048] ![1, 1, 1] ![0, 0, 2047] ![0, 0, 0] v15 (broadcastInDim S_ ![] bcast_S_S_ (constant S_ .f32 0x00000000#32)) reduceWindows_S4x16x2048_S4x16x2048_w1s1p0_0_w1s1p0_0_w2048s1p2047_0 h_S_ : FVec Ideal S4x16x2048 .f32) (ix3 b h t)
      = (List.finRange (⟨3, ![1, 1, 2048]⟩ : Shape).numel).foldl (fun r (n : Fin (⟨3, ![1, 1, 2048]⟩ : Shape).numel) => r + if hs : 2047 ≤ t.val + n.val ∧ t.val + n.val - 2047 < 2048 then v15 (ix3 b h ⟨t.val + n.val - 2047, hs.2⟩) else 0) (0 : EReal) := by
    unfold Host.reduceWindowAdd
    rw [Ideal.hostReduceWindowAdd_def]
    unfold Ideal.hostReduceWindowAdd
    rw [z0]
    unfold Host.reduceWindow
    exact congrArg (fun F => List.foldl F (0 : EReal) (List.finRange (⟨3, ![1, 1, 2048]⟩ : Shape).numel)) (funext fun r => funext fun n => congrArg (fun y : EReal => r + y) (key n _))
  refine e.trans ?_
  unfold Scan.cum
  rw [WholeStages.folded]
  exact WholeStages.shift _ (by decide +kernel) (fun x : Fin 2048 => v15 (ix3 b h x)) t

def gates (g : FVec Ideal S16x8320 .f32) : FVec Ideal S4x16x2048 .f32 :=
  transpose S4x16x2048 [1, 0, 2] (shapeCast S16x4x2048 (extractStridedSlice S16x8192 ![0, 0] g slices_S16x8320_S16x8192_0_0) shapeCasts_S16x8192_S16x4x2048) transposes_S16x4x2048_S4x16x2048_1_0_2

theorem gates_at (g : FVec Ideal S16x8320 .f32) (b : Fin 4) (h : Fin 16) (s : Fin 2048) : gates g (ix3 b h s) = lfp g b h s := by
  unfold gates
  pointwise
  exact congrArg₂ (fun r c => g (ix2 r c)) rfl (Fin.ext (by simp only; omega))

theorem ref (g : FVec Ideal S16x8320 .f32) : running (gates g) = fun i : S4x16x2048.Idx => out g (i 0) (i 1) (i 2) := funext fun i =>
  (congrArg (running (gates g)) (eq_ix3 i)).trans ((running_at _ (i 0) (i 1) (i 2)).trans
    (congrArg (fun f => Scan.cum f (i 2)) (funext fun s => gates_at g (i 0) (i 1) s)))

end Cert.Proof.Csum

end
-- ==== Proof.Join.lean ====
module

public import proofs.«01_k».proof.Defs
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.On_hidden_columns
public import proofs.«01_k».proof.Proof.Attn
public import proofs.«01_k».proof.Proof.Mix
public import proofs.«01_k».proof.Proof.Inp
public import proofs.«01_k».proof.Proof.Mgate
public import proofs.«01_k».proof.Proof.Sample
public import proofs.«01_k».proof.Proof.SampleRef
public import proofs.«01_k».proof.Proof.Prompt
public import proofs.«01_k».proof.Proof.WholeRef
public import proofs.«01_k».proof.Proof.Csum
public import Idealize.ShloMosaic.Lib.Quiescent

@[expose] public section

set_option maxRecDepth 16384

noncomputable section

/-! The runs of the references and the value claims, each from a kernel's final array and its reference's term. -/

namespace Cert.Proof

open Idealize.ShloMosaic Idealize.ShloMosaic.TcCoe Idealize.SL.Sem

theorem frame_r1 : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_r2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frame_r8 : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

theorem frame_r9 : Cert.quiescent_Reference9Ideal := fun m ρ _ =>
  (θ_run Cert.Reference9Ideal.defs _ _).mono (fun r h => ⟨fun c => (h c).2.2.2.2, Idealize.ShloMosaic.sem_eq_zero_of_no_sems (by decide) r.2⟩)
    (Cert.Reference9Ideal.Value.run (F := Ideal) m ρ)

theorem frame_r10 : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)

theorem frame_r11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem mask_lt (a0 : FVec Ideal ⟨2, ![8320, 2048]⟩ .f32) (a1 : FVec Ideal ⟨4, ![2, 2, 2048, 11008]⟩ .f32) (i : (⟨2, ![8320, 5632]⟩ : Shape).Idx)
    (h : Cert.On_hidden_columns.fn (F := Ideal) a0 a1 i = 1#1) : (i 1).val < 5504 := by
  have hi : (i 1).val < 5632 := (i 1).isLt
  have h' : BitVec.ofBool (BitVec.slt (BitVec.ofNat 32 (i 1).val) 5504#32) = 1#1 := h
  generalize (i 1).val = n at *
  by_contra hc
  have e : BitVec.slt (BitVec.ofNat 32 n) 5504#32 = false := by
    rw [BitVec.slt_eq_decide, decide_eq_false_iff_not, BitVec.toInt_ofNat', BitVec.toInt_ofNat']
    simp only [Int.bmod]
    omega
  rw [e] at h'
  exact absurd h' (by decide)

theorem alg2 : Cert.algebraic_Kernel2Ideal_Reference2Ideal_on_hidden_columns := by
  intro m ρ m' ρ' hpre hagree
  refine ⟨fun c => Ffn.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run Cert.Kernel2Ideal.defs _ _).mono (fun _ h c => ⟨fun i _ => ?_, (h c).2⟩) (Cert.Kernel2Ideal.Value.run_blocks m ρ)
    exact congrFun ((h c).1.trans (Ffn.final3 m c)) i
  · refine (θ_run Cert.Reference2Ideal.defs _ _).mono (fun _ h c => ⟨fun i hi => ?_, (h c).2⟩) (Cert.Reference2Ideal.Value.run (F := Ideal) m' ρ')
    refine (congrFun (h c).1 i).trans ?_
    rw [(hagree c).1, (hagree c).2]
    exact Ffn.ref _ _ i (mask_lt _ _ i hi)

theorem alg3 : Cert.algebraic_Kernel3Ideal_Reference3Ideal := by
  intro m ρ m' ρ' hpre hagree
  refine ⟨_, _, (θ_run Cert.Kernel3Ideal.defs _ _).mono (fun _ h c => ⟨(h c).1.trans (Ln.final5 m c), (h c).2.1.trans (Ln.final6 m c), (h c).2.2⟩) (Cert.Kernel3Ideal.Value.run_blocks m ρ), ?_⟩
  refine (θ_run Cert.Reference3Ideal.defs _ _).mono (fun _ h c => ⟨(h c).1.trans ?_, (h c).2.1.trans ?_, (h c).2.2⟩) (Cert.Reference3Ideal.Value.run (F := Ideal) m' ρ')
  · refine (Ln.ref0 m' c).trans ?_
    obtain ⟨e0, e1, e2, e3, e4⟩ := hagree c
    rw [e0, e1, e2, e3, e4]
  · refine (Ln.ref1 m' c).trans ?_
    obtain ⟨e0, e1, e2, e3, e4⟩ := hagree c
    rw [e0, e1, e2, e3, e4]

theorem alg4 : Cert.algebraic_Kernel4Ideal_Reference4Ideal := by
  intro m ρ m' ρ' hpre hagree
  refine ⟨_, (θ_run Cert.Kernel4Ideal.defs _ _).mono (fun _ h c => ⟨(h c).1.trans (Proj.final3 m c), (h c).2⟩) (Cert.Kernel4Ideal.Value.run_blocks m ρ), ?_⟩
  refine (θ_run Cert.Reference4Ideal.defs _ _).mono (fun _ h c => ⟨(h c).1.trans ?_, (h c).2⟩) (Cert.Reference4Ideal.Value.run (F := Ideal) m' ρ')
  refine (Proj.ref m' c).trans ?_
  obtain ⟨e0, e1, e2, e3⟩ := hagree c
  rw [e0, e1, e2, e3]

theorem alg5 : Cert.algebraic_Kernel5Ideal_Reference5Ideal := by
  intro m ρ m' ρ' hpre hagree
  refine ⟨_, _, (θ_run Cert.Kernel5Ideal.defs _ _).mono (fun _ h c => ⟨(h c).1.trans (Gates.final3 m c), (h c).2.1.trans (Gates.final4 m c), (h c).2.2⟩) (Cert.Kernel5Ideal.Value.run_blocks m ρ), ?_⟩
  refine (θ_run Cert.Reference5Ideal.defs _ _).mono (fun _ h c => ⟨(h c).1.trans ?_, (h c).2.1.trans ?_, (h c).2.2⟩) (Cert.Reference5Ideal.Value.run (F := Ideal) m' ρ')
  · funext i
    refine (Gates.ref0 _ _ _ _ rfl i).trans ?_
    obtain ⟨e0, e1, e2⟩ := hagree c
    rw [e0, e1, e2]
  · funext i
    refine (Gates.ref1 _ _ _ _ rfl i).trans ?_
    obtain ⟨e0, e1, e2⟩ := hagree c
    rw [e0, e1, e2]

theorem preserves1 : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E0293EE#32 (((Real.sqrt 128)⁻¹ * (Real.log 2)⁻¹ : ℝ) : EReal) rfl⟩

theorem alg1 : Cert.algebraic_KernelIdeal_ReferenceIdeal_pre_logits_finite := by
  intro m ρ m' ρ' hpre hagree
  refine ⟨_, (θ_run Cert.KernelIdeal.defs _ _).mono (fun _ h c => ⟨(h c).1.trans (Attn.final6 m c (Attn.reals _ _ (hpre c))), (h c).2⟩) (Cert.KernelIdeal.Value.run_blocks m ρ), ?_⟩
  refine (θ_run Cert.ReferenceIdeal.defs _ _).mono (fun _ h c => ⟨(h c).1.trans ?_, (h c).2⟩) (Cert.ReferenceIdeal.Value.run (F := Ideal) m' ρ')
  funext i
  refine (Attn.ref m' c i).trans ?_
  obtain ⟨e0, e1⟩ := hagree c
  rw [e0, e1]

theorem alg6 : Cert.algebraic_Kernel6Ideal_Reference6Ideal := by
  intro m ρ m' ρ' hpre hagree
  refine ⟨_, _, (θ_run Cert.Kernel6Ideal.defs _ _).mono (fun _ h c => ⟨(h c).1.trans (Mix.final5 m c), (h c).2.1.trans (Mix.final6 m c), (h c).2.2⟩) (Cert.Kernel6Ideal.Value.run_blocks m ρ), ?_⟩
  refine (θ_run Cert.Reference6Ideal.defs _ _).mono (fun _ h c => ⟨(h c).1.trans ?_, (h c).2.1.trans ?_, (h c).2.2⟩) (Cert.Reference6Ideal.Value.run (F := Ideal) m' ρ')
  · funext i
    refine (Mix.ref _ _ _ _ _ _ rfl i).trans ?_
    obtain ⟨e0, e1, e2, e3, e4⟩ := hagree c
    rw [e0, e1, e2, e3, e4]
  · funext i
    refine (Mix.ref _ _ _ _ _ _ rfl i).trans ?_
    obtain ⟨e0, e1, e2, e3, e4⟩ := hagree c
    rw [e0, e1, e2, e3, e4]

theorem alg7 : Cert.algebraic_Kernel7Ideal_Reference7Ideal := by
  intro m ρ m' ρ' hpre hagree
  refine ⟨_, (θ_run Cert.Kernel7Ideal.defs _ _).mono (fun _ h c => ⟨(h c).1.trans (Inp.final3 m c), (h c).2⟩) (Cert.Kernel7Ideal.Value.run_blocks m ρ), ?_⟩
  refine (θ_run Cert.Reference7Ideal.defs _ _).mono (fun _ h c => ⟨(h c).1.trans ?_, (h c).2⟩) (Cert.Reference7Ideal.Value.run (F := Ideal) m' ρ')
  funext i
  refine (Inp.ref _ _ _ rfl i).trans ?_
  obtain ⟨e0, e1⟩ := hagree c
  rw [e0, e1]

theorem alg8 : Cert.algebraic_Kernel8Ideal_Reference8Ideal := by
  intro m ρ m' ρ' hpre hagree
  refine ⟨_, _, (θ_run Cert.Kernel8Ideal.defs _ _).mono (fun _ h c => ⟨(h c).1.trans (Mgate.final3 m c), (h c).2.1.trans (Mgate.final4 m c), (h c).2.2⟩) (Cert.Kernel8Ideal.Value.run_blocks m ρ), ?_⟩
  refine (θ_run Cert.Reference8Ideal.defs _ _).mono (fun _ h c => ⟨(h c).1.trans ?_, (h c).2.1.trans ?_, (h c).2.2⟩) (Cert.Reference8Ideal.Value.run (F := Ideal) m' ρ')
  · funext i
    refine (Mgate.ref0 _ _ _ _ _ rfl i).trans ?_
    obtain ⟨e0, e1, e2, e3⟩ := hagree c
    rw [e0, e1, e2, e3]
  · funext i
    refine (Mgate.ref1 _ _ _ _ _ rfl i).trans ?_
    obtain ⟨e0, e1, e2, e3⟩ := hagree c
    rw [e0, e1, e2, e3]

theorem alg9 : Cert.algebraic_Kernel9Ideal_Reference9Ideal_pre_forget_below := by
  intro m ρ m' ρ' hpre hagree
  have hR := fun c => Sample.below _ _ _ _ _ _ (hpre c)
  refine ⟨_, _, _, _, (θ_run Cert.Kernel9Ideal.defs _ _).mono (fun _ h c => ⟨(h c).1.trans (Sample.final9 m c (hR c)), (h c).2.1.trans (Sample.final10 m c (hR c)), (h c).2.2.1.trans (Sample.final11 m c (hR c)), (h c).2.2.2.1.trans (Sample.final12 m c (hR c)), (h c).2.2.2.2⟩) (Cert.Kernel9Ideal.Value.run_blocks m ρ), ?_⟩
  refine (θ_run Cert.Reference9Ideal.defs _ _).mono (fun _ h c => ⟨(h c).1.trans ?_, (h c).2.1.trans ?_, (h c).2.2.1.trans ?_, (h c).2.2.2.1.trans ?_, (h c).2.2.2.2⟩) (Cert.Reference9Ideal.Value.run (F := Ideal) m' ρ')
  · obtain ⟨e0, e1, e2, e3, e4, e5⟩ := hagree c
    refine (SampleRef.ref0 m' c).trans ?_
    rw [e0, e1, e2, e3, e4, e5]
    all_goals rfl
  · obtain ⟨e0, e1, e2, e3, e4, e5⟩ := hagree c
    refine (SampleRef.ref1 m' c).trans ?_
    rw [e0, e1, e2, e4]
    all_goals rfl
  · obtain ⟨e0, e1, e2, e3, e4, e5⟩ := hagree c
    refine (SampleRef.ref2 m' c).trans ?_
    rw [e0, e1, e3, e4]
    all_goals rfl
  · obtain ⟨e0, e1, e2, e3, e4, e5⟩ := hagree c
    refine (SampleRef.ref3 (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg4))).trans ?_
    rw [e1, e4]
    all_goals rfl

theorem alg10 : Cert.algebraic_Kernel10Ideal_Reference10Ideal_pre_forget_finite := by
  intro m ρ m' ρ' hpre hagree
  have hR := fun c => Whole.finite _ _ _ (hpre c)
  have hR' : ∀ c : Dev Cert.Reference10Ideal.nD, Whole.Fin4 (m' ((c.tc : Thread Cert.Reference10Ideal.nD Cert.Reference10Ideal.τ).loc Cert.Reference10Ideal.main_arg1)) := fun c => by
    rw [(hagree c).2.1]
    exact hR c
  refine ⟨_, _, _, (θ_run Cert.Kernel10Ideal.defs _ _).mono (fun _ h c => ⟨(h c).2.1.trans (Prompt.final10 m c (hR c)), (h c).2.2.1.trans (Prompt.final11 m c (hR c)), (h c).2.2.2.1.trans (Prompt.final12 m c (hR c)), (h c).2.2.2.2⟩) (Cert.Kernel10Ideal.Value.run_blocks m ρ), ?_⟩
  refine (θ_run Cert.Reference10Ideal.defs _ _).mono (fun _ h c => ⟨(h c).1.trans ?_, (h c).2.1.trans ?_, (h c).2.2.1.trans ?_, (h c).2.2.2⟩) (Cert.Reference10Ideal.Value.run (F := Ideal) m' ρ')
  · refine (WholeRef.ref0 m' c (hR' c)).trans ?_
    rw [(hagree c).1, (hagree c).2.1]
    all_goals rfl
  · refine (WholeRef.ref1 m' c (hR' c)).trans ?_
    rw [(hagree c).1, (hagree c).2.1]
    all_goals rfl
  · refine (WholeRef.ref2 (m' ((c.tc : Thread Cert.Reference10Ideal.nD Cert.Reference10Ideal.τ).loc Cert.Reference10Ideal.main_arg1)) (hR' c)).trans ?_
    rw [(hagree c).2.1]
    all_goals rfl

theorem alg11 : Cert.algebraic_Kernel11Ideal_Reference11Ideal_pre_gates_below := by
  intro m ρ m' ρ' hpre hagree
  have hB := fun c => Csum.below _ (hpre c)
  refine ⟨_, (θ_run Cert.Kernel11Ideal.defs _ _).mono (fun _ h c => ⟨(h c).1.trans (Csum.final1 m c (hB c)), (h c).2⟩) (Cert.Kernel11Ideal.Value.run_blocks m ρ), ?_⟩
  refine (θ_run Cert.Reference11Ideal.defs _ _).mono (fun _ h c => ⟨(h c).1.trans ?_, (h c).2⟩) (Cert.Reference11Ideal.Value.run (F := Ideal) m' ρ')
  refine (Csum.ref (m' ((c.tc : Thread Cert.Reference11Ideal.nD Cert.Reference11Ideal.τ).loc Cert.Reference11Ideal.main_arg0))).trans ?_
  rw [hagree c]
  all_goals rfl
end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Pre_logits_finite
public import proofs.«01_k».proof.Proof.Gen.Pre_forget_below
public import proofs.«01_k».proof.Proof.Gen.Pre_forget_finite
public import proofs.«01_k».proof.Proof.Gen.Pre_gates_below
public import proofs.«01_k».proof.Proof.Gen.On_hidden_columns
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_logits_finite.Gen.facts, Cert.Pre_forget_below.Gen.facts, Cert.Pre_forget_finite.Gen.facts, Cert.Pre_gates_below.Gen.facts, Cert.On_hidden_columns.Gen.facts,
    fun m ρ _ => Cert.Kernel.Gen.frame m ρ,
    fun m ρ _ => Cert.KernelIdeal.Gen.frame m ρ,
    fun m ρ _ => Cert.KernelIdeal.Gen.frame m ρ,
    frame_r1,
    fun m ρ _ => frame_r1 m ρ trivial,
    fun m ρ _ => Cert.Kernel2.Gen.frame m ρ,
    fun m ρ _ => Cert.Kernel2Ideal.Gen.frame m ρ,
    frame_r2,
    fun m ρ _ => Cert.Kernel3.Gen.frame m ρ,
    fun m ρ _ => Cert.Kernel3Ideal.Gen.frame m ρ,
    frame_r3,
    fun m ρ _ => Cert.Kernel4.Gen.frame m ρ,
    fun m ρ _ => Cert.Kernel4Ideal.Gen.frame m ρ,
    frame_r4,
    fun m ρ _ => Cert.Kernel5.Gen.frame m ρ,
    fun m ρ _ => Cert.Kernel5Ideal.Gen.frame m ρ,
    frame_r5,
    fun m ρ _ => Cert.Kernel6.Gen.frame m ρ,
    fun m ρ _ => Cert.Kernel6Ideal.Gen.frame m ρ,
    frame_r6,
    fun m ρ _ => Cert.Kernel7.Gen.frame m ρ,
    fun m ρ _ => Cert.Kernel7Ideal.Gen.frame m ρ,
    frame_r7,
    fun m ρ _ => Cert.Kernel8.Gen.frame m ρ,
    fun m ρ _ => Cert.Kernel8Ideal.Gen.frame m ρ,
    frame_r8,
    fun m ρ _ => Cert.Kernel9.Gen.frame m ρ,
    fun m ρ _ => Cert.Kernel9Ideal.Gen.frame m ρ,
    fun m ρ _ => Cert.Kernel9Ideal.Gen.frame m ρ,
    frame_r9,
    fun m ρ _ => frame_r9 m ρ trivial,
    fun m ρ _ => Cert.Kernel10.Gen.frame m ρ,
    fun m ρ _ => Cert.Kernel10Ideal.Gen.frame m ρ,
    fun m ρ _ => Cert.Kernel10Ideal.Gen.frame m ρ,
    frame_r10,
    fun m ρ _ => frame_r10 m ρ trivial,
    fun m ρ _ => Cert.Kernel11.Gen.frame m ρ,
    fun m ρ _ => Cert.Kernel11Ideal.Gen.frame m ρ,
    fun m ρ _ => Cert.Kernel11Ideal.Gen.frame m ρ,
    frame_r11,
    fun m ρ _ => frame_r11 m ρ trivial,
    preserves1,
    alg1,
    trivial,
    alg2,
    trivial,
    alg3,
    trivial,
    alg4,
    trivial,
    alg5,
    trivial,
    alg6,
    trivial,
    alg7,
    trivial,
    alg8,
    trivial,
    alg9,
    trivial,
    alg10,
    trivial,
    alg11⟩

end Cert.Proof

end
